-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Down [hPre_down_groups : Cert.Pre_down_groups.Facts] (m : (ℓ : Loc Cert.Down.nD Cert.Down.τ Cert.Down.sig) → Buf (Elt Bits) ℓ) : Prop :=
  ∀ c : Dev Cert.Down.nD,
    (Cert.Pre_down_groups.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_down_groups : Cert.Pre_down_groups.Facts] (m : (ℓ : Loc Cert.DownIdeal.nD Cert.DownIdeal.τ Cert.DownIdeal.sig) → Buf (Elt Ideal) ℓ) : Prop :=
  ∀ c : Dev Cert.DownIdeal.nD,
    (Cert.Pre_down_groups.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_down_groups [hPre_down_groups : Cert.Pre_down_groups.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_groups.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def Pre_GateUp [hPre_gate_up_groups : Cert.Pre_gate_up_groups.Facts] (m : (ℓ : Loc Cert.GateUp.nD Cert.GateUp.τ Cert.GateUp.sig) → Buf (Elt Bits) ℓ) : Prop :=
  ∀ c : Dev Cert.GateUp.nD,
    (Cert.Pre_gate_up_groups.fn (F := Bits) (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4))) = (fun _ => 1#1)

def Pre_GateUpIdeal [hPre_gate_up_groups : Cert.Pre_gate_up_groups.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_gate_up_groups.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4))) = (fun _ => 1#1)

def Pre_GateUpReferenceIdeal (m : (ℓ : Loc Cert.GateUpReferenceIdeal.nD Cert.GateUpReferenceIdeal.τ Cert.GateUpReferenceIdeal.sig) → Buf (Elt Ideal) ℓ) : Prop :=
  True

def Pre_GateUpReferenceIdeal_gate_up_groups [hPre_gate_up_groups : Cert.Pre_gate_up_groups.Facts] (m : (ℓ : Loc Cert.GateUpReferenceIdeal.nD Cert.GateUpReferenceIdeal.τ Cert.GateUpReferenceIdeal.sig) → Buf (Elt Ideal) ℓ) : Prop :=
  ∀ c : Dev Cert.GateUpReferenceIdeal.nD,
    (Cert.Pre_gate_up_groups.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4))) = (fun _ => 1#1)

def Pre_ProjIn [hPre_proj_in_layer : Cert.Pre_proj_in_layer.Facts] (m : (ℓ : Loc Cert.ProjIn.nD Cert.ProjIn.τ Cert.ProjIn.sig) → Buf (Elt Bits) ℓ) : Prop :=
  ∀ c : Dev Cert.ProjIn.nD,
    (Cert.Pre_proj_in_layer.fn (F := Bits) (m ((c.tc : Thread Cert.ProjIn.nD Cert.ProjIn.τ).loc Cert.ProjIn.main_arg0)) (m ((c.tc : Thread Cert.ProjIn.nD Cert.ProjIn.τ).loc Cert.ProjIn.main_arg1)) (m ((c.tc : Thread Cert.ProjIn.nD Cert.ProjIn.τ).loc Cert.ProjIn.main_arg2)) (m ((c.tc : Thread Cert.ProjIn.nD Cert.ProjIn.τ).loc Cert.ProjIn.main_arg3))) = (fun _ => 1#1)

def Pre_ProjInIdeal [hPre_proj_in_layer : Cert.Pre_proj_in_layer.Facts] (m : (ℓ : Loc Cert.ProjInIdeal.nD Cert.ProjInIdeal.τ Cert.ProjInIdeal.sig) → Buf (Elt Ideal) ℓ) : Prop :=
  ∀ c : Dev Cert.ProjInIdeal.nD,
    (Cert.Pre_proj_in_layer.fn (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3))) = (fun _ => 1#1)

def Pre_ProjInReferenceIdeal (m : (ℓ : Loc Cert.ProjInReferenceIdeal.nD Cert.ProjInReferenceIdeal.τ Cert.ProjInReferenceIdeal.sig) → Buf (Elt Ideal) ℓ) : Prop :=
  True

def Pre_ProjInReferenceIdeal_proj_in_layer [hPre_proj_in_layer : Cert.Pre_proj_in_layer.Facts] (m : (ℓ : Loc Cert.ProjInReferenceIdeal.nD Cert.ProjInReferenceIdeal.τ Cert.ProjInReferenceIdeal.sig) → Buf (Elt Ideal) ℓ) : Prop :=
  ∀ c : Dev Cert.ProjInReferenceIdeal.nD,
    (Cert.Pre_proj_in_layer.fn (F := Ideal) (m ((c.tc : Thread Cert.ProjInReferenceIdeal.nD Cert.ProjInReferenceIdeal.τ).loc Cert.ProjInReferenceIdeal.main_arg0)) (m ((c.tc : Thread Cert.ProjInReferenceIdeal.nD Cert.ProjInReferenceIdeal.τ).loc Cert.ProjInReferenceIdeal.main_arg1)) (m ((c.tc : Thread Cert.ProjInReferenceIdeal.nD Cert.ProjInReferenceIdeal.τ).loc Cert.ProjInReferenceIdeal.main_arg2)) (m ((c.tc : Thread Cert.ProjInReferenceIdeal.nD Cert.ProjInReferenceIdeal.τ).loc Cert.ProjInReferenceIdeal.main_arg3))) = (fun _ => 1#1)

def Pre_FfnDown [hPre_ffn_down_layer : Cert.Pre_ffn_down_layer.Facts] (m : (ℓ : Loc Cert.FfnDown.nD Cert.FfnDown.τ Cert.FfnDown.sig) → Buf (Elt Bits) ℓ) : Prop :=
  ∀ c : Dev Cert.FfnDown.nD,
    (Cert.Pre_ffn_down_layer.fn (F := Bits) (m ((c.tc : Thread Cert.FfnDown.nD Cert.FfnDown.τ).loc Cert.FfnDown.main_arg0)) (m ((c.tc : Thread Cert.FfnDown.nD Cert.FfnDown.τ).loc Cert.FfnDown.main_arg1)) (m ((c.tc : Thread Cert.FfnDown.nD Cert.FfnDown.τ).loc Cert.FfnDown.main_arg2)) (m ((c.tc : Thread Cert.FfnDown.nD Cert.FfnDown.τ).loc Cert.FfnDown.main_arg3))) = (fun _ => 1#1)

def Pre_FfnDownIdeal [hPre_ffn_down_layer : Cert.Pre_ffn_down_layer.Facts] (m : (ℓ : Loc Cert.FfnDownIdeal.nD Cert.FfnDownIdeal.τ Cert.FfnDownIdeal.sig) → Buf (Elt Ideal) ℓ) : Prop :=
  ∀ c : Dev Cert.FfnDownIdeal.nD,
    (Cert.Pre_ffn_down_layer.fn (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3))) = (fun _ => 1#1)

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_FfnDownReferenceIdeal_ffn_down_layer [hPre_ffn_down_layer : Cert.Pre_ffn_down_layer.Facts] (m : (ℓ : Loc Cert.FfnDownReferenceIdeal.nD Cert.FfnDownReferenceIdeal.τ Cert.FfnDownReferenceIdeal.sig) → Buf (Elt Ideal) ℓ) : Prop :=
  ∀ c : Dev Cert.FfnDownReferenceIdeal.nD,
    (Cert.Pre_ffn_down_layer.fn (F := Ideal) (m ((c.tc : Thread Cert.FfnDownReferenceIdeal.nD Cert.FfnDownReferenceIdeal.τ).loc Cert.FfnDownReferenceIdeal.main_arg0)) (m ((c.tc : Thread Cert.FfnDownReferenceIdeal.nD Cert.FfnDownReferenceIdeal.τ).loc Cert.FfnDownReferenceIdeal.main_arg1)) (m ((c.tc : Thread Cert.FfnDownReferenceIdeal.nD Cert.FfnDownReferenceIdeal.τ).loc Cert.FfnDownReferenceIdeal.main_arg2)) (m ((c.tc : Thread Cert.FfnDownReferenceIdeal.nD Cert.FfnDownReferenceIdeal.τ).loc Cert.FfnDownReferenceIdeal.main_arg3))) = (fun _ => 1#1)

def Pre_FfnGate [hPre_ffn_gate_layer : Cert.Pre_ffn_gate_layer.Facts] (m : (ℓ : Loc Cert.FfnGate.nD Cert.FfnGate.τ Cert.FfnGate.sig) → Buf (Elt Bits) ℓ) : Prop :=
  ∀ c : Dev Cert.FfnGate.nD,
    (Cert.Pre_ffn_gate_layer.fn (F := Bits) (m ((c.tc : Thread Cert.FfnGate.nD Cert.FfnGate.τ).loc Cert.FfnGate.main_arg0)) (m ((c.tc : Thread Cert.FfnGate.nD Cert.FfnGate.τ).loc Cert.FfnGate.main_arg1)) (m ((c.tc : Thread Cert.FfnGate.nD Cert.FfnGate.τ).loc Cert.FfnGate.main_arg2)) (m ((c.tc : Thread Cert.FfnGate.nD Cert.FfnGate.τ).loc Cert.FfnGate.main_arg3))) = (fun _ => 1#1)

def Pre_FfnGateIdeal [hPre_ffn_gate_layer : Cert.Pre_ffn_gate_layer.Facts] (m : (ℓ : Loc Cert.FfnGateIdeal.nD Cert.FfnGateIdeal.τ Cert.FfnGateIdeal.sig) → Buf (Elt Ideal) ℓ) : Prop :=
  ∀ c : Dev Cert.FfnGateIdeal.nD,
    (Cert.Pre_ffn_gate_layer.fn (F := Ideal) (m ((c.tc : Thread Cert.FfnGateIdeal.nD Cert.FfnGateIdeal.τ).loc Cert.FfnGateIdeal.main_arg0)) (m ((c.tc : Thread Cert.FfnGateIdeal.nD Cert.FfnGateIdeal.τ).loc Cert.FfnGateIdeal.main_arg1)) (m ((c.tc : Thread Cert.FfnGateIdeal.nD Cert.FfnGateIdeal.τ).loc Cert.FfnGateIdeal.main_arg2)) (m ((c.tc : Thread Cert.FfnGateIdeal.nD Cert.FfnGateIdeal.τ).loc Cert.FfnGateIdeal.main_arg3))) = (fun _ => 1#1)

def Pre_FfnGateReferenceIdeal (m : (ℓ : Loc Cert.FfnGateReferenceIdeal.nD Cert.FfnGateReferenceIdeal.τ Cert.FfnGateReferenceIdeal.sig) → Buf (Elt Ideal) ℓ) : Prop :=
  True

def Pre_FfnGateReferenceIdeal_ffn_gate_layer [hPre_ffn_gate_layer : Cert.Pre_ffn_gate_layer.Facts] (m : (ℓ : Loc Cert.FfnGateReferenceIdeal.nD Cert.FfnGateReferenceIdeal.τ Cert.FfnGateReferenceIdeal.sig) → Buf (Elt Ideal) ℓ) : Prop :=
  ∀ c : Dev Cert.FfnGateReferenceIdeal.nD,
    (Cert.Pre_ffn_gate_layer.fn (F := Ideal) (m ((c.tc : Thread Cert.FfnGateReferenceIdeal.nD Cert.FfnGateReferenceIdeal.τ).loc Cert.FfnGateReferenceIdeal.main_arg0)) (m ((c.tc : Thread Cert.FfnGateReferenceIdeal.nD Cert.FfnGateReferenceIdeal.τ).loc Cert.FfnGateReferenceIdeal.main_arg1)) (m ((c.tc : Thread Cert.FfnGateReferenceIdeal.nD Cert.FfnGateReferenceIdeal.τ).loc Cert.FfnGateReferenceIdeal.main_arg2)) (m ((c.tc : Thread Cert.FfnGateReferenceIdeal.nD Cert.FfnGateReferenceIdeal.τ).loc Cert.FfnGateReferenceIdeal.main_arg3))) = (fun _ => 1#1)

def Pre_FfnUp [hPre_ffn_up_layer : Cert.Pre_ffn_up_layer.Facts] (m : (ℓ : Loc Cert.FfnUp.nD Cert.FfnUp.τ Cert.FfnUp.sig) → Buf (Elt Bits) ℓ) : Prop :=
  ∀ c : Dev Cert.FfnUp.nD,
    (Cert.Pre_ffn_up_layer.fn (F := Bits) (m ((c.tc : Thread Cert.FfnUp.nD Cert.FfnUp.τ).loc Cert.FfnUp.main_arg0)) (m ((c.tc : Thread Cert.FfnUp.nD Cert.FfnUp.τ).loc Cert.FfnUp.main_arg1)) (m ((c.tc : Thread Cert.FfnUp.nD Cert.FfnUp.τ).loc Cert.FfnUp.main_arg2)) (m ((c.tc : Thread Cert.FfnUp.nD Cert.FfnUp.τ).loc Cert.FfnUp.main_arg3)) (m ((c.tc : Thread Cert.FfnUp.nD Cert.FfnUp.τ).loc Cert.FfnUp.main_arg4))) = (fun _ => 1#1)

def Pre_FfnUpIdeal [hPre_ffn_up_layer : Cert.Pre_ffn_up_layer.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_ffn_up_layer.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3)) (m ((c.tc : Thread Cert.FfnUpIdeal.nD Cert.FfnUpIdeal.τ).loc Cert.FfnUpIdeal.main_arg4))) = (fun _ => 1#1)

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnUpReferenceIdeal_ffn_up_layer [hPre_ffn_up_layer : Cert.Pre_ffn_up_layer.Facts] (m : (ℓ : Loc Cert.FfnUpReferenceIdeal.nD Cert.FfnUpReferenceIdeal.τ Cert.FfnUpReferenceIdeal.sig) → Buf (Elt Ideal) ℓ) : Prop :=
  ∀ c : Dev Cert.FfnUpReferenceIdeal.nD,
    (Cert.Pre_ffn_up_layer.fn (F := Ideal) (m ((c.tc : Thread Cert.FfnUpReferenceIdeal.nD Cert.FfnUpReferenceIdeal.τ).loc Cert.FfnUpReferenceIdeal.main_arg0)) (m ((c.tc : Thread Cert.FfnUpReferenceIdeal.nD Cert.FfnUpReferenceIdeal.τ).loc Cert.FfnUpReferenceIdeal.main_arg1)) (m ((c.tc : Thread Cert.FfnUpReferenceIdeal.nD Cert.FfnUpReferenceIdeal.τ).loc Cert.FfnUpReferenceIdeal.main_arg2)) (m ((c.tc : Thread Cert.FfnUpReferenceIdeal.nD Cert.FfnUpReferenceIdeal.τ).loc Cert.FfnUpReferenceIdeal.main_arg3)) (m ((c.tc : Thread Cert.FfnUpReferenceIdeal.nD Cert.FfnUpReferenceIdeal.τ).loc Cert.FfnUpReferenceIdeal.main_arg4))) = (fun _ => 1#1)

def Pre_MlaUv [hPre_mla_uv_layer : Cert.Pre_mla_uv_layer.Facts] (m : (ℓ : Loc Cert.MlaUv.nD Cert.MlaUv.τ Cert.MlaUv.sig) → Buf (Elt Bits) ℓ) : Prop :=
  ∀ c : Dev Cert.MlaUv.nD,
    (Cert.Pre_mla_uv_layer.fn (F := Bits) (m ((c.tc : Thread Cert.MlaUv.nD Cert.MlaUv.τ).loc Cert.MlaUv.main_arg0)) (m ((c.tc : Thread Cert.MlaUv.nD Cert.MlaUv.τ).loc Cert.MlaUv.main_arg1)) (m ((c.tc : Thread Cert.MlaUv.nD Cert.MlaUv.τ).loc Cert.MlaUv.main_arg2)) (m ((c.tc : Thread Cert.MlaUv.nD Cert.MlaUv.τ).loc Cert.MlaUv.main_arg3))) = (fun _ => 1#1)

def Pre_MlaUvIdeal [hPre_mla_uv_layer : Cert.Pre_mla_uv_layer.Facts] (m : (ℓ : Loc Cert.MlaUvIdeal.nD Cert.MlaUvIdeal.τ Cert.MlaUvIdeal.sig) → Buf (Elt Ideal) ℓ) : Prop :=
  ∀ c : Dev Cert.MlaUvIdeal.nD,
    (Cert.Pre_mla_uv_layer.fn (F := Ideal) (m ((c.tc : Thread Cert.MlaUvIdeal.nD Cert.MlaUvIdeal.τ).loc Cert.MlaUvIdeal.main_arg0)) (m ((c.tc : Thread Cert.MlaUvIdeal.nD Cert.MlaUvIdeal.τ).loc Cert.MlaUvIdeal.main_arg1)) (m ((c.tc : Thread Cert.MlaUvIdeal.nD Cert.MlaUvIdeal.τ).loc Cert.MlaUvIdeal.main_arg2)) (m ((c.tc : Thread Cert.MlaUvIdeal.nD Cert.MlaUvIdeal.τ).loc Cert.MlaUvIdeal.main_arg3))) = (fun _ => 1#1)

def Pre_MlaUvReferenceIdeal (m : (ℓ : Loc Cert.MlaUvReferenceIdeal.nD Cert.MlaUvReferenceIdeal.τ Cert.MlaUvReferenceIdeal.sig) → Buf (Elt Ideal) ℓ) : Prop :=
  True

def Pre_MlaUvReferenceIdeal_mla_uv_layer [hPre_mla_uv_layer : Cert.Pre_mla_uv_layer.Facts] (m : (ℓ : Loc Cert.MlaUvReferenceIdeal.nD Cert.MlaUvReferenceIdeal.τ Cert.MlaUvReferenceIdeal.sig) → Buf (Elt Ideal) ℓ) : Prop :=
  ∀ c : Dev Cert.MlaUvReferenceIdeal.nD,
    (Cert.Pre_mla_uv_layer.fn (F := Ideal) (m ((c.tc : Thread Cert.MlaUvReferenceIdeal.nD Cert.MlaUvReferenceIdeal.τ).loc Cert.MlaUvReferenceIdeal.main_arg0)) (m ((c.tc : Thread Cert.MlaUvReferenceIdeal.nD Cert.MlaUvReferenceIdeal.τ).loc Cert.MlaUvReferenceIdeal.main_arg1)) (m ((c.tc : Thread Cert.MlaUvReferenceIdeal.nD Cert.MlaUvReferenceIdeal.τ).loc Cert.MlaUvReferenceIdeal.main_arg2)) (m ((c.tc : Thread Cert.MlaUvReferenceIdeal.nD Cert.MlaUvReferenceIdeal.τ).loc Cert.MlaUvReferenceIdeal.main_arg3))) = (fun _ => 1#1)

def Pre_ProjOut [hPre_proj_out_layer : Cert.Pre_proj_out_layer.Facts] (m : (ℓ : Loc Cert.ProjOut.nD Cert.ProjOut.τ Cert.ProjOut.sig) → Buf (Elt Bits) ℓ) : Prop :=
  ∀ c : Dev Cert.ProjOut.nD,
    (Cert.Pre_proj_out_layer.fn (F := Bits) (m ((c.tc : Thread Cert.ProjOut.nD Cert.ProjOut.τ).loc Cert.ProjOut.main_arg0)) (m ((c.tc : Thread Cert.ProjOut.nD Cert.ProjOut.τ).loc Cert.ProjOut.main_arg1)) (m ((c.tc : Thread Cert.ProjOut.nD Cert.ProjOut.τ).loc Cert.ProjOut.main_arg2)) (m ((c.tc : Thread Cert.ProjOut.nD Cert.ProjOut.τ).loc Cert.ProjOut.main_arg3)) (m ((c.tc : Thread Cert.ProjOut.nD Cert.ProjOut.τ).loc Cert.ProjOut.main_arg4)) (m ((c.tc : Thread Cert.ProjOut.nD Cert.ProjOut.τ).loc Cert.ProjOut.main_arg5)) (m ((c.tc : Thread Cert.ProjOut.nD Cert.ProjOut.τ).loc Cert.ProjOut.main_arg6))) = (fun _ => 1#1)

def Pre_ProjOutIdeal [hPre_proj_out_layer : Cert.Pre_proj_out_layer.Facts] (m : (ℓ : Loc Cert.ProjOutIdeal.nD Cert.ProjOutIdeal.τ Cert.ProjOutIdeal.sig) → Buf (Elt Ideal) ℓ) : Prop :=
  ∀ c : Dev Cert.ProjOutIdeal.nD,
    (Cert.Pre_proj_out_layer.fn (F := Ideal) (m ((c.tc : Thread Cert.ProjOutIdeal.nD Cert.ProjOutIdeal.τ).loc Cert.ProjOutIdeal.main_arg0)) (m ((c.tc : Thread Cert.ProjOutIdeal.nD Cert.ProjOutIdeal.τ).loc Cert.ProjOutIdeal.main_arg1)) (m ((c.tc : Thread Cert.ProjOutIdeal.nD Cert.ProjOutIdeal.τ).loc Cert.ProjOutIdeal.main_arg2)) (m ((c.tc : Thread Cert.ProjOutIdeal.nD Cert.ProjOutIdeal.τ).loc Cert.ProjOutIdeal.main_arg3)) (m ((c.tc : Thread Cert.ProjOutIdeal.nD Cert.ProjOutIdeal.τ).loc Cert.ProjOutIdeal.main_arg4)) (m ((c.tc : Thread Cert.ProjOutIdeal.nD Cert.ProjOutIdeal.τ).loc Cert.ProjOutIdeal.main_arg5)) (m ((c.tc : Thread Cert.ProjOutIdeal.nD Cert.ProjOutIdeal.τ).loc Cert.ProjOutIdeal.main_arg6))) = (fun _ => 1#1)

def Pre_ProjOutReferenceIdeal (m : (ℓ : Loc Cert.ProjOutReferenceIdeal.nD Cert.ProjOutReferenceIdeal.τ Cert.ProjOutReferenceIdeal.sig) → Buf (Elt Ideal) ℓ) : Prop :=
  True

def Pre_ProjOutReferenceIdeal_proj_out_layer [hPre_proj_out_layer : Cert.Pre_proj_out_layer.Facts] (m : (ℓ : Loc Cert.ProjOutReferenceIdeal.nD Cert.ProjOutReferenceIdeal.τ Cert.ProjOutReferenceIdeal.sig) → Buf (Elt Ideal) ℓ) : Prop :=
  ∀ c : Dev Cert.ProjOutReferenceIdeal.nD,
    (Cert.Pre_proj_out_layer.fn (F := Ideal) (m ((c.tc : Thread Cert.ProjOutReferenceIdeal.nD Cert.ProjOutReferenceIdeal.τ).loc Cert.ProjOutReferenceIdeal.main_arg0)) (m ((c.tc : Thread Cert.ProjOutReferenceIdeal.nD Cert.ProjOutReferenceIdeal.τ).loc Cert.ProjOutReferenceIdeal.main_arg1)) (m ((c.tc : Thread Cert.ProjOutReferenceIdeal.nD Cert.ProjOutReferenceIdeal.τ).loc Cert.ProjOutReferenceIdeal.main_arg2)) (m ((c.tc : Thread Cert.ProjOutReferenceIdeal.nD Cert.ProjOutReferenceIdeal.τ).loc Cert.ProjOutReferenceIdeal.main_arg3)) (m ((c.tc : Thread Cert.ProjOutReferenceIdeal.nD Cert.ProjOutReferenceIdeal.τ).loc Cert.ProjOutReferenceIdeal.main_arg4)) (m ((c.tc : Thread Cert.ProjOutReferenceIdeal.nD Cert.ProjOutReferenceIdeal.τ).loc Cert.ProjOutReferenceIdeal.main_arg5)) (m ((c.tc : Thread Cert.ProjOutReferenceIdeal.nD Cert.ProjOutReferenceIdeal.τ).loc Cert.ProjOutReferenceIdeal.main_arg6))) = (fun _ => 1#1)

def Pre_ProjRest [hPre_proj_in_f32_layer : Cert.Pre_proj_in_f32_layer.Facts] (m : (ℓ : Loc Cert.ProjRest.nD Cert.ProjRest.τ Cert.ProjRest.sig) → Buf (Elt Bits) ℓ) : Prop :=
  ∀ c : Dev Cert.ProjRest.nD,
    (Cert.Pre_proj_in_f32_layer.fn (F := Bits) (m ((c.tc : Thread Cert.ProjRest.nD Cert.ProjRest.τ).loc Cert.ProjRest.main_arg0)) (m ((c.tc : Thread Cert.ProjRest.nD Cert.ProjRest.τ).loc Cert.ProjRest.main_arg1)) (m ((c.tc : Thread Cert.ProjRest.nD Cert.ProjRest.τ).loc Cert.ProjRest.main_arg2)) (m ((c.tc : Thread Cert.ProjRest.nD Cert.ProjRest.τ).loc Cert.ProjRest.main_arg3))) = (fun _ => 1#1)

def Pre_ProjRestIdeal [hPre_proj_in_f32_layer : Cert.Pre_proj_in_f32_layer.Facts] (m : (ℓ : Loc Cert.ProjRestIdeal.nD Cert.ProjRestIdeal.τ Cert.ProjRestIdeal.sig) → Buf (Elt Ideal) ℓ) : Prop :=
  ∀ c : Dev Cert.ProjRestIdeal.nD,
    (Cert.Pre_proj_in_f32_layer.fn (F := Ideal) (m ((c.tc : Thread Cert.ProjRestIdeal.nD Cert.ProjRestIdeal.τ).loc Cert.ProjRestIdeal.main_arg0)) (m ((c.tc : Thread Cert.ProjRestIdeal.nD Cert.ProjRestIdeal.τ).loc Cert.ProjRestIdeal.main_arg1)) (m ((c.tc : Thread Cert.ProjRestIdeal.nD Cert.ProjRestIdeal.τ).loc Cert.ProjRestIdeal.main_arg2)) (m ((c.tc : Thread Cert.ProjRestIdeal.nD Cert.ProjRestIdeal.τ).loc Cert.ProjRestIdeal.main_arg3))) = (fun _ => 1#1)

def Pre_ProjRestReferenceIdeal (m : (ℓ : Loc Cert.ProjRestReferenceIdeal.nD Cert.ProjRestReferenceIdeal.τ Cert.ProjRestReferenceIdeal.sig) → Buf (Elt Ideal) ℓ) : Prop :=
  True

def Pre_ProjRestReferenceIdeal_proj_in_f32_layer [hPre_proj_in_f32_layer : Cert.Pre_proj_in_f32_layer.Facts] (m : (ℓ : Loc Cert.ProjRestReferenceIdeal.nD Cert.ProjRestReferenceIdeal.τ Cert.ProjRestReferenceIdeal.sig) → Buf (Elt Ideal) ℓ) : Prop :=
  ∀ c : Dev Cert.ProjRestReferenceIdeal.nD,
    (Cert.Pre_proj_in_f32_layer.fn (F := Ideal) (m ((c.tc : Thread Cert.ProjRestReferenceIdeal.nD Cert.ProjRestReferenceIdeal.τ).loc Cert.ProjRestReferenceIdeal.main_arg0)) (m ((c.tc : Thread Cert.ProjRestReferenceIdeal.nD Cert.ProjRestReferenceIdeal.τ).loc Cert.ProjRestReferenceIdeal.main_arg1)) (m ((c.tc : Thread Cert.ProjRestReferenceIdeal.nD Cert.ProjRestReferenceIdeal.τ).loc Cert.ProjRestReferenceIdeal.main_arg2)) (m ((c.tc : Thread Cert.ProjRestReferenceIdeal.nD Cert.ProjRestReferenceIdeal.τ).loc Cert.ProjRestReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Down [hDown : Cert.Down.Facts] [hPre_down_groups : Cert.Pre_down_groups.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_down_groups : Cert.Pre_down_groups.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_down_groups [hDownReferenceIdeal : Cert.DownReferenceIdeal.Facts] [hPre_down_groups : Cert.Pre_down_groups.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_down_groups m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_GateUp [hGateUp : Cert.GateUp.Facts] [hPre_gate_up_groups : Cert.Pre_gate_up_groups.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] [hPre_gate_up_groups : Cert.Pre_gate_up_groups.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4))
      ∧ r.2.sem = fun _ => 0)

def quiescent_GateUpReferenceIdeal_pre_gate_up_groups [hGateUpReferenceIdeal : Cert.GateUpReferenceIdeal.Facts] [hPre_gate_up_groups : Cert.Pre_gate_up_groups.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal_gate_up_groups m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4))
      ∧ r.2.sem = fun _ => 0)

def quiescent_ProjIn [hProjIn : Cert.ProjIn.Facts] [hPre_proj_in_layer : Cert.Pre_proj_in_layer.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3))
      ∧ r.2.sem = fun _ => 0)

def quiescent_ProjInIdeal [hProjInIdeal : Cert.ProjInIdeal.Facts] [hPre_proj_in_layer : Cert.Pre_proj_in_layer.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ r.2.sem = fun _ => 0)

def quiescent_ProjInReferenceIdeal [hProjInReferenceIdeal : Cert.ProjInReferenceIdeal.Facts] : Prop :=
  ∀ (m : (ℓ : Loc Cert.ProjInReferenceIdeal.nD Cert.ProjInReferenceIdeal.τ Cert.ProjInReferenceIdeal.sig) → Buf (Elt Ideal) ℓ) (g : Dev Cert.ProjInReferenceIdeal.nD → PrngReg), Pre_ProjInReferenceIdeal m →
    θ_run (Cert.ProjInReferenceIdeal.defs (F := Ideal)) (onTc (τ := Cert.ProjInReferenceIdeal.τ) (Cert.ProjInReferenceIdeal.main (F := Ideal))) ⟨m, fun _ => 0, g⟩ (fun r => (∀ c : Dev Cert.ProjInReferenceIdeal.nD,
      r.2.mem ((c.tc : Thread Cert.ProjInReferenceIdeal.nD Cert.ProjInReferenceIdeal.τ).loc Cert.ProjInReferenceIdeal.main_arg0) = m ((c.tc : Thread Cert.ProjInReferenceIdeal.nD Cert.ProjInReferenceIdeal.τ).loc Cert.ProjInReferenceIdeal.main_arg0)
      ∧ r.2.mem ((c.tc : Thread Cert.ProjInReferenceIdeal.nD Cert.ProjInReferenceIdeal.τ).loc Cert.ProjInReferenceIdeal.main_arg1) = m ((c.tc : Thread Cert.ProjInReferenceIdeal.nD Cert.ProjInReferenceIdeal.τ).loc Cert.ProjInReferenceIdeal.main_arg1)
      ∧ r.2.mem ((c.tc : Thread Cert.ProjInReferenceIdeal.nD Cert.ProjInReferenceIdeal.τ).loc Cert.ProjInReferenceIdeal.main_arg2) = m ((c.tc : Thread Cert.ProjInReferenceIdeal.nD Cert.ProjInReferenceIdeal.τ).loc Cert.ProjInReferenceIdeal.main_arg2)
      ∧ r.2.mem ((c.tc : Thread Cert.ProjInReferenceIdeal.nD Cert.ProjInReferenceIdeal.τ).loc Cert.ProjInReferenceIdeal.main_arg3) = m ((c.tc : Thread Cert.ProjInReferenceIdeal.nD Cert.ProjInReferenceIdeal.τ).loc Cert.ProjInReferenceIdeal.main_arg3))
      ∧ r.2.sem = fun _ => 0)

def quiescent_ProjInReferenceIdeal_pre_proj_in_layer [hProjInReferenceIdeal : Cert.ProjInReferenceIdeal.Facts] [hPre_proj_in_layer : Cert.Pre_proj_in_layer.Facts] : Prop :=
  ∀ (m : (ℓ : Loc Cert.ProjInReferenceIdeal.nD Cert.ProjInReferenceIdeal.τ Cert.ProjInReferenceIdeal.sig) → Buf (Elt Ideal) ℓ) (g : Dev Cert.ProjInReferenceIdeal.nD → PrngReg), Pre_ProjInReferenceIdeal_proj_in_layer m →
    θ_run (Cert.ProjInReferenceIdeal.defs (F := Ideal)) (onTc (τ := Cert.ProjInReferenceIdeal.τ) (Cert.ProjInReferenceIdeal.main (F := Ideal))) ⟨m, fun _ => 0, g⟩ (fun r => (∀ c : Dev Cert.ProjInReferenceIdeal.nD,
      r.2.mem ((c.tc : Thread Cert.ProjInReferenceIdeal.nD Cert.ProjInReferenceIdeal.τ).loc Cert.ProjInReferenceIdeal.main_arg0) = m ((c.tc : Thread Cert.ProjInReferenceIdeal.nD Cert.ProjInReferenceIdeal.τ).loc Cert.ProjInReferenceIdeal.main_arg0)
      ∧ r.2.mem ((c.tc : Thread Cert.ProjInReferenceIdeal.nD Cert.ProjInReferenceIdeal.τ).loc Cert.ProjInReferenceIdeal.main_arg1) = m ((c.tc : Thread Cert.ProjInReferenceIdeal.nD Cert.ProjInReferenceIdeal.τ).loc Cert.ProjInReferenceIdeal.main_arg1)
      ∧ r.2.mem ((c.tc : Thread Cert.ProjInReferenceIdeal.nD Cert.ProjInReferenceIdeal.τ).loc Cert.ProjInReferenceIdeal.main_arg2) = m ((c.tc : Thread Cert.ProjInReferenceIdeal.nD Cert.ProjInReferenceIdeal.τ).loc Cert.ProjInReferenceIdeal.main_arg2)
      ∧ r.2.mem ((c.tc : Thread Cert.ProjInReferenceIdeal.nD Cert.ProjInReferenceIdeal.τ).loc Cert.ProjInReferenceIdeal.main_arg3) = m ((c.tc : Thread Cert.ProjInReferenceIdeal.nD Cert.ProjInReferenceIdeal.τ).loc Cert.ProjInReferenceIdeal.main_arg3))
      ∧ r.2.sem = fun _ => 0)

def quiescent_FfnDown [hFfnDown : Cert.FfnDown.Facts] [hPre_ffn_down_layer : Cert.Pre_ffn_down_layer.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] [hPre_ffn_down_layer : Cert.Pre_ffn_down_layer.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3))
      ∧ r.2.sem = fun _ => 0)

def quiescent_FfnDownReferenceIdeal_pre_ffn_down_layer [hFfnDownReferenceIdeal : Cert.FfnDownReferenceIdeal.Facts] [hPre_ffn_down_layer : Cert.Pre_ffn_down_layer.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal_ffn_down_layer m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3))
      ∧ r.2.sem = fun _ => 0)

def quiescent_FfnGate [hFfnGate : Cert.FfnGate.Facts] [hPre_ffn_gate_layer : Cert.Pre_ffn_gate_layer.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1)
      ∧ r.2.mem ((c.tc : Thread Cert.FfnGate.nD Cert.FfnGate.τ).loc Cert.FfnGate.main_arg2) = m ((c.tc : Thread Cert.FfnGate.nD Cert.FfnGate.τ).loc Cert.FfnGate.main_arg2)
      ∧ r.2.mem ((c.tc : Thread Cert.FfnGate.nD Cert.FfnGate.τ).loc Cert.FfnGate.main_arg3) = m ((c.tc : Thread Cert.FfnGate.nD Cert.FfnGate.τ).loc Cert.FfnGate.main_arg3))
      ∧ r.2.sem = fun _ => 0)

def quiescent_FfnGateIdeal [hFfnGateIdeal : Cert.FfnGateIdeal.Facts] [hPre_ffn_gate_layer : Cert.Pre_ffn_gate_layer.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
      ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
      ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3))
      ∧ r.2.sem = fun _ => 0)

def quiescent_FfnGateReferenceIdeal [hFfnGateReferenceIdeal : Cert.FfnGateReferenceIdeal.Facts] : Prop :=
  ∀ (m : (ℓ : Loc Cert.FfnGateReferenceIdeal.nD Cert.FfnGateReferenceIdeal.τ Cert.FfnGateReferenceIdeal.sig) → Buf (Elt Ideal) ℓ) (g : Dev Cert.FfnGateReferenceIdeal.nD → PrngReg), Pre_FfnGateReferenceIdeal m →
    θ_run (Cert.FfnGateReferenceIdeal.defs (F := Ideal)) (onTc (τ := Cert.FfnGateReferenceIdeal.τ) (Cert.FfnGateReferenceIdeal.main (F := Ideal))) ⟨m, fun _ => 0, g⟩ (fun r => (∀ c : Dev Cert.FfnGateReferenceIdeal.nD,
      r.2.mem ((c.tc : Thread Cert.FfnGateReferenceIdeal.nD Cert.FfnGateReferenceIdeal.τ).loc Cert.FfnGateReferenceIdeal.main_arg0) = m ((c.tc : Thread Cert.FfnGateReferenceIdeal.nD Cert.FfnGateReferenceIdeal.τ).loc Cert.FfnGateReferenceIdeal.main_arg0)
      ∧ r.2.mem ((c.tc : Thread Cert.FfnGateReferenceIdeal.nD Cert.FfnGateReferenceIdeal.τ).loc Cert.FfnGateReferenceIdeal.main_arg1) = m ((c.tc : Thread Cert.FfnGateReferenceIdeal.nD Cert.FfnGateReferenceIdeal.τ).loc Cert.FfnGateReferenceIdeal.main_arg1)
      ∧ r.2.mem ((c.tc : Thread Cert.FfnGateReferenceIdeal.nD Cert.FfnGateReferenceIdeal.τ).loc Cert.FfnGateReferenceIdeal.main_arg2) = m ((c.tc : Thread Cert.FfnGateReferenceIdeal.nD Cert.FfnGateReferenceIdeal.τ).loc Cert.FfnGateReferenceIdeal.main_arg2)
      ∧ r.2.mem ((c.tc : Thread Cert.FfnGateReferenceIdeal.nD Cert.FfnGateReferenceIdeal.τ).loc Cert.FfnGateReferenceIdeal.main_arg3) = m ((c.tc : Thread Cert.FfnGateReferenceIdeal.nD Cert.FfnGateReferenceIdeal.τ).loc Cert.FfnGateReferenceIdeal.main_arg3))
      ∧ r.2.sem = fun _ => 0)

def quiescent_FfnGateReferenceIdeal_pre_ffn_gate_layer [hFfnGateReferenceIdeal : Cert.FfnGateReferenceIdeal.Facts] [hPre_ffn_gate_layer : Cert.Pre_ffn_gate_layer.Facts] : Prop :=
  ∀ (m : (ℓ : Loc Cert.FfnGateReferenceIdeal.nD Cert.FfnGateReferenceIdeal.τ Cert.FfnGateReferenceIdeal.sig) → Buf (Elt Ideal) ℓ) (g : Dev Cert.FfnGateReferenceIdeal.nD → PrngReg), Pre_FfnGateReferenceIdeal_ffn_gate_layer m →
    θ_run (Cert.FfnGateReferenceIdeal.defs (F := Ideal)) (onTc (τ := Cert.FfnGateReferenceIdeal.τ) (Cert.FfnGateReferenceIdeal.main (F := Ideal))) ⟨m, fun _ => 0, g⟩ (fun r => (∀ c : Dev Cert.FfnGateReferenceIdeal.nD,
      r.2.mem ((c.tc : Thread Cert.FfnGateReferenceIdeal.nD Cert.FfnGateReferenceIdeal.τ).loc Cert.FfnGateReferenceIdeal.main_arg0) = m ((c.tc : Thread Cert.FfnGateReferenceIdeal.nD Cert.FfnGateReferenceIdeal.τ).loc Cert.FfnGateReferenceIdeal.main_arg0)
      ∧ r.2.mem ((c.tc : Thread Cert.FfnGateReferenceIdeal.nD Cert.FfnGateReferenceIdeal.τ).loc Cert.FfnGateReferenceIdeal.main_arg1) = m ((c.tc : Thread Cert.FfnGateReferenceIdeal.nD Cert.FfnGateReferenceIdeal.τ).loc Cert.FfnGateReferenceIdeal.main_arg1)
      ∧ r.2.mem ((c.tc : Thread Cert.FfnGateReferenceIdeal.nD Cert.FfnGateReferenceIdeal.τ).loc Cert.FfnGateReferenceIdeal.main_arg2) = m ((c.tc : Thread Cert.FfnGateReferenceIdeal.nD Cert.FfnGateReferenceIdeal.τ).loc Cert.FfnGateReferenceIdeal.main_arg2)
      ∧ r.2.mem ((c.tc : Thread Cert.FfnGateReferenceIdeal.nD Cert.FfnGateReferenceIdeal.τ).loc Cert.FfnGateReferenceIdeal.main_arg3) = m ((c.tc : Thread Cert.FfnGateReferenceIdeal.nD Cert.FfnGateReferenceIdeal.τ).loc Cert.FfnGateReferenceIdeal.main_arg3))
      ∧ r.2.sem = fun _ => 0)

def quiescent_FfnUp [hFfnUp : Cert.FfnUp.Facts] [hPre_ffn_up_layer : Cert.Pre_ffn_up_layer.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4))
      ∧ r.2.sem = fun _ => 0)

def quiescent_FfnUpIdeal [hFfnUpIdeal : Cert.FfnUpIdeal.Facts] [hPre_ffn_up_layer : Cert.Pre_ffn_up_layer.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3)
      ∧ r.2.mem ((c.tc : Thread Cert.FfnUpReferenceIdeal.nD Cert.FfnUpReferenceIdeal.τ).loc Cert.FfnUpReferenceIdeal.main_arg4) = m ((c.tc : Thread Cert.FfnUpReferenceIdeal.nD Cert.FfnUpReferenceIdeal.τ).loc Cert.FfnUpReferenceIdeal.main_arg4))
      ∧ r.2.sem = fun _ => 0)

def quiescent_FfnUpReferenceIdeal_pre_ffn_up_layer [hFfnUpReferenceIdeal : Cert.FfnUpReferenceIdeal.Facts] [hPre_ffn_up_layer : Cert.Pre_ffn_up_layer.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal_ffn_up_layer m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3)
      ∧ r.2.mem ((c.tc : Thread Cert.FfnUpReferenceIdeal.nD Cert.FfnUpReferenceIdeal.τ).loc Cert.FfnUpReferenceIdeal.main_arg4) = m ((c.tc : Thread Cert.FfnUpReferenceIdeal.nD Cert.FfnUpReferenceIdeal.τ).loc Cert.FfnUpReferenceIdeal.main_arg4))
      ∧ r.2.sem = fun _ => 0)

def quiescent_MlaUv [hMlaUv : Cert.MlaUv.Facts] [hPre_mla_uv_layer : Cert.Pre_mla_uv_layer.Facts] : Prop :=
  ∀ (m : (ℓ : Loc Cert.MlaUv.nD Cert.MlaUv.τ Cert.MlaUv.sig) → Buf (Elt Bits) ℓ) (g : Dev Cert.MlaUv.nD → PrngReg), Pre_MlaUv m →
    θ_run (Cert.MlaUv.defs (F := Bits)) (onTc (τ := Cert.MlaUv.τ) (Cert.MlaUv.main (F := Bits))) ⟨m, fun _ => 0, g⟩ (fun r => (∀ c : Dev Cert.MlaUv.nD,
      r.2.mem ((c.tc : Thread Cert.MlaUv.nD Cert.MlaUv.τ).loc Cert.MlaUv.main_arg0) = m ((c.tc : Thread Cert.MlaUv.nD Cert.MlaUv.τ).loc Cert.MlaUv.main_arg0)
      ∧ r.2.mem ((c.tc : Thread Cert.MlaUv.nD Cert.MlaUv.τ).loc Cert.MlaUv.main_arg1) = m ((c.tc : Thread Cert.MlaUv.nD Cert.MlaUv.τ).loc Cert.MlaUv.main_arg1)
      ∧ r.2.mem ((c.tc : Thread Cert.MlaUv.nD Cert.MlaUv.τ).loc Cert.MlaUv.main_arg2) = m ((c.tc : Thread Cert.MlaUv.nD Cert.MlaUv.τ).loc Cert.MlaUv.main_arg2)
      ∧ r.2.mem ((c.tc : Thread Cert.MlaUv.nD Cert.MlaUv.τ).loc Cert.MlaUv.main_arg3) = m ((c.tc : Thread Cert.MlaUv.nD Cert.MlaUv.τ).loc Cert.MlaUv.main_arg3))
      ∧ r.2.sem = fun _ => 0)

def quiescent_MlaUvIdeal [hMlaUvIdeal : Cert.MlaUvIdeal.Facts] [hPre_mla_uv_layer : Cert.Pre_mla_uv_layer.Facts] : Prop :=
  ∀ (m : (ℓ : Loc Cert.MlaUvIdeal.nD Cert.MlaUvIdeal.τ Cert.MlaUvIdeal.sig) → Buf (Elt Ideal) ℓ) (g : Dev Cert.MlaUvIdeal.nD → PrngReg), Pre_MlaUvIdeal m →
    θ_run (Cert.MlaUvIdeal.defs (F := Ideal)) (onTc (τ := Cert.MlaUvIdeal.τ) (Cert.MlaUvIdeal.main (F := Ideal))) ⟨m, fun _ => 0, g⟩ (fun r => (∀ c : Dev Cert.MlaUvIdeal.nD,
      r.2.mem ((c.tc : Thread Cert.MlaUvIdeal.nD Cert.MlaUvIdeal.τ).loc Cert.MlaUvIdeal.main_arg0) = m ((c.tc : Thread Cert.MlaUvIdeal.nD Cert.MlaUvIdeal.τ).loc Cert.MlaUvIdeal.main_arg0)
      ∧ r.2.mem ((c.tc : Thread Cert.MlaUvIdeal.nD Cert.MlaUvIdeal.τ).loc Cert.MlaUvIdeal.main_arg1) = m ((c.tc : Thread Cert.MlaUvIdeal.nD Cert.MlaUvIdeal.τ).loc Cert.MlaUvIdeal.main_arg1)
      ∧ r.2.mem ((c.tc : Thread Cert.MlaUvIdeal.nD Cert.MlaUvIdeal.τ).loc Cert.MlaUvIdeal.main_arg2) = m ((c.tc : Thread Cert.MlaUvIdeal.nD Cert.MlaUvIdeal.τ).loc Cert.MlaUvIdeal.main_arg2)
      ∧ r.2.mem ((c.tc : Thread Cert.MlaUvIdeal.nD Cert.MlaUvIdeal.τ).loc Cert.MlaUvIdeal.main_arg3) = m ((c.tc : Thread Cert.MlaUvIdeal.nD Cert.MlaUvIdeal.τ).loc Cert.MlaUvIdeal.main_arg3))
      ∧ r.2.sem = fun _ => 0)

def quiescent_MlaUvReferenceIdeal [hMlaUvReferenceIdeal : Cert.MlaUvReferenceIdeal.Facts] : Prop :=
  ∀ (m : (ℓ : Loc Cert.MlaUvReferenceIdeal.nD Cert.MlaUvReferenceIdeal.τ Cert.MlaUvReferenceIdeal.sig) → Buf (Elt Ideal) ℓ) (g : Dev Cert.MlaUvReferenceIdeal.nD → PrngReg), Pre_MlaUvReferenceIdeal m →
    θ_run (Cert.MlaUvReferenceIdeal.defs (F := Ideal)) (onTc (τ := Cert.MlaUvReferenceIdeal.τ) (Cert.MlaUvReferenceIdeal.main (F := Ideal))) ⟨m, fun _ => 0, g⟩ (fun r => (∀ c : Dev Cert.MlaUvReferenceIdeal.nD,
      r.2.mem ((c.tc : Thread Cert.MlaUvReferenceIdeal.nD Cert.MlaUvReferenceIdeal.τ).loc Cert.MlaUvReferenceIdeal.main_arg0) = m ((c.tc : Thread Cert.MlaUvReferenceIdeal.nD Cert.MlaUvReferenceIdeal.τ).loc Cert.MlaUvReferenceIdeal.main_arg0)
      ∧ r.2.mem ((c.tc : Thread Cert.MlaUvReferenceIdeal.nD Cert.MlaUvReferenceIdeal.τ).loc Cert.MlaUvReferenceIdeal.main_arg1) = m ((c.tc : Thread Cert.MlaUvReferenceIdeal.nD Cert.MlaUvReferenceIdeal.τ).loc Cert.MlaUvReferenceIdeal.main_arg1)
      ∧ r.2.mem ((c.tc : Thread Cert.MlaUvReferenceIdeal.nD Cert.MlaUvReferenceIdeal.τ).loc Cert.MlaUvReferenceIdeal.main_arg2) = m ((c.tc : Thread Cert.MlaUvReferenceIdeal.nD Cert.MlaUvReferenceIdeal.τ).loc Cert.MlaUvReferenceIdeal.main_arg2)
      ∧ r.2.mem ((c.tc : Thread Cert.MlaUvReferenceIdeal.nD Cert.MlaUvReferenceIdeal.τ).loc Cert.MlaUvReferenceIdeal.main_arg3) = m ((c.tc : Thread Cert.MlaUvReferenceIdeal.nD Cert.MlaUvReferenceIdeal.τ).loc Cert.MlaUvReferenceIdeal.main_arg3))
      ∧ r.2.sem = fun _ => 0)

def quiescent_MlaUvReferenceIdeal_pre_mla_uv_layer [hMlaUvReferenceIdeal : Cert.MlaUvReferenceIdeal.Facts] [hPre_mla_uv_layer : Cert.Pre_mla_uv_layer.Facts] : Prop :=
  ∀ (m : (ℓ : Loc Cert.MlaUvReferenceIdeal.nD Cert.MlaUvReferenceIdeal.τ Cert.MlaUvReferenceIdeal.sig) → Buf (Elt Ideal) ℓ) (g : Dev Cert.MlaUvReferenceIdeal.nD → PrngReg), Pre_MlaUvReferenceIdeal_mla_uv_layer m →
    θ_run (Cert.MlaUvReferenceIdeal.defs (F := Ideal)) (onTc (τ := Cert.MlaUvReferenceIdeal.τ) (Cert.MlaUvReferenceIdeal.main (F := Ideal))) ⟨m, fun _ => 0, g⟩ (fun r => (∀ c : Dev Cert.MlaUvReferenceIdeal.nD,
      r.2.mem ((c.tc : Thread Cert.MlaUvReferenceIdeal.nD Cert.MlaUvReferenceIdeal.τ).loc Cert.MlaUvReferenceIdeal.main_arg0) = m ((c.tc : Thread Cert.MlaUvReferenceIdeal.nD Cert.MlaUvReferenceIdeal.τ).loc Cert.MlaUvReferenceIdeal.main_arg0)
      ∧ r.2.mem ((c.tc : Thread Cert.MlaUvReferenceIdeal.nD Cert.MlaUvReferenceIdeal.τ).loc Cert.MlaUvReferenceIdeal.main_arg1) = m ((c.tc : Thread Cert.MlaUvReferenceIdeal.nD Cert.MlaUvReferenceIdeal.τ).loc Cert.MlaUvReferenceIdeal.main_arg1)
      ∧ r.2.mem ((c.tc : Thread Cert.MlaUvReferenceIdeal.nD Cert.MlaUvReferenceIdeal.τ).loc Cert.MlaUvReferenceIdeal.main_arg2) = m ((c.tc : Thread Cert.MlaUvReferenceIdeal.nD Cert.MlaUvReferenceIdeal.τ).loc Cert.MlaUvReferenceIdeal.main_arg2)
      ∧ r.2.mem ((c.tc : Thread Cert.MlaUvReferenceIdeal.nD Cert.MlaUvReferenceIdeal.τ).loc Cert.MlaUvReferenceIdeal.main_arg3) = m ((c.tc : Thread Cert.MlaUvReferenceIdeal.nD Cert.MlaUvReferenceIdeal.τ).loc Cert.MlaUvReferenceIdeal.main_arg3))
      ∧ r.2.sem = fun _ => 0)

def quiescent_ProjOut [hProjOut : Cert.ProjOut.Facts] [hPre_proj_out_layer : Cert.Pre_proj_out_layer.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3)
      ∧ r.2.mem ((c.tc : Thread Cert.ProjOut.nD Cert.ProjOut.τ).loc Cert.ProjOut.main_arg4) = m ((c.tc : Thread Cert.ProjOut.nD Cert.ProjOut.τ).loc Cert.ProjOut.main_arg4)
      ∧ r.2.mem ((c.tc : Thread Cert.ProjOut.nD Cert.ProjOut.τ).loc Cert.ProjOut.main_arg5) = m ((c.tc : Thread Cert.ProjOut.nD Cert.ProjOut.τ).loc Cert.ProjOut.main_arg5)
      ∧ r.2.mem ((c.tc : Thread Cert.ProjOut.nD Cert.ProjOut.τ).loc Cert.ProjOut.main_arg6) = m ((c.tc : Thread Cert.ProjOut.nD Cert.ProjOut.τ).loc Cert.ProjOut.main_arg6))
      ∧ r.2.sem = fun _ => 0)

def quiescent_ProjOutIdeal [hProjOutIdeal : Cert.ProjOutIdeal.Facts] [hPre_proj_out_layer : Cert.Pre_proj_out_layer.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
      ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
      ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6))
      ∧ r.2.sem = fun _ => 0)

def quiescent_ProjOutReferenceIdeal [hProjOutReferenceIdeal : Cert.ProjOutReferenceIdeal.Facts] : Prop :=
  ∀ (m : (ℓ : Loc Cert.ProjOutReferenceIdeal.nD Cert.ProjOutReferenceIdeal.τ Cert.ProjOutReferenceIdeal.sig) → Buf (Elt Ideal) ℓ) (g : Dev Cert.ProjOutReferenceIdeal.nD → PrngReg), Pre_ProjOutReferenceIdeal m →
    θ_run (Cert.ProjOutReferenceIdeal.defs (F := Ideal)) (onTc (τ := Cert.ProjOutReferenceIdeal.τ) (Cert.ProjOutReferenceIdeal.main (F := Ideal))) ⟨m, fun _ => 0, g⟩ (fun r => (∀ c : Dev Cert.ProjOutReferenceIdeal.nD,
      r.2.mem ((c.tc : Thread Cert.ProjOutReferenceIdeal.nD Cert.ProjOutReferenceIdeal.τ).loc Cert.ProjOutReferenceIdeal.main_arg0) = m ((c.tc : Thread Cert.ProjOutReferenceIdeal.nD Cert.ProjOutReferenceIdeal.τ).loc Cert.ProjOutReferenceIdeal.main_arg0)
      ∧ r.2.mem ((c.tc : Thread Cert.ProjOutReferenceIdeal.nD Cert.ProjOutReferenceIdeal.τ).loc Cert.ProjOutReferenceIdeal.main_arg1) = m ((c.tc : Thread Cert.ProjOutReferenceIdeal.nD Cert.ProjOutReferenceIdeal.τ).loc Cert.ProjOutReferenceIdeal.main_arg1)
      ∧ r.2.mem ((c.tc : Thread Cert.ProjOutReferenceIdeal.nD Cert.ProjOutReferenceIdeal.τ).loc Cert.ProjOutReferenceIdeal.main_arg2) = m ((c.tc : Thread Cert.ProjOutReferenceIdeal.nD Cert.ProjOutReferenceIdeal.τ).loc Cert.ProjOutReferenceIdeal.main_arg2)
      ∧ r.2.mem ((c.tc : Thread Cert.ProjOutReferenceIdeal.nD Cert.ProjOutReferenceIdeal.τ).loc Cert.ProjOutReferenceIdeal.main_arg3) = m ((c.tc : Thread Cert.ProjOutReferenceIdeal.nD Cert.ProjOutReferenceIdeal.τ).loc Cert.ProjOutReferenceIdeal.main_arg3)
      ∧ r.2.mem ((c.tc : Thread Cert.ProjOutReferenceIdeal.nD Cert.ProjOutReferenceIdeal.τ).loc Cert.ProjOutReferenceIdeal.main_arg4) = m ((c.tc : Thread Cert.ProjOutReferenceIdeal.nD Cert.ProjOutReferenceIdeal.τ).loc Cert.ProjOutReferenceIdeal.main_arg4)
      ∧ r.2.mem ((c.tc : Thread Cert.ProjOutReferenceIdeal.nD Cert.ProjOutReferenceIdeal.τ).loc Cert.ProjOutReferenceIdeal.main_arg5) = m ((c.tc : Thread Cert.ProjOutReferenceIdeal.nD Cert.ProjOutReferenceIdeal.τ).loc Cert.ProjOutReferenceIdeal.main_arg5)
      ∧ r.2.mem ((c.tc : Thread Cert.ProjOutReferenceIdeal.nD Cert.ProjOutReferenceIdeal.τ).loc Cert.ProjOutReferenceIdeal.main_arg6) = m ((c.tc : Thread Cert.ProjOutReferenceIdeal.nD Cert.ProjOutReferenceIdeal.τ).loc Cert.ProjOutReferenceIdeal.main_arg6))
      ∧ r.2.sem = fun _ => 0)

def quiescent_ProjOutReferenceIdeal_pre_proj_out_layer [hProjOutReferenceIdeal : Cert.ProjOutReferenceIdeal.Facts] [hPre_proj_out_layer : Cert.Pre_proj_out_layer.Facts] : Prop :=
  ∀ (m : (ℓ : Loc Cert.ProjOutReferenceIdeal.nD Cert.ProjOutReferenceIdeal.τ Cert.ProjOutReferenceIdeal.sig) → Buf (Elt Ideal) ℓ) (g : Dev Cert.ProjOutReferenceIdeal.nD → PrngReg), Pre_ProjOutReferenceIdeal_proj_out_layer m →
    θ_run (Cert.ProjOutReferenceIdeal.defs (F := Ideal)) (onTc (τ := Cert.ProjOutReferenceIdeal.τ) (Cert.ProjOutReferenceIdeal.main (F := Ideal))) ⟨m, fun _ => 0, g⟩ (fun r => (∀ c : Dev Cert.ProjOutReferenceIdeal.nD,
      r.2.mem ((c.tc : Thread Cert.ProjOutReferenceIdeal.nD Cert.ProjOutReferenceIdeal.τ).loc Cert.ProjOutReferenceIdeal.main_arg0) = m ((c.tc : Thread Cert.ProjOutReferenceIdeal.nD Cert.ProjOutReferenceIdeal.τ).loc Cert.ProjOutReferenceIdeal.main_arg0)
      ∧ r.2.mem ((c.tc : Thread Cert.ProjOutReferenceIdeal.nD Cert.ProjOutReferenceIdeal.τ).loc Cert.ProjOutReferenceIdeal.main_arg1) = m ((c.tc : Thread Cert.ProjOutReferenceIdeal.nD Cert.ProjOutReferenceIdeal.τ).loc Cert.ProjOutReferenceIdeal.main_arg1)
      ∧ r.2.mem ((c.tc : Thread Cert.ProjOutReferenceIdeal.nD Cert.ProjOutReferenceIdeal.τ).loc Cert.ProjOutReferenceIdeal.main_arg2) = m ((c.tc : Thread Cert.ProjOutReferenceIdeal.nD Cert.ProjOutReferenceIdeal.τ).loc Cert.ProjOutReferenceIdeal.main_arg2)
      ∧ r.2.mem ((c.tc : Thread Cert.ProjOutReferenceIdeal.nD Cert.ProjOutReferenceIdeal.τ).loc Cert.ProjOutReferenceIdeal.main_arg3) = m ((c.tc : Thread Cert.ProjOutReferenceIdeal.nD Cert.ProjOutReferenceIdeal.τ).loc Cert.ProjOutReferenceIdeal.main_arg3)
      ∧ r.2.mem ((c.tc : Thread Cert.ProjOutReferenceIdeal.nD Cert.ProjOutReferenceIdeal.τ).loc Cert.ProjOutReferenceIdeal.main_arg4) = m ((c.tc : Thread Cert.ProjOutReferenceIdeal.nD Cert.ProjOutReferenceIdeal.τ).loc Cert.ProjOutReferenceIdeal.main_arg4)
      ∧ r.2.mem ((c.tc : Thread Cert.ProjOutReferenceIdeal.nD Cert.ProjOutReferenceIdeal.τ).loc Cert.ProjOutReferenceIdeal.main_arg5) = m ((c.tc : Thread Cert.ProjOutReferenceIdeal.nD Cert.ProjOutReferenceIdeal.τ).loc Cert.ProjOutReferenceIdeal.main_arg5)
      ∧ r.2.mem ((c.tc : Thread Cert.ProjOutReferenceIdeal.nD Cert.ProjOutReferenceIdeal.τ).loc Cert.ProjOutReferenceIdeal.main_arg6) = m ((c.tc : Thread Cert.ProjOutReferenceIdeal.nD Cert.ProjOutReferenceIdeal.τ).loc Cert.ProjOutReferenceIdeal.main_arg6))
      ∧ r.2.sem = fun _ => 0)

def quiescent_ProjRest [hProjRest : Cert.ProjRest.Facts] [hPre_proj_in_f32_layer : Cert.Pre_proj_in_f32_layer.Facts] : Prop :=
  ∀ (m : (ℓ : Loc Cert.ProjRest.nD Cert.ProjRest.τ Cert.ProjRest.sig) → Buf (Elt Bits) ℓ) (g : Dev Cert.ProjRest.nD → PrngReg), Pre_ProjRest m →
    θ_run (Cert.ProjRest.defs (F := Bits)) (onTc (τ := Cert.ProjRest.τ) (Cert.ProjRest.main (F := Bits))) ⟨m, fun _ => 0, g⟩ (fun r => (∀ c : Dev Cert.ProjRest.nD,
      r.2.mem ((c.tc : Thread Cert.ProjRest.nD Cert.ProjRest.τ).loc Cert.ProjRest.main_arg0) = m ((c.tc : Thread Cert.ProjRest.nD Cert.ProjRest.τ).loc Cert.ProjRest.main_arg0)
      ∧ r.2.mem ((c.tc : Thread Cert.ProjRest.nD Cert.ProjRest.τ).loc Cert.ProjRest.main_arg1) = m ((c.tc : Thread Cert.ProjRest.nD Cert.ProjRest.τ).loc Cert.ProjRest.main_arg1)
      ∧ r.2.mem ((c.tc : Thread Cert.ProjRest.nD Cert.ProjRest.τ).loc Cert.ProjRest.main_arg2) = m ((c.tc : Thread Cert.ProjRest.nD Cert.ProjRest.τ).loc Cert.ProjRest.main_arg2)
      ∧ r.2.mem ((c.tc : Thread Cert.ProjRest.nD Cert.ProjRest.τ).loc Cert.ProjRest.main_arg3) = m ((c.tc : Thread Cert.ProjRest.nD Cert.ProjRest.τ).loc Cert.ProjRest.main_arg3))
      ∧ r.2.sem = fun _ => 0)

def quiescent_ProjRestIdeal [hProjRestIdeal : Cert.ProjRestIdeal.Facts] [hPre_proj_in_f32_layer : Cert.Pre_proj_in_f32_layer.Facts] : Prop :=
  ∀ (m : (ℓ : Loc Cert.ProjRestIdeal.nD Cert.ProjRestIdeal.τ Cert.ProjRestIdeal.sig) → Buf (Elt Ideal) ℓ) (g : Dev Cert.ProjRestIdeal.nD → PrngReg), Pre_ProjRestIdeal m →
    θ_run (Cert.ProjRestIdeal.defs (F := Ideal)) (onTc (τ := Cert.ProjRestIdeal.τ) (Cert.ProjRestIdeal.main (F := Ideal))) ⟨m, fun _ => 0, g⟩ (fun r => (∀ c : Dev Cert.ProjRestIdeal.nD,
      r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
      ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1)
      ∧ r.2.mem ((c.tc : Thread Cert.ProjRestIdeal.nD Cert.ProjRestIdeal.τ).loc Cert.ProjRestIdeal.main_arg2) = m ((c.tc : Thread Cert.ProjRestIdeal.nD Cert.ProjRestIdeal.τ).loc Cert.ProjRestIdeal.main_arg2)
      ∧ r.2.mem ((c.tc : Thread Cert.ProjRestIdeal.nD Cert.ProjRestIdeal.τ).loc Cert.ProjRestIdeal.main_arg3) = m ((c.tc : Thread Cert.ProjRestIdeal.nD Cert.ProjRestIdeal.τ).loc Cert.ProjRestIdeal.main_arg3))
      ∧ r.2.sem = fun _ => 0)

def quiescent_ProjRestReferenceIdeal [hProjRestReferenceIdeal : Cert.ProjRestReferenceIdeal.Facts] : Prop :=
  ∀ (m : (ℓ : Loc Cert.ProjRestReferenceIdeal.nD Cert.ProjRestReferenceIdeal.τ Cert.ProjRestReferenceIdeal.sig) → Buf (Elt Ideal) ℓ) (g : Dev Cert.ProjRestReferenceIdeal.nD → PrngReg), Pre_ProjRestReferenceIdeal m →
    θ_run (Cert.ProjRestReferenceIdeal.defs (F := Ideal)) (onTc (τ := Cert.ProjRestReferenceIdeal.τ) (Cert.ProjRestReferenceIdeal.main (F := Ideal))) ⟨m, fun _ => 0, g⟩ (fun r => (∀ c : Dev Cert.ProjRestReferenceIdeal.nD,
      r.2.mem ((c.tc : Thread Cert.ProjRestReferenceIdeal.nD Cert.ProjRestReferenceIdeal.τ).loc Cert.ProjRestReferenceIdeal.main_arg0) = m ((c.tc : Thread Cert.ProjRestReferenceIdeal.nD Cert.ProjRestReferenceIdeal.τ).loc Cert.ProjRestReferenceIdeal.main_arg0)
      ∧ r.2.mem ((c.tc : Thread Cert.ProjRestReferenceIdeal.nD Cert.ProjRestReferenceIdeal.τ).loc Cert.ProjRestReferenceIdeal.main_arg1) = m ((c.tc : Thread Cert.ProjRestReferenceIdeal.nD Cert.ProjRestReferenceIdeal.τ).loc Cert.ProjRestReferenceIdeal.main_arg1)
      ∧ r.2.mem ((c.tc : Thread Cert.ProjRestReferenceIdeal.nD Cert.ProjRestReferenceIdeal.τ).loc Cert.ProjRestReferenceIdeal.main_arg2) = m ((c.tc : Thread Cert.ProjRestReferenceIdeal.nD Cert.ProjRestReferenceIdeal.τ).loc Cert.ProjRestReferenceIdeal.main_arg2)
      ∧ r.2.mem ((c.tc : Thread Cert.ProjRestReferenceIdeal.nD Cert.ProjRestReferenceIdeal.τ).loc Cert.ProjRestReferenceIdeal.main_arg3) = m ((c.tc : Thread Cert.ProjRestReferenceIdeal.nD Cert.ProjRestReferenceIdeal.τ).loc Cert.ProjRestReferenceIdeal.main_arg3))
      ∧ r.2.sem = fun _ => 0)

def quiescent_ProjRestReferenceIdeal_pre_proj_in_f32_layer [hProjRestReferenceIdeal : Cert.ProjRestReferenceIdeal.Facts] [hPre_proj_in_f32_layer : Cert.Pre_proj_in_f32_layer.Facts] : Prop :=
  ∀ (m : (ℓ : Loc Cert.ProjRestReferenceIdeal.nD Cert.ProjRestReferenceIdeal.τ Cert.ProjRestReferenceIdeal.sig) → Buf (Elt Ideal) ℓ) (g : Dev Cert.ProjRestReferenceIdeal.nD → PrngReg), Pre_ProjRestReferenceIdeal_proj_in_f32_layer m →
    θ_run (Cert.ProjRestReferenceIdeal.defs (F := Ideal)) (onTc (τ := Cert.ProjRestReferenceIdeal.τ) (Cert.ProjRestReferenceIdeal.main (F := Ideal))) ⟨m, fun _ => 0, g⟩ (fun r => (∀ c : Dev Cert.ProjRestReferenceIdeal.nD,
      r.2.mem ((c.tc : Thread Cert.ProjRestReferenceIdeal.nD Cert.ProjRestReferenceIdeal.τ).loc Cert.ProjRestReferenceIdeal.main_arg0) = m ((c.tc : Thread Cert.ProjRestReferenceIdeal.nD Cert.ProjRestReferenceIdeal.τ).loc Cert.ProjRestReferenceIdeal.main_arg0)
      ∧ r.2.mem ((c.tc : Thread Cert.ProjRestReferenceIdeal.nD Cert.ProjRestReferenceIdeal.τ).loc Cert.ProjRestReferenceIdeal.main_arg1) = m ((c.tc : Thread Cert.ProjRestReferenceIdeal.nD Cert.ProjRestReferenceIdeal.τ).loc Cert.ProjRestReferenceIdeal.main_arg1)
      ∧ r.2.mem ((c.tc : Thread Cert.ProjRestReferenceIdeal.nD Cert.ProjRestReferenceIdeal.τ).loc Cert.ProjRestReferenceIdeal.main_arg2) = m ((c.tc : Thread Cert.ProjRestReferenceIdeal.nD Cert.ProjRestReferenceIdeal.τ).loc Cert.ProjRestReferenceIdeal.main_arg2)
      ∧ r.2.mem ((c.tc : Thread Cert.ProjRestReferenceIdeal.nD Cert.ProjRestReferenceIdeal.τ).loc Cert.ProjRestReferenceIdeal.main_arg3) = m ((c.tc : Thread Cert.ProjRestReferenceIdeal.nD Cert.ProjRestReferenceIdeal.τ).loc Cert.ProjRestReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Down_DownIdeal : Prop :=
  True

def algebraic_DownIdeal_DownReferenceIdeal [hDownIdeal : Cert.DownIdeal.Facts] [hDownReferenceIdeal : Cert.DownReferenceIdeal.Facts] [hPre_down_groups : Cert.Pre_down_groups.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v16) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_GateUp_GateUpIdeal : Prop :=
  True

def algebraic_GateUpIdeal_GateUpReferenceIdeal [hGateUpIdeal : Cert.GateUpIdeal.Facts] [hGateUpReferenceIdeal : Cert.GateUpReferenceIdeal.Facts] [hPre_gate_up_groups : Cert.Pre_gate_up_groups.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v30) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4))

def preserves_ProjIn_ProjInIdeal : Prop :=
  True

def algebraic_ProjInIdeal_ProjInReferenceIdeal [hProjInIdeal : Cert.ProjInIdeal.Facts] [hProjInReferenceIdeal : Cert.ProjInReferenceIdeal.Facts] [hPre_proj_in_layer : Cert.Pre_proj_in_layer.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInReferenceIdeal.nD Cert.ProjInReferenceIdeal.τ Cert.ProjInReferenceIdeal.sig) → Buf (Elt Ideal) ℓ) (g' : Dev Cert.ProjInReferenceIdeal.nD → PrngReg), Pre_ProjInIdeal m →
    (∀ c : Dev Cert.ProjInIdeal.nD,
      m' ((c.tc : Thread Cert.ProjInReferenceIdeal.nD Cert.ProjInReferenceIdeal.τ).loc Cert.ProjInReferenceIdeal.main_arg0) = m ((c.tc : Thread Cert.ProjInIdeal.nD Cert.ProjInIdeal.τ).loc Cert.ProjInIdeal.main_arg0)
      ∧ m' ((c.tc : Thread Cert.ProjInReferenceIdeal.nD Cert.ProjInReferenceIdeal.τ).loc Cert.ProjInReferenceIdeal.main_arg1) = m ((c.tc : Thread Cert.ProjInIdeal.nD Cert.ProjInIdeal.τ).loc Cert.ProjInIdeal.main_arg1)
      ∧ m' ((c.tc : Thread Cert.ProjInReferenceIdeal.nD Cert.ProjInReferenceIdeal.τ).loc Cert.ProjInReferenceIdeal.main_arg2) = m ((c.tc : Thread Cert.ProjInIdeal.nD Cert.ProjInIdeal.τ).loc Cert.ProjInIdeal.main_arg2)
      ∧ m' ((c.tc : Thread Cert.ProjInReferenceIdeal.nD Cert.ProjInReferenceIdeal.τ).loc Cert.ProjInReferenceIdeal.main_arg3) = m ((c.tc : Thread Cert.ProjInIdeal.nD Cert.ProjInIdeal.τ).loc Cert.ProjInIdeal.main_arg3)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ θ_run (Cert.ProjInReferenceIdeal.defs (F := Ideal)) (onTc (τ := Cert.ProjInReferenceIdeal.τ) (Cert.ProjInReferenceIdeal.main (F := Ideal))) ⟨m', fun _ => 0, g'⟩ (fun r => ∀ c : Dev Cert.ProjInReferenceIdeal.nD,
          r.2.mem ((c.tc : Thread Cert.ProjInReferenceIdeal.nD Cert.ProjInReferenceIdeal.τ).loc Cert.ProjInReferenceIdeal.main_v11) = v0 c
          ∧ r.2.mem ((c.tc : Thread Cert.ProjInReferenceIdeal.nD Cert.ProjInReferenceIdeal.τ).loc Cert.ProjInReferenceIdeal.main_arg0) = m' ((c.tc : Thread Cert.ProjInReferenceIdeal.nD Cert.ProjInReferenceIdeal.τ).loc Cert.ProjInReferenceIdeal.main_arg0)
          ∧ r.2.mem ((c.tc : Thread Cert.ProjInReferenceIdeal.nD Cert.ProjInReferenceIdeal.τ).loc Cert.ProjInReferenceIdeal.main_arg1) = m' ((c.tc : Thread Cert.ProjInReferenceIdeal.nD Cert.ProjInReferenceIdeal.τ).loc Cert.ProjInReferenceIdeal.main_arg1)
          ∧ r.2.mem ((c.tc : Thread Cert.ProjInReferenceIdeal.nD Cert.ProjInReferenceIdeal.τ).loc Cert.ProjInReferenceIdeal.main_arg2) = m' ((c.tc : Thread Cert.ProjInReferenceIdeal.nD Cert.ProjInReferenceIdeal.τ).loc Cert.ProjInReferenceIdeal.main_arg2)
          ∧ r.2.mem ((c.tc : Thread Cert.ProjInReferenceIdeal.nD Cert.ProjInReferenceIdeal.τ).loc Cert.ProjInReferenceIdeal.main_arg3) = m' ((c.tc : Thread Cert.ProjInReferenceIdeal.nD Cert.ProjInReferenceIdeal.τ).loc Cert.ProjInReferenceIdeal.main_arg3))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] [hPre_ffn_down_layer : Cert.Pre_ffn_down_layer.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v11) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3))

def preserves_FfnGate_FfnGateIdeal : Prop :=
  True

def algebraic_FfnGateIdeal_FfnGateReferenceIdeal [hFfnGateIdeal : Cert.FfnGateIdeal.Facts] [hFfnGateReferenceIdeal : Cert.FfnGateReferenceIdeal.Facts] [hPre_ffn_gate_layer : Cert.Pre_ffn_gate_layer.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateReferenceIdeal.nD Cert.FfnGateReferenceIdeal.τ Cert.FfnGateReferenceIdeal.sig) → Buf (Elt Ideal) ℓ) (g' : Dev Cert.FfnGateReferenceIdeal.nD → PrngReg), Pre_FfnGateIdeal m →
    (∀ c : Dev Cert.FfnGateIdeal.nD,
      m' ((c.tc : Thread Cert.FfnGateReferenceIdeal.nD Cert.FfnGateReferenceIdeal.τ).loc Cert.FfnGateReferenceIdeal.main_arg0) = m ((c.tc : Thread Cert.FfnGateIdeal.nD Cert.FfnGateIdeal.τ).loc Cert.FfnGateIdeal.main_arg0)
      ∧ m' ((c.tc : Thread Cert.FfnGateReferenceIdeal.nD Cert.FfnGateReferenceIdeal.τ).loc Cert.FfnGateReferenceIdeal.main_arg1) = m ((c.tc : Thread Cert.FfnGateIdeal.nD Cert.FfnGateIdeal.τ).loc Cert.FfnGateIdeal.main_arg1)
      ∧ m' ((c.tc : Thread Cert.FfnGateReferenceIdeal.nD Cert.FfnGateReferenceIdeal.τ).loc Cert.FfnGateReferenceIdeal.main_arg2) = m ((c.tc : Thread Cert.FfnGateIdeal.nD Cert.FfnGateIdeal.τ).loc Cert.FfnGateIdeal.main_arg2)
      ∧ m' ((c.tc : Thread Cert.FfnGateReferenceIdeal.nD Cert.FfnGateReferenceIdeal.τ).loc Cert.FfnGateReferenceIdeal.main_arg3) = m ((c.tc : Thread Cert.FfnGateIdeal.nD Cert.FfnGateIdeal.τ).loc Cert.FfnGateIdeal.main_arg3)) →
    ∃ (v0 : (c : Dev Cert.FfnGateIdeal.nD) → Buf (Elt Ideal) ((c.tc : Thread Cert.FfnGateIdeal.nD Cert.FfnGateIdeal.τ).loc Cert.FfnGateIdeal.main_v0)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v0) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1)
          ∧ r.2.mem ((c.tc : Thread Cert.FfnGateIdeal.nD Cert.FfnGateIdeal.τ).loc Cert.FfnGateIdeal.main_arg2) = m ((c.tc : Thread Cert.FfnGateIdeal.nD Cert.FfnGateIdeal.τ).loc Cert.FfnGateIdeal.main_arg2)
          ∧ r.2.mem ((c.tc : Thread Cert.FfnGateIdeal.nD Cert.FfnGateIdeal.τ).loc Cert.FfnGateIdeal.main_arg3) = m ((c.tc : Thread Cert.FfnGateIdeal.nD Cert.FfnGateIdeal.τ).loc Cert.FfnGateIdeal.main_arg3))
      ∧ θ_run (Cert.FfnGateReferenceIdeal.defs (F := Ideal)) (onTc (τ := Cert.FfnGateReferenceIdeal.τ) (Cert.FfnGateReferenceIdeal.main (F := Ideal))) ⟨m', fun _ => 0, g'⟩ (fun r => ∀ c : Dev Cert.FfnGateReferenceIdeal.nD,
          r.2.mem ((c.tc : Thread Cert.FfnGateReferenceIdeal.nD Cert.FfnGateReferenceIdeal.τ).loc Cert.FfnGateReferenceIdeal.main_v12) = v0 c
          ∧ r.2.mem ((c.tc : Thread Cert.FfnGateReferenceIdeal.nD Cert.FfnGateReferenceIdeal.τ).loc Cert.FfnGateReferenceIdeal.main_arg0) = m' ((c.tc : Thread Cert.FfnGateReferenceIdeal.nD Cert.FfnGateReferenceIdeal.τ).loc Cert.FfnGateReferenceIdeal.main_arg0)
          ∧ r.2.mem ((c.tc : Thread Cert.FfnGateReferenceIdeal.nD Cert.FfnGateReferenceIdeal.τ).loc Cert.FfnGateReferenceIdeal.main_arg1) = m' ((c.tc : Thread Cert.FfnGateReferenceIdeal.nD Cert.FfnGateReferenceIdeal.τ).loc Cert.FfnGateReferenceIdeal.main_arg1)
          ∧ r.2.mem ((c.tc : Thread Cert.FfnGateReferenceIdeal.nD Cert.FfnGateReferenceIdeal.τ).loc Cert.FfnGateReferenceIdeal.main_arg2) = m' ((c.tc : Thread Cert.FfnGateReferenceIdeal.nD Cert.FfnGateReferenceIdeal.τ).loc Cert.FfnGateReferenceIdeal.main_arg2)
          ∧ r.2.mem ((c.tc : Thread Cert.FfnGateReferenceIdeal.nD Cert.FfnGateReferenceIdeal.τ).loc Cert.FfnGateReferenceIdeal.main_arg3) = m' ((c.tc : Thread Cert.FfnGateReferenceIdeal.nD Cert.FfnGateReferenceIdeal.τ).loc Cert.FfnGateReferenceIdeal.main_arg3))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] [hPre_ffn_up_layer : Cert.Pre_ffn_up_layer.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)
      ∧ m' ((c.tc : Thread Cert.FfnUpReferenceIdeal.nD Cert.FfnUpReferenceIdeal.τ).loc Cert.FfnUpReferenceIdeal.main_arg3) = m ((c.tc : Thread Cert.FfnUpIdeal.nD Cert.FfnUpIdeal.τ).loc Cert.FfnUpIdeal.main_arg3)
      ∧ m' ((c.tc : Thread Cert.FfnUpReferenceIdeal.nD Cert.FfnUpReferenceIdeal.τ).loc Cert.FfnUpReferenceIdeal.main_arg4) = m ((c.tc : Thread Cert.FfnUpIdeal.nD Cert.FfnUpIdeal.τ).loc Cert.FfnUpIdeal.main_arg4)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v13) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2)
          ∧ r.2.mem ((c.tc : Thread Cert.FfnUpReferenceIdeal.nD Cert.FfnUpReferenceIdeal.τ).loc Cert.FfnUpReferenceIdeal.main_arg3) = m' ((c.tc : Thread Cert.FfnUpReferenceIdeal.nD Cert.FfnUpReferenceIdeal.τ).loc Cert.FfnUpReferenceIdeal.main_arg3)
          ∧ r.2.mem ((c.tc : Thread Cert.FfnUpReferenceIdeal.nD Cert.FfnUpReferenceIdeal.τ).loc Cert.FfnUpReferenceIdeal.main_arg4) = m' ((c.tc : Thread Cert.FfnUpReferenceIdeal.nD Cert.FfnUpReferenceIdeal.τ).loc Cert.FfnUpReferenceIdeal.main_arg4))

def preserves_MlaUv_MlaUvIdeal : Prop :=
  True

def algebraic_MlaUvIdeal_MlaUvReferenceIdeal [hMlaUvIdeal : Cert.MlaUvIdeal.Facts] [hMlaUvReferenceIdeal : Cert.MlaUvReferenceIdeal.Facts] [hPre_mla_uv_layer : Cert.Pre_mla_uv_layer.Facts] : Prop :=
  ∀ (m : (ℓ : Loc Cert.MlaUvIdeal.nD Cert.MlaUvIdeal.τ Cert.MlaUvIdeal.sig) → Buf (Elt Ideal) ℓ) (g : Dev Cert.MlaUvIdeal.nD → PrngReg)
    (m' : (ℓ : Loc Cert.MlaUvReferenceIdeal.nD Cert.MlaUvReferenceIdeal.τ Cert.MlaUvReferenceIdeal.sig) → Buf (Elt Ideal) ℓ) (g' : Dev Cert.MlaUvReferenceIdeal.nD → PrngReg), Pre_MlaUvIdeal m →
    (∀ c : Dev Cert.MlaUvIdeal.nD,
      m' ((c.tc : Thread Cert.MlaUvReferenceIdeal.nD Cert.MlaUvReferenceIdeal.τ).loc Cert.MlaUvReferenceIdeal.main_arg0) = m ((c.tc : Thread Cert.MlaUvIdeal.nD Cert.MlaUvIdeal.τ).loc Cert.MlaUvIdeal.main_arg0)
      ∧ m' ((c.tc : Thread Cert.MlaUvReferenceIdeal.nD Cert.MlaUvReferenceIdeal.τ).loc Cert.MlaUvReferenceIdeal.main_arg1) = m ((c.tc : Thread Cert.MlaUvIdeal.nD Cert.MlaUvIdeal.τ).loc Cert.MlaUvIdeal.main_arg1)
      ∧ m' ((c.tc : Thread Cert.MlaUvReferenceIdeal.nD Cert.MlaUvReferenceIdeal.τ).loc Cert.MlaUvReferenceIdeal.main_arg2) = m ((c.tc : Thread Cert.MlaUvIdeal.nD Cert.MlaUvIdeal.τ).loc Cert.MlaUvIdeal.main_arg2)
      ∧ m' ((c.tc : Thread Cert.MlaUvReferenceIdeal.nD Cert.MlaUvReferenceIdeal.τ).loc Cert.MlaUvReferenceIdeal.main_arg3) = m ((c.tc : Thread Cert.MlaUvIdeal.nD Cert.MlaUvIdeal.τ).loc Cert.MlaUvIdeal.main_arg3)) →
    ∃ (v0 : (c : Dev Cert.MlaUvIdeal.nD) → Buf (Elt Ideal) ((c.tc : Thread Cert.MlaUvIdeal.nD Cert.MlaUvIdeal.τ).loc Cert.MlaUvIdeal.main_v0)),
      θ_run (Cert.MlaUvIdeal.defs (F := Ideal)) (onTc (τ := Cert.MlaUvIdeal.τ) (Cert.MlaUvIdeal.main (F := Ideal))) ⟨m, fun _ => 0, g⟩ (fun r => ∀ c : Dev Cert.MlaUvIdeal.nD,
          r.2.mem ((c.tc : Thread Cert.MlaUvIdeal.nD Cert.MlaUvIdeal.τ).loc Cert.MlaUvIdeal.main_v0) = v0 c
          ∧ r.2.mem ((c.tc : Thread Cert.MlaUvIdeal.nD Cert.MlaUvIdeal.τ).loc Cert.MlaUvIdeal.main_arg0) = m ((c.tc : Thread Cert.MlaUvIdeal.nD Cert.MlaUvIdeal.τ).loc Cert.MlaUvIdeal.main_arg0)
          ∧ r.2.mem ((c.tc : Thread Cert.MlaUvIdeal.nD Cert.MlaUvIdeal.τ).loc Cert.MlaUvIdeal.main_arg1) = m ((c.tc : Thread Cert.MlaUvIdeal.nD Cert.MlaUvIdeal.τ).loc Cert.MlaUvIdeal.main_arg1)
          ∧ r.2.mem ((c.tc : Thread Cert.MlaUvIdeal.nD Cert.MlaUvIdeal.τ).loc Cert.MlaUvIdeal.main_arg2) = m ((c.tc : Thread Cert.MlaUvIdeal.nD Cert.MlaUvIdeal.τ).loc Cert.MlaUvIdeal.main_arg2)
          ∧ r.2.mem ((c.tc : Thread Cert.MlaUvIdeal.nD Cert.MlaUvIdeal.τ).loc Cert.MlaUvIdeal.main_arg3) = m ((c.tc : Thread Cert.MlaUvIdeal.nD Cert.MlaUvIdeal.τ).loc Cert.MlaUvIdeal.main_arg3))
      ∧ θ_run (Cert.MlaUvReferenceIdeal.defs (F := Ideal)) (onTc (τ := Cert.MlaUvReferenceIdeal.τ) (Cert.MlaUvReferenceIdeal.main (F := Ideal))) ⟨m', fun _ => 0, g'⟩ (fun r => ∀ c : Dev Cert.MlaUvReferenceIdeal.nD,
          r.2.mem ((c.tc : Thread Cert.MlaUvReferenceIdeal.nD Cert.MlaUvReferenceIdeal.τ).loc Cert.MlaUvReferenceIdeal.main_v11) = v0 c
          ∧ r.2.mem ((c.tc : Thread Cert.MlaUvReferenceIdeal.nD Cert.MlaUvReferenceIdeal.τ).loc Cert.MlaUvReferenceIdeal.main_arg0) = m' ((c.tc : Thread Cert.MlaUvReferenceIdeal.nD Cert.MlaUvReferenceIdeal.τ).loc Cert.MlaUvReferenceIdeal.main_arg0)
          ∧ r.2.mem ((c.tc : Thread Cert.MlaUvReferenceIdeal.nD Cert.MlaUvReferenceIdeal.τ).loc Cert.MlaUvReferenceIdeal.main_arg1) = m' ((c.tc : Thread Cert.MlaUvReferenceIdeal.nD Cert.MlaUvReferenceIdeal.τ).loc Cert.MlaUvReferenceIdeal.main_arg1)
          ∧ r.2.mem ((c.tc : Thread Cert.MlaUvReferenceIdeal.nD Cert.MlaUvReferenceIdeal.τ).loc Cert.MlaUvReferenceIdeal.main_arg2) = m' ((c.tc : Thread Cert.MlaUvReferenceIdeal.nD Cert.MlaUvReferenceIdeal.τ).loc Cert.MlaUvReferenceIdeal.main_arg2)
          ∧ r.2.mem ((c.tc : Thread Cert.MlaUvReferenceIdeal.nD Cert.MlaUvReferenceIdeal.τ).loc Cert.MlaUvReferenceIdeal.main_arg3) = m' ((c.tc : Thread Cert.MlaUvReferenceIdeal.nD Cert.MlaUvReferenceIdeal.τ).loc Cert.MlaUvReferenceIdeal.main_arg3))

def preserves_ProjOut_ProjOutIdeal : Prop :=
  True

def algebraic_ProjOutIdeal_ProjOutReferenceIdeal [hProjOutIdeal : Cert.ProjOutIdeal.Facts] [hProjOutReferenceIdeal : Cert.ProjOutReferenceIdeal.Facts] [hPre_proj_out_layer : Cert.Pre_proj_out_layer.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutReferenceIdeal.nD Cert.ProjOutReferenceIdeal.τ Cert.ProjOutReferenceIdeal.sig) → Buf (Elt Ideal) ℓ) (g' : Dev Cert.ProjOutReferenceIdeal.nD → PrngReg), Pre_ProjOutIdeal m →
    (∀ c : Dev Cert.ProjOutIdeal.nD,
      m' ((c.tc : Thread Cert.ProjOutReferenceIdeal.nD Cert.ProjOutReferenceIdeal.τ).loc Cert.ProjOutReferenceIdeal.main_arg0) = m ((c.tc : Thread Cert.ProjOutIdeal.nD Cert.ProjOutIdeal.τ).loc Cert.ProjOutIdeal.main_arg0)
      ∧ m' ((c.tc : Thread Cert.ProjOutReferenceIdeal.nD Cert.ProjOutReferenceIdeal.τ).loc Cert.ProjOutReferenceIdeal.main_arg1) = m ((c.tc : Thread Cert.ProjOutIdeal.nD Cert.ProjOutIdeal.τ).loc Cert.ProjOutIdeal.main_arg1)
      ∧ m' ((c.tc : Thread Cert.ProjOutReferenceIdeal.nD Cert.ProjOutReferenceIdeal.τ).loc Cert.ProjOutReferenceIdeal.main_arg2) = m ((c.tc : Thread Cert.ProjOutIdeal.nD Cert.ProjOutIdeal.τ).loc Cert.ProjOutIdeal.main_arg2)
      ∧ m' ((c.tc : Thread Cert.ProjOutReferenceIdeal.nD Cert.ProjOutReferenceIdeal.τ).loc Cert.ProjOutReferenceIdeal.main_arg3) = m ((c.tc : Thread Cert.ProjOutIdeal.nD Cert.ProjOutIdeal.τ).loc Cert.ProjOutIdeal.main_arg3)
      ∧ m' ((c.tc : Thread Cert.ProjOutReferenceIdeal.nD Cert.ProjOutReferenceIdeal.τ).loc Cert.ProjOutReferenceIdeal.main_arg4) = m ((c.tc : Thread Cert.ProjOutIdeal.nD Cert.ProjOutIdeal.τ).loc Cert.ProjOutIdeal.main_arg4)
      ∧ m' ((c.tc : Thread Cert.ProjOutReferenceIdeal.nD Cert.ProjOutReferenceIdeal.τ).loc Cert.ProjOutReferenceIdeal.main_arg5) = m ((c.tc : Thread Cert.ProjOutIdeal.nD Cert.ProjOutIdeal.τ).loc Cert.ProjOutIdeal.main_arg5)
      ∧ m' ((c.tc : Thread Cert.ProjOutReferenceIdeal.nD Cert.ProjOutReferenceIdeal.τ).loc Cert.ProjOutReferenceIdeal.main_arg6) = m ((c.tc : Thread Cert.ProjOutIdeal.nD Cert.ProjOutIdeal.τ).loc Cert.ProjOutIdeal.main_arg6)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
          ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
          ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
          ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6))
      ∧ θ_run (Cert.ProjOutReferenceIdeal.defs (F := Ideal)) (onTc (τ := Cert.ProjOutReferenceIdeal.τ) (Cert.ProjOutReferenceIdeal.main (F := Ideal))) ⟨m', fun _ => 0, g'⟩ (fun r => ∀ c : Dev Cert.ProjOutReferenceIdeal.nD,
          r.2.mem ((c.tc : Thread Cert.ProjOutReferenceIdeal.nD Cert.ProjOutReferenceIdeal.τ).loc Cert.ProjOutReferenceIdeal.main_v12) = v0 c
          ∧ r.2.mem ((c.tc : Thread Cert.ProjOutReferenceIdeal.nD Cert.ProjOutReferenceIdeal.τ).loc Cert.ProjOutReferenceIdeal.main_arg0) = m' ((c.tc : Thread Cert.ProjOutReferenceIdeal.nD Cert.ProjOutReferenceIdeal.τ).loc Cert.ProjOutReferenceIdeal.main_arg0)
          ∧ r.2.mem ((c.tc : Thread Cert.ProjOutReferenceIdeal.nD Cert.ProjOutReferenceIdeal.τ).loc Cert.ProjOutReferenceIdeal.main_arg1) = m' ((c.tc : Thread Cert.ProjOutReferenceIdeal.nD Cert.ProjOutReferenceIdeal.τ).loc Cert.ProjOutReferenceIdeal.main_arg1)
          ∧ r.2.mem ((c.tc : Thread Cert.ProjOutReferenceIdeal.nD Cert.ProjOutReferenceIdeal.τ).loc Cert.ProjOutReferenceIdeal.main_arg2) = m' ((c.tc : Thread Cert.ProjOutReferenceIdeal.nD Cert.ProjOutReferenceIdeal.τ).loc Cert.ProjOutReferenceIdeal.main_arg2)
          ∧ r.2.mem ((c.tc : Thread Cert.ProjOutReferenceIdeal.nD Cert.ProjOutReferenceIdeal.τ).loc Cert.ProjOutReferenceIdeal.main_arg3) = m' ((c.tc : Thread Cert.ProjOutReferenceIdeal.nD Cert.ProjOutReferenceIdeal.τ).loc Cert.ProjOutReferenceIdeal.main_arg3)
          ∧ r.2.mem ((c.tc : Thread Cert.ProjOutReferenceIdeal.nD Cert.ProjOutReferenceIdeal.τ).loc Cert.ProjOutReferenceIdeal.main_arg4) = m' ((c.tc : Thread Cert.ProjOutReferenceIdeal.nD Cert.ProjOutReferenceIdeal.τ).loc Cert.ProjOutReferenceIdeal.main_arg4)
          ∧ r.2.mem ((c.tc : Thread Cert.ProjOutReferenceIdeal.nD Cert.ProjOutReferenceIdeal.τ).loc Cert.ProjOutReferenceIdeal.main_arg5) = m' ((c.tc : Thread Cert.ProjOutReferenceIdeal.nD Cert.ProjOutReferenceIdeal.τ).loc Cert.ProjOutReferenceIdeal.main_arg5)
          ∧ r.2.mem ((c.tc : Thread Cert.ProjOutReferenceIdeal.nD Cert.ProjOutReferenceIdeal.τ).loc Cert.ProjOutReferenceIdeal.main_arg6) = m' ((c.tc : Thread Cert.ProjOutReferenceIdeal.nD Cert.ProjOutReferenceIdeal.τ).loc Cert.ProjOutReferenceIdeal.main_arg6))

def preserves_ProjRest_ProjRestIdeal : Prop :=
  True

def algebraic_ProjRestIdeal_ProjRestReferenceIdeal [hProjRestIdeal : Cert.ProjRestIdeal.Facts] [hProjRestReferenceIdeal : Cert.ProjRestReferenceIdeal.Facts] [hPre_proj_in_f32_layer : Cert.Pre_proj_in_f32_layer.Facts] : Prop :=
  ∀ (m : (ℓ : Loc Cert.ProjRestIdeal.nD Cert.ProjRestIdeal.τ Cert.ProjRestIdeal.sig) → Buf (Elt Ideal) ℓ) (g : Dev Cert.ProjRestIdeal.nD → PrngReg)
    (m' : (ℓ : Loc Cert.ProjRestReferenceIdeal.nD Cert.ProjRestReferenceIdeal.τ Cert.ProjRestReferenceIdeal.sig) → Buf (Elt Ideal) ℓ) (g' : Dev Cert.ProjRestReferenceIdeal.nD → PrngReg), Pre_ProjRestIdeal m →
    (∀ c : Dev Cert.ProjRestIdeal.nD,
      m' ((c.tc : Thread Cert.ProjRestReferenceIdeal.nD Cert.ProjRestReferenceIdeal.τ).loc Cert.ProjRestReferenceIdeal.main_arg0) = m ((c.tc : Thread Cert.ProjRestIdeal.nD Cert.ProjRestIdeal.τ).loc Cert.ProjRestIdeal.main_arg0)
      ∧ m' ((c.tc : Thread Cert.ProjRestReferenceIdeal.nD Cert.ProjRestReferenceIdeal.τ).loc Cert.ProjRestReferenceIdeal.main_arg1) = m ((c.tc : Thread Cert.ProjRestIdeal.nD Cert.ProjRestIdeal.τ).loc Cert.ProjRestIdeal.main_arg1)
      ∧ m' ((c.tc : Thread Cert.ProjRestReferenceIdeal.nD Cert.ProjRestReferenceIdeal.τ).loc Cert.ProjRestReferenceIdeal.main_arg2) = m ((c.tc : Thread Cert.ProjRestIdeal.nD Cert.ProjRestIdeal.τ).loc Cert.ProjRestIdeal.main_arg2)
      ∧ m' ((c.tc : Thread Cert.ProjRestReferenceIdeal.nD Cert.ProjRestReferenceIdeal.τ).loc Cert.ProjRestReferenceIdeal.main_arg3) = m ((c.tc : Thread Cert.ProjRestIdeal.nD Cert.ProjRestIdeal.τ).loc Cert.ProjRestIdeal.main_arg3)) →
    ∃ (v0 : (c : Dev Cert.ProjRestIdeal.nD) → Buf (Elt Ideal) ((c.tc : Thread Cert.ProjRestIdeal.nD Cert.ProjRestIdeal.τ).loc Cert.ProjRestIdeal.main_v0)),
      θ_run (Cert.ProjRestIdeal.defs (F := Ideal)) (onTc (τ := Cert.ProjRestIdeal.τ) (Cert.ProjRestIdeal.main (F := Ideal))) ⟨m, fun _ => 0, g⟩ (fun r => ∀ c : Dev Cert.ProjRestIdeal.nD,
          r.2.mem ((c.tc : Thread Cert.ProjRestIdeal.nD Cert.ProjRestIdeal.τ).loc Cert.ProjRestIdeal.main_v0) = v0 c
          ∧ r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
          ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1)
          ∧ r.2.mem ((c.tc : Thread Cert.ProjRestIdeal.nD Cert.ProjRestIdeal.τ).loc Cert.ProjRestIdeal.main_arg2) = m ((c.tc : Thread Cert.ProjRestIdeal.nD Cert.ProjRestIdeal.τ).loc Cert.ProjRestIdeal.main_arg2)
          ∧ r.2.mem ((c.tc : Thread Cert.ProjRestIdeal.nD Cert.ProjRestIdeal.τ).loc Cert.ProjRestIdeal.main_arg3) = m ((c.tc : Thread Cert.ProjRestIdeal.nD Cert.ProjRestIdeal.τ).loc Cert.ProjRestIdeal.main_arg3))
      ∧ θ_run (Cert.ProjRestReferenceIdeal.defs (F := Ideal)) (onTc (τ := Cert.ProjRestReferenceIdeal.τ) (Cert.ProjRestReferenceIdeal.main (F := Ideal))) ⟨m', fun _ => 0, g'⟩ (fun r => ∀ c : Dev Cert.ProjRestReferenceIdeal.nD,
          r.2.mem ((c.tc : Thread Cert.ProjRestReferenceIdeal.nD Cert.ProjRestReferenceIdeal.τ).loc Cert.ProjRestReferenceIdeal.main_v12) = v0 c
          ∧ r.2.mem ((c.tc : Thread Cert.ProjRestReferenceIdeal.nD Cert.ProjRestReferenceIdeal.τ).loc Cert.ProjRestReferenceIdeal.main_arg0) = m' ((c.tc : Thread Cert.ProjRestReferenceIdeal.nD Cert.ProjRestReferenceIdeal.τ).loc Cert.ProjRestReferenceIdeal.main_arg0)
          ∧ r.2.mem ((c.tc : Thread Cert.ProjRestReferenceIdeal.nD Cert.ProjRestReferenceIdeal.τ).loc Cert.ProjRestReferenceIdeal.main_arg1) = m' ((c.tc : Thread Cert.ProjRestReferenceIdeal.nD Cert.ProjRestReferenceIdeal.τ).loc Cert.ProjRestReferenceIdeal.main_arg1)
          ∧ r.2.mem ((c.tc : Thread Cert.ProjRestReferenceIdeal.nD Cert.ProjRestReferenceIdeal.τ).loc Cert.ProjRestReferenceIdeal.main_arg2) = m' ((c.tc : Thread Cert.ProjRestReferenceIdeal.nD Cert.ProjRestReferenceIdeal.τ).loc Cert.ProjRestReferenceIdeal.main_arg2)
          ∧ r.2.mem ((c.tc : Thread Cert.ProjRestReferenceIdeal.nD Cert.ProjRestReferenceIdeal.τ).loc Cert.ProjRestReferenceIdeal.main_arg3) = m' ((c.tc : Thread Cert.ProjRestReferenceIdeal.nD Cert.ProjRestReferenceIdeal.τ).loc Cert.ProjRestReferenceIdeal.main_arg3))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hGateUp : Cert.GateUp.Facts) (hGateUpIdeal : Cert.GateUpIdeal.Facts) (hGateUpReferenceIdeal : Cert.GateUpReferenceIdeal.Facts) (hProjIn : Cert.ProjIn.Facts) (hProjInIdeal : Cert.ProjInIdeal.Facts) (hProjInReferenceIdeal : Cert.ProjInReferenceIdeal.Facts) (hFfnDown : Cert.FfnDown.Facts) (hFfnDownIdeal : Cert.FfnDownIdeal.Facts) (hFfnDownReferenceIdeal : Cert.FfnDownReferenceIdeal.Facts) (hFfnGate : Cert.FfnGate.Facts) (hFfnGateIdeal : Cert.FfnGateIdeal.Facts) (hFfnGateReferenceIdeal : Cert.FfnGateReferenceIdeal.Facts) (hFfnUp : Cert.FfnUp.Facts) (hFfnUpIdeal : Cert.FfnUpIdeal.Facts) (hFfnUpReferenceIdeal : Cert.FfnUpReferenceIdeal.Facts) (hMlaUv : Cert.MlaUv.Facts) (hMlaUvIdeal : Cert.MlaUvIdeal.Facts) (hMlaUvReferenceIdeal : Cert.MlaUvReferenceIdeal.Facts) (hProjOut : Cert.ProjOut.Facts) (hProjOutIdeal : Cert.ProjOutIdeal.Facts) (hProjOutReferenceIdeal : Cert.ProjOutReferenceIdeal.Facts) (hProjRest : Cert.ProjRest.Facts) (hProjRestIdeal : Cert.ProjRestIdeal.Facts) (hProjRestReferenceIdeal : Cert.ProjRestReferenceIdeal.Facts) (hPre_finite_scores : Cert.Pre_finite_scores.Facts) (hPre_down_groups : Cert.Pre_down_groups.Facts) (hPre_gate_up_groups : Cert.Pre_gate_up_groups.Facts) (hPre_proj_in_layer : Cert.Pre_proj_in_layer.Facts) (hPre_ffn_down_layer : Cert.Pre_ffn_down_layer.Facts) (hPre_ffn_gate_layer : Cert.Pre_ffn_gate_layer.Facts) (hPre_ffn_up_layer : Cert.Pre_ffn_up_layer.Facts) (hPre_mla_uv_layer : Cert.Pre_mla_uv_layer.Facts) (hPre_proj_out_layer : Cert.Pre_proj_out_layer.Facts) (hPre_proj_in_f32_layer : Cert.Pre_proj_in_f32_layer.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Down (hDown := hDown) (hPre_down_groups := hPre_down_groups)
    ∧ quiescent_DownIdeal (hDownIdeal := hDownIdeal) (hPre_down_groups := hPre_down_groups)
    ∧ quiescent_DownReferenceIdeal (hDownReferenceIdeal := hDownReferenceIdeal)
    ∧ quiescent_DownReferenceIdeal_pre_down_groups (hDownReferenceIdeal := hDownReferenceIdeal) (hPre_down_groups := hPre_down_groups)
    ∧ quiescent_GateUp (hGateUp := hGateUp) (hPre_gate_up_groups := hPre_gate_up_groups)
    ∧ quiescent_GateUpIdeal (hGateUpIdeal := hGateUpIdeal) (hPre_gate_up_groups := hPre_gate_up_groups)
    ∧ quiescent_GateUpReferenceIdeal (hGateUpReferenceIdeal := hGateUpReferenceIdeal)
    ∧ quiescent_GateUpReferenceIdeal_pre_gate_up_groups (hGateUpReferenceIdeal := hGateUpReferenceIdeal) (hPre_gate_up_groups := hPre_gate_up_groups)
    ∧ quiescent_ProjIn (hProjIn := hProjIn) (hPre_proj_in_layer := hPre_proj_in_layer)
    ∧ quiescent_ProjInIdeal (hProjInIdeal := hProjInIdeal) (hPre_proj_in_layer := hPre_proj_in_layer)
    ∧ quiescent_ProjInReferenceIdeal (hProjInReferenceIdeal := hProjInReferenceIdeal)
    ∧ quiescent_ProjInReferenceIdeal_pre_proj_in_layer (hProjInReferenceIdeal := hProjInReferenceIdeal) (hPre_proj_in_layer := hPre_proj_in_layer)
    ∧ quiescent_FfnDown (hFfnDown := hFfnDown) (hPre_ffn_down_layer := hPre_ffn_down_layer)
    ∧ quiescent_FfnDownIdeal (hFfnDownIdeal := hFfnDownIdeal) (hPre_ffn_down_layer := hPre_ffn_down_layer)
    ∧ quiescent_FfnDownReferenceIdeal (hFfnDownReferenceIdeal := hFfnDownReferenceIdeal)
    ∧ quiescent_FfnDownReferenceIdeal_pre_ffn_down_layer (hFfnDownReferenceIdeal := hFfnDownReferenceIdeal) (hPre_ffn_down_layer := hPre_ffn_down_layer)
    ∧ quiescent_FfnGate (hFfnGate := hFfnGate) (hPre_ffn_gate_layer := hPre_ffn_gate_layer)
    ∧ quiescent_FfnGateIdeal (hFfnGateIdeal := hFfnGateIdeal) (hPre_ffn_gate_layer := hPre_ffn_gate_layer)
    ∧ quiescent_FfnGateReferenceIdeal (hFfnGateReferenceIdeal := hFfnGateReferenceIdeal)
    ∧ quiescent_FfnGateReferenceIdeal_pre_ffn_gate_layer (hFfnGateReferenceIdeal := hFfnGateReferenceIdeal) (hPre_ffn_gate_layer := hPre_ffn_gate_layer)
    ∧ quiescent_FfnUp (hFfnUp := hFfnUp) (hPre_ffn_up_layer := hPre_ffn_up_layer)
    ∧ quiescent_FfnUpIdeal (hFfnUpIdeal := hFfnUpIdeal) (hPre_ffn_up_layer := hPre_ffn_up_layer)
    ∧ quiescent_FfnUpReferenceIdeal (hFfnUpReferenceIdeal := hFfnUpReferenceIdeal)
    ∧ quiescent_FfnUpReferenceIdeal_pre_ffn_up_layer (hFfnUpReferenceIdeal := hFfnUpReferenceIdeal) (hPre_ffn_up_layer := hPre_ffn_up_layer)
    ∧ quiescent_MlaUv (hMlaUv := hMlaUv) (hPre_mla_uv_layer := hPre_mla_uv_layer)
    ∧ quiescent_MlaUvIdeal (hMlaUvIdeal := hMlaUvIdeal) (hPre_mla_uv_layer := hPre_mla_uv_layer)
    ∧ quiescent_MlaUvReferenceIdeal (hMlaUvReferenceIdeal := hMlaUvReferenceIdeal)
    ∧ quiescent_MlaUvReferenceIdeal_pre_mla_uv_layer (hMlaUvReferenceIdeal := hMlaUvReferenceIdeal) (hPre_mla_uv_layer := hPre_mla_uv_layer)
    ∧ quiescent_ProjOut (hProjOut := hProjOut) (hPre_proj_out_layer := hPre_proj_out_layer)
    ∧ quiescent_ProjOutIdeal (hProjOutIdeal := hProjOutIdeal) (hPre_proj_out_layer := hPre_proj_out_layer)
    ∧ quiescent_ProjOutReferenceIdeal (hProjOutReferenceIdeal := hProjOutReferenceIdeal)
    ∧ quiescent_ProjOutReferenceIdeal_pre_proj_out_layer (hProjOutReferenceIdeal := hProjOutReferenceIdeal) (hPre_proj_out_layer := hPre_proj_out_layer)
    ∧ quiescent_ProjRest (hProjRest := hProjRest) (hPre_proj_in_f32_layer := hPre_proj_in_f32_layer)
    ∧ quiescent_ProjRestIdeal (hProjRestIdeal := hProjRestIdeal) (hPre_proj_in_f32_layer := hPre_proj_in_f32_layer)
    ∧ quiescent_ProjRestReferenceIdeal (hProjRestReferenceIdeal := hProjRestReferenceIdeal)
    ∧ quiescent_ProjRestReferenceIdeal_pre_proj_in_f32_layer (hProjRestReferenceIdeal := hProjRestReferenceIdeal) (hPre_proj_in_f32_layer := hPre_proj_in_f32_layer)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Down_DownIdeal
    ∧ algebraic_DownIdeal_DownReferenceIdeal (hDownIdeal := hDownIdeal) (hDownReferenceIdeal := hDownReferenceIdeal) (hPre_down_groups := hPre_down_groups)
    ∧ preserves_GateUp_GateUpIdeal
    ∧ algebraic_GateUpIdeal_GateUpReferenceIdeal (hGateUpIdeal := hGateUpIdeal) (hGateUpReferenceIdeal := hGateUpReferenceIdeal) (hPre_gate_up_groups := hPre_gate_up_groups)
    ∧ preserves_ProjIn_ProjInIdeal
    ∧ algebraic_ProjInIdeal_ProjInReferenceIdeal (hProjInIdeal := hProjInIdeal) (hProjInReferenceIdeal := hProjInReferenceIdeal) (hPre_proj_in_layer := hPre_proj_in_layer)
    ∧ preserves_FfnDown_FfnDownIdeal
    ∧ algebraic_FfnDownIdeal_FfnDownReferenceIdeal (hFfnDownIdeal := hFfnDownIdeal) (hFfnDownReferenceIdeal := hFfnDownReferenceIdeal) (hPre_ffn_down_layer := hPre_ffn_down_layer)
    ∧ preserves_FfnGate_FfnGateIdeal
    ∧ algebraic_FfnGateIdeal_FfnGateReferenceIdeal (hFfnGateIdeal := hFfnGateIdeal) (hFfnGateReferenceIdeal := hFfnGateReferenceIdeal) (hPre_ffn_gate_layer := hPre_ffn_gate_layer)
    ∧ preserves_FfnUp_FfnUpIdeal
    ∧ algebraic_FfnUpIdeal_FfnUpReferenceIdeal (hFfnUpIdeal := hFfnUpIdeal) (hFfnUpReferenceIdeal := hFfnUpReferenceIdeal) (hPre_ffn_up_layer := hPre_ffn_up_layer)
    ∧ preserves_MlaUv_MlaUvIdeal
    ∧ algebraic_MlaUvIdeal_MlaUvReferenceIdeal (hMlaUvIdeal := hMlaUvIdeal) (hMlaUvReferenceIdeal := hMlaUvReferenceIdeal) (hPre_mla_uv_layer := hPre_mla_uv_layer)
    ∧ preserves_ProjOut_ProjOutIdeal
    ∧ algebraic_ProjOutIdeal_ProjOutReferenceIdeal (hProjOutIdeal := hProjOutIdeal) (hProjOutReferenceIdeal := hProjOutReferenceIdeal) (hPre_proj_out_layer := hPre_proj_out_layer)
    ∧ preserves_ProjRest_ProjRestIdeal
    ∧ algebraic_ProjRestIdeal_ProjRestReferenceIdeal (hProjRestIdeal := hProjRestIdeal) (hProjRestReferenceIdeal := hProjRestReferenceIdeal) (hPre_proj_in_f32_layer := hPre_proj_in_f32_layer)
-- ==== Pre_down_groups.lean ====
abbrev S21504x2816 : Shape := ⟨2, ![21504, 2816]⟩
abbrev S16x2816x2048 : Shape := ⟨3, ![16, 2816, 2048]⟩
abbrev S42 : Shape := ⟨1, ![42]⟩
abbrev S1 : Shape := ⟨1, ![1]⟩
abbrev S_ : Shape := ⟨0, ![]⟩

class Facts : Prop where
  bcast_S_S42 : S_.BroadcastsInDim S42 (![] : Fin 0 → Fin S42.rank)
  reducesTo_S42_S_d0 : S42.ReducesTo [0] S_
  h_S_ : 0 < S_.numel

variable [Facts]

def fn {F : FTy → Type} [FloatOps F] (main_arg0 : FVec F S21504x2816 .bf16) (main_arg1 : FVec F S16x2816x2048 .f32) (main_arg2 : IVec S42 32) (main_arg3 : IVec S1 32) : IVec S_ 1 :=
  let main_c : IVec S_ 32 := constantI S_ 32 0#32
  let main_v0 : IVec S42 32 := broadcastInDim S42 ![] bcast_S_S42 main_c
  let main_v1 : IVec S42 1 := cmpi .sge main_arg2 main_v0
  let main_c_0 : IVec S_ 32 := constantI S_ 32 16#32
  let main_v2 : IVec S42 32 := broadcastInDim S42 ![] bcast_S_S42 main_c_0
  let main_v3 : IVec S42 1 := cmpi .slt main_arg2 main_v2
  let main_v4 : IVec S42 1 := andi main_v1 main_v3
  let main_c_1 : IVec S_ 1 := constantI S_ 1 1#1
  let main_v5 : IVec S_ 1 := (fun x v => Host.reduce IntOp.andi x v reducesTo_S42_S_d0 h_S_) main_v4 main_c_1
  main_v5
-- ==== Pre_ffn_down_layer.lean ====
abbrev S8704x5632 : Shape := ⟨2, ![8704, 5632]⟩
abbrev S2x5632x2048 : Shape := ⟨3, ![2, 5632, 2048]⟩
abbrev S17 : Shape := ⟨1, ![17]⟩
abbrev S1 : Shape := ⟨1, ![1]⟩
abbrev S_ : Shape := ⟨0, ![]⟩

class Facts : Prop where
  bcast_S_S17 : S_.BroadcastsInDim S17 (![] : Fin 0 → Fin S17.rank)
  slices_S17_S1_0 : S17.Slices ![0] S1
  shapeCasts_S1_S_ : S1.ShapeCasts S_
  reducesTo_S17_S_d0 : S17.ReducesTo [0] S_
  h_S_ : 0 < S_.numel

variable [Facts]

def fn {F : FTy → Type} [FloatOps F] (main_arg0 : FVec F S8704x5632 .bf16) (main_arg1 : FVec F S2x5632x2048 .f32) (main_arg2 : IVec S17 32) (main_arg3 : IVec S1 32) : IVec S_ 1 :=
  let main_c : IVec S_ 32 := constantI S_ 32 0#32
  let main_v0 : IVec S17 32 := broadcastInDim S17 ![] bcast_S_S17 main_c
  let main_v1 : IVec S17 1 := cmpi .sge main_arg2 main_v0
  let main_c_0 : IVec S_ 32 := constantI S_ 32 2#32
  let main_v2 : IVec S17 32 := broadcastInDim S17 ![] bcast_S_S17 main_c_0
  let main_v3 : IVec S17 1 := cmpi .slt main_arg2 main_v2
  let main_v4 : IVec S17 1 := andi main_v1 main_v3
  let main_v5 : IVec S1 32 := (extractStridedSlice S1 ![0] · slices_S17_S1_0) main_arg2
  let main_v6 : IVec S_ 32 := shapeCast S_ main_v5 shapeCasts_S1_S_
  let main_v7 : IVec S17 32 := broadcastInDim S17 ![] bcast_S_S17 main_v6
  let main_v8 : IVec S17 1 := cmpi .eq main_arg2 main_v7
  let main_v9 : IVec S17 1 := andi main_v4 main_v8
  let main_c_1 : IVec S_ 1 := constantI S_ 1 1#1
  let main_v10 : IVec S_ 1 := (fun x v => Host.reduce IntOp.andi x v reducesTo_S17_S_d0 h_S_) main_v9 main_c_1
  let main_v11 : IVec S_ 32 := shapeCast S_ main_arg3 shapeCasts_S1_S_
  let main_c_2 : IVec S_ 32 := constantI S_ 32 17#32
  let main_v12 : IVec S_ 1 := cmpi .eq main_v11 main_c_2
  let main_v13 : IVec S_ 1 := andi main_v10 main_v12
  main_v13
-- ==== Pre_ffn_gate_layer.lean ====
abbrev S8704x2048 : Shape := ⟨2, ![8704, 2048]⟩
abbrev S2x2048x5632 : Shape := ⟨3, ![2, 2048, 5632]⟩
abbrev S17 : Shape := ⟨1, ![17]⟩
abbrev S1 : Shape := ⟨1, ![1]⟩
abbrev S_ : Shape := ⟨0, ![]⟩

class Facts : Prop where
  bcast_S_S17 : S_.BroadcastsInDim S17 (![] : Fin 0 → Fin S17.rank)
  slices_S17_S1_0 : S17.Slices ![0] S1
  shapeCasts_S1_S_ : S1.ShapeCasts S_
  reducesTo_S17_S_d0 : S17.ReducesTo [0] S_
  h_S_ : 0 < S_.numel

variable [Facts]

def fn {F : FTy → Type} [FloatOps F] (main_arg0 : FVec F S8704x2048 .bf16) (main_arg1 : FVec F S2x2048x5632 .f32) (main_arg2 : IVec S17 32) (main_arg3 : IVec S1 32) : IVec S_ 1 :=
  let main_c : IVec S_ 32 := constantI S_ 32 0#32
  let main_v0 : IVec S17 32 := broadcastInDim S17 ![] bcast_S_S17 main_c
  let main_v1 : IVec S17 1 := cmpi .sge main_arg2 main_v0
  let main_c_0 : IVec S_ 32 := constantI S_ 32 2#32
  let main_v2 : IVec S17 32 := broadcastInDim S17 ![] bcast_S_S17 main_c_0
  let main_v3 : IVec S17 1 := cmpi .slt main_arg2 main_v2
  let main_v4 : IVec S17 1 := andi main_v1 main_v3
  let main_v5 : IVec S1 32 := (extractStridedSlice S1 ![0] · slices_S17_S1_0) main_arg2
  let main_v6 : IVec S_ 32 := shapeCast S_ main_v5 shapeCasts_S1_S_
  let main_v7 : IVec S17 32 := broadcastInDim S17 ![] bcast_S_S17 main_v6
  let main_v8 : IVec S17 1 := cmpi .eq main_arg2 main_v7
  let main_v9 : IVec S17 1 := andi main_v4 main_v8
  let main_c_1 : IVec S_ 1 := constantI S_ 1 1#1
  let main_v10 : IVec S_ 1 := (fun x v => Host.reduce IntOp.andi x v reducesTo_S17_S_d0 h_S_) main_v9 main_c_1
  let main_v11 : IVec S_ 32 := shapeCast S_ main_arg3 shapeCasts_S1_S_
  let main_c_2 : IVec S_ 32 := constantI S_ 32 17#32
  let main_v12 : IVec S_ 1 := cmpi .eq main_v11 main_c_2
  let main_v13 : IVec S_ 1 := andi main_v10 main_v12
  main_v13
-- ==== Pre_ffn_up_layer.lean ====
abbrev S8704x2048 : Shape := ⟨2, ![8704, 2048]⟩
abbrev S2x2048x5632 : Shape := ⟨3, ![2, 2048, 5632]⟩
abbrev S17 : Shape := ⟨1, ![17]⟩
abbrev S1 : Shape := ⟨1, ![1]⟩
abbrev S8704x5632 : Shape := ⟨2, ![8704, 5632]⟩
abbrev S_ : Shape := ⟨0, ![]⟩

class Facts : Prop where
  bcast_S_S17 : S_.BroadcastsInDim S17 (![] : Fin 0 → Fin S17.rank)
  slices_S17_S1_0 : S17.Slices ![0] S1
  shapeCasts_S1_S_ : S1.ShapeCasts S_
  reducesTo_S17_S_d0 : S17.ReducesTo [0] S_
  h_S_ : 0 < S_.numel

variable [Facts]

def fn {F : FTy → Type} [FloatOps F] (main_arg0 : FVec F S8704x2048 .bf16) (main_arg1 : FVec F S2x2048x5632 .f32) (main_arg2 : IVec S17 32) (main_arg3 : IVec S1 32) (main_arg4 : FVec F S8704x5632 .bf16) : IVec S_ 1 :=
  let main_c : IVec S_ 32 := constantI S_ 32 0#32
  let main_v0 : IVec S17 32 := broadcastInDim S17 ![] bcast_S_S17 main_c
  let main_v1 : IVec S17 1 := cmpi .sge main_arg2 main_v0
  let main_c_0 : IVec S_ 32 := constantI S_ 32 2#32
  let main_v2 : IVec S17 32 := broadcastInDim S17 ![] bcast_S_S17 main_c_0
  let main_v3 : IVec S17 1 := cmpi .slt main_arg2 main_v2
  let main_v4 : IVec S17 1 := andi main_v1 main_v3
  let main_v5 : IVec S1 32 := (extractStridedSlice S1 ![0] · slices_S17_S1_0) main_arg2
  let main_v6 : IVec S_ 32 := shapeCast S_ main_v5 shapeCasts_S1_S_
  let main_v7 : IVec S17 32 := broadcastInDim S17 ![] bcast_S_S17 main_v6
  let main_v8 : IVec S17 1 := cmpi .eq main_arg2 main_v7
  let main_v9 : IVec S17 1 := andi main_v4 main_v8
  let main_c_1 : IVec S_ 1 := constantI S_ 1 1#1
  let main_v10 : IVec S_ 1 := (fun x v => Host.reduce IntOp.andi x v reducesTo_S17_S_d0 h_S_) main_v9 main_c_1
  let main_v11 : IVec S_ 32 := shapeCast S_ main_arg3 shapeCasts_S1_S_
  let main_c_2 : IVec S_ 32 := constantI S_ 32 17#32
  let main_v12 : IVec S_ 1 := cmpi .eq main_v11 main_c_2
  let main_v13 : IVec S_ 1 := andi main_v10 main_v12
  main_v13
-- ==== Pre_finite_scores.lean ====
abbrev S8704x1024 : Shape := ⟨2, ![8704, 1024]⟩
abbrev S8704x512 : Shape := ⟨2, ![8704, 512]⟩
abbrev S_ : Shape := ⟨0, ![]⟩

class Facts : Prop where
  bitsLt_bf16_f32 : FTy.bits .bf16 < FTy.bits .f32
  bcast_S_S8704x1024 : S_.BroadcastsInDim S8704x1024 (![] : Fin 0 → Fin S8704x1024.rank)
  reducesTo_S8704x1024_S_d0_1 : S8704x1024.ReducesTo [0, 1] S_
  h_S_ : 0 < S_.numel

variable [Facts]

def fn {F : FTy → Type} [FloatOps F] (main_arg0 : FVec F S8704x1024 .bf16) (main_arg1 : FVec F S8704x1024 .bf16) (main_arg2 : FVec F S8704x512 .bf16) : IVec S_ 1 :=
  let main_v0 : FVec F S8704x1024 .f32 := (extf .f32 · bitsLt_bf16_f32) main_arg0
  let main_v1 : FVec F S8704x1024 .f32 := (extf .f32 · bitsLt_bf16_f32) main_arg1
  let main_cst : FVec F S_ .f32 := constant S_ .f32 0x7F800000#32
  let main_v2 : FVec F S8704x1024 .f32 := broadcastInDim S8704x1024 ![] bcast_S_S8704x1024 main_cst
  let main_v3 : IVec S8704x1024 1 := cmpf .olt main_v0 main_v2
  let main_cst_0 : FVec F S_ .f32 := constant S_ .f32 0xFF800000#32
  let main_v4 : FVec F S8704x1024 .f32 := broadcastInDim S8704x1024 ![] bcast_S_S8704x1024 main_cst_0
  let main_v5 : IVec S8704x1024 1 := cmpf .ogt main_v0 main_v4
  let main_v6 : IVec S8704x1024 1 := andi main_v3 main_v5
  let main_c : IVec S_ 1 := constantI S_ 1 1#1
  let main_v7 : IVec S_ 1 := (fun x v => Host.reduce IntOp.andi x v reducesTo_S8704x1024_S_d0_1 h_S_) main_v6 main_c
  let main_cst_1 : FVec F S_ .f32 := constant S_ .f32 0x7F800000#32
  let main_v8 : FVec F S8704x1024 .f32 := broadcastInDim S8704x1024 ![] bcast_S_S8704x1024 main_cst_1
  let main_v9 : IVec S8704x1024 1 := cmpf .olt main_v1 main_v8
  let main_cst_2 : FVec F S_ .f32 := constant S_ .f32 0xFF800000#32
  let main_v10 : FVec F S8704x1024 .f32 := broadcastInDim S8704x1024 ![] bcast_S_S8704x1024 main_cst_2
  let main_v11 : IVec S8704x1024 1 := cmpf .ogt main_v1 main_v10
  let main_v12 : IVec S8704x1024 1 := andi main_v9 main_v11
  let main_c_3 : IVec S_ 1 := constantI S_ 1 1#1
  let main_v13 : IVec S_ 1 := (fun x v => Host.reduce IntOp.andi x v reducesTo_S8704x1024_S_d0_1 h_S_) main_v12 main_c_3
  let main_v14 : IVec S_ 1 := andi main_v7 main_v13
  main_v14
-- ==== Pre_gate_up_groups.lean ====
abbrev S21504x2048 : Shape := ⟨2, ![21504, 2048]⟩
abbrev S16x2048x3072 : Shape := ⟨3, ![16, 2048, 3072]⟩
abbrev S42 : Shape := ⟨1, ![42]⟩
abbrev S1 : Shape := ⟨1, ![1]⟩
abbrev S_ : Shape := ⟨0, ![]⟩

class Facts : Prop where
  bcast_S_S42 : S_.BroadcastsInDim S42 (![] : Fin 0 → Fin S42.rank)
  reducesTo_S42_S_d0 : S42.ReducesTo [0] S_
  h_S_ : 0 < S_.numel

variable [Facts]

def fn {F : FTy → Type} [FloatOps F] (main_arg0 : FVec F S21504x2048 .bf16) (main_arg1 : FVec F S16x2048x3072 .f32) (main_arg2 : FVec F S16x2048x3072 .f32) (main_arg3 : IVec S42 32) (main_arg4 : IVec S1 32) : IVec S_ 1 :=
  let main_c : IVec S_ 32 := constantI S_ 32 0#32
  let main_v0 : IVec S42 32 := broadcastInDim S42 ![] bcast_S_S42 main_c
  let main_v1 : IVec S42 1 := cmpi .sge main_arg3 main_v0
  let main_c_0 : IVec S_ 32 := constantI S_ 32 16#32
  let main_v2 : IVec S42 32 := broadcastInDim S42 ![] bcast_S_S42 main_c_0
  let main_v3 : IVec S42 1 := cmpi .slt main_arg3 main_v2
  let main_v4 : IVec S42 1 := andi main_v1 main_v3
  let main_c_1 : IVec S_ 1 := constantI S_ 1 1#1
  let main_v5 : IVec S_ 1 := (fun x v => Host.reduce IntOp.andi x v reducesTo_S42_S_d0 h_S_) main_v4 main_c_1
  main_v5
-- ==== Pre_mla_uv_layer.lean ====
abbrev S8704x256 : Shape := ⟨2, ![8704, 256]⟩
abbrev S4x256x512 : Shape := ⟨3, ![4, 256, 512]⟩
abbrev S17 : Shape := ⟨1, ![17]⟩
abbrev S1 : Shape := ⟨1, ![1]⟩
abbrev S_ : Shape := ⟨0, ![]⟩

class Facts : Prop where
  bcast_S_S17 : S_.BroadcastsInDim S17 (![] : Fin 0 → Fin S17.rank)
  slices_S17_S1_0 : S17.Slices ![0] S1
  shapeCasts_S1_S_ : S1.ShapeCasts S_
  reducesTo_S17_S_d0 : S17.ReducesTo [0] S_
  h_S_ : 0 < S_.numel

variable [Facts]

def fn {F : FTy → Type} [FloatOps F] (main_arg0 : FVec F S8704x256 .bf16) (main_arg1 : FVec F S4x256x512 .f32) (main_arg2 : IVec S17 32) (main_arg3 : IVec S1 32) : IVec S_ 1 :=
  let main_c : IVec S_ 32 := constantI S_ 32 0#32
  let main_v0 : IVec S17 32 := broadcastInDim S17 ![] bcast_S_S17 main_c
  let main_v1 : IVec S17 1 := cmpi .sge main_arg2 main_v0
  let main_c_0 : IVec S_ 32 := constantI S_ 32 4#32
  let main_v2 : IVec S17 32 := broadcastInDim S17 ![] bcast_S_S17 main_c_0
  let main_v3 : IVec S17 1 := cmpi .slt main_arg2 main_v2
  let main_v4 : IVec S17 1 := andi main_v1 main_v3
  let main_v5 : IVec S1 32 := (extractStridedSlice S1 ![0] · slices_S17_S1_0) main_arg2
  let main_v6 : IVec S_ 32 := shapeCast S_ main_v5 shapeCasts_S1_S_
  let main_v7 : IVec S17 32 := broadcastInDim S17 ![] bcast_S_S17 main_v6
  let main_v8 : IVec S17 1 := cmpi .eq main_arg2 main_v7
  let main_v9 : IVec S17 1 := andi main_v4 main_v8
  let main_c_1 : IVec S_ 1 := constantI S_ 1 1#1
  let main_v10 : IVec S_ 1 := (fun x v => Host.reduce IntOp.andi x v reducesTo_S17_S_d0 h_S_) main_v9 main_c_1
  let main_v11 : IVec S_ 32 := shapeCast S_ main_arg3 shapeCasts_S1_S_
  let main_c_2 : IVec S_ 32 := constantI S_ 32 17#32
  let main_v12 : IVec S_ 1 := cmpi .eq main_v11 main_c_2
  let main_v13 : IVec S_ 1 := andi main_v10 main_v12
  main_v13
-- ==== Pre_proj_in_f32_layer.lean ====
abbrev S8704x2048 : Shape := ⟨2, ![8704, 2048]⟩
abbrev S4x5376x2048 : Shape := ⟨3, ![4, 5376, 2048]⟩
abbrev S17 : Shape := ⟨1, ![17]⟩
abbrev S1 : Shape := ⟨1, ![1]⟩
abbrev S_ : Shape := ⟨0, ![]⟩

class Facts : Prop where
  bcast_S_S17 : S_.BroadcastsInDim S17 (![] : Fin 0 → Fin S17.rank)
  slices_S17_S1_0 : S17.Slices ![0] S1
  shapeCasts_S1_S_ : S1.ShapeCasts S_
  reducesTo_S17_S_d0 : S17.ReducesTo [0] S_
  h_S_ : 0 < S_.numel

variable [Facts]

def fn {F : FTy → Type} [FloatOps F] (main_arg0 : FVec F S8704x2048 .bf16) (main_arg1 : FVec F S4x5376x2048 .f32) (main_arg2 : IVec S17 32) (main_arg3 : IVec S1 32) : IVec S_ 1 :=
  let main_c : IVec S_ 32 := constantI S_ 32 0#32
  let main_v0 : IVec S17 32 := broadcastInDim S17 ![] bcast_S_S17 main_c
  let main_v1 : IVec S17 1 := cmpi .sge main_arg2 main_v0
  let main_c_0 : IVec S_ 32 := constantI S_ 32 4#32
  let main_v2 : IVec S17 32 := broadcastInDim S17 ![] bcast_S_S17 main_c_0
  let main_v3 : IVec S17 1 := cmpi .slt main_arg2 main_v2
  let main_v4 : IVec S17 1 := andi main_v1 main_v3
  let main_v5 : IVec S1 32 := (extractStridedSlice S1 ![0] · slices_S17_S1_0) main_arg2
  let main_v6 : IVec S_ 32 := shapeCast S_ main_v5 shapeCasts_S1_S_
  let main_v7 : IVec S17 32 := broadcastInDim S17 ![] bcast_S_S17 main_v6
  let main_v8 : IVec S17 1 := cmpi .eq main_arg2 main_v7
  let main_v9 : IVec S17 1 := andi main_v4 main_v8
  let main_c_1 : IVec S_ 1 := constantI S_ 1 1#1
  let main_v10 : IVec S_ 1 := (fun x v => Host.reduce IntOp.andi x v reducesTo_S17_S_d0 h_S_) main_v9 main_c_1
  let main_v11 : IVec S_ 32 := shapeCast S_ main_arg3 shapeCasts_S1_S_
  let main_c_2 : IVec S_ 32 := constantI S_ 32 17#32
  let main_v12 : IVec S_ 1 := cmpi .eq main_v11 main_c_2
  let main_v13 : IVec S_ 1 := andi main_v10 main_v12
  main_v13
-- ==== Pre_proj_in_layer.lean ====
abbrev S8704x2048 : Shape := ⟨2, ![8704, 2048]⟩
abbrev S4x3840x2048 : Shape := ⟨3, ![4, 3840, 2048]⟩
abbrev S17 : Shape := ⟨1, ![17]⟩
abbrev S1 : Shape := ⟨1, ![1]⟩
abbrev S_ : Shape := ⟨0, ![]⟩

class Facts : Prop where
  bcast_S_S17 : S_.BroadcastsInDim S17 (![] : Fin 0 → Fin S17.rank)
  slices_S17_S1_0 : S17.Slices ![0] S1
  shapeCasts_S1_S_ : S1.ShapeCasts S_
  reducesTo_S17_S_d0 : S17.ReducesTo [0] S_
  h_S_ : 0 < S_.numel

variable [Facts]

def fn {F : FTy → Type} [FloatOps F] (main_arg0 : FVec F S8704x2048 .bf16) (main_arg1 : FVec F S4x3840x2048 .f32) (main_arg2 : IVec S17 32) (main_arg3 : IVec S1 32) : IVec S_ 1 :=
  let main_c : IVec S_ 32 := constantI S_ 32 0#32
  let main_v0 : IVec S17 32 := broadcastInDim S17 ![] bcast_S_S17 main_c
  let main_v1 : IVec S17 1 := cmpi .sge main_arg2 main_v0
  let main_c_0 : IVec S_ 32 := constantI S_ 32 4#32
  let main_v2 : IVec S17 32 := broadcastInDim S17 ![] bcast_S_S17 main_c_0
  let main_v3 : IVec S17 1 := cmpi .slt main_arg2 main_v2
  let main_v4 : IVec S17 1 := andi main_v1 main_v3
  let main_v5 : IVec S1 32 := (extractStridedSlice S1 ![0] · slices_S17_S1_0) main_arg2
  let main_v6 : IVec S_ 32 := shapeCast S_ main_v5 shapeCasts_S1_S_
  let main_v7 : IVec S17 32 := broadcastInDim S17 ![] bcast_S_S17 main_v6
  let main_v8 : IVec S17 1 := cmpi .eq main_arg2 main_v7
  let main_v9 : IVec S17 1 := andi main_v4 main_v8
  let main_c_1 : IVec S_ 1 := constantI S_ 1 1#1
  let main_v10 : IVec S_ 1 := (fun x v => Host.reduce IntOp.andi x v reducesTo_S17_S_d0 h_S_) main_v9 main_c_1
  let main_v11 : IVec S_ 32 := shapeCast S_ main_arg3 shapeCasts_S1_S_
  let main_c_2 : IVec S_ 32 := constantI S_ 32 17#32
  let main_v12 : IVec S_ 1 := cmpi .eq main_v11 main_c_2
  let main_v13 : IVec S_ 1 := andi main_v10 main_v12
  main_v13
-- ==== Pre_proj_out_layer.lean ====
abbrev S8704x512 : Shape := ⟨2, ![8704, 512]⟩
abbrev S4x2048x2048 : Shape := ⟨3, ![4, 2048, 2048]⟩
abbrev S17 : Shape := ⟨1, ![17]⟩
abbrev S1 : Shape := ⟨1, ![1]⟩
abbrev S_ : Shape := ⟨0, ![]⟩

class Facts : Prop where
  bcast_S_S17 : S_.BroadcastsInDim S17 (![] : Fin 0 → Fin S17.rank)
  slices_S17_S1_0 : S17.Slices ![0] S1
  shapeCasts_S1_S_ : S1.ShapeCasts S_
  reducesTo_S17_S_d0 : S17.ReducesTo [0] S_
  h_S_ : 0 < S_.numel

variable [Facts]

def fn {F : FTy → Type} [FloatOps F] (main_arg0 : FVec F S8704x512 .bf16) (main_arg1 : FVec F S8704x512 .bf16) (main_arg2 : FVec F S8704x512 .bf16) (main_arg3 : FVec F S8704x512 .bf16) (main_arg4 : FVec F S4x2048x2048 .f32) (main_arg5 : IVec S17 32) (main_arg6 : IVec S1 32) : IVec S_ 1 :=
  let main_c : IVec S_ 32 := constantI S_ 32 0#32
  let main_v0 : IVec S17 32 := broadcastInDim S17 ![] bcast_S_S17 main_c
  let main_v1 : IVec S17 1 := cmpi .sge main_arg5 main_v0
  let main_c_0 : IVec S_ 32 := constantI S_ 32 4#32
  let main_v2 : IVec S17 32 := broadcastInDim S17 ![] bcast_S_S17 main_c_0
  let main_v3 : IVec S17 1 := cmpi .slt main_arg5 main_v2
  let main_v4 : IVec S17 1 := andi main_v1 main_v3
  let main_v5 : IVec S1 32 := (extractStridedSlice S1 ![0] · slices_S17_S1_0) main_arg5
  let main_v6 : IVec S_ 32 := shapeCast S_ main_v5 shapeCasts_S1_S_
  let main_v7 : IVec S17 32 := broadcastInDim S17 ![] bcast_S_S17 main_v6
  let main_v8 : IVec S17 1 := cmpi .eq main_arg5 main_v7
  let main_v9 : IVec S17 1 := andi main_v4 main_v8
  let main_c_1 : IVec S_ 1 := constantI S_ 1 1#1
  let main_v10 : IVec S_ 1 := (fun x v => Host.reduce IntOp.andi x v reducesTo_S17_S_d0 h_S_) main_v9 main_c_1
  let main_v11 : IVec S_ 32 := shapeCast S_ main_arg6 shapeCasts_S1_S_
  let main_c_2 : IVec S_ 32 := constantI S_ 32 17#32
  let main_v12 : IVec S_ 1 := cmpi .eq main_v11 main_c_2
  let main_v13 : IVec S_ 1 := andi main_v10 main_v12
  main_v13
-- ==== Kernel.lean ====
abbrev S8704x1024 : Shape := ⟨2, ![8704, 1024]⟩
abbrev S8704x512 : Shape := ⟨2, ![8704, 512]⟩
abbrev S256x1024 : Shape := ⟨2, ![256, 1024]⟩
abbrev S4096x1024 : Shape := ⟨2, ![4096, 1024]⟩
abbrev S4096x512 : Shape := ⟨2, ![4096, 512]⟩
abbrev S256x512 : Shape := ⟨2, ![256, 512]⟩
abbrev S256x128 : Shape := ⟨2, ![256, 128]⟩
abbrev S256x256 : Shape := ⟨2, ![256, 256]⟩
abbrev S256x64 : Shape := ⟨2, ![256, 64]⟩
abbrev S4096x128 : Shape := ⟨2, ![4096, 128]⟩
abbrev S256x4096 : Shape := ⟨2, ![256, 4096]⟩
abbrev S4096x64 : Shape := ⟨2, ![4096, 64]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x512, .bf16⟩
  | .hbm, ⟨3, _⟩ => ⟨S8704x512, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .bf16⟩
  | .local _ .vmem, ⟨5, _⟩ => ⟨S256x1024, .bf16⟩
  | .local _ .vmem, ⟨6, _⟩ => ⟨S4096x512, .bf16⟩
  | .local _ .vmem, ⟨7, _⟩ => ⟨S4096x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 1, 17], ![false, false, false]⟩

def k0_cond1 (i : grid0.Coords) : BitVec 1 :=
  let arg2 : BitVec 32 := BitVec.ofNat 32 (i 2).val
  let c16_i32 : BitVec 32 := 16#32
  let v0 : BitVec 1 := Scalar.cmpi .slt arg2 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c16_i32_0 : BitVec 32 := 16#32
  let v3 : BitVec 1 := Scalar.cmpi .sge arg2 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c1_i32 : BitVec 32 := 1#32
  let v3 : BitVec 32 := Scalar.muli arg0 c1_i32
  let c32_i32 : BitVec 32 := 32#32
  let v4 : BitVec 32 := Scalar.addi c32_i32 v3
  let c16_i32_1 : BitVec 32 := 16#32
  let v5 : BitVec 32 := Scalar.subi arg2 c16_i32_1
  let v6 : BitVec 32 := Scalar.addi v4 v5
  let v7 : BitVec 32 := Scalar.select v0 v2 v6
  let c0_i32 : BitVec 32 := 0#32
  ![v7.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c1_i32 : BitVec 32 := 1#32
  let v3 : BitVec 32 := Scalar.muli arg0 c1_i32
  let c32_i32 : BitVec 32 := 32#32
  let v4 : BitVec 32 := Scalar.addi c32_i32 v3
  let c16_i32_1 : BitVec 32 := 16#32
  let v5 : BitVec 32 := Scalar.subi arg2 c16_i32_1
  let v6 : BitVec 32 := Scalar.addi v4 v5
  let v7 : BitVec 32 := Scalar.select v0 v2 v6
  let c0_i32 : BitVec 32 := 0#32
  ![v7.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8704x1024 : Shape := ⟨2, ![8704, 1024]⟩
abbrev S8704x512 : Shape := ⟨2, ![8704, 512]⟩
abbrev S8192x1024 : Shape := ⟨2, ![8192, 1024]⟩
abbrev S2x4096x8x128 : Shape := ⟨4, ![2, 4096, 8, 128]⟩
abbrev S2x8x4096x128 : Shape := ⟨4, ![2, 8, 4096, 128]⟩
abbrev S8192x512 : Shape := ⟨2, ![8192, 512]⟩
abbrev S2x4096x8x64 : Shape := ⟨4, ![2, 4096, 8, 64]⟩
abbrev S2x8x4096x64 : Shape := ⟨4, ![2, 8, 4096, 64]⟩
abbrev S512x1024 : Shape := ⟨2, ![512, 1024]⟩
abbrev S2x256x8x128 : Shape := ⟨4, ![2, 256, 8, 128]⟩
abbrev S2x8x256x128 : Shape := ⟨4, ![2, 8, 256, 128]⟩
abbrev S512x512 : Shape := ⟨2, ![512, 512]⟩
abbrev S2x256x8x64 : Shape := ⟨4, ![2, 256, 8, 64]⟩
abbrev S2x8x256x64 : Shape := ⟨4, ![2, 8, 256, 64]⟩
abbrev S2x8x4352x128 : Shape := ⟨4, ![2, 8, 4352, 128]⟩
abbrev S2x8x4352x64 : Shape := ⟨4, ![2, 8, 4352, 64]⟩
abbrev S_ : Shape := ⟨0, ![]⟩
abbrev S2x8x4096x4352 : Shape := ⟨4, ![2, 8, 4096, 4352]⟩
abbrev S2x8x4096 : Shape := ⟨3, ![2, 8, 4096]⟩
abbrev S2x8x4096x1 : Shape := ⟨4, ![2, 8, 4096, 1]⟩
abbrev S2x8x256x256 : Shape := ⟨4, ![2, 8, 256, 256]⟩
abbrev S2x8x256 : Shape := ⟨3, ![2, 8, 256]⟩
abbrev S2x8x256x1 : Shape := ⟨4, ![2, 8, 256, 1]⟩

abbrev nBuf : Space → Nat
  | .hbm => 75
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x512, .bf16⟩
  | .hbm, ⟨3, _⟩ => ⟨S8192x1024, .bf16⟩
  | .hbm, ⟨4, _⟩ => ⟨S8192x1024, .f32⟩
  | .hbm, ⟨5, _⟩ => ⟨S2x4096x8x128, .f32⟩
  | .hbm, ⟨6, _⟩ => ⟨S2x8x4096x128, .f32⟩
  | .hbm, ⟨7, _⟩ => ⟨S8192x1024, .bf16⟩
  | .hbm, ⟨8, _⟩ => ⟨S8192x1024, .f32⟩
  | .hbm, ⟨9, _⟩ => ⟨S2x4096x8x128, .f32⟩
  | .hbm, ⟨10, _⟩ => ⟨S2x8x4096x128, .f32⟩
  | .hbm, ⟨11, _⟩ => ⟨S8192x512, .bf16⟩
  | .hbm, ⟨12, _⟩ => ⟨S8192x512, .f32⟩
  | .hbm, ⟨13, _⟩ => ⟨S2x4096x8x64, .f32⟩
  | .hbm, ⟨14, _⟩ => ⟨S2x8x4096x64, .f32⟩
  | .hbm, ⟨15, _⟩ => ⟨S512x1024, .bf16⟩
  | .hbm, ⟨16, _⟩ => ⟨S512x1024, .f32⟩
  | .hbm, ⟨17, _⟩ => ⟨S2x256x8x128, .f32⟩
  | .hbm, ⟨18, _⟩ => ⟨S2x8x256x128, .f32⟩
  | .hbm, ⟨19, _⟩ => ⟨S512x1024, .bf16⟩
  | .hbm, ⟨20, _⟩ => ⟨S512x1024, .f32⟩
  | .hbm, ⟨21, _⟩ => ⟨S2x256x8x128, .f32⟩
  | .hbm, ⟨22, _⟩ => ⟨S2x8x256x128, .f32⟩
  | .hbm, ⟨23, _⟩ => ⟨S512x512, .bf16⟩
  | .hbm, ⟨24, _⟩ => ⟨S512x512, .f32⟩
  | .hbm, ⟨25, _⟩ => ⟨S2x256x8x64, .f32⟩
  | .hbm, ⟨26, _⟩ => ⟨S2x8x256x64, .f32⟩
  | .hbm, ⟨27, _⟩ => ⟨S2x8x4352x128, .f32⟩
  | .hbm, ⟨28, _⟩ => ⟨S2x8x4352x64, .f32⟩
  | .hbm, ⟨29, _⟩ => ⟨S_, .f32⟩
  | .hbm, ⟨30, _⟩ => ⟨S_, .f32⟩
  | .hbm, ⟨31, _⟩ => ⟨S2x8x4096x4352, .f32⟩
  | .hbm, ⟨32, _⟩ => ⟨S2x8x4096x4352, .f32⟩
  | .hbm, ⟨33, _⟩ => ⟨S2x8x4096x4352, .f32⟩
  | .hbm, ⟨34, _⟩ => ⟨S_, .f32⟩
  | .hbm, ⟨35, _⟩ => ⟨S2x8x4096, .f32⟩
  | .hbm, ⟨36, _⟩ => ⟨S_, .f32⟩
  | .hbm, ⟨37, _⟩ => ⟨S2x8x4096, .f32⟩
  | .hbm, ⟨38, _⟩ => ⟨S2x8x4096, .f32⟩
  | .hbm, ⟨39, _⟩ => ⟨S2x8x4096x1, .f32⟩
  | .hbm, ⟨40, _⟩ => ⟨S2x8x4096x4352, .f32⟩
  | .hbm, ⟨41, _⟩ => ⟨S2x8x4096x4352, .f32⟩
  | .hbm, ⟨42, _⟩ => ⟨S2x8x4096x4352, .f32⟩
  | .hbm, ⟨43, _⟩ => ⟨S_, .f32⟩
  | .hbm, ⟨44, _⟩ => ⟨S2x8x4096, .f32⟩
  | .hbm, ⟨45, _⟩ => ⟨S2x8x4096x1, .f32⟩
  | .hbm, ⟨46, _⟩ => ⟨S2x8x4096x4352, .f32⟩
  | .hbm, ⟨47, _⟩ => ⟨S2x8x4096x4352, .f32⟩
  | .hbm, ⟨48, _⟩ => ⟨S2x8x4096x64, .f32⟩
  | .hbm, ⟨49, _⟩ => ⟨S2x4096x8x64, .f32⟩
  | .hbm, ⟨50, _⟩ => ⟨S8192x512, .f32⟩
  | .hbm, ⟨51, _⟩ => ⟨S_, .f32⟩
  | .hbm, ⟨52, _⟩ => ⟨S_, .f32⟩
  | .hbm, ⟨53, _⟩ => ⟨S2x8x256x256, .f32⟩
  | .hbm, ⟨54, _⟩ => ⟨S2x8x256x256, .f32⟩
  | .hbm, ⟨55, _⟩ => ⟨S2x8x256x256, .f32⟩
  | .hbm, ⟨56, _⟩ => ⟨S_, .f32⟩
  | .hbm, ⟨57, _⟩ => ⟨S2x8x256, .f32⟩
  | .hbm, ⟨58, _⟩ => ⟨S_, .f32⟩
  | .hbm, ⟨59, _⟩ => ⟨S2x8x256, .f32⟩
  | .hbm, ⟨60, _⟩ => ⟨S2x8x256, .f32⟩
  | .hbm, ⟨61, _⟩ => ⟨S2x8x256x1, .f32⟩
  | .hbm, ⟨62, _⟩ => ⟨S2x8x256x256, .f32⟩
  | .hbm, ⟨63, _⟩ => ⟨S2x8x256x256, .f32⟩
  | .hbm, ⟨64, _⟩ => ⟨S2x8x256x256, .f32⟩
  | .hbm, ⟨65, _⟩ => ⟨S_, .f32⟩
  | .hbm, ⟨66, _⟩ => ⟨S2x8x256, .f32⟩
  | .hbm, ⟨67, _⟩ => ⟨S2x8x256x1, .f32⟩
  | .hbm, ⟨68, _⟩ => ⟨S2x8x256x256, .f32⟩
  | .hbm, ⟨69, _⟩ => ⟨S2x8x256x256, .f32⟩
  | .hbm, ⟨70, _⟩ => ⟨S2x8x256x64, .f32⟩
  | .hbm, ⟨71, _⟩ => ⟨S2x256x8x64, .f32⟩
  | .hbm, ⟨72, _⟩ => ⟨S512x512, .f32⟩
  | .hbm, ⟨73, _⟩ => ⟨S8704x512, .f32⟩
  | .hbm, ⟨74, _⟩ => ⟨S8704x512, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== Down.lean ====
abbrev S21504x2816 : Shape := ⟨2, ![21504, 2816]⟩
abbrev S16x2816x2048 : Shape := ⟨3, ![16, 2816, 2048]⟩
abbrev S42 : Shape := ⟨1, ![42]⟩
abbrev S1 : Shape := ⟨1, ![1]⟩
abbrev S21504x2048 : Shape := ⟨2, ![21504, 2048]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 3
  | .vmem => 7
  | .smem => 2
  | _ => 0

abbrev bufTy : (tb : Table) → Fin (tcTables nBuf tb) → BufTy
  | .hbm, ⟨0, _⟩ => ⟨S21504x2816, .bf16⟩
  | .hbm, ⟨1, _⟩ => ⟨S16x2816x2048, .f32⟩
  | .hbm, ⟨2, _⟩ => ⟨S21504x2048, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .f32⟩
  | .local _ .vmem, ⟨3, _⟩ => ⟨S1x2816x1024, .f32⟩
  | .local _ .vmem, ⟨4, _⟩ => ⟨S512x1024, .f32⟩
  | .local _ .vmem, ⟨5, _⟩ => ⟨S512x1024, .f32⟩
  | .local _ .vmem, ⟨6, _⟩ => ⟨S2816x1024, .bf16⟩
  | .local _ .smem, ⟨0, _⟩ => ⟨S42, .i32⟩
  | .local _ .smem, ⟨1, _⟩ => ⟨S1, .i32⟩
  | _, _ => ⟨S21504x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 42], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S42) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2816x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S21504x2816 : Shape := ⟨2, ![21504, 2816]⟩
abbrev S16x2816x2048 : Shape := ⟨3, ![16, 2816, 2048]⟩
abbrev S42 : Shape := ⟨1, ![42]⟩
abbrev S1 : Shape := ⟨1, ![1]⟩
abbrev S42x512x2816 : Shape := ⟨3, ![42, 512, 2816]⟩
abbrev S_ : Shape := ⟨0, ![]⟩
abbrev S42x1 : Shape := ⟨2, ![42, 1]⟩
abbrev S42x2816x2048 : Shape := ⟨3, ![42, 2816, 2048]⟩
abbrev S42x512x2048 : Shape := ⟨3, ![42, 512, 2048]⟩
abbrev S42x1x1 : Shape := ⟨3, ![42, 1, 1]⟩
abbrev S21504x2048 : Shape := ⟨2, ![21504, 2048]⟩

abbrev nBuf : Space → Nat
  | .hbm => 27
  | .vmem => 0
  | .smem => 0
  | _ => 0

abbrev bufTy : (tb : Table) → Fin (tcTables nBuf tb) → BufTy
  | .hbm, ⟨0, _⟩ => ⟨S21504x2816, .bf16⟩
  | .hbm, ⟨1, _⟩ => ⟨S16x2816x2048, .f32⟩
  | .hbm, ⟨2, _⟩ => ⟨S42, .i32⟩
  | .hbm, ⟨3, _⟩ => ⟨S1, .i32⟩
  | .hbm, ⟨4, _⟩ => ⟨S21504x2816, .f32⟩
  | .hbm, ⟨5, _⟩ => ⟨S42x512x2816, .f32⟩
  | .hbm, ⟨6, _⟩ => ⟨S_, .i32⟩
  | .hbm, ⟨7, _⟩ => ⟨S42, .i32⟩
  | .hbm, ⟨8, _⟩ => ⟨S42, .i1⟩
  | .hbm, ⟨9, _⟩ => ⟨S_, .i32⟩
  | .hbm, ⟨10, _⟩ => ⟨S42, .i32⟩
  | .hbm, ⟨11, _⟩ => ⟨S42, .i32⟩
  | .hbm, ⟨12, _⟩ => ⟨S42, .i32⟩
  | .hbm, ⟨13, _⟩ => ⟨S42x1, .i32⟩
  | .hbm, ⟨14, _⟩ => ⟨S42x2816x2048, .f32⟩
  | .hbm, ⟨15, _⟩ => ⟨S42x512x2048, .f32⟩
  | .hbm, ⟨16, _⟩ => ⟨S42, .i32⟩
  | .hbm, ⟨17, _⟩ => ⟨S42x1x1, .i32⟩
  | .hbm, ⟨18, _⟩ => ⟨S_, .i32⟩
  | .hbm, ⟨19, _⟩ => ⟨S42x1x1, .i32⟩
  | .hbm, ⟨20, _⟩ => ⟨S42x1x1, .i1⟩
  | .hbm, ⟨21, _⟩ => ⟨S_, .f32⟩
  | .hbm, ⟨22, _⟩ => ⟨S_, .f32⟩
  | .hbm, ⟨23, _⟩ => ⟨S42x512x2048, .i1⟩
  | .hbm, ⟨24, _⟩ => ⟨S42x512x2048, .f32⟩
  | .hbm, ⟨25, _⟩ => ⟨S42x512x2048, .f32⟩
  | .hbm, ⟨26, _⟩ => ⟨S21504x2048, .f32⟩
  | _, _ => ⟨S21504x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== GateUp.lean ====
abbrev S21504x2048 : Shape := ⟨2, ![21504, 2048]⟩
abbrev S16x2048x3072 : Shape := ⟨3, ![16, 2048, 3072]⟩
abbrev S42 : Shape := ⟨1, ![42]⟩
abbrev S1 : Shape := ⟨1, ![1]⟩
abbrev S21504x3072 : Shape := ⟨2, ![21504, 3072]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 10
  | .smem => 2
  | _ => 0

abbrev bufTy : (tb : Table) → Fin (tcTables nBuf tb) → BufTy
  | .hbm, ⟨0, _⟩ => ⟨S21504x2048, .bf16⟩
  | .hbm, ⟨1, _⟩ => ⟨S16x2048x3072, .f32⟩
  | .hbm, ⟨2, _⟩ => ⟨S16x2048x3072, .f32⟩
  | .hbm, ⟨3, _⟩ => ⟨S21504x3072, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S42, .i32⟩
  | .local _ .smem, ⟨1, _⟩ => ⟨S1, .i32⟩
  | _, _ => ⟨S21504x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 42], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S42) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_2 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S42) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpReferenceIdeal.lean ====
abbrev S21504x2048 : Shape := ⟨2, ![21504, 2048]⟩
abbrev S16x2048x3072 : Shape := ⟨3, ![16, 2048, 3072]⟩
abbrev S42 : Shape := ⟨1, ![42]⟩
abbrev S1 : Shape := ⟨1, ![1]⟩
abbrev S42x512x2048 : Shape := ⟨3, ![42, 512, 2048]⟩
abbrev S16x2048x2816 : Shape := ⟨3, ![16, 2048, 2816]⟩
abbrev S_ : Shape := ⟨0, ![]⟩
abbrev S42x1 : Shape := ⟨2, ![42, 1]⟩
abbrev S42x2048x2816 : Shape := ⟨3, ![42, 2048, 2816]⟩
abbrev S42x512x2816 : Shape := ⟨3, ![42, 512, 2816]⟩
abbrev S42x1x1 : Shape := ⟨3, ![42, 1, 1]⟩
abbrev S42x512x3072 : Shape := ⟨3, ![42, 512, 3072]⟩
abbrev S21504x3072 : Shape := ⟨2, ![21504, 3072]⟩

abbrev nBuf : Space → Nat
  | .hbm => 54
  | .vmem => 0
  | .smem => 0
  | _ => 0

abbrev bufTy : (tb : Table) → Fin (tcTables nBuf tb) → BufTy
  | .hbm, ⟨0, _⟩ => ⟨S21504x2048, .bf16⟩
  | .hbm, ⟨1, _⟩ => ⟨S16x2048x3072, .f32⟩
  | .hbm, ⟨2, _⟩ => ⟨S16x2048x3072, .f32⟩
  | .hbm, ⟨3, _⟩ => ⟨S42, .i32⟩
  | .hbm, ⟨4, _⟩ => ⟨S1, .i32⟩
  | .hbm, ⟨5, _⟩ => ⟨S21504x2048, .f32⟩
  | .hbm, ⟨6, _⟩ => ⟨S42x512x2048, .f32⟩
  | .hbm, ⟨7, _⟩ => ⟨S16x2048x2816, .f32⟩
  | .hbm, ⟨8, _⟩ => ⟨S_, .i32⟩
  | .hbm, ⟨9, _⟩ => ⟨S42, .i32⟩
  | .hbm, ⟨10, _⟩ => ⟨S42, .i1⟩
  | .hbm, ⟨11, _⟩ => ⟨S_, .i32⟩
  | .hbm, ⟨12, _⟩ => ⟨S42, .i32⟩
  | .hbm, ⟨13, _⟩ => ⟨S42, .i32⟩
  | .hbm, ⟨14, _⟩ => ⟨S42, .i32⟩
  | .hbm, ⟨15, _⟩ => ⟨S42x1, .i32⟩
  | .hbm, ⟨16, _⟩ => ⟨S42x2048x2816, .f32⟩
  | .hbm, ⟨17, _⟩ => ⟨S42x512x2816, .f32⟩
  | .hbm, ⟨18, _⟩ => ⟨S16x2048x2816, .f32⟩
  | .hbm, ⟨19, _⟩ => ⟨S_, .i32⟩
  | .hbm, ⟨20, _⟩ => ⟨S42, .i32⟩
  | .hbm, ⟨21, _⟩ => ⟨S42, .i1⟩
  | .hbm, ⟨22, _⟩ => ⟨S_, .i32⟩
  | .hbm, ⟨23, _⟩ => ⟨S42, .i32⟩
  | .hbm, ⟨24, _⟩ => ⟨S42, .i32⟩
  | .hbm, ⟨25, _⟩ => ⟨S42, .i32⟩
  | .hbm, ⟨26, _⟩ => ⟨S42x1, .i32⟩
  | .hbm, ⟨27, _⟩ => ⟨S42x2048x2816, .f32⟩
  | .hbm, ⟨28, _⟩ => ⟨S42x512x2816, .f32⟩
  | .hbm, ⟨29, _⟩ => ⟨S42x512x2816, .f32⟩
  | .hbm, ⟨30, _⟩ => ⟨S42x512x2816, .f32⟩
  | .hbm, ⟨31, _⟩ => ⟨S_, .f32⟩
  | .hbm, ⟨32, _⟩ => ⟨S42x512x2816, .f32⟩
  | .hbm, ⟨33, _⟩ => ⟨S42x512x2816, .f32⟩
  | .hbm, ⟨34, _⟩ => ⟨S_, .f32⟩
  | .hbm, ⟨35, _⟩ => ⟨S42x512x2816, .f32⟩
  | .hbm, ⟨36, _⟩ => ⟨S42x512x2816, .f32⟩
  | .hbm, ⟨37, _⟩ => ⟨S42x512x2816, .f32⟩
  | .hbm, ⟨38, _⟩ => ⟨S42x512x2816, .f32⟩
  | .hbm, ⟨39, _⟩ => ⟨S42, .i32⟩
  | .hbm, ⟨40, _⟩ => ⟨S42x1x1, .i32⟩
  | .hbm, ⟨41, _⟩ => ⟨S_, .i32⟩
  | .hbm, ⟨42, _⟩ => ⟨S42x1x1, .i32⟩
  | .hbm, ⟨43, _⟩ => ⟨S42x1x1, .i1⟩
  | .hbm, ⟨44, _⟩ => ⟨S_, .f32⟩
  | .hbm, ⟨45, _⟩ => ⟨S_, .f32⟩
  | .hbm, ⟨46, _⟩ => ⟨S42x512x2816, .i1⟩
  | .hbm, ⟨47, _⟩ => ⟨S42x512x2816, .f32⟩
  | .hbm, ⟨48, _⟩ => ⟨S42x512x2816, .f32⟩
  | .hbm, ⟨49, _⟩ => ⟨S_, .i32⟩
  | .hbm, ⟨50, _⟩ => ⟨S_, .f32⟩
  | .hbm, ⟨51, _⟩ => ⟨S42x512x3072, .f32⟩
  | .hbm, ⟨52, _⟩ => ⟨S21504x3072, .f32⟩
  | .hbm, ⟨53, _⟩ => ⟨S21504x3072, .bf16⟩
  | _, _ => ⟨S21504x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩
abbrev main_c_3 : Ref sig .tc := ⟨.hbm, 49, rfl⟩
abbrev main_call2_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== ProjIn.lean ====
abbrev S8704x2048 : Shape := ⟨2, ![8704, 2048]⟩
abbrev S4x3840x2048 : Shape := ⟨3, ![4, 3840, 2048]⟩
abbrev S17 : Shape := ⟨1, ![17]⟩
abbrev S1 : Shape := ⟨1, ![1]⟩
abbrev S8704x3840 : Shape := ⟨2, ![8704, 3840]⟩
abbrev S512x2048 : Shape := ⟨2, ![512, 2048]⟩
abbrev S1x1280x2048 : Shape := ⟨3, ![1, 1280, 2048]⟩
abbrev S512x1280 : Shape := ⟨2, ![512, 1280]⟩
abbrev S1280x2048 : Shape := ⟨2, ![1280, 2048]⟩

abbrev nBuf : Space → Nat
  | .hbm => 3
  | .vmem => 7
  | .smem => 2
  | _ => 0

abbrev bufTy : (tb : Table) → Fin (tcTables nBuf tb) → BufTy
  | .hbm, ⟨0, _⟩ => ⟨S8704x2048, .bf16⟩
  | .hbm, ⟨1, _⟩ => ⟨S4x3840x2048, .f32⟩
  | .hbm, ⟨2, _⟩ => ⟨S8704x3840, .bf16⟩
  | .local _ .vmem, ⟨0, _⟩ => ⟨S512x2048, .bf16⟩
  | .local _ .vmem, ⟨1, _⟩ => ⟨S512x2048, .bf16⟩
  | .local _ .vmem, ⟨2, _⟩ => ⟨S1x1280x2048, .f32⟩
  | .local _ .vmem, ⟨3, _⟩ => ⟨S1x1280x2048, .f32⟩
  | .local _ .vmem, ⟨4, _⟩ => ⟨S512x1280, .bf16⟩
  | .local _ .vmem, ⟨5, _⟩ => ⟨S512x1280, .bf16⟩
  | .local _ .vmem, ⟨6, _⟩ => ⟨S1280x2048, .bf16⟩
  | .local _ .smem, ⟨0, _⟩ => ⟨S17, .i32⟩
  | .local _ .smem, ⟨1, _⟩ => ⟨S1, .i32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S17.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S17) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1280x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInReferenceIdeal.lean ====
abbrev S8704x2048 : Shape := ⟨2, ![8704, 2048]⟩
abbrev S4x3840x2048 : Shape := ⟨3, ![4, 3840, 2048]⟩
abbrev S17 : Shape := ⟨1, ![17]⟩
abbrev S1 : Shape := ⟨1, ![1]⟩
abbrev S17x512x2048 : Shape := ⟨3, ![17, 512, 2048]⟩
abbrev S_ : Shape := ⟨0, ![]⟩
abbrev S17x1 : Shape := ⟨2, ![17, 1]⟩
abbrev S17x3840x2048 : Shape := ⟨3, ![17, 3840, 2048]⟩
abbrev S17x512x3840 : Shape := ⟨3, ![17, 512, 3840]⟩
abbrev S8704x3840 : Shape := ⟨2, ![8704, 3840]⟩

abbrev nBuf : Space → Nat
  | .hbm => 18
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S4x3840x2048, .f32⟩
  | .hbm, ⟨2, _⟩ => ⟨S17, .i32⟩
  | .hbm, ⟨3, _⟩ => ⟨S1, .i32⟩
  | .hbm, ⟨4, _⟩ => ⟨S8704x2048, .f32⟩
  | .hbm, ⟨5, _⟩ => ⟨S17x512x2048, .f32⟩
  | .hbm, ⟨6, _⟩ => ⟨S_, .i32⟩
  | .hbm, ⟨7, _⟩ => ⟨S17, .i32⟩
  | .hbm, ⟨8, _⟩ => ⟨S17, .i1⟩
  | .hbm, ⟨9, _⟩ => ⟨S_, .i32⟩
  | .hbm, ⟨10, _⟩ => ⟨S17, .i32⟩
  | .hbm, ⟨11, _⟩ => ⟨S17, .i32⟩
  | .hbm, ⟨12, _⟩ => ⟨S17, .i32⟩
  | .hbm, ⟨13, _⟩ => ⟨S17x1, .i32⟩
  | .hbm, ⟨14, _⟩ => ⟨S17x3840x2048, .f32⟩
  | .hbm, ⟨15, _⟩ => ⟨S17x512x3840, .f32⟩
  | .hbm, ⟨16, _⟩ => ⟨S8704x3840, .f32⟩
  | .hbm, ⟨17, _⟩ => ⟨S8704x3840, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== FfnDown.lean ====
abbrev S8704x5632 : Shape := ⟨2, ![8704, 5632]⟩
abbrev S2x5632x2048 : Shape := ⟨3, ![2, 5632, 2048]⟩
abbrev S17 : Shape := ⟨1, ![17]⟩
abbrev S1 : Shape := ⟨1, ![1]⟩
abbrev S8704x2048 : Shape := ⟨2, ![8704, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 2
  | _ => 0

abbrev bufTy : (tb : Table) → Fin (tcTables nBuf tb) → BufTy
  | .hbm, ⟨0, _⟩ => ⟨S8704x5632, .bf16⟩
  | .hbm, ⟨1, _⟩ => ⟨S2x5632x2048, .f32⟩
  | .hbm, ⟨2, _⟩ => ⟨S8704x2048, .bf16⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .bf16⟩
  | .local _ .vmem, ⟨5, _⟩ => ⟨S512x512, .bf16⟩
  | .local _ .vmem, ⟨6, _⟩ => ⟨S5632x512, .bf16⟩
  | .local _ .smem, ⟨0, _⟩ => ⟨S17, .i32⟩
  | .local _ .smem, ⟨1, _⟩ => ⟨S1, .i32⟩
  | _, _ => ⟨S8704x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S17.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S17) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownReferenceIdeal.lean ====
abbrev S8704x5632 : Shape := ⟨2, ![8704, 5632]⟩
abbrev S2x5632x2048 : Shape := ⟨3, ![2, 5632, 2048]⟩
abbrev S17 : Shape := ⟨1, ![17]⟩
abbrev S1 : Shape := ⟨1, ![1]⟩
abbrev S17x512x5632 : Shape := ⟨3, ![17, 512, 5632]⟩
abbrev S_ : Shape := ⟨0, ![]⟩
abbrev S17x1 : Shape := ⟨2, ![17, 1]⟩
abbrev S17x5632x2048 : Shape := ⟨3, ![17, 5632, 2048]⟩
abbrev S17x512x2048 : Shape := ⟨3, ![17, 512, 2048]⟩
abbrev S8704x2048 : Shape := ⟨2, ![8704, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8704x5632, .bf16⟩
  | .hbm, ⟨1, _⟩ => ⟨S2x5632x2048, .f32⟩
  | .hbm, ⟨2, _⟩ => ⟨S17, .i32⟩
  | .hbm, ⟨3, _⟩ => ⟨S1, .i32⟩
  | .hbm, ⟨4, _⟩ => ⟨S8704x5632, .f32⟩
  | .hbm, ⟨5, _⟩ => ⟨S17x512x5632, .f32⟩
  | .hbm, ⟨6, _⟩ => ⟨S_, .i32⟩
  | .hbm, ⟨7, _⟩ => ⟨S17, .i32⟩
  | .hbm, ⟨8, _⟩ => ⟨S17, .i1⟩
  | .hbm, ⟨9, _⟩ => ⟨S_, .i32⟩
  | .hbm, ⟨10, _⟩ => ⟨S17, .i32⟩
  | .hbm, ⟨11, _⟩ => ⟨S17, .i32⟩
  | .hbm, ⟨12, _⟩ => ⟨S17, .i32⟩
  | .hbm, ⟨13, _⟩ => ⟨S17x1, .i32⟩
  | .hbm, ⟨14, _⟩ => ⟨S17x5632x2048, .f32⟩
  | .hbm, ⟨15, _⟩ => ⟨S17x512x2048, .f32⟩
  | .hbm, ⟨16, _⟩ => ⟨S8704x2048, .f32⟩
  | .hbm, ⟨17, _⟩ => ⟨S8704x2048, .bf16⟩
  | _, _ => ⟨S8704x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== FfnGate.lean ====
abbrev S8704x2048 : Shape := ⟨2, ![8704, 2048]⟩
abbrev S2x2048x5632 : Shape := ⟨3, ![2, 2048, 5632]⟩
abbrev S17 : Shape := ⟨1, ![17]⟩
abbrev S1 : Shape := ⟨1, ![1]⟩
abbrev S8704x5632 : Shape := ⟨2, ![8704, 5632]⟩
abbrev S512x2048 : Shape := ⟨2, ![512, 2048]⟩
abbrev S1x2048x2816 : Shape := ⟨3, ![1, 2048, 2816]⟩
abbrev S512x2816 : Shape := ⟨2, ![512, 2816]⟩
abbrev S2048x2816 : Shape := ⟨2, ![2048, 2816]⟩

abbrev nBuf : Space → Nat
  | .hbm => 3
  | .vmem => 6
  | .smem => 2
  | _ => 0

abbrev bufTy : (tb : Table) → Fin (tcTables nBuf tb) → BufTy
  | .hbm, ⟨0, _⟩ => ⟨S8704x2048, .bf16⟩
  | .hbm, ⟨1, _⟩ => ⟨S2x2048x5632, .f32⟩
  | .hbm, ⟨2, _⟩ => ⟨S8704x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2816, .f32⟩
  | .local _ .vmem, ⟨3, _⟩ => ⟨S512x2816, .bf16⟩
  | .local _ .vmem, ⟨4, _⟩ => ⟨S512x2816, .bf16⟩
  | .local _ .vmem, ⟨5, _⟩ => ⟨S2048x2816, .bf16⟩
  | .local _ .smem, ⟨0, _⟩ => ⟨S17, .i32⟩
  | .local _ .smem, ⟨1, _⟩ => ⟨S1, .i32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 17], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S17.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S17) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnGateReferenceIdeal.lean ====
abbrev S8704x2048 : Shape := ⟨2, ![8704, 2048]⟩
abbrev S2x2048x5632 : Shape := ⟨3, ![2, 2048, 5632]⟩
abbrev S17 : Shape := ⟨1, ![17]⟩
abbrev S1 : Shape := ⟨1, ![1]⟩
abbrev S17x512x2048 : Shape := ⟨3, ![17, 512, 2048]⟩
abbrev S_ : Shape := ⟨0, ![]⟩
abbrev S17x1 : Shape := ⟨2, ![17, 1]⟩
abbrev S17x2048x5632 : Shape := ⟨3, ![17, 2048, 5632]⟩
abbrev S17x512x5632 : Shape := ⟨3, ![17, 512, 5632]⟩
abbrev S8704x5632 : Shape := ⟨2, ![8704, 5632]⟩

abbrev nBuf : Space → Nat
  | .hbm => 27
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x5632, .f32⟩
  | .hbm, ⟨2, _⟩ => ⟨S17, .i32⟩
  | .hbm, ⟨3, _⟩ => ⟨S1, .i32⟩
  | .hbm, ⟨4, _⟩ => ⟨S8704x2048, .f32⟩
  | .hbm, ⟨5, _⟩ => ⟨S17x512x2048, .f32⟩
  | .hbm, ⟨6, _⟩ => ⟨S_, .i32⟩
  | .hbm, ⟨7, _⟩ => ⟨S17, .i32⟩
  | .hbm, ⟨8, _⟩ => ⟨S17, .i1⟩
  | .hbm, ⟨9, _⟩ => ⟨S_, .i32⟩
  | .hbm, ⟨10, _⟩ => ⟨S17, .i32⟩
  | .hbm, ⟨11, _⟩ => ⟨S17, .i32⟩
  | .hbm, ⟨12, _⟩ => ⟨S17, .i32⟩
  | .hbm, ⟨13, _⟩ => ⟨S17x1, .i32⟩
  | .hbm, ⟨14, _⟩ => ⟨S17x2048x5632, .f32⟩
  | .hbm, ⟨15, _⟩ => ⟨S17x512x5632, .f32⟩
  | .hbm, ⟨16, _⟩ => ⟨S17x512x5632, .f32⟩
  | .hbm, ⟨17, _⟩ => ⟨S17x512x5632, .f32⟩
  | .hbm, ⟨18, _⟩ => ⟨S_, .f32⟩
  | .hbm, ⟨19, _⟩ => ⟨S17x512x5632, .f32⟩
  | .hbm, ⟨20, _⟩ => ⟨S17x512x5632, .f32⟩
  | .hbm, ⟨21, _⟩ => ⟨S_, .f32⟩
  | .hbm, ⟨22, _⟩ => ⟨S17x512x5632, .f32⟩
  | .hbm, ⟨23, _⟩ => ⟨S17x512x5632, .f32⟩
  | .hbm, ⟨24, _⟩ => ⟨S17x512x5632, .f32⟩
  | .hbm, ⟨25, _⟩ => ⟨S8704x5632, .f32⟩
  | .hbm, ⟨26, _⟩ => ⟨S8704x5632, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== FfnUp.lean ====
abbrev S8704x2048 : Shape := ⟨2, ![8704, 2048]⟩
abbrev S2x2048x5632 : Shape := ⟨3, ![2, 2048, 5632]⟩
abbrev S17 : Shape := ⟨1, ![17]⟩
abbrev S1 : Shape := ⟨1, ![1]⟩
abbrev S8704x5632 : Shape := ⟨2, ![8704, 5632]⟩
abbrev S512x2048 : Shape := ⟨2, ![512, 2048]⟩
abbrev S1x2048x2816 : Shape := ⟨3, ![1, 2048, 2816]⟩
abbrev S512x2816 : Shape := ⟨2, ![512, 2816]⟩
abbrev S2048x2816 : Shape := ⟨2, ![2048, 2816]⟩

abbrev nBuf : Space → Nat
  | .hbm => 4
  | .vmem => 8
  | .smem => 2
  | _ => 0

abbrev bufTy : (tb : Table) → Fin (tcTables nBuf tb) → BufTy
  | .hbm, ⟨0, _⟩ => ⟨S8704x2048, .bf16⟩
  | .hbm, ⟨1, _⟩ => ⟨S2x2048x5632, .f32⟩
  | .hbm, ⟨2, _⟩ => ⟨S8704x5632, .bf16⟩
  | .hbm, ⟨3, _⟩ => ⟨S8704x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2816, .f32⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S2048x2816, .bf16⟩
  | .local _ .smem, ⟨0, _⟩ => ⟨S17, .i32⟩
  | .local _ .smem, ⟨1, _⟩ => ⟨S1, .i32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_v0 : Ref sig .tc := ⟨.hbm, 3, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 17], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S17.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S17) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpReferenceIdeal.lean ====
abbrev S8704x2048 : Shape := ⟨2, ![8704, 2048]⟩
abbrev S2x2048x5632 : Shape := ⟨3, ![2, 2048, 5632]⟩
abbrev S17 : Shape := ⟨1, ![17]⟩
abbrev S1 : Shape := ⟨1, ![1]⟩
abbrev S8704x5632 : Shape := ⟨2, ![8704, 5632]⟩
abbrev S17x512x2048 : Shape := ⟨3, ![17, 512, 2048]⟩
abbrev S_ : Shape := ⟨0, ![]⟩
abbrev S17x1 : Shape := ⟨2, ![17, 1]⟩
abbrev S17x2048x5632 : Shape := ⟨3, ![17, 2048, 5632]⟩
abbrev S17x512x5632 : Shape := ⟨3, ![17, 512, 5632]⟩

abbrev nBuf : Space → Nat
  | .hbm => 21
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x5632, .f32⟩
  | .hbm, ⟨2, _⟩ => ⟨S17, .i32⟩
  | .hbm, ⟨3, _⟩ => ⟨S1, .i32⟩
  | .hbm, ⟨4, _⟩ => ⟨S8704x5632, .bf16⟩
  | .hbm, ⟨5, _⟩ => ⟨S8704x2048, .f32⟩
  | .hbm, ⟨6, _⟩ => ⟨S17x512x2048, .f32⟩
  | .hbm, ⟨7, _⟩ => ⟨S_, .i32⟩
  | .hbm, ⟨8, _⟩ => ⟨S17, .i32⟩
  | .hbm, ⟨9, _⟩ => ⟨S17, .i1⟩
  | .hbm, ⟨10, _⟩ => ⟨S_, .i32⟩
  | .hbm, ⟨11, _⟩ => ⟨S17, .i32⟩
  | .hbm, ⟨12, _⟩ => ⟨S17, .i32⟩
  | .hbm, ⟨13, _⟩ => ⟨S17, .i32⟩
  | .hbm, ⟨14, _⟩ => ⟨S17x1, .i32⟩
  | .hbm, ⟨15, _⟩ => ⟨S17x2048x5632, .f32⟩
  | .hbm, ⟨16, _⟩ => ⟨S17x512x5632, .f32⟩
  | .hbm, ⟨17, _⟩ => ⟨S8704x5632, .f32⟩
  | .hbm, ⟨18, _⟩ => ⟨S8704x5632, .f32⟩
  | .hbm, ⟨19, _⟩ => ⟨S8704x5632, .f32⟩
  | .hbm, ⟨20, _⟩ => ⟨S8704x5632, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== MlaUv.lean ====
abbrev S8704x256 : Shape := ⟨2, ![8704, 256]⟩
abbrev S4x256x512 : Shape := ⟨3, ![4, 256, 512]⟩
abbrev S17 : Shape := ⟨1, ![17]⟩
abbrev S1 : Shape := ⟨1, ![1]⟩
abbrev S8704x512 : Shape := ⟨2, ![8704, 512]⟩
abbrev S512x256 : Shape := ⟨2, ![512, 256]⟩
abbrev S1x256x512 : Shape := ⟨3, ![1, 256, 512]⟩
abbrev S512x512 : Shape := ⟨2, ![512, 512]⟩
abbrev S256x512 : Shape := ⟨2, ![256, 512]⟩

abbrev nBuf : Space → Nat
  | .hbm => 3
  | .vmem => 7
  | .smem => 2
  | _ => 0

abbrev bufTy : (tb : Table) → Fin (tcTables nBuf tb) → BufTy
  | .hbm, ⟨0, _⟩ => ⟨S8704x256, .bf16⟩
  | .hbm, ⟨1, _⟩ => ⟨S4x256x512, .f32⟩
  | .hbm, ⟨2, _⟩ => ⟨S8704x512, .bf16⟩
  | .local _ .vmem, ⟨0, _⟩ => ⟨S512x256, .bf16⟩
  | .local _ .vmem, ⟨1, _⟩ => ⟨S512x256, .bf16⟩
  | .local _ .vmem, ⟨2, _⟩ => ⟨S1x256x512, .f32⟩
  | .local _ .vmem, ⟨3, _⟩ => ⟨S1x256x512, .f32⟩
  | .local _ .vmem, ⟨4, _⟩ => ⟨S512x512, .bf16⟩
  | .local _ .vmem, ⟨5, _⟩ => ⟨S512x512, .bf16⟩
  | .local _ .vmem, ⟨6, _⟩ => ⟨S256x512, .bf16⟩
  | .local _ .smem, ⟨0, _⟩ => ⟨S17, .i32⟩
  | .local _ .smem, ⟨1, _⟩ => ⟨S1, .i32⟩
  | _, _ => ⟨S8704x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 17], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S17.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S17) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaUvReferenceIdeal.lean ====
abbrev S8704x256 : Shape := ⟨2, ![8704, 256]⟩
abbrev S4x256x512 : Shape := ⟨3, ![4, 256, 512]⟩
abbrev S17 : Shape := ⟨1, ![17]⟩
abbrev S1 : Shape := ⟨1, ![1]⟩
abbrev S17x512x256 : Shape := ⟨3, ![17, 512, 256]⟩
abbrev S_ : Shape := ⟨0, ![]⟩
abbrev S17x1 : Shape := ⟨2, ![17, 1]⟩
abbrev S17x256x512 : Shape := ⟨3, ![17, 256, 512]⟩
abbrev S17x512x512 : Shape := ⟨3, ![17, 512, 512]⟩
abbrev S8704x512 : Shape := ⟨2, ![8704, 512]⟩

abbrev nBuf : Space → Nat
  | .hbm => 18
  | .vmem => 0
  | .smem => 0
  | _ => 0

abbrev bufTy : (tb : Table) → Fin (tcTables nBuf tb) → BufTy
  | .hbm, ⟨0, _⟩ => ⟨S8704x256, .bf16⟩
  | .hbm, ⟨1, _⟩ => ⟨S4x256x512, .f32⟩
  | .hbm, ⟨2, _⟩ => ⟨S17, .i32⟩
  | .hbm, ⟨3, _⟩ => ⟨S1, .i32⟩
  | .hbm, ⟨4, _⟩ => ⟨S8704x256, .f32⟩
  | .hbm, ⟨5, _⟩ => ⟨S17x512x256, .f32⟩
  | .hbm, ⟨6, _⟩ => ⟨S_, .i32⟩
  | .hbm, ⟨7, _⟩ => ⟨S17, .i32⟩
  | .hbm, ⟨8, _⟩ => ⟨S17, .i1⟩
  | .hbm, ⟨9, _⟩ => ⟨S_, .i32⟩
  | .hbm, ⟨10, _⟩ => ⟨S17, .i32⟩
  | .hbm, ⟨11, _⟩ => ⟨S17, .i32⟩
  | .hbm, ⟨12, _⟩ => ⟨S17, .i32⟩
  | .hbm, ⟨13, _⟩ => ⟨S17x1, .i32⟩
  | .hbm, ⟨14, _⟩ => ⟨S17x256x512, .f32⟩
  | .hbm, ⟨15, _⟩ => ⟨S17x512x512, .f32⟩
  | .hbm, ⟨16, _⟩ => ⟨S8704x512, .f32⟩
  | .hbm, ⟨17, _⟩ => ⟨S8704x512, .bf16⟩
  | _, _ => ⟨S8704x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== ProjOut.lean ====
abbrev S8704x512 : Shape := ⟨2, ![8704, 512]⟩
abbrev S4x2048x2048 : Shape := ⟨3, ![4, 2048, 2048]⟩
abbrev S17 : Shape := ⟨1, ![17]⟩
abbrev S1 : Shape := ⟨1, ![1]⟩
abbrev S8704x2048 : Shape := ⟨2, ![8704, 2048]⟩
abbrev S512x512 : Shape := ⟨2, ![512, 512]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 6
  | .vmem => 13
  | .smem => 2
  | _ => 0

abbrev bufTy : (tb : Table) → Fin (tcTables nBuf tb) → BufTy
  | .hbm, ⟨0, _⟩ => ⟨S8704x512, .bf16⟩
  | .hbm, ⟨1, _⟩ => ⟨S8704x512, .bf16⟩
  | .hbm, ⟨2, _⟩ => ⟨S8704x512, .bf16⟩
  | .hbm, ⟨3, _⟩ => ⟨S8704x512, .bf16⟩
  | .hbm, ⟨4, _⟩ => ⟨S4x2048x2048, .f32⟩
  | .hbm, ⟨5, _⟩ => ⟨S8704x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x2048x1024, .f32⟩
  | .local _ .vmem, ⟨9, _⟩ => ⟨S1x2048x1024, .f32⟩
  | .local _ .vmem, ⟨10, _⟩ => ⟨S512x1024, .bf16⟩
  | .local _ .vmem, ⟨11, _⟩ => ⟨S512x1024, .bf16⟩
  | .local _ .vmem, ⟨12, _⟩ => ⟨S2048x1024, .bf16⟩
  | .local _ .smem, ⟨0, _⟩ => ⟨S17, .i32⟩
  | .local _ .smem, ⟨1, _⟩ => ⟨S1, .i32⟩
  | _, _ => ⟨S8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 17], ![false, false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (k0_off1_inb : ∀ i : grid0.Coords, ∀ a, (k0_off1 i) a + S1.size a ≤ S17.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S17) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjOutReferenceIdeal.lean ====
abbrev S8704x512 : Shape := ⟨2, ![8704, 512]⟩
abbrev S4x2048x2048 : Shape := ⟨3, ![4, 2048, 2048]⟩
abbrev S17 : Shape := ⟨1, ![17]⟩
abbrev S1 : Shape := ⟨1, ![1]⟩
abbrev S8704x2048 : Shape := ⟨2, ![8704, 2048]⟩
abbrev S17x512x2048 : Shape := ⟨3, ![17, 512, 2048]⟩
abbrev S_ : Shape := ⟨0, ![]⟩
abbrev S17x1 : Shape := ⟨2, ![17, 1]⟩
abbrev S17x2048x2048 : Shape := ⟨3, ![17, 2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8704x512, .bf16⟩
  | .hbm, ⟨1, _⟩ => ⟨S8704x512, .bf16⟩
  | .hbm, ⟨2, _⟩ => ⟨S8704x512, .bf16⟩
  | .hbm, ⟨3, _⟩ => ⟨S8704x512, .bf16⟩
  | .hbm, ⟨4, _⟩ => ⟨S4x2048x2048, .f32⟩
  | .hbm, ⟨5, _⟩ => ⟨S17, .i32⟩
  | .hbm, ⟨6, _⟩ => ⟨S1, .i32⟩
  | .hbm, ⟨7, _⟩ => ⟨S8704x2048, .bf16⟩
  | .hbm, ⟨8, _⟩ => ⟨S8704x2048, .f32⟩
  | .hbm, ⟨9, _⟩ => ⟨S17x512x2048, .f32⟩
  | .hbm, ⟨10, _⟩ => ⟨S_, .i32⟩
  | .hbm, ⟨11, _⟩ => ⟨S17, .i32⟩
  | .hbm, ⟨12, _⟩ => ⟨S17, .i1⟩
  | .hbm, ⟨13, _⟩ => ⟨S_, .i32⟩
  | .hbm, ⟨14, _⟩ => ⟨S17, .i32⟩
  | .hbm, ⟨15, _⟩ => ⟨S17, .i32⟩
  | .hbm, ⟨16, _⟩ => ⟨S17, .i32⟩
  | .hbm, ⟨17, _⟩ => ⟨S17x1, .i32⟩
  | .hbm, ⟨18, _⟩ => ⟨S17x2048x2048, .f32⟩
  | .hbm, ⟨19, _⟩ => ⟨S17x512x2048, .f32⟩
  | .hbm, ⟨20, _⟩ => ⟨S8704x2048, .f32⟩
  | .hbm, ⟨21, _⟩ => ⟨S8704x2048, .bf16⟩
  | _, _ => ⟨S8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== ProjRest.lean ====
abbrev S8704x2048 : Shape := ⟨2, ![8704, 2048]⟩
abbrev S4x5376x2048 : Shape := ⟨3, ![4, 5376, 2048]⟩
abbrev S17 : Shape := ⟨1, ![17]⟩
abbrev S1 : Shape := ⟨1, ![1]⟩
abbrev S8704x1536 : Shape := ⟨2, ![8704, 1536]⟩
abbrev S512x2048 : Shape := ⟨2, ![512, 2048]⟩
abbrev S1x768x2048 : Shape := ⟨3, ![1, 768, 2048]⟩
abbrev S512x768 : Shape := ⟨2, ![512, 768]⟩
abbrev S768x2048 : Shape := ⟨2, ![768, 2048]⟩

abbrev nBuf : Space → Nat
  | .hbm => 3
  | .vmem => 7
  | .smem => 2
  | _ => 0

abbrev bufTy : (tb : Table) → Fin (tcTables nBuf tb) → BufTy
  | .hbm, ⟨0, _⟩ => ⟨S8704x2048, .bf16⟩
  | .hbm, ⟨1, _⟩ => ⟨S4x5376x2048, .f32⟩
  | .hbm, ⟨2, _⟩ => ⟨S8704x1536, .f32⟩
  | .local _ .vmem, ⟨0, _⟩ => ⟨S512x2048, .bf16⟩
  | .local _ .vmem, ⟨1, _⟩ => ⟨S512x2048, .bf16⟩
  | .local _ .vmem, ⟨2, _⟩ => ⟨S1x768x2048, .f32⟩
  | .local _ .vmem, ⟨3, _⟩ => ⟨S1x768x2048, .f32⟩
  | .local _ .vmem, ⟨4, _⟩ => ⟨S512x768, .f32⟩
  | .local _ .vmem, ⟨5, _⟩ => ⟨S512x768, .f32⟩
  | .local _ .vmem, ⟨6, _⟩ => ⟨S768x2048, .bf16⟩
  | .local _ .smem, ⟨0, _⟩ => ⟨S17, .i32⟩
  | .local _ .smem, ⟨1, _⟩ => ⟨S1, .i32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 17], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S17.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S17) ![v0.toNat] S1.size (k0_off1_inb i)) numel1_S1
  let c5_i32 : BitVec 32 := 5#32
  let v2 : BitVec 32 := Scalar.addi arg0 c5_i32
  let c0_i32 : BitVec 32 := 0#32
  let c0_i32_0 : BitVec 32 := 0#32
  ![v1.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRestReferenceIdeal.lean ====
abbrev S8704x2048 : Shape := ⟨2, ![8704, 2048]⟩
abbrev S4x5376x2048 : Shape := ⟨3, ![4, 5376, 2048]⟩
abbrev S17 : Shape := ⟨1, ![17]⟩
abbrev S1 : Shape := ⟨1, ![1]⟩
abbrev S17x512x2048 : Shape := ⟨3, ![17, 512, 2048]⟩
abbrev S_ : Shape := ⟨0, ![]⟩
abbrev S17x1 : Shape := ⟨2, ![17, 1]⟩
abbrev S17x5376x2048 : Shape := ⟨3, ![17, 5376, 2048]⟩
abbrev S17x1328x2048 : Shape := ⟨3, ![17, 1328, 2048]⟩
abbrev S17x512x1328 : Shape := ⟨3, ![17, 512, 1328]⟩
abbrev S8704x1328 : Shape := ⟨2, ![8704, 1328]⟩
abbrev S8704x1536 : Shape := ⟨2, ![8704, 1536]⟩

abbrev nBuf : Space → Nat
  | .hbm => 21
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S4x5376x2048, .f32⟩
  | .hbm, ⟨2, _⟩ => ⟨S17, .i32⟩
  | .hbm, ⟨3, _⟩ => ⟨S1, .i32⟩
  | .hbm, ⟨4, _⟩ => ⟨S8704x2048, .f32⟩
  | .hbm, ⟨5, _⟩ => ⟨S17x512x2048, .f32⟩
  | .hbm, ⟨6, _⟩ => ⟨S_, .i32⟩
  | .hbm, ⟨7, _⟩ => ⟨S17, .i32⟩
  | .hbm, ⟨8, _⟩ => ⟨S17, .i1⟩
  | .hbm, ⟨9, _⟩ => ⟨S_, .i32⟩
  | .hbm, ⟨10, _⟩ => ⟨S17, .i32⟩
  | .hbm, ⟨11, _⟩ => ⟨S17, .i32⟩
  | .hbm, ⟨12, _⟩ => ⟨S17, .i32⟩
  | .hbm, ⟨13, _⟩ => ⟨S17x1, .i32⟩
  | .hbm, ⟨14, _⟩ => ⟨S17x5376x2048, .f32⟩
  | .hbm, ⟨15, _⟩ => ⟨S17x1328x2048, .f32⟩
  | .hbm, ⟨16, _⟩ => ⟨S17x512x1328, .f32⟩
  | .hbm, ⟨17, _⟩ => ⟨S8704x1328, .f32⟩
  | .hbm, ⟨18, _⟩ => ⟨S_, .i32⟩
  | .hbm, ⟨19, _⟩ => ⟨S_, .f32⟩
  | .hbm, ⟨20, _⟩ => ⟨S8704x1536, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_call0_v0 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Proof.Finite.lean ====
/-
  The precondition read at the ideal instance: every query entry and every key entry is a real number.
-/
module

public import proofs.«01_k».proof.Defs
public import proofs.«01_k».proof.Proof.Gen.Pre_finite_scores
public import Idealize.ShloMosaic.Lib.ReduceAll
public import Idealize.ShloMosaic.Lib.Affine

@[expose] public section

set_option maxRecDepth 16384

noncomputable section

namespace Cert.Pre_finite_scores

open Idealize.ShloMosaic

instance : Subsingleton S_.Idx := ⟨fun _ _ => funext fun a => a.elim0⟩

/-- The bits of plus infinity denote `⊤`. -/
theorem ofBits_pos_inf : Ideal.ofBits .f32 0x7F800000#32 = ⊤ := by
  simp [Ideal.ofBits, Ideal.ieee]

/-- The bits of minus infinity denote `⊥`. -/
theorem ofBits_minus_inf : Ideal.ofBits .f32 0xFF800000#32 = ⊥ := by
  simp [Ideal.ofBits, Ideal.ieee]

/-- An extended real strictly between the infinities is a real number. -/
theorem real_of_cmp (x : EReal)
    (h : IntOp.andi (Ideal.cmp .olt x (Ideal.ofBits .f32 0x7F800000#32)) (Ideal.cmp .ogt x (Ideal.ofBits .f32 0xFF800000#32)) = 1#1) :
    ∃ r : ℝ, x = r := by
  obtain ⟨h1, h2⟩ := IntOp.andi_eq_one.1 h
  rw [ofBits_pos_inf] at h1
  rw [ofBits_minus_inf] at h2
  have lt : x < ⊤ := by
    by_contra hn
    simp [Ideal.cmp, hn] at h1
  have gt : ⊥ < x := by
    by_contra hn
    simp [Ideal.cmp, hn] at h2
  exact ⟨x.toReal, (EReal.coe_toReal lt.ne gt.ne').symm⟩

/-- Where the predicate holds, queries and keys are real numbers. -/
theorem real_of_fn [Facts] (Q K : FVec Ideal S8704x1024 .bf16) (W : FVec Ideal S8704x512 .bf16)
    (h : fn (F := Ideal) Q K W = fun _ => 1#1) : (∀ i, ∃ r : ℝ, Q i = r) ∧ ∀ i, ∃ r : ℝ, K i = r := by
  have h0 := congrFun h (Shape.Idx.first Facts.h_S_)
  dsimp only [fn] at h0
  obtain ⟨hq, hk⟩ := IntOp.andi_eq_one.1 h0
  exact ⟨fun i => real_of_cmp _ (Host.reduce_andi_all _ _ _ _ _ hq i), fun i => real_of_cmp _ (Host.reduce_andi_all _ _ _ _ _ hk i)⟩

end Cert.Pre_finite_scores

end
-- ==== Proof.Block.lean ====
/-
  What one grid point of the kernel stores: eight heads side by side, each the same function of its own columns.
-/
module

public import Idealize.ShloMosaic.Lib.Pointwise
public import Idealize.ShloMosaic.Lib.Pipeline.ValueKit.Tiles
public import proofs.«01_k».proof.Proof.Gen.KernelIdeal.Value

@[expose] public section

set_option maxRecDepth 16384

noncomputable section

namespace Cert.KernelIdeal.RefValue

open Idealize.ShloMosaic Cert.KernelIdeal.Gen

variable {F : FTy → Type} [FloatOps F]

/-- The `k` columns of a block from column `o` on. -/
def cols {r w : ℕ} {α : Type} (o k : ℕ) (h : o + k ≤ w) (x : (⟨2, ![r, w]⟩ : Shape).Idx → α) : (⟨2, ![r, k]⟩ : Shape).Idx → α :=
  fun i => x (ix2 (i 0) ⟨o + (i 1).val, lt_of_lt_of_le (Nat.add_lt_add_left (i 1).isLt o) h⟩)

/-- A load of all rows and the `k` columns from `o` on. -/
theorem ld_cols {r w k o : ℕ} {φ : EltTy} (x : Vec F ⟨2, ![r, w]⟩ φ)
    (inb : ∀ a, (![0, o] : Fin 2 → ℕ) a + (⟨2, ![r, k]⟩ : Shape).size a ≤ (⟨2, ![r, w]⟩ : Shape).size a) :
    View.ld x (Rect.unit (s := ⟨2, ![r, w]⟩) ![0, o] (⟨2, ![r, k]⟩ : Shape).size inb) = cols o k (inb 1) x := by
  funext x'
  refine View.ld_unit_apply_of x _ _ inb x' (ix2 (x' 0) ⟨o + (x' 1).val, lt_of_lt_of_le (Nat.add_lt_add_left (x' 1).isLt o) (inb 1)⟩) fun a => ?_
  match a with
  | ⟨0, _⟩ => exact (Nat.zero_add _).symm
  | ⟨1, _⟩ => rfl

theorem ld_q {o : ℕ} (x : Vec F S256x1024 .bf16) (inb) :
    View.ld x (Rect.unit (s := S256x1024) ![0, o] ![256, 128] inb) = cols o 128 (inb 1) x := ld_cols x inb

theorem ld_kl {o : ℕ} (x : Vec F S4096x1024 .bf16) (inb) :
    View.ld x (Rect.unit (s := S4096x1024) ![0, o] ![4096, 128] inb) = cols o 128 (inb 1) x := ld_cols x inb

theorem ld_vl {o : ℕ} (x : Vec F S4096x512 .bf16) (inb) :
    View.ld x (Rect.unit (s := S4096x512) ![0, o] ![4096, 64] inb) = cols o 64 (inb 1) x := ld_cols x inb

theorem ld_vx {o : ℕ} (x : Vec F S256x512 .bf16) (inb) :
    View.ld x (Rect.unit (s := S256x512) ![0, o] ![256, 64] inb) = cols o 64 (inb 1) x := ld_cols x inb

theorem hz : (![0, 0] : Fin 2 → ℕ) = fun _ => 0 := funext fun a => by fin_cases a <;> rfl

/-- Head `n` of a latent row tile. -/
def latentHead (x0 : Vec F S256x1024 .bf16) (x1 : Vec F S4096x1024 .bf16) (x2 : Vec F S256x1024 .bf16) (x3 : Vec F S4096x512 .bf16)
    (x4 : Vec F S256x512 .bf16) (n : Fin 8) : FVec F S256x64 .f32 :=
  k0_pay2 (cols (128 * n.val) 128 (by omega) x0) (cols (128 * n.val) 128 (by omega) x2) (cols (64 * n.val) 64 (by omega) x4)
    (cols (128 * n.val) 128 (by omega) x1) (cols (64 * n.val) 64 (by omega) x3)

/-- Head `n` of a context row tile. -/
def ctxHead (x0 : Vec F S256x1024 .bf16) (x2 : Vec F S256x1024 .bf16) (x4 : Vec F S256x512 .bf16) (n : Fin 8) : FVec F S256x64 .f32 :=
  k0_pay30 (cols (128 * n.val) 128 (by omega) x0) (cols (128 * n.val) 128 (by omega) x2) (cols (64 * n.val) 64 (by omega) x4)

/-- Eight heads side by side, rounded to the output's format. -/
def sideBySide (f : Fin 8 → FVec F S256x64 .f32) : FVec F S256x512 .bf16 :=
  truncf .bf16 (concatenate S256x512 1 (List.ofFn fun n : Fin 8 => (⟨S256x64, f n⟩ : (s : Shape) × FVec F s .f32))
    concatenates_S256x64_S256x64_S256x64_S256x64_S256x64_S256x64_S256x64_S256x64_S256x512_d1) bitsLt_bf16_f32

variable (c : Dev nD) (i : grid0.Coords) (arg3 : Memref sig .tc .vmem S256x1024 .bf16) (harg3 : arg3.IsWhole)
  (arg4 : Memref sig .tc .vmem S4096x1024 .bf16) (harg4 : arg4.IsWhole) (arg5 : Memref sig .tc .vmem S256x1024 .bf16) (harg5 : arg5.IsWhole)
  (arg6 : Memref sig .tc .vmem S4096x512 .bf16) (harg6 : arg6.IsWhole) (arg7 : Memref sig .tc .vmem S256x512 .bf16) (harg7 : arg7.IsWhole)
  (arg8 : Memref sig .tc .vmem S256x512 .bf16) (harg8 : arg8.IsWhole)
  (x0 : Vec F S256x1024 .bf16) (x1 : Vec F S4096x1024 .bf16) (x2 : Vec F S256x1024 .bf16) (x3 : Vec F S4096x512 .bf16) (x4 : Vec F S256x512 .bf16)

/-- A latent row tile's output block. -/
theorem out_latent (hc0) (hc1) :
    out0_A_5 c i arg3 harg3 arg4 harg4 arg5 harg5 arg6 harg6 arg7 harg7 arg8 harg8 hc0 hc1 x0 x1 x2 x3 x4
      = sideBySide (latentHead x0 x1 x2 x3 x4) := by
  unfold out0_A_5
  rw [View.read_writes_eq_canon _ _ _ (cover0_A_5 c i arg3 harg3 arg4 harg4 arg5 harg5 arg6 harg6 arg7 harg7 arg8 harg8 hc0 hc1 x0 x1 x2 x3 x4)]
  unfold kernelRun0_A
  dsimp only
  sl_unfold_words
  refine (View.canon_unit_zero hz _ _).trans ?_
  simp only [View.readAt_eq_ld, harg3.read_unread, harg4.read_unread, harg5.read_unread, harg6.read_unread, harg7.read_unread]
  simp only [ld_q, ld_kl, ld_vl, ld_vx]
  rfl

/-- A context row tile's output block. -/
theorem out_ctx (hc0) (hc1) :
    out0_B_5 c i arg3 harg3 arg4 harg4 arg5 harg5 arg6 harg6 arg7 harg7 arg8 harg8 hc0 hc1 x0 x1 x2 x3 x4
      = sideBySide (ctxHead x0 x2 x4) := by
  unfold out0_B_5
  rw [View.read_writes_eq_canon _ _ _ (cover0_B_5 c i arg3 harg3 arg4 harg4 arg5 harg5 arg6 harg6 arg7 harg7 arg8 harg8 hc0 hc1 x0 x1 x2 x3 x4)]
  unfold kernelRun0_B
  dsimp only
  sl_unfold_words
  refine (View.canon_unit_zero hz _ _).trans ?_
  simp only [View.readAt_eq_ld, harg3.read_unread, harg5.read_unread, harg7.read_unread]
  simp only [ld_q, ld_vx]
  rfl

end Cert.KernelIdeal.RefValue
-- ==== Proof.Array.lean ====
/-
  The result array of the kernel, row tile by row tile, as a function of the argument arrays.
-/
module

public import proofs.«01_k».proof.Proof.Block

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)

/-- The `k` rows of an array from row `o` on. -/
def rows {r w : ℕ} {α : Type} (o k : ℕ) (h : o + k ≤ r) (x : (⟨2, ![r, w]⟩ : Shape).Idx → α) : (⟨2, ![k, w]⟩ : Shape).Idx → α :=
  fun i => x (ix2 ⟨o + (i 0).val, lt_of_lt_of_le (Nat.add_lt_add_left (i 0).isLt o) h⟩ (i 1))

/-- Where each window's block starts, in blocks, at each grid point. -/
theorem idx0 : ∀ t : Fin cfg0.N, (t.val % 17 ≤ 15 → win0_0.index t (0 : Fin 2) = 16 * (t.val / 17) + t.val % 17)
    ∧ (t.val % 17 = 16 → win0_0.index t (0 : Fin 2) = 32 + t.val / 17) ∧ win0_0.index t (1 : Fin 2) = 0 :=
  (by decide +kernel : ∀ t : Fin grid0.N, _)
theorem idx1 : ∀ t : Fin cfg0.N, win0_1.index t (0 : Fin 2) = t.val / 17 ∧ win0_1.index t (1 : Fin 2) = 0 :=
  (by decide +kernel : ∀ t : Fin grid0.N, _)
theorem idx2 : ∀ t : Fin cfg0.N, win0_2.index t (0 : Fin 2) = 32 + t.val / 17 ∧ win0_2.index t (1 : Fin 2) = 0 :=
  (by decide +kernel : ∀ t : Fin grid0.N, _)
theorem idx3 : ∀ t : Fin cfg0.N, win0_3.index t (0 : Fin 2) = t.val / 17 ∧ win0_3.index t (1 : Fin 2) = 0 :=
  (by decide +kernel : ∀ t : Fin grid0.N, _)
theorem idx4 : ∀ t : Fin cfg0.N, win0_4.index t (0 : Fin 2) = 32 + t.val / 17 ∧ win0_4.index t (1 : Fin 2) = 0 :=
  (by decide +kernel : ∀ t : Fin grid0.N, _)
theorem idx5 : ∀ t : Fin cfg0.N, (t.val % 17 ≤ 15 → win0_5.index t (0 : Fin 2) = 16 * (t.val / 17) + t.val % 17)
    ∧ (t.val % 17 = 16 → win0_5.index t (0 : Fin 2) = 32 + t.val / 17) ∧ win0_5.index t (1 : Fin 2) = 0 :=
  (by decide +kernel : ∀ t : Fin grid0.N, _)

variable {F : FTy → Type} [FloatOps F]
variable (m : (ℓ : Loc nD τ sig) → Buf (Elt F) ℓ) (c : Dev nD)

/-- The query block at a point is 256 rows of the queries. -/
theorem iblk0_rows (t : Fin cfg0.N) (o : ℕ) (ho : win0_0.index t (0 : Fin 2) * 256 = o) (h : o + 256 ≤ 8704) :
    iblk m c 0 t = rows o 256 h (m ((c : Thread nD τ).loc main_arg0)) := by
  have e1 := (idx0 t).2.2
  funext j
  refine congrArg (m ((c : Thread nD τ).loc main_arg0)) (funext fun a => Fin.ext ?_)
  match a with
  | ⟨0, _⟩ => show win0_0.index t (0 : Fin 2) * 256 + 1 * (j 0).val = o + (j 0).val; omega
  | ⟨1, _⟩ => show win0_0.index t (1 : Fin 2) * 1024 + 1 * (j 1).val = (j 1).val; omega

/-- The context keys' block at a point. -/
theorem iblk2_rows (t : Fin cfg0.N) (o : ℕ) (ho : 8192 + 256 * (t.val / 17) = o) (h : o + 256 ≤ 8704) :
    iblk m c 2 t = rows o 256 h (m ((c : Thread nD τ).loc main_arg1)) := by
  obtain ⟨e0, e1⟩ := idx2 t
  funext j
  refine congrArg (m ((c : Thread nD τ).loc main_arg1)) (funext fun a => Fin.ext ?_)
  match a with
  | ⟨0, _⟩ => show win0_2.index t (0 : Fin 2) * 256 + 1 * (j 0).val = o + (j 0).val; omega
  | ⟨1, _⟩ => show win0_2.index t (1 : Fin 2) * 1024 + 1 * (j 1).val = (j 1).val; omega

/-- The context values' block at a point. -/
theorem iblk4_rows (t : Fin cfg0.N) (o : ℕ) (ho : 8192 + 256 * (t.val / 17) = o) (h : o + 256 ≤ 8704) :
    iblk m c 4 t = rows o 256 h (m ((c : Thread nD τ).loc main_arg2)) := by
  obtain ⟨e0, e1⟩ := idx4 t
  funext j
  refine congrArg (m ((c : Thread nD τ).loc main_arg2)) (funext fun a => Fin.ext ?_)
  match a with
  | ⟨0, _⟩ => show win0_4.index t (0 : Fin 2) * 256 + 1 * (j 0).val = o + (j 0).val; omega
  | ⟨1, _⟩ => show win0_4.index t (1 : Fin 2) * 512 + 1 * (j 1).val = (j 1).val; omega

/-- The latent keys' block at a point. -/
theorem X1_rows (t : Fin cfg0.N) (o : ℕ) (ho : 4096 * (t.val / 17) = o) (h : o + 4096 ≤ 8704) :
    X0_1 m c t = rows o 4096 h (m ((c : Thread nD τ).loc main_arg1)) := by
  obtain ⟨e0, e1⟩ := idx1 t
  funext j
  unfold X0_1 Pipeline.Window.fill
  rw [dif_pos (moved0_1 t j)]
  refine congrArg (m ((c : Thread nD τ).loc main_arg1)) (funext fun a => Fin.ext ?_)
  match a with
  | ⟨0, _⟩ => show win0_1.index t (0 : Fin 2) * 4096 + 1 * (j 0).val = o + (j 0).val; omega
  | ⟨1, _⟩ => show win0_1.index t (1 : Fin 2) * 1024 + 1 * (j 1).val = (j 1).val; omega

/-- The latent values' block at a point. -/
theorem X3_rows (t : Fin cfg0.N) (o : ℕ) (ho : 4096 * (t.val / 17) = o) (h : o + 4096 ≤ 8704) :
    X0_3 m c t = rows o 4096 h (m ((c : Thread nD τ).loc main_arg2)) := by
  obtain ⟨e0, e1⟩ := idx3 t
  funext j
  unfold X0_3 Pipeline.Window.fill
  rw [dif_pos (moved0_3 t j)]
  refine congrArg (m ((c : Thread nD τ).loc main_arg2)) (funext fun a => Fin.ext ?_)
  match a with
  | ⟨0, _⟩ => show win0_3.index t (0 : Fin 2) * 4096 + 1 * (j 0).val = o + (j 0).val; omega
  | ⟨1, _⟩ => show win0_3.index t (1 : Fin 2) * 512 + 1 * (j 1).val = (j 1).val; omega

/-- Latent rows of the result: tile `i` of batch member `b`, at row `p` of the tile. -/
theorem array_latent (b : Fin 2) (i : Fin 16) (p : Fin 256) (j : Fin 512) (r : Fin 8704) (hr : r.val = 4096 * b.val + 256 * i.val + p.val) :
    (dats m 0 c).arrAt 5 cfg0.N (ix2 r j)
      = sideBySide (latentHead (rows (4096 * b.val + 256 * i.val) 256 (by omega) (m ((c : Thread nD τ).loc main_arg0)))
          (rows (4096 * b.val) 4096 (by omega) (m ((c : Thread nD τ).loc main_arg1)))
          (rows (8192 + 256 * b.val) 256 (by omega) (m ((c : Thread nD τ).loc main_arg1)))
          (rows (4096 * b.val) 4096 (by omega) (m ((c : Thread nD τ).loc main_arg2)))
          (rows (8192 + 256 * b.val) 256 (by omega) (m ((c : Thread nD τ).loc main_arg2)))) (ix2 p j) := by
  have hN : cfg0.N = 34 := N_0
  let t : Fin cfg0.N := ⟨17 * b.val + i.val, by omega⟩
  have hd : t.val / 17 = b.val := by show (17 * b.val + i.val) / 17 = _; omega
  have hm : t.val % 17 = i.val := by show (17 * b.val + i.val) % 17 = _; omega
  have h := congrFun (Value.blocks5 m c t (flush0_5 t)) (ix2 p j)
  rw [Value.flushed5_A m c t (by omega) (by omega), out_latent,
    iblk0_rows m c t (4096 * b.val + 256 * i.val) (by rw [(idx0 t).1 (by omega)]; omega) (by omega),
    iblk2_rows m c t (8192 + 256 * b.val) (by omega) (by omega), iblk4_rows m c t (8192 + 256 * b.val) (by omega) (by omega),
    X1_rows m c t (4096 * b.val) (by omega) (by omega), X3_rows m c t (4096 * b.val) (by omega) (by omega)] at h
  refine Eq.trans (congrArg ((dats m 0 c).arrAt 5 cfg0.N) (funext fun a => Fin.ext ?_)) h
  have e0 := (idx5 t).1 (by omega)
  have e1 := (idx5 t).2.2
  match a with
  | ⟨0, _⟩ => show r.val = win0_5.index t (0 : Fin 2) * 256 + 1 * p.val; omega
  | ⟨1, _⟩ => show j.val = win0_5.index t (1 : Fin 2) * 512 + 1 * j.val; omega

/-- Context rows of the result: batch member `b`, at row `p`. -/
theorem array_ctx (b : Fin 2) (p : Fin 256) (j : Fin 512) (r : Fin 8704) (hr : r.val = 8192 + 256 * b.val + p.val) :
    (dats m 0 c).arrAt 5 cfg0.N (ix2 r j)
      = sideBySide (ctxHead (rows (8192 + 256 * b.val) 256 (by omega) (m ((c : Thread nD τ).loc main_arg0)))
          (rows (8192 + 256 * b.val) 256 (by omega) (m ((c : Thread nD τ).loc main_arg1)))
          (rows (8192 + 256 * b.val) 256 (by omega) (m ((c : Thread nD τ).loc main_arg2)))) (ix2 p j) := by
  have hN : cfg0.N = 34 := N_0
  let t : Fin cfg0.N := ⟨17 * b.val + 16, by omega⟩
  have hd : t.val / 17 = b.val := by show (17 * b.val + 16) / 17 = _; omega
  have hm : t.val % 17 = 16 := by show (17 * b.val + 16) % 17 = _; omega
  have h := congrFun (Value.blocks5 m c t (flush0_5 t)) (ix2 p j)
  rw [Value.flushed5_B m c t (by omega) (by omega), out_ctx,
    iblk0_rows m c t (8192 + 256 * b.val) (by rw [(idx0 t).2.1 (by omega)]; omega) (by omega),
    iblk2_rows m c t (8192 + 256 * b.val) (by omega) (by omega), iblk4_rows m c t (8192 + 256 * b.val) (by omega) (by omega)] at h
  refine Eq.trans (congrArg ((dats m 0 c).arrAt 5 cfg0.N) (funext fun a => Fin.ext ?_)) h
  have e0 := (idx5 t).2.1 (by omega)
  have e1 := (idx5 t).2.2
  match a with
  | ⟨0, _⟩ => show r.val = win0_5.index t (0 : Fin 2) * 256 + 1 * p.val; omega
  | ⟨1, _⟩ => show j.val = win0_5.index t (1 : Fin 2) * 512 + 1 * j.val; omega

end Cert.KernelIdeal.RefValue
-- ==== Proof.Softmax.lean ====
module

public import Idealize.ShloMosaic.PureOps.Ideal
public import Mathlib.Data.EReal.Inv

@[expose] public section

noncomputable section

/-! The mathematics of one attention output: a base-two softmax that divides once, after the weighted sum,
    against a natural softmax that divides every weight. Nothing here speaks of a program. -/

namespace Cert.Softmax

open Idealize.ShloMosaic

variable {ι : Type*}

/-- A finite sum of reals, taken among the extended reals, is the real sum. -/
theorem coe_sum (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A nonnegative real factor distributes over a finite sum of extended reals. -/
theorem sum_mul_coe (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The softmax-weighted sum with natural exponentials of the scores times `c`, shifted by `M`, every weight divided. -/
def natural [Fintype ι] (c M : EReal) (s v : ι → EReal) : EReal :=
  ∑ k, Ideal.div (Ideal.exp (s k * c - M)) (0 + ∑ l, Ideal.exp (s l * c - M)) * v k

/-- The softmax-weighted sum with base-two exponentials of the scores, shifted by `m`, divided once at the end. -/
def binary [Fintype ι] (m : EReal) (s v : ι → EReal) : EReal :=
  Ideal.div (∑ k, Ideal.exp2 (s k - m) * v k) (0 + ∑ l, Ideal.exp2 (s l - m))

/-- At real scores the two softmaxes agree whatever the two real shifts are, the natural one taken at `c = ln 2`. The
    values weighted may be infinite. -/
theorem binary_eq_natural [Fintype ι] [Nonempty ι] (r : ι → ℝ) (m M : ℝ) (v : ι → EReal) :
    binary (m : EReal) (fun k => (r k : EReal)) v = natural ((Real.log 2 : ℝ) : EReal) (M : EReal) (fun k => (r k : EReal)) v := by
  have h2 : ∀ k, Ideal.exp2 ((r k : EReal) - (m : EReal)) = (((2 : ℝ) ^ (r k - m) : ℝ) : EReal) := fun k => by
    rw [← EReal.coe_sub]; rfl
  have he : ∀ k, Ideal.exp ((r k : EReal) * ((Real.log 2 : ℝ) : EReal) - (M : EReal))
      = (((2 : ℝ) ^ (r k - m) * Real.exp (m * Real.log 2 - M) : ℝ) : EReal) := fun k => by
    rw [← EReal.coe_mul, ← EReal.coe_sub, Ideal.exp_coe, Real.rpow_def_of_pos two_pos, ← Real.exp_add]
    congr 2; ring
  have hD : 0 < ∑ k, (2 : ℝ) ^ (r k - m) := Finset.sum_pos (fun k _ => Real.rpow_pos_of_pos two_pos _) Finset.univ_nonempty
  have hK : 0 < Real.exp (m * Real.log 2 - M) := Real.exp_pos _
  have hDK : (∑ k, (2 : ℝ) ^ (r k - m)) * Real.exp (m * Real.log 2 - M) ≠ 0 := (mul_pos hD hK).ne'
  unfold binary natural
  simp only [h2, he, coe_sum, zero_add, ← Finset.sum_mul]
  rw [Ideal.div_coe hD.ne', sum_mul_coe _ _ (by positivity)]
  refine Finset.sum_congr rfl fun k _ => ?_
  rw [Ideal.div_coe hDK, ← EReal.coe_mul, mul_right_comm, ← EReal.coe_mul]
  congr 2
  field_simp

/-- The maximum, from minus infinity, of finitely many reals is a real. -/
theorem fold_max_real (s : Finset ι) (hs : s.Nonempty) (f : ι → EReal) (hf : ∀ k ∈ s, ∃ r : ℝ, f k = r) :
    ∃ r : ℝ, s.fold max ⊥ f = (r : EReal) := by
  classical
  induction hs using Finset.Nonempty.cons_induction with
  | singleton a => obtain ⟨r, hr⟩ := hf a (by simp); exact ⟨r, by simp [hr]⟩
  | cons a s ha hs ih =>
    obtain ⟨r, hr⟩ := hf a (by simp)
    obtain ⟨q, hq⟩ := ih fun k hk => hf k (by simp [hk])
    exact ⟨max r q, by rw [Finset.fold_cons, hr, hq]; exact (EReal.coe_strictMono.monotone.map_max).symm⟩

/-- A sum of products of reals is a real. -/
theorem sum_mul_real [Fintype ι] (a b : ι → EReal) (ha : ∀ k, ∃ r : ℝ, a k = r) (hb : ∀ k, ∃ r : ℝ, b k = r) :
    ∃ r : ℝ, ∑ k, a k * b k = (r : EReal) := by
  choose x hx using ha
  choose y hy using hb
  exact ⟨∑ k, x k * y k, by simp only [hx, hy, ← EReal.coe_mul, coe_sum]⟩

end Cert.Softmax

end
-- ==== Proof.Head.lean ====
/-
  One head of the kernel, read at an entry: the binary softmax over that head's keys.
-/
module

public import Idealize.ShloMosaic.Lib.Pointwise
public import proofs.«01_k».proof.Proof.Gen.KernelIdeal.Skeleton
public import proofs.«01_k».proof.Proof.Softmax

@[expose] public section

set_option maxRecDepth 16384

noncomputable section

namespace Cert.KernelIdeal.RefValue

open Idealize.ShloMosaic Cert.KernelIdeal.Gen

/-- The score of query row `p` and key row `k` of one head: the sum of products over the head's 128 columns. -/
def score {n : ℕ} (q : FVec Ideal S256x128 .bf16) (k : FVec Ideal ⟨2, ![n, 128]⟩ .bf16) (p : Fin 256) (l : Fin n) : EReal :=
  ∑ c : Fin 128, q (ix2 p c) * k (ix2 l c)

/-- The bits of minus infinity denote `⊥`. -/
theorem ofBits_neg_inf : Ideal.ofBits .f32 4286578688#32 = ⊥ := by
  simp [Ideal.ofBits, Ideal.ieee]

/-- A context query's head, read at an entry. -/
theorem ctxHead_apply (q : FVec Ideal S256x128 .bf16) (kx : FVec Ideal S256x128 .bf16) (vx : FVec Ideal S256x64 .bf16)
    (p : Fin 256) (d : Fin 64) :
    k0_pay30 (F := Ideal) q kx vx (ix2 p d)
      = Softmax.binary (Finset.univ.fold max ⊥ (score q kx p)) (score q kx p) (fun l => vx (ix2 l d) : Fin 256 → EReal) := by
  pointwise [k0_pay30]
  simp only [Softmax.binary, score, zero_add, ofBits_neg_inf]
  rfl

/-- A latent query's head, read at an entry. -/
theorem latentHead_apply (q : FVec Ideal S256x128 .bf16) (kx : FVec Ideal S256x128 .bf16) (vx : FVec Ideal S256x64 .bf16)
    (kl : FVec Ideal S4096x128 .bf16) (vl : FVec Ideal S4096x64 .bf16) (p : Fin 256) (d : Fin 64) :
    k0_pay2 (F := Ideal) q kx vx kl vl (ix2 p d)
      = Softmax.binary (max (Finset.univ.fold max ⊥ (score q kl p)) (Finset.univ.fold max ⊥ (score q kx p)))
          (Sum.elim (score q kl p) (score q kx p)) (Sum.elim (fun l => vl (ix2 l d)) (fun l => vx (ix2 l d)) : Fin 4096 ⊕ Fin 256 → EReal) := by
  pointwise [k0_pay2]
  simp only [Softmax.binary, Fintype.sum_sum_type, Sum.elim_inl, Sum.elim_inr, score, zero_add, ofBits_neg_inf]
  rfl

end Cert.KernelIdeal.RefValue
-- ==== Proof.Attention.lean ====
/-
  The attention both programs compute, in terms of the argument arrays: which rows a query attends to, its scores and values.
-/
module

public import Idealize.ShloMosaic.Lib.Pointwise
public import proofs.«01_k».proof.Proof.Softmax

@[expose] public section

noncomputable section

namespace Cert.Attention

open Idealize.ShloMosaic

/-- Row `i` of batch member `b`'s latents. -/
def latRow (b : Fin 2) (i : Fin 4096) : Fin 8704 := ⟨4096 * b.val + i.val, by omega⟩

/-- Row `i` of batch member `b`'s context. -/
def ctxRow (b : Fin 2) (i : Fin 256) : Fin 8704 := ⟨8192 + (256 * b.val + i.val), by omega⟩

/-- The rows a latent query attends to: its batch member's latents, then its context. -/
def keyRow (b : Fin 2) : Fin 4096 ⊕ Fin 256 → Fin 8704 := Sum.elim (latRow b) (ctxRow b)

/-- Column `c` of head `h` of the queries and keys. -/
def qkCol (h : Fin 8) (c : Fin 128) : Fin 1024 := ⟨128 * h.val + c.val, by omega⟩

/-- Column `d` of head `h` of the values. -/
def vCol (h : Fin 8) (d : Fin 64) : Fin 512 := ⟨64 * h.val + d.val, by omega⟩

abbrev QK := FVec Ideal ⟨2, ![8704, 1024]⟩ .bf16
abbrev Val := FVec Ideal ⟨2, ![8704, 512]⟩ .bf16

/-- The score of query row `r` and key row `k` in head `h`. -/
def sc (Q K : QK) (h : Fin 8) (r k : Fin 8704) : EReal := ∑ c : Fin 128, Q (ix2 r (qkCol h c)) * K (ix2 k (qkCol h c))

/-- Finite queries and keys have finite scores. -/
theorem sc_real (Q K : QK) (hQ : ∀ i, ∃ r : ℝ, Q i = r) (hK : ∀ i, ∃ r : ℝ, K i = r) (h : Fin 8) (r k : Fin 8704) :
    ∃ x : ℝ, sc Q K h r k = x :=
  Softmax.sum_mul_real _ _ (fun _ => hQ _) (fun _ => hK _)

/-- A row below 8192 is a latent row. -/
theorem exists_latRow (r : Fin 8704) (h : r.val < 8192) : ∃ b i, r = latRow b i :=
  ⟨⟨r.val / 4096, by omega⟩, ⟨r.val % 4096, by omega⟩, Fin.ext (by show r.val = 4096 * (r.val / 4096) + r.val % 4096; omega)⟩

/-- A row from 8192 on is a context row. -/
theorem exists_ctxRow (r : Fin 8704) (h : ¬ r.val < 8192) : ∃ b i, r = ctxRow b i :=
  ⟨⟨(r.val - 8192) / 256, by omega⟩, ⟨(r.val - 8192) % 256, by omega⟩,
    Fin.ext (by show r.val = 8192 + (256 * ((r.val - 8192) / 256) + (r.val - 8192) % 256); omega)⟩

/-- Every value column is a column of one head. -/
theorem exists_vCol (j : Fin 512) : ∃ h d, j = vCol h d :=
  ⟨⟨j.val / 64, by omega⟩, ⟨j.val % 64, by omega⟩, Fin.ext (by show j.val = 64 * (j.val / 64) + j.val % 64; omega)⟩

end Cert.Attention
-- ==== Proof.Entry.lean ====
/-
  The kernel's result read at an entry: the binary softmax of that entry's head, in the argument arrays' own coordinates.
-/
module

public import proofs.«01_k».proof.Proof.Array
public import proofs.«01_k».proof.Proof.Head
public import proofs.«01_k».proof.Proof.Attention

@[expose] public section

set_option maxRecDepth 16384

noncomputable section

namespace Cert.KernelIdeal.RefValue

open Cert.KernelIdeal Cert.KernelIdeal.Gen Cert.Attention Idealize.ShloMosaic Idealize.ShloMosaic.TcCoe Idealize.SL.Sem

/-- Column `64 h + d` of the heads side by side is column `d` of head `h`. -/
theorem sideBySide_apply (f : Fin 8 → FVec Ideal S256x64 .f32) (p : Fin 256) (h : Fin 8) (d : Fin 64) :
    sideBySide f (ix2 p (vCol h d)) = f h (ix2 p d) :=
  concatenate_ofFn_apply (1 : Fin S256x512.rank) f
    concatenates_S256x64_S256x64_S256x64_S256x64_S256x64_S256x64_S256x64_S256x64_S256x512_d1 rfl 64 rfl (ix2 p (vCol h d)) h
    (by show (64 * h.val + d.val) / 64 = h.val; omega) (ix2 p d) (by show d.val = (64 * h.val + d.val) % 64; omega)
    (fun b hb => by match b with | ⟨0, _⟩ => rfl | ⟨1, _⟩ => exact absurd rfl hb)

variable (m : (ℓ : Loc nD τ sig) → Buf (Elt Ideal) ℓ) (c : Dev nD)

/-- A latent row's result. -/
theorem entry_latent (b : Fin 2) (i : Fin 4096) (h : Fin 8) (d : Fin 64) (Q K : QK) (W : Val)
    (hQ : m ((c : Thread nD τ).loc main_arg0) = Q) (hK : m ((c : Thread nD τ).loc main_arg1) = K) (hW : m ((c : Thread nD τ).loc main_arg2) = W) :
    (dats m 0 c).arrAt 5 cfg0.N (ix2 (latRow b i) (vCol h d))
      = Softmax.binary (max (Finset.univ.fold max ⊥ fun k => sc Q K h (latRow b i) (latRow b k))
          (Finset.univ.fold max ⊥ fun k => sc Q K h (latRow b i) (ctxRow b k)))
          (fun k => sc Q K h (latRow b i) (keyRow b k)) (fun k => W (ix2 (keyRow b k) (vCol h d))) := by
  have hi : i.val = 256 * (i.val / 256) + i.val % 256 := by omega
  rw [array_latent m c b ⟨i.val / 256, by omega⟩ ⟨i.val % 256, by omega⟩ (vCol h d) (latRow b i)
    (by show 4096 * b.val + i.val = 4096 * b.val + 256 * (i.val / 256) + i.val % 256; omega), sideBySide_apply, hQ, hK, hW]
  unfold latentHead
  rw [latentHead_apply]
  have er : ∀ hb, (⟨4096 * b.val + 256 * (i.val / 256) + i.val % 256, hb⟩ : Fin 8704) = latRow b i := fun hb => Fin.ext (by
    show 4096 * b.val + 256 * (i.val / 256) + i.val % 256 = 4096 * b.val + i.val; omega)
  have es : ∀ {n : ℕ} (k : FVec Ideal ⟨2, ![n, 128]⟩ .bf16) (key : Fin n → Fin 8704) (_ : ∀ l c', k (ix2 l c') = K (ix2 (key l) (qkCol h c'))),
      score (cols (128 * h.val) 128 (by omega) (rows (4096 * b.val + 256 * (i.val / 256)) 256 (by omega) Q)) k ⟨i.val % 256, by omega⟩
        = fun l => sc Q K h (latRow b i) (key l) := fun k key hk => funext fun l => Finset.sum_congr rfl fun c' _ => by
    rw [hk]
    exact congrArg (· * _) (congrArg Q (congrArg (fun r => ix2 r (qkCol h c')) (er _)))
  have ec : ∀ (l : Fin 256) (hb), (⟨8192 + 256 * b.val + l.val, hb⟩ : Fin 8704) = ctxRow b l := fun l hb => Fin.ext (by
    show 8192 + 256 * b.val + l.val = 8192 + (256 * b.val + l.val); omega)
  rw [es _ (latRow b) (fun _ _ => rfl), es _ (ctxRow b) (fun l c' => congrArg K (congrArg (fun r => ix2 r (qkCol h c')) (ec l _)))]
  congr 1
  · funext k; cases k <;> rfl
  · funext k
    cases k with
    | inl l => rfl
    | inr l => exact congrArg W (congrArg (fun r => ix2 r (vCol h d)) (ec l _))

/-- A context row's result. -/
theorem entry_ctx (b : Fin 2) (i : Fin 256) (h : Fin 8) (d : Fin 64) (Q K : QK) (W : Val)
    (hQ : m ((c : Thread nD τ).loc main_arg0) = Q) (hK : m ((c : Thread nD τ).loc main_arg1) = K) (hW : m ((c : Thread nD τ).loc main_arg2) = W) :
    (dats m 0 c).arrAt 5 cfg0.N (ix2 (ctxRow b i) (vCol h d))
      = Softmax.binary (Finset.univ.fold max ⊥ fun k => sc Q K h (ctxRow b i) (ctxRow b k))
          (fun k => sc Q K h (ctxRow b i) (ctxRow b k)) (fun k => W (ix2 (ctxRow b k) (vCol h d))) := by
  have ec : ∀ (l : Fin 256) (hb), (⟨8192 + 256 * b.val + l.val, hb⟩ : Fin 8704) = ctxRow b l := fun l hb => Fin.ext (by
    show 8192 + 256 * b.val + l.val = 8192 + (256 * b.val + l.val); omega)
  rw [array_ctx m c b i (vCol h d) (ctxRow b i)
    (by show 8192 + (256 * b.val + i.val) = 8192 + 256 * b.val + i.val; omega), sideBySide_apply, hQ, hK, hW]
  unfold ctxHead
  rw [ctxHead_apply]
  have es : score (cols (128 * h.val) 128 (by omega) (rows (8192 + 256 * b.val) 256 (by omega) Q))
      (cols (128 * h.val) 128 (by omega) (rows (8192 + 256 * b.val) 256 (by omega) K)) i = fun l => sc Q K h (ctxRow b i) (ctxRow b l) :=
    funext fun l => Finset.sum_congr rfl fun c' _ => congrArg₂ (· * ·)
      (congrArg Q (congrArg (fun r => ix2 r (qkCol h c')) (ec i _))) (congrArg K (congrArg (fun r => ix2 r (qkCol h c')) (ec l _)))
  rw [es]
  congr 1
  funext l
  exact congrArg W (congrArg (fun r => ix2 r (vCol h d)) (ec l _))

end Cert.KernelIdeal.RefValue
-- ==== Proof.Reference.lean ====
/-
  The reference's result read at an entry: the natural softmax of that entry's head, in the argument arrays' own coordinates.
-/
module

public import Idealize.ShloMosaic.Lib.Pointwise
public import proofs.«01_k».proof.Proof.Gen.ReferenceIdeal.Read
public import proofs.«01_k».proof.Proof.Attention

@[expose] public section

set_option maxRecDepth 16384

noncomputable section

namespace Cert.ReferenceIdeal.RefValue

open Cert.ReferenceIdeal Cert.ReferenceIdeal.Read Cert.Attention Idealize.ShloMosaic

variable (Q K : QK) (W : Val)

/-! ## The arguments cut into heads -/

/-- The latent queries of a head. -/
theorem q_lat (b : Fin 2) (h : Fin 8) (i : Fin 4096) (c : Fin 128) :
    val_main_v3 (F := Ideal) Q (ix4 b h i c) = Q (ix2 (latRow b i) (qkCol h c)) := by
  rw [val_main_v3_apply, val_main_v2_apply, val_main_v1_apply, val_main_v0_apply]
  refine congrArg Q (funext fun a => Fin.ext ?_)
  match a with
  | ⟨0, _⟩ => show (((b.val * 4096 + i.val) * 8 + h.val) * 128 + c.val) / 1024 = 4096 * b.val + i.val; omega
  | ⟨1, _⟩ => show (((b.val * 4096 + i.val) * 8 + h.val) * 128 + c.val) % 1024 = 128 * h.val + c.val; omega

/-- The latent keys of a head. -/
theorem k_lat (b : Fin 2) (h : Fin 8) (i : Fin 4096) (c : Fin 128) :
    val_main_v7 (F := Ideal) K (ix4 b h i c) = K (ix2 (latRow b i) (qkCol h c)) := by
  rw [val_main_v7_apply, val_main_v6_apply, val_main_v5_apply, val_main_v4_apply]
  refine congrArg K (funext fun a => Fin.ext ?_)
  match a with
  | ⟨0, _⟩ => show (((b.val * 4096 + i.val) * 8 + h.val) * 128 + c.val) / 1024 = 4096 * b.val + i.val; omega
  | ⟨1, _⟩ => show (((b.val * 4096 + i.val) * 8 + h.val) * 128 + c.val) % 1024 = 128 * h.val + c.val; omega

/-- The latent values of a head. -/
theorem v_lat (b : Fin 2) (h : Fin 8) (i : Fin 4096) (d : Fin 64) :
    val_main_v11 (F := Ideal) W (ix4 b h i d) = W (ix2 (latRow b i) (vCol h d)) := by
  rw [val_main_v11_apply, val_main_v10_apply, val_main_v9_apply, val_main_v8_apply]
  refine congrArg W (funext fun a => Fin.ext ?_)
  match a with
  | ⟨0, _⟩ => show (((b.val * 4096 + i.val) * 8 + h.val) * 64 + d.val) / 512 = 4096 * b.val + i.val; omega
  | ⟨1, _⟩ => show (((b.val * 4096 + i.val) * 8 + h.val) * 64 + d.val) % 512 = 64 * h.val + d.val; omega

/-- The context queries of a head. -/
theorem q_ctx (b : Fin 2) (h : Fin 8) (i : Fin 256) (c : Fin 128) :
    val_main_v15 (F := Ideal) Q (ix4 b h i c) = Q (ix2 (ctxRow b i) (qkCol h c)) := by
  rw [val_main_v15_apply, val_main_v14_apply, val_main_v13_apply, val_main_v12_apply]
  refine congrArg Q (funext fun a => Fin.ext ?_)
  match a with
  | ⟨0, _⟩ => show 8192 + (((b.val * 256 + i.val) * 8 + h.val) * 128 + c.val) / 1024 = 8192 + (256 * b.val + i.val); omega
  | ⟨1, _⟩ => show (((b.val * 256 + i.val) * 8 + h.val) * 128 + c.val) % 1024 = 128 * h.val + c.val; omega

/-- The context keys of a head. -/
theorem k_ctx (b : Fin 2) (h : Fin 8) (i : Fin 256) (c : Fin 128) :
    val_main_v19 (F := Ideal) K (ix4 b h i c) = K (ix2 (ctxRow b i) (qkCol h c)) := by
  rw [val_main_v19_apply, val_main_v18_apply, val_main_v17_apply, val_main_v16_apply]
  refine congrArg K (funext fun a => Fin.ext ?_)
  match a with
  | ⟨0, _⟩ => show 8192 + (((b.val * 256 + i.val) * 8 + h.val) * 128 + c.val) / 1024 = 8192 + (256 * b.val + i.val); omega
  | ⟨1, _⟩ => show (((b.val * 256 + i.val) * 8 + h.val) * 128 + c.val) % 1024 = 128 * h.val + c.val; omega

/-- The context values of a head. -/
theorem v_ctx (b : Fin 2) (h : Fin 8) (i : Fin 256) (d : Fin 64) :
    val_main_v23 (F := Ideal) W (ix4 b h i d) = W (ix2 (ctxRow b i) (vCol h d)) := by
  rw [val_main_v23_apply, val_main_v22_apply, val_main_v21_apply, val_main_v20_apply]
  refine congrArg W (funext fun a => Fin.ext ?_)
  match a with
  | ⟨0, _⟩ => show 8192 + (((b.val * 256 + i.val) * 8 + h.val) * 64 + d.val) / 512 = 8192 + (256 * b.val + i.val); omega
  | ⟨1, _⟩ => show (((b.val * 256 + i.val) * 8 + h.val) * 64 + d.val) % 512 = 64 * h.val + d.val; omega

/-- The keys a latent query of a head meets: the latents', then the context's. -/
theorem k_all (b : Fin 2) (h : Fin 8) (k : Fin 4096 ⊕ Fin 256) (c : Fin 128) :
    val_main_v24 (F := Ideal) K (ix4 b h (finSumFinEquiv k : Fin 4352) c) = K (ix2 (keyRow b k) (qkCol h c)) := by
  unfold val_main_v24
  cases k with
  | inl l =>
    refine (concatenate_pair_apply_left (s₁ := S2x8x4096x128) (s₂ := S2x8x256x128) (2 : Fin S2x8x4352x128.rank) _ _ _ _ rfl (ix4 b h l c : S2x8x4096x128.Idx) fun a => ?_).trans (k_lat K b h l c)
    match a with
    | ⟨0, _⟩ => rfl
    | ⟨1, _⟩ => rfl
    | ⟨2, _⟩ => rfl
    | ⟨3, _⟩ => rfl
  | inr l =>
    refine (concatenate_pair_apply_right (s₁ := S2x8x4096x128) (s₂ := S2x8x256x128) (2 : Fin S2x8x4352x128.rank) _ _ _ _ rfl rfl (ix4 b h l c : S2x8x256x128.Idx) (fun a ha => ?_) ?_).trans (k_ctx K b h l c)
    · match a with
      | ⟨0, _⟩ => rfl
      | ⟨1, _⟩ => rfl
      | ⟨2, _⟩ => exact absurd rfl ha
      | ⟨3, _⟩ => rfl
    · show l.val + 4096 = 4096 + l.val; omega

/-- The values a latent query of a head weighs. -/
theorem v_all (b : Fin 2) (h : Fin 8) (k : Fin 4096 ⊕ Fin 256) (d : Fin 64) :
    val_main_v25 (F := Ideal) W (ix4 b h (finSumFinEquiv k : Fin 4352) d) = W (ix2 (keyRow b k) (vCol h d)) := by
  unfold val_main_v25
  cases k with
  | inl l =>
    refine (concatenate_pair_apply_left (s₁ := S2x8x4096x64) (s₂ := S2x8x256x64) (2 : Fin S2x8x4352x64.rank) _ _ _ _ rfl (ix4 b h l d : S2x8x4096x64.Idx) fun a => ?_).trans (v_lat W b h l d)
    match a with
    | ⟨0, _⟩ => rfl
    | ⟨1, _⟩ => rfl
    | ⟨2, _⟩ => rfl
    | ⟨3, _⟩ => rfl
  | inr l =>
    refine (concatenate_pair_apply_right (s₁ := S2x8x4096x64) (s₂ := S2x8x256x64) (2 : Fin S2x8x4352x64.rank) _ _ _ _ rfl rfl (ix4 b h l d : S2x8x256x64.Idx) (fun a ha => ?_) ?_).trans (v_ctx W b h l d)
    · match a with
      | ⟨0, _⟩ => rfl
      | ⟨1, _⟩ => rfl
      | ⟨2, _⟩ => exact absurd rfl ha
      | ⟨3, _⟩ => rfl
    · show l.val + 4096 = 4096 + l.val; omega

/-! ## The scores' factor -/

/-- The bits of two denote two. -/
theorem ofBits_two : Ideal.ofBits .f32 0x40000000#32 = ((2 : ℝ) : EReal) := by
  simp [Ideal.ofBits, Ideal.ieee, -EReal.coe_mul]; norm_num

/-- The logarithm of two. -/
theorem log_two : Ideal.log (Ideal.ofBits .f32 0x40000000#32) = ((Real.log 2 : ℝ) : EReal) := by
  rw [ofBits_two, Ideal.log_coe, if_neg (by norm_num)]

theorem factor_lat (i) : val_main_v28 (F := Ideal) i = ((Real.log 2 : ℝ) : EReal) := by
  rw [val_main_v28_apply, val_main_v26_apply, val_main_cst_apply]
  exact log_two

theorem factor_ctx (i) : val_main_v46 (F := Ideal) i = ((Real.log 2 : ℝ) : EReal) := by
  rw [val_main_v46_apply, val_main_v44_apply, val_main_cst_3_apply]
  exact log_two

/-! ## Latent rows -/

/-- The scores of a latent query. -/
theorem s_lat (b : Fin 2) (h : Fin 8) (i : Fin 4096) (k : Fin 4096 ⊕ Fin 256) :
    val_main_v29 (F := Ideal) Q K (ix4 b h i (finSumFinEquiv k : Fin 4352))
      = sc Q K h (latRow b i) (keyRow b k) * ((Real.log 2 : ℝ) : EReal) := by
  rw [val_main_v29_apply, factor_lat, val_main_v27_apply]
  refine congrArg (· * _) (Finset.sum_congr rfl fun c _ => ?_)
  exact congrArg₂ (· * ·) ((congrArg (val_main_v3 (F := Ideal) Q) (eq_ix4 _)).trans (q_lat Q b h i c))
    ((congrArg (val_main_v24 (F := Ideal) K) (eq_ix4 _)).trans (k_all K b h k c))

/-- A maximum over one axis of real entries, from minus infinity, is real. -/
theorem reduce_max_real {s t : Shape} {a : Fin s.rank} (h : s.ReducesTo [a] t) (h' : s.Reduces [a] t) (hs : 0 < s.size a)
    (x : FVec Ideal s .f32) (init : FVec Ideal S_ .f32) (hi : ∀ i, init i = (⊥ : EReal)) (j : t.Idx) (hx : ∀ i, ∃ r : ℝ, x i = r) :
    ∃ M : ℝ, Host.reduce (FloatOps.maximumf (F := Ideal) (φ := .f32)) x init h Gen.h_S_ j = (M : EReal) := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [Host.reduce_eq_fold_single _ _ _ h h' Gen.h_S_, hi]
  exact Softmax.fold_max_real _ ⟨⟨0, hs⟩, Finset.mem_univ _⟩ _ fun k _ => hx _

theorem ofBits_neg_inf : Ideal.ofBits .f32 0xFF800000#32 = ⊥ := by
  simp [Ideal.ofBits, Ideal.ieee]

/-- Every key row of a latent query comes from the two parts. -/
theorem exists_key (l : Fin 4352) : ∃ k : Fin 4096 ⊕ Fin 256, (finSumFinEquiv k : Fin 4352) = l :=
  ⟨(finSumFinEquiv (m := 4096) (n := 256)).symm l, (finSumFinEquiv (m := 4096) (n := 256)).apply_symm_apply l⟩

/-- The largest score of a latent query is finite. -/
theorem max_lat (hQ : ∀ i, ∃ r : ℝ, Q i = r) (hK : ∀ i, ∃ r : ℝ, K i = r) (j : S2x8x4096.Idx) :
    ∃ M : ℝ, val_main_v32 (F := Ideal) Q K j = (M : EReal) := by
  obtain ⟨M, hM⟩ : ∃ M : ℝ, val_main_v30 (F := Ideal) Q K j = (M : EReal) :=
    reduce_max_real _ (by decide) (by decide) _ _ (fun _ => ofBits_neg_inf) j fun (i : S2x8x4096x4352.Idx) => by
      obtain ⟨k, hk⟩ := exists_key (i 3)
      obtain ⟨x, hx⟩ := sc_real Q K hQ hK (i 1) (latRow (i 0) (i 2)) (keyRow (i 0) k)
      refine ⟨x * Real.log 2, ?_⟩
      have e : i = (ix4 (i 0) (i 1) (i 2) (finSumFinEquiv k : Fin 4352) : S2x8x4096x4352.Idx) :=
        (eq_ix4 i).trans (congrArg (fun z => (ix4 (i 0) (i 1) (i 2) z : S2x8x4096x4352.Idx)) hk.symm)
      exact (congrArg (val_main_v29 (F := Ideal) Q K) e).trans ((s_lat Q K (i 0) (i 1) (i 2) k).trans (by rw [hx, EReal.coe_mul]))
  refine ⟨M, ?_⟩
  rw [val_main_v32_apply, hM, val_main_v31_apply, val_main_cst_1_apply]
  show max (Ideal.ofBits .f32 0xFF800000#32) (M : EReal) = M
  rw [ofBits_neg_inf, max_eq_right bot_le]

/-- An exponential of a latent query. -/
theorem e_lat (b : Fin 2) (h : Fin 8) (i : Fin 4096) (k : Fin 4096 ⊕ Fin 256) :
    val_main_v36 (F := Ideal) Q K (ix4 b h i (finSumFinEquiv k : Fin 4352))
      = Ideal.exp (sc Q K h (latRow b i) (keyRow b k) * ((Real.log 2 : ℝ) : EReal) - val_main_v32 (F := Ideal) Q K (ix3 b h i)) := by
  rw [val_main_v36_apply, val_main_v35_apply, s_lat, val_main_v34_apply, val_main_v33_apply]
  exact congrArg (fun j => Ideal.exp (_ - val_main_v32 (F := Ideal) Q K j)) (eq_ix3 _)

/-- A weighted sum of a latent query. -/
theorem o_lat (b : Fin 2) (h : Fin 8) (i : Fin 4096) (d : Fin 64) :
    val_main_v41 (F := Ideal) Q K W (ix4 b h i d)
      = Softmax.natural ((Real.log 2 : ℝ) : EReal) (val_main_v32 (F := Ideal) Q K (ix3 b h i))
          (fun k => sc Q K h (latRow b i) (keyRow b k)) (fun k => W (ix2 (keyRow b k) (vCol h d))) := by
  rw [val_main_v41_apply]
  refine (Equiv.sum_comp (finSumFinEquiv (m := 4096) (n := 256)) _).symm.trans (Finset.sum_congr rfl fun k _ => ?_)
  have hv : val_main_v25 (F := Ideal) W (ridx_main_v41 (ix4 b h i d) (finSumFinEquiv k : Fin 4352)) = W (ix2 (keyRow b k) (vCol h d)) :=
    (congrArg (val_main_v25 (F := Ideal) W) (eq_ix4 _)).trans (v_all W b h k d)
  have hl : lidx_main_v41 (ix4 b h i d) (finSumFinEquiv k : Fin 4352) = ix4 b h i (finSumFinEquiv k : Fin 4352) := eq_ix4 _
  rw [hv, hl, val_main_v40_apply, e_lat, val_main_v39_apply, val_main_v38_apply, val_main_v37_apply, Ideal.hostDivf_def]
  refine congrArg (fun x => Ideal.div _ x * _) (congrArg₂ (· + ·) (Ideal.ofBits_zero .f32) ?_)
  refine (Equiv.sum_comp (finSumFinEquiv (m := 4096) (n := 256)) _).symm.trans (Finset.sum_congr rfl fun l _ => ?_)
  exact (congrArg (val_main_v36 (F := Ideal) Q K) (eq_ix4 _)).trans (e_lat Q K b h i l)

/-- A latent row of the result. -/
theorem entry_latent (b : Fin 2) (h : Fin 8) (i : Fin 4096) (d : Fin 64) :
    val_main_v63 (F := Ideal) Q K W (ix2 (latRow b i) (vCol h d))
      = Softmax.natural ((Real.log 2 : ℝ) : EReal) (val_main_v32 (F := Ideal) Q K (ix3 b h i))
          (fun k => sc Q K h (latRow b i) (keyRow b k)) (fun k => W (ix2 (keyRow b k) (vCol h d))) := by
  rw [← o_lat, val_main_v63_apply]
  show val_main_v62 (F := Ideal) Q K W (ix2 (latRow b i) (vCol h d)) = _
  unfold val_main_v62
  refine (concatenate_pair_apply_left (s₁ := S8192x512) (s₂ := S512x512) (0 : Fin S8704x512.rank) _ _ _ _ rfl
    (ix2 ⟨4096 * b.val + i.val, by omega⟩ (vCol h d) : S8192x512.Idx) fun a => ?_).trans ?_
  · match a with
    | ⟨0, _⟩ => rfl
    | ⟨1, _⟩ => rfl
  · rw [val_main_v43_apply, val_main_v42_apply]
    refine congrArg (val_main_v41 (F := Ideal) Q K W) (funext fun a => Fin.ext ?_)
    match a with
    | ⟨0, _⟩ => show ((4096 * b.val + i.val) * 512 + (64 * h.val + d.val)) / 2097152 = b.val; omega
    | ⟨1, _⟩ => show ((4096 * b.val + i.val) * 512 + (64 * h.val + d.val)) / 64 % 8 = h.val; omega
    | ⟨2, _⟩ => show ((4096 * b.val + i.val) * 512 + (64 * h.val + d.val)) / 512 % 4096 = i.val; omega
    | ⟨3, _⟩ => show ((4096 * b.val + i.val) * 512 + (64 * h.val + d.val)) % 64 = d.val; omega

/-! ## Context rows -/

/-- The scores of a context query. -/
theorem s_ctx (b : Fin 2) (h : Fin 8) (i k : Fin 256) :
    val_main_v47 (F := Ideal) Q K (ix4 b h i k) = sc Q K h (ctxRow b i) (ctxRow b k) * ((Real.log 2 : ℝ) : EReal) := by
  rw [val_main_v47_apply, factor_ctx, val_main_v45_apply]
  refine congrArg (· * _) (Finset.sum_congr rfl fun c _ => ?_)
  exact congrArg₂ (· * ·) ((congrArg (val_main_v15 (F := Ideal) Q) (eq_ix4 _)).trans (q_ctx Q b h i c))
    ((congrArg (val_main_v19 (F := Ideal) K) (eq_ix4 _)).trans (k_ctx K b h k c))

/-- The largest score of a context query is finite. -/
theorem max_ctx (hQ : ∀ i, ∃ r : ℝ, Q i = r) (hK : ∀ i, ∃ r : ℝ, K i = r) (j : S2x8x256.Idx) :
    ∃ M : ℝ, val_main_v50 (F := Ideal) Q K j = (M : EReal) := by
  obtain ⟨M, hM⟩ : ∃ M : ℝ, val_main_v48 (F := Ideal) Q K j = (M : EReal) :=
    reduce_max_real _ (by decide) (by decide) _ _ (fun _ => ofBits_neg_inf) j fun (i : S2x8x256x256.Idx) => by
      obtain ⟨x, hx⟩ := sc_real Q K hQ hK (i 1) (ctxRow (i 0) (i 2)) (ctxRow (i 0) (i 3))
      refine ⟨x * Real.log 2, ?_⟩
      exact (congrArg (val_main_v47 (F := Ideal) Q K) (eq_ix4 i)).trans ((s_ctx Q K (i 0) (i 1) (i 2) (i 3)).trans (by rw [hx, EReal.coe_mul]))
  refine ⟨M, ?_⟩
  rw [val_main_v50_apply, hM, val_main_v49_apply, val_main_cst_5_apply]
  show max (Ideal.ofBits .f32 0xFF800000#32) (M : EReal) = M
  rw [ofBits_neg_inf, max_eq_right bot_le]

/-- An exponential of a context query. -/
theorem e_ctx (b : Fin 2) (h : Fin 8) (i k : Fin 256) :
    val_main_v54 (F := Ideal) Q K (ix4 b h i k)
      = Ideal.exp (sc Q K h (ctxRow b i) (ctxRow b k) * ((Real.log 2 : ℝ) : EReal) - val_main_v50 (F := Ideal) Q K (ix3 b h i)) := by
  rw [val_main_v54_apply, val_main_v53_apply, s_ctx, val_main_v52_apply, val_main_v51_apply]
  exact congrArg (fun j => Ideal.exp (_ - val_main_v50 (F := Ideal) Q K j)) (eq_ix3 _)

/-- A weighted sum of a context query. -/
theorem o_ctx (b : Fin 2) (h : Fin 8) (i : Fin 256) (d : Fin 64) :
    val_main_v59 (F := Ideal) Q K W (ix4 b h i d)
      = Softmax.natural ((Real.log 2 : ℝ) : EReal) (val_main_v50 (F := Ideal) Q K (ix3 b h i))
          (fun k => sc Q K h (ctxRow b i) (ctxRow b k)) (fun k => W (ix2 (ctxRow b k) (vCol h d))) := by
  rw [val_main_v59_apply]
  refine Finset.sum_congr rfl fun k _ => ?_
  have hv : val_main_v23 (F := Ideal) W (ridx_main_v59 (ix4 b h i d) k) = W (ix2 (ctxRow b k) (vCol h d)) :=
    (congrArg (val_main_v23 (F := Ideal) W) (eq_ix4 _)).trans (v_ctx W b h k d)
  have hl : lidx_main_v59 (ix4 b h i d) k = ix4 b h i k := eq_ix4 _
  rw [hv, hl, val_main_v58_apply, e_ctx, val_main_v57_apply, val_main_v56_apply, val_main_v55_apply, Ideal.hostDivf_def]
  refine congrArg (fun x => Ideal.div _ x * _) (congrArg₂ (· + ·) (Ideal.ofBits_zero .f32) (Finset.sum_congr rfl fun l _ => ?_))
  exact (congrArg (val_main_v54 (F := Ideal) Q K) (eq_ix4 _)).trans (e_ctx Q K b h i l)

/-- A context row of the result. -/
theorem entry_ctx (b : Fin 2) (h : Fin 8) (i : Fin 256) (d : Fin 64) :
    val_main_v63 (F := Ideal) Q K W (ix2 (ctxRow b i) (vCol h d))
      = Softmax.natural ((Real.log 2 : ℝ) : EReal) (val_main_v50 (F := Ideal) Q K (ix3 b h i))
          (fun k => sc Q K h (ctxRow b i) (ctxRow b k)) (fun k => W (ix2 (ctxRow b k) (vCol h d))) := by
  rw [← o_ctx, val_main_v63_apply]
  show val_main_v62 (F := Ideal) Q K W (ix2 (ctxRow b i) (vCol h d)) = _
  unfold val_main_v62
  refine (concatenate_pair_apply_right (s₁ := S8192x512) (s₂ := S512x512) (0 : Fin S8704x512.rank) _ _ _ _ rfl rfl
    (ix2 ⟨256 * b.val + i.val, by omega⟩ (vCol h d) : S512x512.Idx) (fun a ha => ?_) ?_).trans ?_
  · match a with
    | ⟨0, _⟩ => exact absurd rfl ha
    | ⟨1, _⟩ => rfl
  · show 256 * b.val + i.val + 8192 = 8192 + (256 * b.val + i.val); omega
  · rw [val_main_v61_apply, val_main_v60_apply]
    refine congrArg (val_main_v59 (F := Ideal) Q K W) (funext fun a => Fin.ext ?_)
    match a with
    | ⟨0, _⟩ => show ((256 * b.val + i.val) * 512 + (64 * h.val + d.val)) / 131072 = b.val; omega
    | ⟨1, _⟩ => show ((256 * b.val + i.val) * 512 + (64 * h.val + d.val)) / 64 % 8 = h.val; omega
    | ⟨2, _⟩ => show ((256 * b.val + i.val) * 512 + (64 * h.val + d.val)) / 512 % 256 = i.val; omega
    | ⟨3, _⟩ => show ((256 * b.val + i.val) * 512 + (64 * h.val + d.val)) % 64 = d.val; omega

end Cert.ReferenceIdeal.RefValue
-- ==== Proof.Equation.lean ====
/-
  For finite queries and keys the kernel's result is the reference's: at every entry both are the softmax of the same
  scores, the kernel's to base two and the reference's to base e with the scores scaled by the logarithm of two.
-/
module

public import proofs.«01_k».proof.Proof.Entry
public import proofs.«01_k».proof.Proof.Reference

@[expose] public section

set_option maxRecDepth 16384

noncomputable section

namespace Cert.Equation

open Cert.KernelIdeal Cert.Attention Idealize.ShloMosaic Idealize.ShloMosaic.TcCoe Idealize.SL.Sem

variable (m : (ℓ : Loc nD τ sig) → Buf (Elt Ideal) ℓ) (c : Dev nD) (Q K : QK) (W : Val)
  (eQ : m ((c : Thread nD τ).loc main_arg0) = Q) (eK : m ((c : Thread nD τ).loc main_arg1) = K)
  (eW : m ((c : Thread nD τ).loc main_arg2) = W)
  (hQ : ∀ i, ∃ r : ℝ, Q i = r) (hK : ∀ i, ∃ r : ℝ, K i = r)

include hQ hK in
/-- The largest score of a query over finitely many keys is a real number. -/
theorem max_real {n : ℕ} [NeZero n] (h : Fin 8) (r : Fin 8704) (key : Fin n → Fin 8704) :
    ∃ x : ℝ, (Finset.univ.fold max ⊥ fun k => sc Q K h r (key k)) = x :=
  Softmax.fold_max_real _ Finset.univ_nonempty _ fun k _ => sc_real Q K hQ hK h r (key k)

include eQ eK eW hQ hK in
/-- The two results agree at a latent row. -/
theorem latent (b : Fin 2) (i : Fin 4096) (h : Fin 8) (d : Fin 64) :
    (KernelIdeal.Gen.dats m 0 c).arrAt 5 cfg0.N (ix2 (latRow b i) (vCol h d))
      = ReferenceIdeal.Read.val_main_v63 (F := Ideal) Q K W (ix2 (latRow b i) (vCol h d)) := by
  rw [KernelIdeal.RefValue.entry_latent m c b i h d Q K W eQ eK eW, ReferenceIdeal.RefValue.entry_latent]
  obtain ⟨M, hM⟩ := ReferenceIdeal.RefValue.max_lat Q K hQ hK (ix3 b h i)
  obtain ⟨x, hx⟩ := max_real Q K hQ hK h (latRow b i) (latRow b)
  obtain ⟨y, hy⟩ := max_real Q K hQ hK h (latRow b i) (ctxRow b)
  choose r hr using fun k => sc_real Q K hQ hK h (latRow b i) (keyRow b k)
  simp only [hr]
  rw [hM, hx, hy, ← EReal.coe_strictMono.monotone.map_max]
  exact Softmax.binary_eq_natural r (max x y) M _

include eQ eK eW hQ hK in
/-- The two results agree at a context row. -/
theorem context (b : Fin 2) (i : Fin 256) (h : Fin 8) (d : Fin 64) :
    (KernelIdeal.Gen.dats m 0 c).arrAt 5 cfg0.N (ix2 (ctxRow b i) (vCol h d))
      = ReferenceIdeal.Read.val_main_v63 (F := Ideal) Q K W (ix2 (ctxRow b i) (vCol h d)) := by
  rw [KernelIdeal.RefValue.entry_ctx m c b i h d Q K W eQ eK eW, ReferenceIdeal.RefValue.entry_ctx]
  obtain ⟨M, hM⟩ := ReferenceIdeal.RefValue.max_ctx Q K hQ hK (ix3 b h i)
  obtain ⟨x, hx⟩ := max_real Q K hQ hK h (ctxRow b i) (ctxRow b)
  rw [hM, hx]
  choose r hr using fun k => sc_real Q K hQ hK h (ctxRow b i) (ctxRow b k)
  simp only [hr]
  exact Softmax.binary_eq_natural r x M _

include eQ eK eW hQ hK in
/-- The kernel's result array is the reference's. -/
theorem result : (KernelIdeal.Gen.dats m 0 c).arrAt 5 cfg0.N = ReferenceIdeal.Read.val_main_v63 (F := Ideal) Q K W := by
  refine funext fun (i : S8704x512.Idx) => ?_
  obtain ⟨h, d, hj⟩ := exists_vCol (i 1)
  by_cases hr : (i 0 : Fin 8704).val < 8192
  · obtain ⟨b, k, hk⟩ := exists_latRow (i 0) hr
    have e : i = ix2 (latRow b k) (vCol h d) := (eq_ix2 i).trans (congrArg₂ ix2 hk hj)
    rw [e]
    exact latent m c Q K W eQ eK eW hQ hK b k h d
  · obtain ⟨b, k, hk⟩ := exists_ctxRow (i 0) hr
    have e : i = ix2 (ctxRow b k) (vCol h d) := (eq_ix2 i).trans (congrArg₂ ix2 hk hj)
    rw [e]
    exact context m c Q K W eQ eK eW hQ hK b k h d

end Cert.Equation

end
-- ==== Proof.Claims.lean ====
/-
  The claims about the latent attention: its two frames, the reference's frame, and the equation of the two results.
-/
module

public import proofs.«01_k».proof.Defs
public import proofs.«01_k».proof.Proof.Gen.Kernel.Frame
public import proofs.«01_k».proof.Proof.Gen.ReferenceIdeal.Run
public import proofs.«01_k».proof.Proof.Finite
public import proofs.«01_k».proof.Proof.Equation

@[expose] public section

set_option maxRecDepth 16384

noncomputable section

namespace Cert.Claims

open Idealize.ShloMosaic Idealize.ShloMosaic.TcCoe Idealize.SL.Sem

/-- The kernel runs, leaves its arguments alone and ends with every counter at zero. -/
theorem frame_kernel : Cert.quiescent_Kernel (hKernel := Kernel.Gen.facts) := fun m ρ _ => Kernel.Gen.frame m ρ

/-- So does its idealisation. -/
theorem frame_kernelIdeal : Cert.quiescent_KernelIdeal (hKernelIdeal := KernelIdeal.Gen.facts) :=
  fun m ρ _ => KernelIdeal.Gen.frame m ρ

/-- The same from the memories of the precondition. -/
theorem frame_kernelIdeal_pre : Cert.quiescent_KernelIdeal_pre_finite_scores (hKernelIdeal := KernelIdeal.Gen.facts)
    (hPre_finite_scores := Pre_finite_scores.Gen.facts) := fun m ρ _ => KernelIdeal.Gen.frame m ρ

/-- The reference runs and leaves its arguments alone; it declares no semaphore. -/
theorem frame_referenceIdeal : Cert.quiescent_ReferenceIdeal (hReferenceIdeal := ReferenceIdeal.Gen.facts) := fun m ρ _ =>
  (θ_run ReferenceIdeal.defs _ _).mono (fun r h => ⟨fun c => (h c).2, sem_eq_zero_of_no_sems (by decide) r.2⟩)
    (ReferenceIdeal.Value.run (F := Ideal) m ρ)

/-- The same from the memories of the precondition. -/
theorem frame_referenceIdeal_pre : Cert.quiescent_ReferenceIdeal_pre_finite_scores (hReferenceIdeal := ReferenceIdeal.Gen.facts)
    (hPre_finite_scores := Pre_finite_scores.Gen.facts) := fun m ρ _ => frame_referenceIdeal m ρ trivial

/-- From agreeing arguments with finite queries and keys, the kernel and the reference end with the same result. -/
theorem algebraic : Cert.algebraic_KernelIdeal_ReferenceIdeal_pre_finite_scores (hKernelIdeal := KernelIdeal.Gen.facts)
    (hReferenceIdeal := ReferenceIdeal.Gen.facts) (hPre_finite_scores := Pre_finite_scores.Gen.facts) := by
  intro m ρ m' ρ' hpre hag
  refine ⟨fun c => (KernelIdeal.Gen.dats m 0 c).arrAt 5 KernelIdeal.cfg0.N, KernelIdeal.Value.run_blocks m ρ,
    (θ_run ReferenceIdeal.defs _ _).mono (fun r h c => ⟨(h c).1.trans ?_, (h c).2⟩) (ReferenceIdeal.Value.run (F := Ideal) m' ρ')⟩
  obtain ⟨hQ, hK⟩ := Pre_finite_scores.real_of_fn _ _ _ (hpre c)
  obtain ⟨a0, a1, a2⟩ := hag c
  refine (ReferenceIdeal.Read.val_main_v63_eq m' c).trans ?_
  exact (Equation.result m c _ _ _ a0.symm a1.symm a2.symm (fun i => a0 ▸ hQ i) (fun i => a1 ▸ hK i)).symm

end Cert.Claims

end
-- ==== Proof.Down.Tables.lean ====
/-
  The launch of Down at ANY tables whose words name a matrix: the tables, the side condition of the pipeline at them, the pipeline, a point's
  coordinates, staging buffers and blocks, and the two decisions the body takes there.
-/
module

public import proofs.«01_k».proof.Proof.Gen.Down.Flash.Runs

@[expose] public section

set_option maxRecDepth 16384
set_option Elab.async false

noncomputable section

namespace Cert.Down.Any

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- Tables the launch may find: a tile table all of whose words are below 16, and any count of used tiles. -/
def Tables : Type := { T : (S42.Idx → BitVec 32) × (S1.Idx → BitVec 32) // ∀ x, (T.1 x).toNat < 16 }

/-- The tile table. -/
def pinT_0 (ch : Tables) : S42.Idx → BitVec 32 := ch.1.1
/-- The count of used tiles. -/
def pinT_1 (ch : Tables) : S1.Idx → BitVec 32 := ch.1.2
theorem pinT_0_lt (ch : Tables) (x : S42.Idx) : (pinT_0 ch x).toNat < 16 := ch.2 x

variable (ch : Tables)

set_option backward.proofsInPublic true in
/-- The two tables as the region reads them. -/
def pfN : pre0.Contents (Elt Bits) := fun | ⟨0, _⟩ => pinT_0 ch | ⟨1, _⟩ => pinT_1 ch | ⟨_ + 2, h⟩ => absurd h (by simp)

/-- The launch memory holds these tables. -/
def Pinned (m : (ℓ : Loc nD τ sig) → Buf (Elt Bits) ℓ) : Prop :=
  (∀ c : Dev nD, m ((c : Thread nD τ).loc main_arg2) = pinT_0 ch) ∧ (∀ c : Dev nD, m ((c : Thread nD τ).loc main_arg3) = pinT_1 ch)

theorem column_block_lt : ∀ n : Fin 2, ((Scalar.addi (BitVec.ofNat 32 n.val) 0#32).toNat + 1) * 1024 ≤ 2048 := by decide

/-- Every block of weight window 1 is inside its array: its matrix is one of the sixteen, its columns are whole blocks. -/
theorem ok_win1 (i : grid0.Coords) (a : Fin 3) :
    (cc0_transform_1 k0_off1_inb numel1_S1 (pfN ch) i a + 1) * S1x2816x1024.size a ≤ S16x2816x2048.size a := by
  fin_cases a
  · have h := pinT_0_lt ch
    exact (Nat.mul_one _).trans_le (Nat.succ_le_of_lt (h _))
  · exact le_of_eq rfl
  · exact column_block_lt (i 0)

/-- The pipeline's side condition holds of the tables. -/
theorem ok_pfN : ok0 (F := Bits) (pfN ch) := fun i => ⟨ok_win1 ch i, Or.inl rfl⟩

/-- The admissible contents, the pipeline at them, as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x2816 .bf16 := spec0_0.stage ((cfgA ch).slots t (0 : Fin 3))
abbrev hs0_0 (t : Fin (cfgA ch).N) : (ms0_0 ch t).IsWhole := hstage0_0 (((cfgA ch).slots t (0 : Fin 3)).cast nbuf0_0)
abbrev ms0_1 (t : Fin (cfgA ch).N) : Memref sig .tc .vmem S1x2816x1024 .f32 := spec0_1.stage ((cfgA ch).slots t (1 : Fin 3))
abbrev hs0_1 (t : Fin (cfgA ch).N) : (ms0_1 ch t).IsWhole := hstage0_1 (((cfgA ch).slots t (1 : Fin 3)).cast nbuf0_1)
abbrev ms0_2 (t : Fin (cfgA ch).N) : Memref sig .tc .vmem S512x1024 .f32 := spec0_2.stage ((cfgA ch).slots t (2 : Fin 3))
abbrev hs0_2 (t : Fin (cfgA ch).N) : (ms0_2 ch t).IsWhole := hstage0_2 (((cfgA ch).slots t (2 : Fin 3)).cast nbuf0_2)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.ori (Scalar.cmpi .eq (BitVec.ofNat 32 ((crd ch t) 1).val) 0#32) (Scalar.cmpi .ne (View.readAt (Elt Bits) (tbM0_0).view (Rect.unit (s := S42) (k0_off1 (crd ch t)) S1.size (k0_off1_inb (crd ch t))).toLoadRect (pinT_0 ch) (Shape.Idx.first (numel1_S1.symm ▸ Nat.one_pos))) (View.readAt (Elt Bits) (tbM0_0).view (Rect.unit (s := S42) (k0_off2 (crd ch t)) S1.size (k0_off2_inb (crd ch t))).toLoadRect (pinT_0 ch) (Shape.Idx.first (numel1_S1.symm ▸ Nat.one_pos)))))) 0#32) = 1#1
abbrev P0_1 (t : Fin (cfgA ch).N) : Prop := k0_cond2 (crd ch t) (View.readAt (Elt Bits) (tbM0_1).view (Rect.unit (s := S1) ![0] S1.size inb_S1_S1_0).toLoadRect (pinT_1 ch) (Shape.Idx.first (numel1_S1.symm ▸ Nat.one_pos))) = 1#1

/-- Scratch 0 holds nothing determined before the first point, and what a point left after it. -/
def sfresh0_0 (_ : Tables) : ℕ → Bool := fun n => decide (n = 0)

/-! ## What the body decides at a point -/

theorem extui_ne (b : BitVec 1) : Scalar.cmpi .ne (Scalar.extui b : BitVec 32) 0#32 = b := by
  revert b; decide

/-- A tile is used iff it is not past the used ones, whatever the count. -/
theorem used_or (i : grid0.Coords) (w : BitVec 32) : k0_cond3 i w = ~~~(k0_cond2 i w) := by
  unfold k0_cond3 k0_cond2
  dsimp only
  rw [extui_ne, extui_ne]
  simp only [Scalar.cmpi, IntOp.cmpi, BitVec.slt, BitVec.sle]
  by_cases h : (BitVec.ofNat 32 (i 1).val).toInt < w.toInt
  · simp [h, not_le.2 h]
  · simp [h, not_lt.1 h]
theorem cond3_of_unused {i : grid0.Coords} {w : BitVec 32} (h : ¬k0_cond2 i w = 1#1) : k0_cond3 i w = 1#1 := by
  rw [used_or]; revert h; generalize k0_cond2 i w = b; revert b; decide
theorem not_cond3_of_used {i : grid0.Coords} {w : BitVec 32} (h : k0_cond2 i w = 1#1) : ¬k0_cond3 i w = 1#1 := by
  rw [used_or, h]; decide

/-- A point whose tile is the first reloads the weights. -/
theorem fresh_of_first (t : Fin (cfgA ch).N) (h : ((crd ch t) 1).val = 0) : P0_0 ch t := by
  unfold P0_0; rw [extui_ne, h]
  generalize Scalar.cmpi .ne _ _ = b
  revert b; decide

/-- The first point of the grid is at tile zero. -/
theorem first_tile : ∀ t : Fin grid0.N, t.val = 0 → ((grid0.coords t) 1).val = 0 := by decide +kernel

/-- A point that keeps the weights is not the first. -/
theorem pos_of_carry (t : Fin (cfgA ch).N) (h : ¬P0_0 ch t) : t.val ≠ 0 := fun h0 =>
  h (fresh_of_first ch t (first_tile t h0))

/-- Every point writes its output block back: no two consecutive points have the same one. -/
theorem flush_out : ∀ t : Fin grid0.N, (spec0_2).flushAt (G := grid0) cc0_transform_2 t = true := by decide +kernel

theorem flush_eq (t : Fin (cfgA ch).N) : ((cfgA ch).win (2 : Fin 3)).flush t = true := flush_out t

/-- One of the two conditional stores happens, whatever the count. -/
theorem stores_word (i : grid0.Coords) (w : BitVec 32) : (!(k0_cond2 i w == 1#1) && !(k0_cond3 i w == 1#1)) = false := by
  rw [used_or]
  generalize k0_cond2 i w = b
  revert b; decide

/-- Every point stores its output block: it is used or it is not. -/
theorem idle_eq (t : Fin (cfgA ch).N) : (cfgA ch).idle (2 : Fin 3) ((cfgA ch).grid.coords t) = false := stores_word _ _

/-- The output's staging buffer holds nothing stored before any point. -/
theorem fresh_eq (t : Fin (cfgA ch).N) : (cfgA ch).fresh (2 : Fin 3) t.val = true :=
  Pipeline.Cfg.fresh_tab (cfgA ch) (2 : Fin 3) (fun _ => true) rfl (fun t => by rw [flush_eq]; rfl) t.val (Nat.le_of_lt t.isLt)

end Cert.Down.Any

end
-- ==== Proof.Down.Run.lean ====
/-
  The run of Down at any tables whose words name a matrix: what each point leaves, the body obligation, the launch and the frame.
-/
module

public import proofs.«01_k».proof.Proof.Down.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Down.Any

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Tables)
variable (m : (ℓ : Loc nD τ sig) → Buf (Elt Bits) ℓ) (ρ : Dev nD → PrngReg)

/-- The decisions along path A. -/
theorem hypsR0_A : ∀ (ch : Tables) (t : Fin (cfgA ch).N), P0_0 ch t → ¬P0_1 ch t →
    ((Scalar.cmpi .ne (Scalar.extui (Scalar.ori (Scalar.cmpi .eq (BitVec.ofNat 32 ((crd ch t) 1).val) 0#32) (Scalar.cmpi .ne (View.readAt (Elt Bits) (tbM0_0).view (Rect.unit (s := S42) (k0_off1 (crd ch t)) S1.size (k0_off1_inb (crd ch t))).toLoadRect (pinT_0 ch) (Shape.Idx.first (numel1_S1.symm ▸ Nat.one_pos))) (View.readAt (Elt Bits) (tbM0_0).view (Rect.unit (s := S42) (k0_off2 (crd ch t)) S1.size (k0_off2_inb (crd ch t))).toLoadRect (pinT_0 ch) (Shape.Idx.first (numel1_S1.symm ▸ Nat.one_pos)))))) 0#32) = 1#1) ∧ ((¬(k0_cond2 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True))) :=
  fun ch t q0 q1 => ⟨q0, q1, cond3_of_unused q1, trivial⟩

/-- The schedule along path A. -/
theorem sched0_A : ∀ (ch : Tables) (t : Fin (cfgA ch).N), P0_0 ch t → ¬P0_1 ch t →
    (cfgA ch).idle (2 : Fin 3) ((cfgA ch).grid.coords t) = false ∧ ((cfgA ch).win (2 : Fin 3)).flush t = true ∧ (cfgA ch).fresh (2 : Fin 3) t.val = true ∧ sfresh0_0 ch (t.val + 1) = false :=
  fun ch t q0 q1 => ⟨idle_eq ch t, flush_eq ch t, fresh_eq ch t, decide_eq_false (Nat.succ_ne_zero _)⟩

/-- The decisions along path B. -/
theorem hypsR0_B : ∀ (ch : Tables) (t : Fin (cfgA ch).N), ¬P0_0 ch t → ¬P0_1 ch t →
    (¬((Scalar.cmpi .ne (Scalar.extui (Scalar.ori (Scalar.cmpi .eq (BitVec.ofNat 32 ((crd ch t) 1).val) 0#32) (Scalar.cmpi .ne (View.readAt (Elt Bits) (tbM0_0).view (Rect.unit (s := S42) (k0_off1 (crd ch t)) S1.size (k0_off1_inb (crd ch t))).toLoadRect (pinT_0 ch) (Shape.Idx.first (numel1_S1.symm ▸ Nat.one_pos))) (View.readAt (Elt Bits) (tbM0_0).view (Rect.unit (s := S42) (k0_off2 (crd ch t)) S1.size (k0_off2_inb (crd ch t))).toLoadRect (pinT_0 ch) (Shape.Idx.first (numel1_S1.symm ▸ Nat.one_pos)))))) 0#32) = 1#1)) ∧ ((¬(k0_cond2 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True))) :=
  fun ch t q0 q1 => ⟨q0, q1, cond3_of_unused q1, trivial⟩

/-- The schedule along path B. -/
theorem sched0_B : ∀ (ch : Tables) (t : Fin (cfgA ch).N), ¬P0_0 ch t → ¬P0_1 ch t →
    (cfgA ch).idle (2 : Fin 3) ((cfgA ch).grid.coords t) = false ∧ ((cfgA ch).win (2 : Fin 3)).flush t = true ∧ (cfgA ch).fresh (2 : Fin 3) t.val = true ∧ sfresh0_0 ch t.val = false ∧ sfresh0_0 ch (t.val + 1) = false :=
  fun ch t q0 q1 => ⟨idle_eq ch t, flush_eq ch t, fresh_eq ch t, decide_eq_false (pos_of_carry ch t q0), decide_eq_false (Nat.succ_ne_zero _)⟩

/-- The decisions along path C. -/
theorem hypsR0_C : ∀ (ch : Tables) (t : Fin (cfgA ch).N), P0_0 ch t → P0_1 ch t →
    ((Scalar.cmpi .ne (Scalar.extui (Scalar.ori (Scalar.cmpi .eq (BitVec.ofNat 32 ((crd ch t) 1).val) 0#32) (Scalar.cmpi .ne (View.readAt (Elt Bits) (tbM0_0).view (Rect.unit (s := S42) (k0_off1 (crd ch t)) S1.size (k0_off1_inb (crd ch t))).toLoadRect (pinT_0 ch) (Shape.Idx.first (numel1_S1.symm ▸ Nat.one_pos))) (View.readAt (Elt Bits) (tbM0_0).view (Rect.unit (s := S42) (k0_off2 (crd ch t)) S1.size (k0_off2_inb (crd ch t))).toLoadRect (pinT_0 ch) (Shape.Idx.first (numel1_S1.symm ▸ Nat.one_pos)))))) 0#32) = 1#1) ∧ ((k0_cond2 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) :=
  fun ch t q0 q1 => ⟨q0, q1, not_cond3_of_used q1, trivial⟩

/-- The schedule along path C. -/
theorem sched0_C : ∀ (ch : Tables) (t : Fin (cfgA ch).N), P0_0 ch t → P0_1 ch t →
    (cfgA ch).idle (2 : Fin 3) ((cfgA ch).grid.coords t) = false ∧ ((cfgA ch).win (2 : Fin 3)).flush t = true ∧ (cfgA ch).fresh (2 : Fin 3) t.val = true ∧ sfresh0_0 ch (t.val + 1) = false :=
  fun ch t q0 q1 => ⟨idle_eq ch t, flush_eq ch t, fresh_eq ch t, decide_eq_false (Nat.succ_ne_zero _)⟩

/-- The decisions along path D. -/
theorem hypsR0_D : ∀ (ch : Tables) (t : Fin (cfgA ch).N), ¬P0_0 ch t → P0_1 ch t →
    (¬((Scalar.cmpi .ne (Scalar.extui (Scalar.ori (Scalar.cmpi .eq (BitVec.ofNat 32 ((crd ch t) 1).val) 0#32) (Scalar.cmpi .ne (View.readAt (Elt Bits) (tbM0_0).view (Rect.unit (s := S42) (k0_off1 (crd ch t)) S1.size (k0_off1_inb (crd ch t))).toLoadRect (pinT_0 ch) (Shape.Idx.first (numel1_S1.symm ▸ Nat.one_pos))) (View.readAt (Elt Bits) (tbM0_0).view (Rect.unit (s := S42) (k0_off2 (crd ch t)) S1.size (k0_off2_inb (crd ch t))).toLoadRect (pinT_0 ch) (Shape.Idx.first (numel1_S1.symm ▸ Nat.one_pos)))))) 0#32) = 1#1)) ∧ ((k0_cond2 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) :=
  fun ch t q0 q1 => ⟨q0, q1, not_cond3_of_used q1, trivial⟩

/-- The schedule along path D. -/
theorem sched0_D : ∀ (ch : Tables) (t : Fin (cfgA ch).N), ¬P0_0 ch t → P0_1 ch t →
    (cfgA ch).idle (2 : Fin 3) ((cfgA ch).grid.coords t) = false ∧ ((cfgA ch).win (2 : Fin 3)).flush t = true ∧ (cfgA ch).fresh (2 : Fin 3) t.val = true ∧ sfresh0_0 ch t.val = false ∧ sfresh0_0 ch (t.val + 1) = false :=
  fun ch t q0 q1 => ⟨idle_eq ch t, flush_eq ch t, fresh_eq ch t, decide_eq_false (pos_of_carry ch t q0), decide_eq_false (Nat.succ_ne_zero _)⟩

/-! ## What the outputs and scratches hold after each point -/

/-- ONE STEP of the trajectory: what the outputs' current buffers and the scratches hold after the body at point `t`
    (output 2, scratch 0), from what they held before (`prev`): the path the decisions select at `t`, its
    run's contents; an output the path leaves idle keeps what it held (junk — `default`, named by nothing — where fresh). -/
def step0 (c : Dev nD) (t : Fin (cfgA ch).N) (prev : (S512x1024.Idx → Elt Bits .f32) × Buf (Elt Bits) ((c : Thread nD τ).loc cc0_scratch0)) : (S512x1024.Idx → Elt Bits .f32) × Buf (Elt Bits) ((c : Thread nD τ).loc cc0_scratch0) :=
  if q0 : P0_0 ch t then
    if q1 : P0_1 ch t then
      (out0_C_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_C ch t q0 q1).1 (hypsR0_C ch t q0 q1).2.1 (hypsR0_C ch t q0 q1).2.2.1).2.1)
    else
      (out0_A_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_A ch t q0 q1).1 (hypsR0_A ch t q0 q1).2.1 (hypsR0_A ch t q0 q1).2.2.1).2.1)
  else
    if q1 : P0_1 ch t then
      (out0_D_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_D ch t q0 q1).1 (hypsR0_D ch t q0 q1).2.1 (hypsR0_D ch t q0 q1).2.2.1, (kernelRun0_D c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_D ch t q0 q1).1 (hypsR0_D ch t q0 q1).2.1 (hypsR0_D ch t q0 q1).2.2.1).2.1)
    else
      (out0_B_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_B ch t q0 q1).1 (hypsR0_B ch t q0 q1).2.1 (hypsR0_B ch t q0 q1).2.2.1).2.1)

/-- THE TRAJECTORY: after position `n`. -/
def traj0 (c : Dev nD) : (n : ℕ) → n < (cfgA ch).N → (S512x1024.Idx → Elt Bits .f32) × Buf (Elt Bits) ((c : Thread nD τ).loc cc0_scratch0)
  | 0, h => step0 ch m ρ c ⟨0, h⟩ (default, default)
  | n + 1, h => step0 ch m ρ c ⟨n + 1, h⟩ (traj0 c n (Nat.lt_of_succ_lt h))

/-- What they held BEFORE point `t` (junk before the first). -/
def prev0 (c : Dev nD) (t : Fin (cfgA ch).N) : (S512x1024.Idx → Elt Bits .f32) × Buf (Elt Bits) ((c : Thread nD τ).loc cc0_scratch0) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S512x1024.Idx → Elt Bits .f32) × Buf (Elt Bits) ((c : Thread nD τ).loc cc0_scratch0)) (q0 : P0_0 ch t) (q1 : ¬P0_1 ch t) :
    step0 ch m ρ c t prev = (out0_A_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_A ch t q0 q1).1 (hypsR0_A ch t q0 q1).2.1 (hypsR0_A ch t q0 q1).2.2.1).2.1) := by
  unfold step0; simp only [dif_pos q0, dif_neg q1]

/-- `step0` at a point of path B. -/
theorem step0_B (c : Dev nD) (t : Fin (cfgA ch).N) (prev : (S512x1024.Idx → Elt Bits .f32) × Buf (Elt Bits) ((c : Thread nD τ).loc cc0_scratch0)) (q0 : ¬P0_0 ch t) (q1 : ¬P0_1 ch t) :
    step0 ch m ρ c t prev = (out0_B_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_B ch t q0 q1).1 (hypsR0_B ch t q0 q1).2.1 (hypsR0_B ch t q0 q1).2.2.1).2.1) := by
  unfold step0; simp only [dif_neg q0, dif_neg q1]

/-- `step0` at a point of path C. -/
theorem step0_C (c : Dev nD) (t : Fin (cfgA ch).N) (prev : (S512x1024.Idx → Elt Bits .f32) × Buf (Elt Bits) ((c : Thread nD τ).loc cc0_scratch0)) (q0 : P0_0 ch t) (q1 : P0_1 ch t) :
    step0 ch m ρ c t prev = (out0_C_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_C ch t q0 q1).1 (hypsR0_C ch t q0 q1).2.1 (hypsR0_C ch t q0 q1).2.2.1).2.1) := by
  unfold step0; simp only [dif_pos q0, dif_pos q1]

/-- `step0` at a point of path D. -/
theorem step0_D (c : Dev nD) (t : Fin (cfgA ch).N) (prev : (S512x1024.Idx → Elt Bits .f32) × Buf (Elt Bits) ((c : Thread nD τ).loc cc0_scratch0)) (q0 : ¬P0_0 ch t) (q1 : P0_1 ch t) :
    step0 ch m ρ c t prev = (out0_D_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_D ch t q0 q1).1 (hypsR0_D ch t q0 q1).2.1 (hypsR0_D ch t q0 q1).2.2.1, (kernelRun0_D c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_D ch t q0 q1).1 (hypsR0_D ch t q0 q1).2.1 (hypsR0_D ch t q0 q1).2.2.1).2.1) := by
  unfold step0; simp only [dif_neg q0, dif_pos q1]

/-! ## The pipeline's proof data -/

/-- What the tracked buffers held before position `t` of `Fin (N+1)` (the invariant's index). -/
def prev0T (c : Dev nD) (t : Fin ((cfgA ch).N + 1)) : (S512x1024.Idx → Elt Bits .f32) × Buf (Elt Bits) ((c : Thread nD τ).loc cc0_scratch0) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2⌝ ∗ (scM0_0.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 3) t
    | ⟨1, _⟩ => iblk ch m ρ c (1 : Fin 3) t
    | ⟨2, _⟩ => (traj0 ch m ρ c t.val t.isLt).1
  Φ t := Phi ch m ρ c t
  q _ := fullShare
  owed _ := 0

theorem after0_0 (c : Dev nD) (t : Fin (cfgA ch).N) : (dats ch m ρ 0 c).after (0 : Fin 3) t = iblk ch m ρ c (0 : Fin 3) t := rfl
theorem after0_1 (c : Dev nD) (t : Fin (cfgA ch).N) : (dats ch m ρ 0 c).after (1 : Fin 3) t = iblk ch m ρ c (1 : Fin 3) t := rfl
theorem after0_2 (c : Dev nD) (t : Fin (cfgA ch).N) : (dats ch m ρ 0 c).after (2 : Fin 3) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 3) t d = iblk ch m ρ c (0 : Fin 3) t :=
  ((dats ch m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 3) t d = iblk ch m ρ c (1 : Fin 3) t :=
  ((dats ch m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-- Output 2's `after` carries through the points that leave it idle. -/
theorem hcarry0_2 (c : Dev nD) : ∀ (t : Fin (cfgA ch).N) (ht : t.val ≠ 0), (cfgA ch).idle (2 : Fin 3) ((cfgA ch).grid.coords t) = true → (cfgA ch).fresh (2 : Fin 3) t.val = false →
    (dats ch m ρ 0 c).after (2 : Fin 3) t = (dats ch m ρ 0 c).after (2 : Fin 3) ⟨t.val - 1, by omega⟩ := by
  intro t ht hi hf
  rw [after0_2, after0_2, traj0_eq]
  by_cases q0 : P0_0 ch t
  · by_cases q1 : P0_1 ch t
    · obtain ⟨i2, -, -, -⟩ := sched0_C ch t q0 q1
      rw [i2] at hi; exact absurd hi (by decide)
    · obtain ⟨i2, -, -, -⟩ := sched0_A ch t q0 q1
      rw [i2] at hi; exact absurd hi (by decide)
  · by_cases q1 : P0_1 ch t
    · obtain ⟨i2, -, -, -, -⟩ := sched0_D ch t q0 q1
      rw [i2] at hi; exact absurd hi (by decide)
    · obtain ⟨i2, -, -, -, -⟩ := sched0_B ch t q0 q1
      rw [i2] at hi; exact absurd hi (by decide)

/-- Output window 2 holds, when the body runs at `t`: junk if nothing was stored since its last write-back (`Cfg.fresh`),
    else what the point before left (TableIdle.lean `Dat.before_out_traj`). -/
theorem before0_2 (c : Dev nD) (t : Fin (cfgA ch).N) (d) :
    (dats ch m ρ 0 c).before (2 : Fin 3) t d = if (cfgA ch).fresh (2 : Fin 3) t.val then d else (prev0 ch m ρ c t).1 := by
  rw [(dats ch m ρ 0 c).before_out_traj (2 : Fin 3) rfl (fun _ _ => rfl) (hcarry0_2 ch m ρ c) t.val t rfl d]
  by_cases hf : (cfgA ch).fresh (2 : Fin 3) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_2]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_moe_down (crd ch t) (Memref.whole main_arg2) (Memref.isWhole_whole _) (Memref.whole main_arg3) (Memref.isWhole_whole _) (ms0_0 ch t) (hs0_0 ch t) (ms0_1 ch t) (hs0_1 ch t) (ms0_2 ch t) (hs0_2 ch t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 3) t d))
        ∗ (∃ d, owns (c : Thread nD τ) (ms0_1 ch t) fullShare ((dats ch m ρ 0 c).before (1 : Fin 3) t d))
        ∗ (∃ d, owns (c : Thread nD τ) (ms0_2 ch t) fullShare ((dats ch m ρ 0 c).before (2 : Fin 3) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i2, f2, fr2, sfn0⟩ := sched0_C ch t q0 q1
      have F0 := hypsR0_C ch t q0 q1
      have hc0 := F0.1; have F1 := F0.2
      have k0_h2 := F1.1; have F2 := F1.2
      have k0_h3 := F2.1; have F3 := F2.2
      clear F0 F1 F2 F3
      rewrite [i2]
      simp only [before0_0, before0_1, before0_2, after0_0, after0_1, after0_2, f2]
      simp only [fr2, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨⟨%a0, %ha0, HS0⟩, HT0, HT1⟩, Ho, ⟨%d0, H0⟩, ⟨%d1, H1⟩, ⟨%d2, H2⟩⟩
      iapply ((kernelRun0_C c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) hc0 k0_h2 k0_h3).2.2 a0 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_C_2 c _ _ _ _ _ _ _ _ _ _ _ _ _ _)
    · obtain ⟨i2, f2, fr2, sfn0⟩ := sched0_A ch t q0 q1
      have F0 := hypsR0_A ch t q0 q1
      have hc0 := F0.1; have F1 := F0.2
      have k0_h2 := F1.1; have F2 := F1.2
      have k0_h3 := F2.1; have F3 := F2.2
      clear F0 F1 F2 F3
      rewrite [i2]
      simp only [before0_0, before0_1, before0_2, after0_0, after0_1, after0_2, f2]
      simp only [fr2, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, HT0, HT1⟩, Ho, ⟨%d0, H0⟩, ⟨%d1, H1⟩, ⟨%d2, H2⟩⟩
      iapply ((kernelRun0_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) hc0 k0_h2 k0_h3).2.2 a0 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_A_2 c _ _ _ _ _ _ _ _ _ _ _ _ _ _)
  · by_cases q1 : P0_1 ch t
    · obtain ⟨i2, f2, fr2, sf0, sfn0⟩ := sched0_D ch t q0 q1
      have F0 := hypsR0_D ch t q0 q1
      have hc0 := F0.1; have F1 := F0.2
      have k0_h2 := F1.1; have F2 := F1.2
      have k0_h3 := F2.1; have F3 := F2.2
      clear F0 F1 F2 F3
      rewrite [i2]
      simp only [before0_0, before0_1, before0_2, after0_0, after0_1, after0_2, f2]
      simp only [fr2, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0]
      iintro ⟨⟨HS0, HT0, HT1⟩, Ho, ⟨%d0, H0⟩, ⟨%d1, H1⟩, ⟨%d2, H2⟩⟩
      iapply ((kernelRun0_D c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) _ hc0 k0_h2 k0_h3).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_D_2 c _ _ _ _ _ _ _ _ _ _ _ _ _ _ _)
    · obtain ⟨i2, f2, fr2, sf0, sfn0⟩ := sched0_B ch t q0 q1
      have F0 := hypsR0_B ch t q0 q1
      have hc0 := F0.1; have F1 := F0.2
      have k0_h2 := F1.1; have F2 := F1.2
      have k0_h3 := F2.1; have F3 := F2.2
      clear F0 F1 F2 F3
      rewrite [i2]
      simp only [before0_0, before0_1, before0_2, after0_0, after0_1, after0_2, f2]
      simp only [fr2, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HT0, HT1⟩, Ho, ⟨%d0, H0⟩, ⟨%d1, H1⟩, ⟨%d2, H2⟩⟩
      iapply ((kernelRun0_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) _ hc0 k0_h2 k0_h3).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_B_2 c _ _ _ _ _ _ _ _ _ _ _ _ _ _ _)

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables are `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 (0 : Fin 3)).trans ((dats ch m ρ 0 c).arrAt_in (0 : Fin 3) rfl _), ((h c).1 (1 : Fin 3)).trans ((dats ch m ρ 0 c).arrAt_in (1 : Fin 3) rfl _), ((h c).2 0).trans (hp.1 c).symm, ((h c).2 1).trans (hp.2 c).symm⟩) (run_main ch m ρ hp)

/-- THE FRAME under the pinning: from a launch memory whose tables are `ch`'s, every weakly fair
    execution terminates, nothing faults, every argument array ends unchanged and every semaphore counter of the machine reads
    zero at every final state — `Cert.quiescent_Down`'s post. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged ch m ρ hp) ((θ_run defs _ _).mono (fun _ h => h.2) (run_main_quiescent ch m ρ hp))

end Cert.Down.Any

end
-- ==== Proof.TileTake.lean ====
/-
  Taking whole matrices by an index table, read at an entry.
-/
module

public import Idealize.ShloMosaic.Lib.Pointwise
public import Idealize.ShloMosaic.Lib.ReduceAll
public import Idealize.ShloMosaic.Lib.Affine

@[expose] public section

set_option maxRecDepth 16384

noncomputable section

namespace Cert.TileTake

open Idealize.ShloMosaic

section Gather
variable {α : Type}

/-- The dimension numbers of taking whole matrices `[K, J]` out of `N` by `T` indices. -/
abbrev takeDims (N K J T : ℕ) (wf : GatherDims.WF ⟨3, ![N, K, J]⟩ ⟨2, ![T, 1]⟩ ⟨3, ![T, K, J]⟩ [1, 2] [0] [] [0] [] 1 ![1, K, J]) :
    GatherDims ⟨3, ![N, K, J]⟩ ⟨2, ![T, 1]⟩ ⟨3, ![T, K, J]⟩ where
  offsetDims := [1, 2]
  collapsedSliceDims := [0]
  operandBatchingDims := []
  startIndicesBatchingDims := []
  startIndexMap := [0]
  indexVectorDim := 1
  sliceSizes := ![1, K, J]
  wf := wf

/-- The gather of whole matrices, read at an entry: the matrix its index names. -/
theorem gather_apply {N K J T : ℕ} (wf : GatherDims.WF ⟨3, ![N, K, J]⟩ ⟨2, ![T, 1]⟩ ⟨3, ![T, K, J]⟩ [1, 2] [0] [] [0] [] 1 ![1, K, J])
    (x : (⟨3, ![N, K, J]⟩ : Shape).Idx → α) (idx : IVec ⟨2, ![T, 1]⟩ 32) (t : Fin T) (k : Fin K) (j : Fin J) (n : Fin N)
    (hN : N ≤ 1024) (hn : (idx (ix2 t 0)).toNat = n.val) :
    Host.gather (takeDims N K J T wf) x idx (ix3 t k j) = x (ix3 n k j) := by
  unfold Host.gather
  congr 1
  funext a
  refine Fin.ext ?_
  show (takeDims N K J T wf).start (ix3 t k j) idx a + (takeDims N K J T wf).batchCoord (ix3 t k j) a + (takeDims N K J T wf).offCoord (ix3 t k j) a = _
  rw [GatherDims.batchCoord_eq_zero _ _ _ List.not_mem_nil, Nat.add_zero]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (takeDims N K J T wf).startIndexMap from List.mem_singleton.mpr rfl)]
    have hsi : (takeDims N K J T wf).siIdx (ix3 t k j) ⟨List.idxOf (0 : Fin 3) (takeDims N K J T wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    show min (idx (ix2 t 0)).toInt.toNat (N - 1) = n.val
    have h1 := n.isLt
    rw [BitVec.toInt_eq_toNat_of_lt (by omega), hn]
    omega
  · unfold GatherDims.start GatherDims.offCoord
    rw [dif_neg (show ¬(1 : Fin 3) ∈ (takeDims N K J T wf).startIndexMap from show ¬(1 : Fin 3) ∈ ([0] : List (Fin 3)) by decide), Nat.zero_add]
    rfl
  · unfold GatherDims.start GatherDims.offCoord
    rw [dif_neg (show ¬(2 : Fin 3) ∈ (takeDims N K J T wf).startIndexMap from show ¬(2 : Fin 3) ∈ ([0] : List (Fin 3)) by decide), Nat.zero_add]
    rfl

/-- A comparison of a small word with zero is false. -/
theorem not_neg (x : BitVec 32) (h : x.toNat < 1024) : IntOp.cmpi .slt x 0#32 = 0#1 := by
  show BitVec.ofBool (x.slt 0#32) = 0#1
  have hf : x.slt 0#32 = false := by
    rw [BitVec.slt, BitVec.toInt_eq_toNat_of_lt (by omega)]
    exact decide_eq_false (by simp)
  rw [hf]
  rfl

/-- A word from zero to fifteen, compared as a signed number, is below sixteen as an unsigned one. -/
theorem lt_of_range (x : BitVec 32) (h : IntOp.andi (IntOp.cmpi .sge x 0#32) (IntOp.cmpi .slt x 16#32) = 1#1) : x.toNat < 16 := by
  obtain ⟨h1, h2⟩ := IntOp.andi_eq_one.1 h
  have e1 : BitVec.ofBool ((0#32).sle x) = 1#1 := h1
  have e2 : BitVec.ofBool (x.slt 16#32) = 1#1 := h2
  have b1 : (0#32).sle x = true := by
    cases hb : (0#32).sle x
    · rw [hb] at e1; exact absurd e1 (by decide)
    · rfl
  have b2 : x.slt 16#32 = true := by
    cases hb : x.slt 16#32
    · rw [hb] at e2; exact absurd e2 (by decide)
    · rfl
  rw [BitVec.sle, decide_eq_true_eq] at b1
  rw [BitVec.slt, decide_eq_true_eq] at b2
  have k0 : (0#32).toInt = 0 := by decide
  have k1 : (16#32).toInt = 16 := by decide
  rw [k0] at b1
  rw [k1] at b2
  have hx := x.isLt
  rw [BitVec.toInt_eq_toNat_cond] at b1 b2
  split at b1
  · rw [if_pos ‹_›] at b2; omega
  · omega

end Gather

end Cert.TileTake

end
-- ==== Proof.DownGroups.lean ====
/-
  The precondition `down_groups`: every word of the tile table names one of the sixteen matrices.
-/
module

public import proofs.«01_k».proof.Defs
public import proofs.«01_k».proof.Proof.Gen.Pre_down_groups
public import Idealize.ShloMosaic.Lib.ReduceAll
public import Idealize.ShloMosaic.Lib.Affine
public import proofs.«01_k».proof.Proof.TileTake

@[expose] public section

set_option maxRecDepth 16384

noncomputable section

namespace Cert.Pre_down_groups

open Idealize.ShloMosaic

variable {F : FTy → Type} [FloatOps F]

instance : Subsingleton S_.Idx := ⟨fun _ _ => funext fun a => a.elim0⟩

/-- Where the predicate holds, every word of the table is below sixteen. -/
theorem lt_of_fn [Facts] (X : FVec F S21504x2816 .bf16) (W : FVec F S16x2816x2048 .f32) (T : IVec S42 32) (U : IVec S1 32) (h : fn (F := F) X W T U = fun _ => 1#1) (i : S42.Idx) : (T i).toNat < 16 := by
  have h0 := congrFun h (Shape.Idx.first Facts.h_S_)
  dsimp only [fn] at h0
  exact Cert.TileTake.lt_of_range _ (Host.reduce_andi_all _ _ _ _ _ h0 i)

end Cert.Pre_down_groups

end
-- ==== Proof.DownIdeal.Tables.lean ====
/-
  The launch of DownIdeal at ANY tables whose words name a matrix: the tables, the side condition of the pipeline at them, the pipeline, a point's
  coordinates, staging buffers and blocks, and the two decisions the body takes there.
-/
module

public import proofs.«01_k».proof.Proof.Gen.DownIdeal.Flash.Runs

@[expose] public section

set_option maxRecDepth 16384
set_option Elab.async false

noncomputable section

namespace Cert.DownIdeal.Any

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- Tables the launch may find: a tile table all of whose words are below 16, and any count of used tiles. -/
def Tables : Type := { T : (S42.Idx → BitVec 32) × (S1.Idx → BitVec 32) // ∀ x, (T.1 x).toNat < 16 }

/-- The tile table. -/
def pinT_0 (ch : Tables) : S42.Idx → BitVec 32 := ch.1.1
/-- The count of used tiles. -/
def pinT_1 (ch : Tables) : S1.Idx → BitVec 32 := ch.1.2
theorem pinT_0_lt (ch : Tables) (x : S42.Idx) : (pinT_0 ch x).toNat < 16 := ch.2 x

variable (ch : Tables)

set_option backward.proofsInPublic true in
/-- The two tables as the region reads them. -/
def pfN : pre0.Contents (Elt Ideal) := fun | ⟨0, _⟩ => pinT_0 ch | ⟨1, _⟩ => pinT_1 ch | ⟨_ + 2, h⟩ => absurd h (by simp)

/-- The launch memory holds these tables. -/
def Pinned (m : (ℓ : Loc nD τ sig) → Buf (Elt Ideal) ℓ) : Prop :=
  (∀ c : Dev nD, m ((c : Thread nD τ).loc main_arg2) = pinT_0 ch) ∧ (∀ c : Dev nD, m ((c : Thread nD τ).loc main_arg3) = pinT_1 ch)

theorem column_block_lt : ∀ n : Fin 2, ((Scalar.addi (BitVec.ofNat 32 n.val) 0#32).toNat + 1) * 1024 ≤ 2048 := by decide

/-- Every block of weight window 1 is inside its array: its matrix is one of the sixteen, its columns are whole blocks. -/
theorem ok_win1 (i : grid0.Coords) (a : Fin 3) :
    (cc0_transform_1 k0_off1_inb numel1_S1 (pfN ch) i a + 1) * S1x2816x1024.size a ≤ S16x2816x2048.size a := by
  fin_cases a
  · have h := pinT_0_lt ch
    exact (Nat.mul_one _).trans_le (Nat.succ_le_of_lt (h _))
  · exact le_of_eq rfl
  · exact column_block_lt (i 0)

/-- The pipeline's side condition holds of the tables. -/
theorem ok_pfN : ok0 (F := Ideal) (pfN ch) := fun i => ⟨ok_win1 ch i, Or.inl rfl⟩

/-- The admissible contents, the pipeline at them, as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x2816 .bf16 := spec0_0.stage ((cfgA ch).slots t (0 : Fin 3))
abbrev hs0_0 (t : Fin (cfgA ch).N) : (ms0_0 ch t).IsWhole := hstage0_0 (((cfgA ch).slots t (0 : Fin 3)).cast nbuf0_0)
abbrev ms0_1 (t : Fin (cfgA ch).N) : Memref sig .tc .vmem S1x2816x1024 .f32 := spec0_1.stage ((cfgA ch).slots t (1 : Fin 3))
abbrev hs0_1 (t : Fin (cfgA ch).N) : (ms0_1 ch t).IsWhole := hstage0_1 (((cfgA ch).slots t (1 : Fin 3)).cast nbuf0_1)
abbrev ms0_2 (t : Fin (cfgA ch).N) : Memref sig .tc .vmem S512x1024 .f32 := spec0_2.stage ((cfgA ch).slots t (2 : Fin 3))
abbrev hs0_2 (t : Fin (cfgA ch).N) : (ms0_2 ch t).IsWhole := hstage0_2 (((cfgA ch).slots t (2 : Fin 3)).cast nbuf0_2)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.ori (Scalar.cmpi .eq (BitVec.ofNat 32 ((crd ch t) 1).val) 0#32) (Scalar.cmpi .ne (View.readAt (Elt Ideal) (tbM0_0).view (Rect.unit (s := S42) (k0_off1 (crd ch t)) S1.size (k0_off1_inb (crd ch t))).toLoadRect (pinT_0 ch) (Shape.Idx.first (numel1_S1.symm ▸ Nat.one_pos))) (View.readAt (Elt Ideal) (tbM0_0).view (Rect.unit (s := S42) (k0_off2 (crd ch t)) S1.size (k0_off2_inb (crd ch t))).toLoadRect (pinT_0 ch) (Shape.Idx.first (numel1_S1.symm ▸ Nat.one_pos)))))) 0#32) = 1#1
abbrev P0_1 (t : Fin (cfgA ch).N) : Prop := k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1

/-- Scratch 0 holds nothing determined before the first point, and what a point left after it. -/
def sfresh0_0 (_ : Tables) : ℕ → Bool := fun n => decide (n = 0)

/-! ## What the body decides at a point -/

theorem extui_ne (b : BitVec 1) : Scalar.cmpi .ne (Scalar.extui b : BitVec 32) 0#32 = b := by
  revert b; decide

/-- A tile is used iff it is not past the used ones, whatever the count. -/
theorem used_or (i : grid0.Coords) (w : BitVec 32) : k0_cond3 i w = ~~~(k0_cond2 i w) := by
  unfold k0_cond3 k0_cond2
  dsimp only
  rw [extui_ne, extui_ne]
  simp only [Scalar.cmpi, IntOp.cmpi, BitVec.slt, BitVec.sle]
  by_cases h : (BitVec.ofNat 32 (i 1).val).toInt < w.toInt
  · simp [h, not_le.2 h]
  · simp [h, not_lt.1 h]
theorem cond3_of_unused {i : grid0.Coords} {w : BitVec 32} (h : ¬k0_cond2 i w = 1#1) : k0_cond3 i w = 1#1 := by
  rw [used_or]; revert h; generalize k0_cond2 i w = b; revert b; decide
theorem not_cond3_of_used {i : grid0.Coords} {w : BitVec 32} (h : k0_cond2 i w = 1#1) : ¬k0_cond3 i w = 1#1 := by
  rw [used_or, h]; decide

/-- A point whose tile is the first reloads the weights. -/
theorem fresh_of_first (t : Fin (cfgA ch).N) (h : ((crd ch t) 1).val = 0) : P0_0 ch t := by
  unfold P0_0; rw [extui_ne, h]
  generalize Scalar.cmpi .ne _ _ = b
  revert b; decide

/-- The first point of the grid is at tile zero. -/
theorem first_tile : ∀ t : Fin grid0.N, t.val = 0 → ((grid0.coords t) 1).val = 0 := by decide +kernel

/-- A point that keeps the weights is not the first. -/
theorem pos_of_carry (t : Fin (cfgA ch).N) (h : ¬P0_0 ch t) : t.val ≠ 0 := fun h0 =>
  h (fresh_of_first ch t (first_tile t h0))

/-- Every point writes its output block back: no two consecutive points have the same one. -/
theorem flush_out : ∀ t : Fin grid0.N, (spec0_2).flushAt (G := grid0) cc0_transform_2 t = true := by decide +kernel

theorem flush_eq (t : Fin (cfgA ch).N) : ((cfgA ch).win (2 : Fin 3)).flush t = true := flush_out t

/-- One of the two conditional stores happens, whatever the count. -/
theorem stores_word (i : grid0.Coords) (w : BitVec 32) : (!(k0_cond2 i w == 1#1) && !(k0_cond3 i w == 1#1)) = false := by
  rw [used_or]
  generalize k0_cond2 i w = b
  revert b; decide

/-- Every point stores its output block: it is used or it is not. -/
theorem idle_eq (t : Fin (cfgA ch).N) : (cfgA ch).idle (2 : Fin 3) ((cfgA ch).grid.coords t) = false := stores_word _ _

/-- The output's staging buffer holds nothing stored before any point. -/
theorem fresh_eq (t : Fin (cfgA ch).N) : (cfgA ch).fresh (2 : Fin 3) t.val = true :=
  Pipeline.Cfg.fresh_tab (cfgA ch) (2 : Fin 3) (fun _ => true) rfl (fun t => by rw [flush_eq]; rfl) t.val (Nat.le_of_lt t.isLt)

end Cert.DownIdeal.Any

end
-- ==== Proof.DownIdeal.Run.lean ====
/-
  The run of DownIdeal at any tables whose words name a matrix: what each point leaves, the body obligation, the launch and the frame.
-/
module

public import proofs.«01_k».proof.Proof.DownIdeal.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.DownIdeal.Any

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Tables)
variable (m : (ℓ : Loc nD τ sig) → Buf (Elt Ideal) ℓ) (ρ : Dev nD → PrngReg)

/-- The decisions along path A. -/
theorem hypsR0_A : ∀ (ch : Tables) (t : Fin (cfgA ch).N), P0_0 ch t → ¬P0_1 ch t →
    ((Scalar.cmpi .ne (Scalar.extui (Scalar.ori (Scalar.cmpi .eq (BitVec.ofNat 32 ((crd ch t) 1).val) 0#32) (Scalar.cmpi .ne (View.readAt (Elt Ideal) (tbM0_0).view (Rect.unit (s := S42) (k0_off1 (crd ch t)) S1.size (k0_off1_inb (crd ch t))).toLoadRect (pinT_0 ch) (Shape.Idx.first (numel1_S1.symm ▸ Nat.one_pos))) (View.readAt (Elt Ideal) (tbM0_0).view (Rect.unit (s := S42) (k0_off2 (crd ch t)) S1.size (k0_off2_inb (crd ch t))).toLoadRect (pinT_0 ch) (Shape.Idx.first (numel1_S1.symm ▸ Nat.one_pos)))))) 0#32) = 1#1) ∧ ((¬(k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True))) :=
  fun ch t q0 q1 => ⟨q0, q1, cond3_of_unused q1, trivial⟩

/-- The schedule along path A. -/
theorem sched0_A : ∀ (ch : Tables) (t : Fin (cfgA ch).N), P0_0 ch t → ¬P0_1 ch t →
    (cfgA ch).idle (2 : Fin 3) ((cfgA ch).grid.coords t) = false ∧ ((cfgA ch).win (2 : Fin 3)).flush t = true ∧ (cfgA ch).fresh (2 : Fin 3) t.val = true ∧ sfresh0_0 ch (t.val + 1) = false :=
  fun ch t q0 q1 => ⟨idle_eq ch t, flush_eq ch t, fresh_eq ch t, decide_eq_false (Nat.succ_ne_zero _)⟩

/-- The decisions along path B. -/
theorem hypsR0_B : ∀ (ch : Tables) (t : Fin (cfgA ch).N), ¬P0_0 ch t → ¬P0_1 ch t →
    (¬((Scalar.cmpi .ne (Scalar.extui (Scalar.ori (Scalar.cmpi .eq (BitVec.ofNat 32 ((crd ch t) 1).val) 0#32) (Scalar.cmpi .ne (View.readAt (Elt Ideal) (tbM0_0).view (Rect.unit (s := S42) (k0_off1 (crd ch t)) S1.size (k0_off1_inb (crd ch t))).toLoadRect (pinT_0 ch) (Shape.Idx.first (numel1_S1.symm ▸ Nat.one_pos))) (View.readAt (Elt Ideal) (tbM0_0).view (Rect.unit (s := S42) (k0_off2 (crd ch t)) S1.size (k0_off2_inb (crd ch t))).toLoadRect (pinT_0 ch) (Shape.Idx.first (numel1_S1.symm ▸ Nat.one_pos)))))) 0#32) = 1#1)) ∧ ((¬(k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True))) :=
  fun ch t q0 q1 => ⟨q0, q1, cond3_of_unused q1, trivial⟩

/-- The schedule along path B. -/
theorem sched0_B : ∀ (ch : Tables) (t : Fin (cfgA ch).N), ¬P0_0 ch t → ¬P0_1 ch t →
    (cfgA ch).idle (2 : Fin 3) ((cfgA ch).grid.coords t) = false ∧ ((cfgA ch).win (2 : Fin 3)).flush t = true ∧ (cfgA ch).fresh (2 : Fin 3) t.val = true ∧ sfresh0_0 ch t.val = false ∧ sfresh0_0 ch (t.val + 1) = false :=
  fun ch t q0 q1 => ⟨idle_eq ch t, flush_eq ch t, fresh_eq ch t, decide_eq_false (pos_of_carry ch t q0), decide_eq_false (Nat.succ_ne_zero _)⟩

/-- The decisions along path C. -/
theorem hypsR0_C : ∀ (ch : Tables) (t : Fin (cfgA ch).N), P0_0 ch t → P0_1 ch t →
    ((Scalar.cmpi .ne (Scalar.extui (Scalar.ori (Scalar.cmpi .eq (BitVec.ofNat 32 ((crd ch t) 1).val) 0#32) (Scalar.cmpi .ne (View.readAt (Elt Ideal) (tbM0_0).view (Rect.unit (s := S42) (k0_off1 (crd ch t)) S1.size (k0_off1_inb (crd ch t))).toLoadRect (pinT_0 ch) (Shape.Idx.first (numel1_S1.symm ▸ Nat.one_pos))) (View.readAt (Elt Ideal) (tbM0_0).view (Rect.unit (s := S42) (k0_off2 (crd ch t)) S1.size (k0_off2_inb (crd ch t))).toLoadRect (pinT_0 ch) (Shape.Idx.first (numel1_S1.symm ▸ Nat.one_pos)))))) 0#32) = 1#1) ∧ ((k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) :=
  fun ch t q0 q1 => ⟨q0, q1, not_cond3_of_used q1, trivial⟩

/-- The schedule along path C. -/
theorem sched0_C : ∀ (ch : Tables) (t : Fin (cfgA ch).N), P0_0 ch t → P0_1 ch t →
    (cfgA ch).idle (2 : Fin 3) ((cfgA ch).grid.coords t) = false ∧ ((cfgA ch).win (2 : Fin 3)).flush t = true ∧ (cfgA ch).fresh (2 : Fin 3) t.val = true ∧ sfresh0_0 ch (t.val + 1) = false :=
  fun ch t q0 q1 => ⟨idle_eq ch t, flush_eq ch t, fresh_eq ch t, decide_eq_false (Nat.succ_ne_zero _)⟩

/-- The decisions along path D. -/
theorem hypsR0_D : ∀ (ch : Tables) (t : Fin (cfgA ch).N), ¬P0_0 ch t → P0_1 ch t →
    (¬((Scalar.cmpi .ne (Scalar.extui (Scalar.ori (Scalar.cmpi .eq (BitVec.ofNat 32 ((crd ch t) 1).val) 0#32) (Scalar.cmpi .ne (View.readAt (Elt Ideal) (tbM0_0).view (Rect.unit (s := S42) (k0_off1 (crd ch t)) S1.size (k0_off1_inb (crd ch t))).toLoadRect (pinT_0 ch) (Shape.Idx.first (numel1_S1.symm ▸ Nat.one_pos))) (View.readAt (Elt Ideal) (tbM0_0).view (Rect.unit (s := S42) (k0_off2 (crd ch t)) S1.size (k0_off2_inb (crd ch t))).toLoadRect (pinT_0 ch) (Shape.Idx.first (numel1_S1.symm ▸ Nat.one_pos)))))) 0#32) = 1#1)) ∧ ((k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) :=
  fun ch t q0 q1 => ⟨q0, q1, not_cond3_of_used q1, trivial⟩

/-- The schedule along path D. -/
theorem sched0_D : ∀ (ch : Tables) (t : Fin (cfgA ch).N), ¬P0_0 ch t → P0_1 ch t →
    (cfgA ch).idle (2 : Fin 3) ((cfgA ch).grid.coords t) = false ∧ ((cfgA ch).win (2 : Fin 3)).flush t = true ∧ (cfgA ch).fresh (2 : Fin 3) t.val = true ∧ sfresh0_0 ch t.val = false ∧ sfresh0_0 ch (t.val + 1) = false :=
  fun ch t q0 q1 => ⟨idle_eq ch t, flush_eq ch t, fresh_eq ch t, decide_eq_false (pos_of_carry ch t q0), decide_eq_false (Nat.succ_ne_zero _)⟩

/-! ## What the outputs and scratches hold after each point -/

/-- ONE STEP of the trajectory: what the outputs' current buffers and the scratches hold after the body at point `t`
    (output 2, scratch 0), from what they held before (`prev`): the path the decisions select at `t`, its
    run's contents; an output the path leaves idle keeps what it held (junk — `default`, named by nothing — where fresh). -/
def step0 (c : Dev nD) (t : Fin (cfgA ch).N) (prev : (S512x1024.Idx → Elt Ideal .f32) × Buf (Elt Ideal) ((c : Thread nD τ).loc cc0_scratch0)) : (S512x1024.Idx → Elt Ideal .f32) × Buf (Elt Ideal) ((c : Thread nD τ).loc cc0_scratch0) :=
  if q0 : P0_0 ch t then
    if q1 : P0_1 ch t then
      (out0_C_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_C ch t q0 q1).1 (hypsR0_C ch t q0 q1).2.1 (hypsR0_C ch t q0 q1).2.2.1).2.1)
    else
      (out0_A_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_A ch t q0 q1).1 (hypsR0_A ch t q0 q1).2.1 (hypsR0_A ch t q0 q1).2.2.1).2.1)
  else
    if q1 : P0_1 ch t then
      (out0_D_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_D ch t q0 q1).1 (hypsR0_D ch t q0 q1).2.1 (hypsR0_D ch t q0 q1).2.2.1, (kernelRun0_D c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_D ch t q0 q1).1 (hypsR0_D ch t q0 q1).2.1 (hypsR0_D ch t q0 q1).2.2.1).2.1)
    else
      (out0_B_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_B ch t q0 q1).1 (hypsR0_B ch t q0 q1).2.1 (hypsR0_B ch t q0 q1).2.2.1).2.1)

/-- THE TRAJECTORY: after position `n`. -/
def traj0 (c : Dev nD) : (n : ℕ) → n < (cfgA ch).N → (S512x1024.Idx → Elt Ideal .f32) × Buf (Elt Ideal) ((c : Thread nD τ).loc cc0_scratch0)
  | 0, h => step0 ch m ρ c ⟨0, h⟩ (default, default)
  | n + 1, h => step0 ch m ρ c ⟨n + 1, h⟩ (traj0 c n (Nat.lt_of_succ_lt h))

/-- What they held BEFORE point `t` (junk before the first). -/
def prev0 (c : Dev nD) (t : Fin (cfgA ch).N) : (S512x1024.Idx → Elt Ideal .f32) × Buf (Elt Ideal) ((c : Thread nD τ).loc cc0_scratch0) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S512x1024.Idx → Elt Ideal .f32) × Buf (Elt Ideal) ((c : Thread nD τ).loc cc0_scratch0)) (q0 : P0_0 ch t) (q1 : ¬P0_1 ch t) :
    step0 ch m ρ c t prev = (out0_A_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_A ch t q0 q1).1 (hypsR0_A ch t q0 q1).2.1 (hypsR0_A ch t q0 q1).2.2.1).2.1) := by
  unfold step0; simp only [dif_pos q0, dif_neg q1]

/-- `step0` at a point of path B. -/
theorem step0_B (c : Dev nD) (t : Fin (cfgA ch).N) (prev : (S512x1024.Idx → Elt Ideal .f32) × Buf (Elt Ideal) ((c : Thread nD τ).loc cc0_scratch0)) (q0 : ¬P0_0 ch t) (q1 : ¬P0_1 ch t) :
    step0 ch m ρ c t prev = (out0_B_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_B ch t q0 q1).1 (hypsR0_B ch t q0 q1).2.1 (hypsR0_B ch t q0 q1).2.2.1).2.1) := by
  unfold step0; simp only [dif_neg q0, dif_neg q1]

/-- `step0` at a point of path C. -/
theorem step0_C (c : Dev nD) (t : Fin (cfgA ch).N) (prev : (S512x1024.Idx → Elt Ideal .f32) × Buf (Elt Ideal) ((c : Thread nD τ).loc cc0_scratch0)) (q0 : P0_0 ch t) (q1 : P0_1 ch t) :
    step0 ch m ρ c t prev = (out0_C_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) (hypsR0_C ch t q0 q1).1 (hypsR0_C ch t q0 q1).2.1 (hypsR0_C ch t q0 q1).2.2.1).2.1) := by
  unfold step0; simp only [dif_pos q0, dif_pos q1]

/-- `step0` at a point of path D. -/
theorem step0_D (c : Dev nD) (t : Fin (cfgA ch).N) (prev : (S512x1024.Idx → Elt Ideal .f32) × Buf (Elt Ideal) ((c : Thread nD τ).loc cc0_scratch0)) (q0 : ¬P0_0 ch t) (q1 : P0_1 ch t) :
    step0 ch m ρ c t prev = (out0_D_2 c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_D ch t q0 q1).1 (hypsR0_D ch t q0 q1).2.1 (hypsR0_D ch t q0 q1).2.2.1, (kernelRun0_D c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2 (hypsR0_D ch t q0 q1).1 (hypsR0_D ch t q0 q1).2.1 (hypsR0_D ch t q0 q1).2.2.1).2.1) := by
  unfold step0; simp only [dif_neg q0, dif_pos q1]

/-! ## The pipeline's proof data -/

/-- What the tracked buffers held before position `t` of `Fin (N+1)` (the invariant's index). -/
def prev0T (c : Dev nD) (t : Fin ((cfgA ch).N + 1)) : (S512x1024.Idx → Elt Ideal .f32) × Buf (Elt Ideal) ((c : Thread nD τ).loc cc0_scratch0) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2⌝ ∗ (scM0_0.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 3) t
    | ⟨1, _⟩ => iblk ch m ρ c (1 : Fin 3) t
    | ⟨2, _⟩ => (traj0 ch m ρ c t.val t.isLt).1
  Φ t := Phi ch m ρ c t
  q _ := fullShare
  owed _ := 0

theorem after0_0 (c : Dev nD) (t : Fin (cfgA ch).N) : (dats ch m ρ 0 c).after (0 : Fin 3) t = iblk ch m ρ c (0 : Fin 3) t := rfl
theorem after0_1 (c : Dev nD) (t : Fin (cfgA ch).N) : (dats ch m ρ 0 c).after (1 : Fin 3) t = iblk ch m ρ c (1 : Fin 3) t := rfl
theorem after0_2 (c : Dev nD) (t : Fin (cfgA ch).N) : (dats ch m ρ 0 c).after (2 : Fin 3) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 3) t d = iblk ch m ρ c (0 : Fin 3) t :=
  ((dats ch m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 3) t d = iblk ch m ρ c (1 : Fin 3) t :=
  ((dats ch m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-- Output 2's `after` carries through the points that leave it idle. -/
theorem hcarry0_2 (c : Dev nD) : ∀ (t : Fin (cfgA ch).N) (ht : t.val ≠ 0), (cfgA ch).idle (2 : Fin 3) ((cfgA ch).grid.coords t) = true → (cfgA ch).fresh (2 : Fin 3) t.val = false →
    (dats ch m ρ 0 c).after (2 : Fin 3) t = (dats ch m ρ 0 c).after (2 : Fin 3) ⟨t.val - 1, by omega⟩ := by
  intro t ht hi hf
  rw [after0_2, after0_2, traj0_eq]
  by_cases q0 : P0_0 ch t
  · by_cases q1 : P0_1 ch t
    · obtain ⟨i2, -, -, -⟩ := sched0_C ch t q0 q1
      rw [i2] at hi; exact absurd hi (by decide)
    · obtain ⟨i2, -, -, -⟩ := sched0_A ch t q0 q1
      rw [i2] at hi; exact absurd hi (by decide)
  · by_cases q1 : P0_1 ch t
    · obtain ⟨i2, -, -, -, -⟩ := sched0_D ch t q0 q1
      rw [i2] at hi; exact absurd hi (by decide)
    · obtain ⟨i2, -, -, -, -⟩ := sched0_B ch t q0 q1
      rw [i2] at hi; exact absurd hi (by decide)

/-- Output window 2 holds, when the body runs at `t`: junk if nothing was stored since its last write-back (`Cfg.fresh`),
    else what the point before left (TableIdle.lean `Dat.before_out_traj`). -/
theorem before0_2 (c : Dev nD) (t : Fin (cfgA ch).N) (d) :
    (dats ch m ρ 0 c).before (2 : Fin 3) t d = if (cfgA ch).fresh (2 : Fin 3) t.val then d else (prev0 ch m ρ c t).1 := by
  rw [(dats ch m ρ 0 c).before_out_traj (2 : Fin 3) rfl (fun _ _ => rfl) (hcarry0_2 ch m ρ c) t.val t rfl d]
  by_cases hf : (cfgA ch).fresh (2 : Fin 3) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_2]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_moe_down (crd ch t) (Memref.whole main_arg2) (Memref.isWhole_whole _) (Memref.whole main_arg3) (Memref.isWhole_whole _) (ms0_0 ch t) (hs0_0 ch t) (ms0_1 ch t) (hs0_1 ch t) (ms0_2 ch t) (hs0_2 ch t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 3) t d))
        ∗ (∃ d, owns (c : Thread nD τ) (ms0_1 ch t) fullShare ((dats ch m ρ 0 c).before (1 : Fin 3) t d))
        ∗ (∃ d, owns (c : Thread nD τ) (ms0_2 ch t) fullShare ((dats ch m ρ 0 c).before (2 : Fin 3) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i2, f2, fr2, sfn0⟩ := sched0_C ch t q0 q1
      have F0 := hypsR0_C ch t q0 q1
      have hc0 := F0.1; have F1 := F0.2
      have k0_h2 := F1.1; have F2 := F1.2
      have k0_h3 := F2.1; have F3 := F2.2
      clear F0 F1 F2 F3
      rewrite [i2]
      simp only [before0_0, before0_1, before0_2, after0_0, after0_1, after0_2, f2]
      simp only [fr2, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨⟨%a0, %ha0, HS0⟩, HT0, HT1⟩, Ho, ⟨%d0, H0⟩, ⟨%d1, H1⟩, ⟨%d2, H2⟩⟩
      iapply ((kernelRun0_C c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) hc0 k0_h2 k0_h3).2.2 a0 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_C_2 c _ _ _ _ _ _ _ _ _ _ _ _ _ _)
    · obtain ⟨i2, f2, fr2, sfn0⟩ := sched0_A ch t q0 q1
      have F0 := hypsR0_A ch t q0 q1
      have hc0 := F0.1; have F1 := F0.2
      have k0_h2 := F1.1; have F2 := F1.2
      have k0_h3 := F2.1; have F3 := F2.2
      clear F0 F1 F2 F3
      rewrite [i2]
      simp only [before0_0, before0_1, before0_2, after0_0, after0_1, after0_2, f2]
      simp only [fr2, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, HT0, HT1⟩, Ho, ⟨%d0, H0⟩, ⟨%d1, H1⟩, ⟨%d2, H2⟩⟩
      iapply ((kernelRun0_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) hc0 k0_h2 k0_h3).2.2 a0 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_A_2 c _ _ _ _ _ _ _ _ _ _ _ _ _ _)
  · by_cases q1 : P0_1 ch t
    · obtain ⟨i2, f2, fr2, sf0, sfn0⟩ := sched0_D ch t q0 q1
      have F0 := hypsR0_D ch t q0 q1
      have hc0 := F0.1; have F1 := F0.2
      have k0_h2 := F1.1; have F2 := F1.2
      have k0_h3 := F2.1; have F3 := F2.2
      clear F0 F1 F2 F3
      rewrite [i2]
      simp only [before0_0, before0_1, before0_2, after0_0, after0_1, after0_2, f2]
      simp only [fr2, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0]
      iintro ⟨⟨HS0, HT0, HT1⟩, Ho, ⟨%d0, H0⟩, ⟨%d1, H1⟩, ⟨%d2, H2⟩⟩
      iapply ((kernelRun0_D c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) _ hc0 k0_h2 k0_h3).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_D_2 c _ _ _ _ _ _ _ _ _ _ _ _ _ _ _)
    · obtain ⟨i2, f2, fr2, sf0, sfn0⟩ := sched0_B ch t q0 q1
      have F0 := hypsR0_B ch t q0 q1
      have hc0 := F0.1; have F1 := F0.2
      have k0_h2 := F1.1; have F2 := F1.2
      have k0_h3 := F2.1; have F3 := F2.2
      clear F0 F1 F2 F3
      rewrite [i2]
      simp only [before0_0, before0_1, before0_2, after0_0, after0_1, after0_2, f2]
      simp only [fr2, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HT0, HT1⟩, Ho, ⟨%d0, H0⟩, ⟨%d1, H1⟩, ⟨%d2, H2⟩⟩
      iapply ((kernelRun0_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) _ hc0 k0_h2 k0_h3).2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [HS0]; · iexact HS0
      iintro ⟨H0, H1, HT0, HT1, ⟨%e2, H2⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      unfold owns; iexists _; isplitr; swap
      · iexact H2
      · ipureintro; exact View.read_writes_of_cover _ _ _ _ _ (cover0_B_2 c _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables are `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 (0 : Fin 3)).trans ((dats ch m ρ 0 c).arrAt_in (0 : Fin 3) rfl _), ((h c).1 (1 : Fin 3)).trans ((dats ch m ρ 0 c).arrAt_in (1 : Fin 3) rfl _), ((h c).2 0).trans (hp.1 c).symm, ((h c).2 1).trans (hp.2 c).symm⟩) (run_main ch m ρ hp)

/-- THE FRAME under the pinning: from a launch memory whose tables are `ch`'s, every weakly fair
    execution terminates, nothing faults, every argument array ends unchanged and every semaphore counter of the machine reads
    zero at every final state — `Cert.quiescent_DownIdeal`'s post. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged ch m ρ hp) ((θ_run defs _ _).mono (fun _ h => h.2) (run_main_quiescent ch m ρ hp))

end Cert.DownIdeal.Any

end
-- ==== Proof.DownIdeal.Block.lean ====
/-
  What one grid point of the kernel leaves: the scratch holds the group's weight block, the output block is the rows' product with it or zeros.
-/
module

public import Idealize.ShloMosaic.Lib.Pointwise
public import Idealize.ShloMosaic.Lib.VecWindow
public import Idealize.ShloMosaic.Lib.Pipeline.ValueKit.Tiles
public import proofs.«01_k».proof.Proof.DownIdeal.Run

@[expose] public section

set_option maxRecDepth 16384

noncomputable section

namespace Cert.DownIdeal.Any

open Cert.DownIdeal Cert.DownIdeal.Gen
open Idealize.ShloMosaic Idealize.ShloMosaic.TcCoe Idealize.SL.Sem

theorem hz : (![0, 0] : Fin 2 → ℕ) = fun _ => 0 := funext fun a => by fin_cases a <;> rfl

/-- What a whole buffer holds after one store of its own sizes is the payload. -/
theorem whole_store {κ : Kind} (b : Ref sig κ) (f : b.ty.Contents (Elt Ideal)) (off : Fin b.ty.shape.rank → ℕ)
    (inb : ∀ a, off a + b.ty.shape.size a ≤ b.ty.shape.size a) (w : b.ty.Contents (Elt Ideal)) :
    (View.whole b).writes (Elt Ideal) f [⟨Rect.unit off b.ty.shape.size inb, w⟩] = w :=
  (View.read_whole b _).symm.trans (View.read_writes_full (View.whole b) f inb w [])

variable (c : Dev nD) (i : grid0.Coords) (arg4 : Memref sig .tc .vmem S512x2816 .bf16) (harg4 : arg4.IsWhole)
  (arg5 : Memref sig .tc .vmem S1x2816x1024 .f32) (harg5 : arg5.IsWhole) (arg6 : Memref sig .tc .vmem S512x1024 .f32) (harg6 : arg6.IsWhole)
  (T0 : S42.Idx → BitVec 32) (T1 : S1.Idx → BitVec 32)
  (x0 : FVec Ideal S512x2816 .bf16) (x1 : FVec Ideal S1x2816x1024 .f32) (xa0 : FVec Ideal S2816x1024 .bf16)

/-- A reloading, unused point leaves zeros in its output block. -/
theorem out_A (hc0) (h2) (h3) :
    out0_A_2 c i arg4 harg4 arg5 harg5 arg6 harg6 T0 T1 x0 x1 hc0 h2 h3 = k0_pay3 (F := Ideal) := by
  unfold out0_A_2
  rw [View.read_writes_eq_canon _ _ _ (cover0_A_2 c i arg4 harg4 arg5 harg5 arg6 harg6 T0 T1 x0 x1 hc0 h2 h3)]
  unfold kernelRun0_A
  dsimp only
  sl_unfold_words
  exact View.canon_unit_zero hz _ _

/-- A keeping, unused point leaves zeros in its output block. -/
theorem out_B (hc0) (h2) (h3) :
    out0_B_2 c i arg4 harg4 arg5 harg5 arg6 harg6 T0 T1 x0 x1 xa0 hc0 h2 h3 = k0_pay3 (F := Ideal) := by
  unfold out0_B_2
  rw [View.read_writes_eq_canon _ _ _ (cover0_B_2 c i arg4 harg4 arg5 harg5 arg6 harg6 T0 T1 x0 x1 xa0 hc0 h2 h3)]
  unfold kernelRun0_B
  dsimp only
  sl_unfold_words
  exact View.canon_unit_zero hz _ _

/-- A keeping, used point leaves the product of its rows with the block the scratch holds. -/
theorem out_D (hc0) (h2) (h3) :
    out0_D_2 c i arg4 harg4 arg5 harg5 arg6 harg6 T0 T1 x0 x1 xa0 hc0 h2 h3 = k0_pay2 (F := Ideal) x0 xa0 := by
  unfold out0_D_2
  rw [View.read_writes_eq_canon _ _ _ (cover0_D_2 c i arg4 harg4 arg5 harg5 arg6 harg6 T0 T1 x0 x1 xa0 hc0 h2 h3)]
  unfold kernelRun0_D
  dsimp only
  sl_unfold_words
  refine (View.canon_unit_zero hz _ _).trans ?_
  refine congrArg₂ (k0_pay2 (F := Ideal)) ?_ ?_
  · exact View.readAt_rep_full _ _ _
  · exact View.readAt_full _ _ _

/-- A reloading, used point leaves the product of its rows with the block it has just reloaded. -/
theorem out_C (hc0) (h2) (h3) :
    out0_C_2 c i arg4 harg4 arg5 harg5 arg6 harg6 T0 T1 x0 x1 hc0 h2 h3 = k0_pay2 (F := Ideal) x0 (k0_pay1 (F := Ideal) x1) := by
  unfold out0_C_2
  rw [View.read_writes_eq_canon _ _ _ (cover0_C_2 c i arg4 harg4 arg5 harg5 arg6 harg6 T0 T1 x0 x1 hc0 h2 h3)]
  unfold kernelRun0_C
  dsimp only
  sl_unfold_words
  refine (View.canon_unit_zero hz _ _).trans ?_
  refine congrArg₂ (k0_pay2 (F := Ideal)) (View.readAt_rep_full _ _ _) ?_
  exact (View.readCov_full _ _ _ _ _).trans (congrArg (k0_pay1 (F := Ideal)) (View.readAt_rep_full _ _ _))

/-- A keeping point leaves the scratch as it was. -/
theorem scratch_B (hc0) (h2) (h3) : (kernelRun0_B c i arg4 harg4 arg5 harg5 arg6 harg6 T0 T1 x0 x1 xa0 hc0 h2 h3).2.1 = xa0 := rfl
theorem scratch_D (hc0) (h2) (h3) : (kernelRun0_D c i arg4 harg4 arg5 harg5 arg6 harg6 T0 T1 x0 x1 xa0 hc0 h2 h3).2.1 = xa0 := rfl

/-- A reloading point leaves its weight block, rounded, in the scratch. -/
theorem scratch_A (hc0) (h2) (h3) : (kernelRun0_A c i arg4 harg4 arg5 harg5 arg6 harg6 T0 T1 x0 x1 hc0 h2 h3).2.1 = k0_pay1 (F := Ideal) x1 := by
  unfold kernelRun0_A
  dsimp only
  sl_unfold_words
  refine (whole_store cc0_scratch0 _ _ inb_S2816x1024_S2816x1024_0_0 _).trans (congrArg (k0_pay1 (F := Ideal)) (View.readAt_rep_full _ _ _))

theorem scratch_C (hc0) (h2) (h3) : (kernelRun0_C c i arg4 harg4 arg5 harg5 arg6 harg6 T0 T1 x0 x1 hc0 h2 h3).2.1 = k0_pay1 (F := Ideal) x1 := by
  unfold kernelRun0_C
  dsimp only
  sl_unfold_words
  refine (whole_store cc0_scratch0 _ _ inb_S2816x1024_S2816x1024_0_0 _).trans (congrArg (k0_pay1 (F := Ideal)) (View.readAt_rep_full _ _ _))

/-! ## The payloads at an entry -/

theorem pay1_apply (k : Fin 2816) (d : Fin 1024) : (k0_pay1 (F := Ideal) x1 (ix2 k d) : EReal) = x1 (ix3 0 k d) := by
  pointwise [k0_pay1]

theorem pay3_apply (p : Fin 512) (d : Fin 1024) : (k0_pay3 (F := Ideal) (ix2 p d) : EReal) = 0 := by
  pointwise [k0_pay3]

theorem pay2_apply (p : Fin 512) (d : Fin 1024) :
    (k0_pay2 (F := Ideal) x0 xa0 (ix2 p d) : EReal) = ∑ k : Fin 2816, (x0 (ix2 p k) : EReal) * xa0 (ix2 k d) := by
  pointwise [k0_pay2]

end Cert.DownIdeal.Any

end
-- ==== Proof.DownIdeal.Words.lean ====
/-
  What the tables tell a grid point: its matrix, whether its tile is used, whether it keeps the matrix of the tile before it; and its blocks.
-/
module

public import proofs.«01_k».proof.Proof.DownIdeal.Block

@[expose] public section

set_option maxRecDepth 16384

noncomputable section

namespace Cert.DownIdeal.Any

open Cert.DownIdeal Cert.DownIdeal.Gen
open Idealize.ShloMosaic Idealize.ShloMosaic.TcCoe Idealize.SL.Sem
open Idealize.ShloMosaic.Pipeline (Dat)

/-- A point's coordinates: the column block, then the row tile. -/
theorem crd_val : ∀ t : Fin grid0.N, ((grid0.coords t) 0).val = t.val / 42 ∧ ((grid0.coords t) 1).val = t.val % 42 := by decide +kernel
/-- Where the body reads the tile table: at its tile, and at the tile before. -/
theorem off1_val : ∀ t : Fin grid0.N, k0_off1 (grid0.coords t) (0 : Fin 1) = t.val % 42 := by decide +kernel
theorem off2_val : ∀ t : Fin grid0.N, k0_off2 (grid0.coords t) (0 : Fin 1) = t.val % 42 - 1 := by decide +kernel
/-- Where the blocks of the rows and of the result start, in blocks. -/
theorem idx_rows : ∀ t : Fin grid0.N, cc0_transform_0 (grid0.coords t) (0 : Fin 2) = t.val % 42 ∧ cc0_transform_0 (grid0.coords t) (1 : Fin 2) = 0 := by decide +kernel
theorem idx_out : ∀ t : Fin grid0.N, cc0_transform_2 (grid0.coords t) (0 : Fin 2) = t.val % 42 ∧ cc0_transform_2 (grid0.coords t) (1 : Fin 2) = t.val / 42 := by decide +kernel
theorem idx_col : ∀ n : Fin 2, (Scalar.addi (BitVec.ofNat 32 n.val) 0#32).toNat = n.val := by decide

variable (ch : Tables)

/-- The matrix of tile `j`. -/
def matrixOf (j : ℕ) (h : j < 42) : Fin 16 := ⟨(pinT_0 ch (ix1 ⟨j, h⟩)).toNat, pinT_0_lt ch _⟩

/-- Tile `j` is one of the used ones. -/
def Used (j : ℕ) : Prop := Scalar.cmpi .slt (BitVec.ofNat 32 j) (pinT_1 ch (ix1 0)) = 1#1

/-- The word the body reads at its tile. -/
theorem word1 (t : Fin (cfgA ch).N) :
    View.readAt (Elt Ideal) (tbM0_0).view (Rect.unit (s := S42) (k0_off1 (crd ch t)) S1.size (k0_off1_inb (crd ch t))).toLoadRect (pinT_0 ch)
      (Shape.Idx.first (numel1_S1.symm ▸ Nat.one_pos)) = pinT_0 ch (ix1 ⟨t.val % 42, Nat.mod_lt _ (by decide)⟩) := by
  refine congrArg (pinT_0 ch) (funext fun a => Fin.ext ?_)
  match a with
  | ⟨0, _⟩ => show k0_off1 (crd ch t) (0 : Fin 1) + 1 * 0 = t.val % 42; rw [show k0_off1 (crd ch t) (0 : Fin 1) = t.val % 42 from off1_val t]; rfl

/-- The word the body reads at the tile before. -/
theorem word2 (t : Fin (cfgA ch).N) :
    View.readAt (Elt Ideal) (tbM0_0).view (Rect.unit (s := S42) (k0_off2 (crd ch t)) S1.size (k0_off2_inb (crd ch t))).toLoadRect (pinT_0 ch)
      (Shape.Idx.first (numel1_S1.symm ▸ Nat.one_pos)) = pinT_0 ch (ix1 ⟨t.val % 42 - 1, by omega⟩) := by
  refine congrArg (pinT_0 ch) (funext fun a => Fin.ext ?_)
  match a with
  | ⟨0, _⟩ => show k0_off2 (crd ch t) (0 : Fin 1) + 1 * 0 = t.val % 42 - 1; rw [show k0_off2 (crd ch t) (0 : Fin 1) = t.val % 42 - 1 from off2_val t]; rfl

theorem ori_keep (a b : BitVec 1) (h : ¬Scalar.ori a b = 1#1) : ¬a = 1#1 ∧ ¬b = 1#1 := by
  revert a b; decide

/-- A point keeping its weights is past the first tile, and its tile has the matrix of the tile before. -/
theorem keep_iff (t : Fin (cfgA ch).N) (h : ¬P0_0 ch t) :
    t.val % 42 ≠ 0 ∧ matrixOf ch (t.val % 42) (Nat.mod_lt _ (by decide)) = matrixOf ch (t.val % 42 - 1) (by omega) := by
  refine ⟨fun h0 => h (fresh_of_first ch t ((crd_val t).2.trans h0)), ?_⟩
  have h' : ¬ (Scalar.cmpi .ne (Scalar.extui (Scalar.ori _ (Scalar.cmpi .ne _ _)) : BitVec 32) 0#32) = 1#1 := h
  rw [extui_ne, word1, word2] at h'
  have h2 := (ori_keep _ _ h').2
  have hw : pinT_0 ch (ix1 ⟨t.val % 42, Nat.mod_lt _ (by decide)⟩) = pinT_0 ch (ix1 ⟨t.val % 42 - 1, by omega⟩) := by
    by_contra hne
    exact h2 ((congrArg BitVec.ofBool (bne_iff_ne.2 hne)).trans rfl)
  unfold matrixOf
  simp only [hw]

/-- The body's test of its tile. -/
theorem used_iff (t : Fin (cfgA ch).N) : P0_1 ch t ↔ Used ch (t.val % 42) := by
  have e : View.readAt (Elt Ideal) (tbM0_1).view (Rect.unit (s := S1) ![0] S1.size inb_S1_S1_0).toLoadRect (pinT_1 ch) (Shape.Idx.first (numel1_S1.symm ▸ Nat.one_pos)) = pinT_1 ch (ix1 0) := by
    refine congrArg (pinT_1 ch) (funext fun a => Fin.ext ?_)
    match a with
    | ⟨0, _⟩ => rfl
  show k0_cond2 (crd ch t) _ = 1#1 ↔ _
  rw [e]
  unfold k0_cond2 Used
  dsimp only
  rw [extui_ne, show ((crd ch t) 1).val = t.val % 42 from (crd_val t).2]

/-- Where the weights' block starts, in blocks. -/
theorem idx_weights (t : Fin (cfgA ch).N) :
    cc0_transform_1 k0_off1_inb numel1_S1 (pfN ch) (crd ch t) (0 : Fin 3) = (matrixOf ch (t.val % 42) (Nat.mod_lt _ (by decide))).val
    ∧ cc0_transform_1 k0_off1_inb numel1_S1 (pfN ch) (crd ch t) (1 : Fin 3) = 0
    ∧ cc0_transform_1 k0_off1_inb numel1_S1 (pfN ch) (crd ch t) (2 : Fin 3) = t.val / 42 :=
  ⟨by have h := congrArg (fun w : BitVec 32 => w.toNat) (word1 ch t); exact h, rfl, (idx_col ((crd ch t) 0)).trans (crd_val t).1⟩

variable (m : (ℓ : Loc nD τ sig) → Buf (Elt Ideal) ℓ) (ρ : Dev nD → PrngReg) (c : Dev nD)

/-- The weight block of matrix `g` from column `1024 n` on, as the scratch holds it. -/
def weights (g : Fin 16) (n : Fin 2) : FVec Ideal S2816x1024 .bf16 := fun y =>
  m ((c : Thread nD τ).loc main_arg1) (ix3 g (y 0) ⟨1024 * n.val + (y 1).val, by have := (y 1).isLt; have h : S2816x1024.size 1 = 1024 := rfl; omega⟩)

theorem point_lt (t : Fin (cfgA ch).N) : t.val < 84 := lt_of_lt_of_eq t.isLt (by decide +kernel : grid0.N = 84)

/-- A point's weight block, rounded. -/
theorem block_weights (t : Fin (cfgA ch).N) :
    k0_pay1 (F := Ideal) (iblk ch m ρ c (1 : Fin 3) t)
      = weights m c (matrixOf ch (t.val % 42) (Nat.mod_lt _ (by decide))) ⟨t.val / 42, by have : t.val < 84 := point_lt ch t; omega⟩ := by
  obtain ⟨e0, e1, e2⟩ := idx_weights ch t
  funext y
  rw [eq_ix2 y]
  refine (pay1_apply _ _ _).trans ?_
  refine congrArg (m ((c : Thread nD τ).loc main_arg1)) (funext fun a => Fin.ext ?_)
  match a with
  | ⟨0, _⟩ => show cc0_transform_1 k0_off1_inb numel1_S1 (pfN ch) (crd ch t) (0 : Fin 3) * 1 + 1 * 0 = _; rw [e0]; simp
  | ⟨1, _⟩ => show cc0_transform_1 k0_off1_inb numel1_S1 (pfN ch) (crd ch t) (1 : Fin 3) * 2816 + 1 * (y 0).val = (y 0).val; rw [e1]; simp
  | ⟨2, _⟩ => show cc0_transform_1 k0_off1_inb numel1_S1 (pfN ch) (crd ch t) (2 : Fin 3) * 1024 + 1 * (y 1).val = 1024 * (t.val / 42) + (y 1).val; rw [e2]; omega

/-- A point's rows. -/
theorem block_rows (t : Fin (cfgA ch).N) (p : Fin 512) (k : Fin 2816) (r : Fin 21504) (hr : r.val = 512 * (t.val % 42) + p.val) :
    iblk ch m ρ c (0 : Fin 3) t (ix2 p k) = m ((c : Thread nD τ).loc main_arg0) (ix2 r k) := by
  obtain ⟨e0, e1⟩ := idx_rows t
  refine congrArg (m ((c : Thread nD τ).loc main_arg0)) (funext fun a => Fin.ext ?_)
  match a with
  | ⟨0, _⟩ => show cc0_transform_0 (crd ch t) (0 : Fin 2) * 512 + 1 * p.val = r.val; rw [show cc0_transform_0 (crd ch t) (0 : Fin 2) = _ from e0]; omega
  | ⟨1, _⟩ => show cc0_transform_0 (crd ch t) (1 : Fin 2) * 2816 + 1 * k.val = k.val; rw [show cc0_transform_0 (crd ch t) (1 : Fin 2) = _ from e1]; omega

/-- What a point that reloads its weights and is unused leaves. -/
theorem step_A (t : Fin (cfgA ch).N) (prev) (q0 : P0_0 ch t) (q1 : ¬P0_1 ch t) :
    (step0 ch m ρ c t prev).1 = k0_pay3 (F := Ideal) ∧ (step0 ch m ρ c t prev).2 = k0_pay1 (F := Ideal) (iblk ch m ρ c (1 : Fin 3) t) := by
  constructor
  · refine (congrArg Prod.fst (step0_A ch m ρ c t prev q0 q1)).trans ?_
    dsimp only
    have h := out_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
      (hypsR0_A ch t q0 q1).1 (hypsR0_A ch t q0 q1).2.1 (hypsR0_A ch t q0 q1).2.2.1
    exact h
  · refine (congrArg Prod.snd (step0_A ch m ρ c t prev q0 q1)).trans ?_
    dsimp only
    have h := scratch_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
      (hypsR0_A ch t q0 q1).1 (hypsR0_A ch t q0 q1).2.1 (hypsR0_A ch t q0 q1).2.2.1
    exact h

/-- What a point that keeps its weights and is unused leaves. -/
theorem step_B (t : Fin (cfgA ch).N) (prev) (q0 : ¬P0_0 ch t) (q1 : ¬P0_1 ch t) :
    (step0 ch m ρ c t prev).1 = k0_pay3 (F := Ideal) ∧ (step0 ch m ρ c t prev).2 = prev.2 := by
  constructor
  · refine (congrArg Prod.fst (step0_B ch m ρ c t prev q0 q1)).trans ?_
    dsimp only
    have h := out_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
      (hypsR0_B ch t q0 q1).1 (hypsR0_B ch t q0 q1).2.1 (hypsR0_B ch t q0 q1).2.2.1
    exact h
  · refine (congrArg Prod.snd (step0_B ch m ρ c t prev q0 q1)).trans ?_
    dsimp only
    have h := scratch_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
      (hypsR0_B ch t q0 q1).1 (hypsR0_B ch t q0 q1).2.1 (hypsR0_B ch t q0 q1).2.2.1
    exact h

/-- What a point that reloads its weights and is used leaves. -/
theorem step_C (t : Fin (cfgA ch).N) (prev) (q0 : P0_0 ch t) (q1 : P0_1 ch t) :
    (step0 ch m ρ c t prev).1 = k0_pay2 (F := Ideal) (iblk ch m ρ c (0 : Fin 3) t) (k0_pay1 (F := Ideal) (iblk ch m ρ c (1 : Fin 3) t)) ∧ (step0 ch m ρ c t prev).2 = k0_pay1 (F := Ideal) (iblk ch m ρ c (1 : Fin 3) t) := by
  constructor
  · refine (congrArg Prod.fst (step0_C ch m ρ c t prev q0 q1)).trans ?_
    dsimp only
    have h := out_C c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
      (hypsR0_C ch t q0 q1).1 (hypsR0_C ch t q0 q1).2.1 (hypsR0_C ch t q0 q1).2.2.1
    exact h
  · refine (congrArg Prod.snd (step0_C ch m ρ c t prev q0 q1)).trans ?_
    dsimp only
    have h := scratch_C c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
      (hypsR0_C ch t q0 q1).1 (hypsR0_C ch t q0 q1).2.1 (hypsR0_C ch t q0 q1).2.2.1
    exact h

/-- What a point that keeps its weights and is used leaves. -/
theorem step_D (t : Fin (cfgA ch).N) (prev) (q0 : ¬P0_0 ch t) (q1 : P0_1 ch t) :
    (step0 ch m ρ c t prev).1 = k0_pay2 (F := Ideal) (iblk ch m ρ c (0 : Fin 3) t) prev.2 ∧ (step0 ch m ρ c t prev).2 = prev.2 := by
  constructor
  · refine (congrArg Prod.fst (step0_D ch m ρ c t prev q0 q1)).trans ?_
    dsimp only
    have h := out_D c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
      (hypsR0_D ch t q0 q1).1 (hypsR0_D ch t q0 q1).2.1 (hypsR0_D ch t q0 q1).2.2.1
    exact h
  · refine (congrArg Prod.snd (step0_D ch m ρ c t prev q0 q1)).trans ?_
    dsimp only
    have h := scratch_D c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
      (hypsR0_D ch t q0 q1).1 (hypsR0_D ch t q0 q1).2.1 (hypsR0_D ch t q0 q1).2.2.1
    exact h

/-- THE SCRATCH after every point: the weights of the point's matrix and column block, whether it reloaded them or not. -/
theorem scratch_eq : ∀ (n : ℕ) (h : n < (cfgA ch).N),
    (traj0 ch m ρ c n h).2 = weights m c (matrixOf ch (n % 42) (Nat.mod_lt _ (by decide))) ⟨n / 42, by have : n < 84 := point_lt ch ⟨n, h⟩; omega⟩
  | n, h => by
    rw [traj0_eq ch m ρ c ⟨n, h⟩]
    by_cases q0 : P0_0 ch ⟨n, h⟩
    · refine Eq.trans ?_ (block_weights ch m ρ c ⟨n, h⟩)
      by_cases q1 : P0_1 ch ⟨n, h⟩
      · exact (step_C ch m ρ c ⟨n, h⟩ _ q0 q1).2
      · exact (step_A ch m ρ c ⟨n, h⟩ _ q0 q1).2
    · obtain ⟨hm, hg⟩ := keep_iff ch ⟨n, h⟩ q0
      have hm' : n % 42 ≠ 0 := hm
      have hn : n ≠ 0 := fun h0 => hm' (by subst h0; rfl)
      have hprev : (prev0 ch m ρ c ⟨n, h⟩).2 = (traj0 ch m ρ c (n - 1) (by omega)).2 := by
        unfold prev0; rw [dif_neg hn]
      have ih := scratch_eq (n - 1) (by omega)
      have h1 : (n - 1) % 42 = n % 42 - 1 := by omega
      have h2 : (n - 1) / 42 = n / 42 := by omega
      have e : (traj0 ch m ρ c (n - 1) (by omega)).2 = weights m c (matrixOf ch (n % 42) (Nat.mod_lt _ (by decide))) ⟨n / 42, by have : n < 84 := point_lt ch ⟨n, h⟩; omega⟩ := by
        refine ih.trans (congrArg₂ (weights m c) (Eq.trans ?_ hg.symm) (Fin.ext h2))
        simp only [h1]
      by_cases q1 : P0_1 ch ⟨n, h⟩
      · exact ((step_D ch m ρ c ⟨n, h⟩ _ q0 q1).2.trans hprev).trans e
      · exact ((step_B ch m ρ c ⟨n, h⟩ _ q0 q1).2.trans hprev).trans e
  termination_by n => n

/-- THE OUTPUT BLOCK after every point: on a used tile the product of the tile's rows with the weights, else zeros. -/
theorem out_used (t : Fin (cfgA ch).N) (h : Used ch (t.val % 42)) :
    (traj0 ch m ρ c t.val t.isLt).1 = k0_pay2 (F := Ideal) (iblk ch m ρ c (0 : Fin 3) t)
      (weights m c (matrixOf ch (t.val % 42) (Nat.mod_lt _ (by decide))) ⟨t.val / 42, by have : t.val < 84 := point_lt ch t; omega⟩) := by
  have q1 := (used_iff ch t).2 h
  have hs := scratch_eq ch m ρ c t.val t.isLt
  rw [traj0_eq ch m ρ c t] at hs ⊢
  by_cases q0 : P0_0 ch t
  · have := step_C ch m ρ c t (prev0 ch m ρ c t) q0 q1
    rw [← hs, this.2, this.1]
  · have := step_D ch m ρ c t (prev0 ch m ρ c t) q0 q1
    rw [← hs, this.2, this.1]

theorem out_unused (t : Fin (cfgA ch).N) (h : ¬Used ch (t.val % 42)) : (traj0 ch m ρ c t.val t.isLt).1 = k0_pay3 (F := Ideal) := by
  have q1 : ¬P0_1 ch t := fun q => h ((used_iff ch t).1 q)
  rw [traj0_eq ch m ρ c t]
  by_cases q0 : P0_0 ch t
  · exact (step_A ch m ρ c t _ q0 q1).1
  · exact (step_B ch m ρ c t _ q0 q1).1

end Cert.DownIdeal.Any

end
-- ==== Proof.DownIdeal.Array.lean ====
/-
  The result array of the kernel, entry by entry, as a function of the argument arrays and the tables.
-/
module

public import Idealize.ShloMosaic.Lib.Pipeline.ValueKit.Geometry
public import proofs.«01_k».proof.Proof.DownIdeal.Words

@[expose] public section

set_option maxRecDepth 16384

noncomputable section

namespace Cert.DownIdeal.Any

open Cert.DownIdeal Cert.DownIdeal.Gen
open Idealize.ShloMosaic Idealize.ShloMosaic.TcCoe Idealize.SL.Sem
open Idealize.ShloMosaic.Pipeline (Dat)

variable (ch : Tables) (m : (ℓ : Loc nD τ sig) → Buf (Elt Ideal) ℓ) (ρ : Dev nD → PrngReg) (c : Dev nD)

/-- No two points write the same output block. -/
theorem disjoint_out : ∀ t t' : Fin (cfgA ch).N, ((cfgA ch).win (2 : Fin 3)).flush t = true → ((cfgA ch).win (2 : Fin 3)).flush t' = true → t ≠ t' →
    Disjoint (((cfgA ch).win (2 : Fin 3)).blk t).view.set (((cfgA ch).win (2 : Fin 3)).blk t').view.set :=
  Pipeline.Window.hdisj_of_index_inj _ fun t t' _ _ e => by
    have e0 : t.val % 42 = t'.val % 42 := (idx_out t).1.symm.trans ((congrFun e (0 : Fin 2)).trans (idx_out t').1)
    have e1 : t.val / 42 = t'.val / 42 := (idx_out t).2.symm.trans ((congrFun e (1 : Fin 2)).trans (idx_out t').2)
    exact Fin.ext (by omega)

/-- What a point's write-back carries is what the point left in its output block. -/
theorem flushed_out (t : Fin (cfgA ch).N) : (dats ch m ρ 0 c).flushed (2 : Fin 3) t = (traj0 ch m ρ c t.val t.isLt).1 := by
  show ((cfgA ch).win (2 : Fin 3)).cut (grid0.coords t) ((dats ch m ρ 0 c).after (2 : Fin 3) t) = _
  rw [after0_2]
  rfl

/-- The rows of all tiles. -/
def rowsOf : FVec Ideal S21504x2816 .bf16 := m ((c : Thread nD τ).loc main_arg0)

/-- The matrices of all experts. -/
def matricesOf : FVec Ideal S16x2816x2048 .f32 := m ((c : Thread nD τ).loc main_arg1)

/-- The result array after the last point. -/
def result : FVec Ideal S21504x2048 .f32 := (dats ch m ρ 0 c).arrAt (2 : Fin 3) (cfgA ch).N

/-- An entry of the result is what the point of its block left in its output block. -/
theorem result_block (t : Fin (cfgA ch).N) (p : Fin 512) (d : Fin 1024) (r : Fin 21504) (j : Fin 2048)
    (hr : r.val = 512 * (t.val % 42) + p.val) (hj : j.val = 1024 * (t.val / 42) + d.val) :
    result ch m ρ c (ix2 r j) = (traj0 ch m ρ c t.val t.isLt).1 (ix2 p d) := by
  have hemb : (((cfgA ch).win (2 : Fin 3)).blk t).view.emb (ix2 p d) = ix2 r j := by
    obtain ⟨e0, e1⟩ := idx_out t
    refine funext fun a => Fin.ext ?_
    match a with
    | ⟨0, _⟩ =>
      show cc0_transform_2 (grid0.coords t) (0 : Fin 2) * 512 + 1 * p.val = r.val
      rw [show cc0_transform_2 (grid0.coords t) (0 : Fin 2) = _ from e0]; omega
    | ⟨1, _⟩ =>
      show cc0_transform_2 (grid0.coords t) (1 : Fin 2) * 1024 + 1 * d.val = j.val
      rw [show cc0_transform_2 (grid0.coords t) (1 : Fin 2) = _ from e1]; omega
  have h := (dats ch m ρ 0 c).arrAt_emb_eq_flushed (2 : Fin 3) (disjoint_out ch) t (flush_eq ch t) (ix2 p d)
  rw [hemb, flushed_out] at h
  exact h

/-- Every entry has the point that writes it. -/
theorem point_of (r : Fin 21504) (j : Fin 2048) : ∃ t : Fin (cfgA ch).N, t.val % 42 = r.val / 512 ∧ t.val / 42 = j.val / 1024 := by
  have h : 42 * (j.val / 1024) + r.val / 512 < 84 := by omega
  refine ⟨⟨42 * (j.val / 1024) + r.val / 512, lt_of_lt_of_eq h (by decide +kernel : 84 = grid0.N)⟩, ?_, ?_⟩
  · show (42 * (j.val / 1024) + r.val / 512) % 42 = _; omega
  · show (42 * (j.val / 1024) + r.val / 512) / 42 = _; omega

/-- On a used tile an entry is its row's product with its column of the tile's matrix. -/
theorem result_used (r : Fin 21504) (j : Fin 2048) (h : Used ch (r.val / 512)) :
    (result ch m ρ c (ix2 r j) : EReal)
      = ∑ k : Fin 2816, (rowsOf m c (ix2 r k) : EReal) * (matricesOf m c (ix3 (matrixOf ch (r.val / 512) (by omega)) k j) : EReal) := by
  obtain ⟨t, f0, f1⟩ := point_of ch r j
  have hp := point_lt ch t
  refine (result_block ch m ρ c t ⟨r.val % 512, Nat.mod_lt _ (by decide)⟩ ⟨j.val % 1024, Nat.mod_lt _ (by decide)⟩ r j
    (by rw [f0]; show r.val = 512 * (r.val / 512) + r.val % 512; omega) (by rw [f1]; show j.val = 1024 * (j.val / 1024) + j.val % 1024; omega)).trans ?_
  rw [out_used ch m ρ c t (by rw [f0]; exact h)]
  refine (pay2_apply _ _ _ _).trans (Finset.sum_congr rfl fun k _ => congrArg₂ (fun a b : EReal => a * b) ?_ ?_)
  · exact block_rows ch m ρ c _ _ k r (by rw [f0]; show r.val = 512 * (r.val / 512) + r.val % 512; omega)
  · have e2 : (⟨1024 * (t.val / 42) + j.val % 1024, by omega⟩ : Fin 2048) = j := Fin.ext (by show 1024 * (t.val / 42) + _ = _; omega)
    refine Eq.trans (b := matricesOf m c (ix3 (matrixOf ch (t.val % 42) (Nat.mod_lt _ (by decide))) k ⟨1024 * (t.val / 42) + j.val % 1024, by omega⟩)) rfl ?_
    simp only [e2, f0]

/-- On an unused tile an entry is zero. -/
theorem result_unused (r : Fin 21504) (j : Fin 2048) (h : ¬Used ch (r.val / 512)) : (result ch m ρ c (ix2 r j) : EReal) = 0 := by
  obtain ⟨t, f0, f1⟩ := point_of ch r j
  refine (result_block ch m ρ c t ⟨r.val % 512, Nat.mod_lt _ (by decide)⟩ ⟨j.val % 1024, Nat.mod_lt _ (by decide)⟩ r j
    (by rw [f0]; show r.val = 512 * (r.val / 512) + r.val % 512; omega) (by rw [f1]; show j.val = 1024 * (j.val / 1024) + j.val % 1024; omega)).trans ?_
  rw [out_unused ch m ρ c t (by rw [f0]; exact h)]
  exact pay3_apply _ _

end Cert.DownIdeal.Any

end
-- ==== Proof.DownReference.Entry.lean ====
/-
  The reference read at an entry: on a used tile the row's product with its column of the tile's matrix, else zero.
-/
module

public import proofs.«01_k».proof.Proof.TileTake
public import proofs.«01_k».proof.Proof.Gen.DownReferenceIdeal.Read
public import proofs.«01_k».proof.Proof.Gen.DownReferenceIdeal.Run

@[expose] public section

set_option maxRecDepth 16384

noncomputable section

namespace Cert.DownReferenceIdeal.Entry

open Cert.DownReferenceIdeal Cert.DownReferenceIdeal.Gen Cert.DownReferenceIdeal.Read
open Idealize.ShloMosaic Idealize.SL.Sem
open Cert.TileTake (gather_apply not_neg)

variable (x0 : FVec Ideal S21504x2816 .bf16) (x1 : FVec Ideal S16x2816x2048 .f32) (x2 : IVec S42 32) (x3 : IVec S1 32)

/-- The matrices the index table names. -/
theorem gathered (t : Fin 42) (k : Fin 2816) (j : Fin 2048) (n : Fin 16) (hn : (x2 (ix1 t)).toNat = n.val) :
    val_main_v8 (F := Ideal) x1 x2 (ix3 t k j) = x1 (ix3 n k j) := by
  unfold val_main_v8
  have h1 := n.isLt
  refine gather_apply _ x1 _ t k j n (by decide) ?_
  rw [val_main_v7_apply, val_main_v6_apply, val_main_v3_apply]
  have e : idx_main_v7 (ix2 t 0) = ix1 t := funext fun a => match a with | ⟨0, _⟩ => rfl
  rw [e, val_main_v2_apply, val_main_c_apply, not_neg _ (by omega)]
  exact hn

/-- A tile's row of the stacked rows. -/
theorem row_apply (t : Fin 42) (p : Fin 512) (k : Fin 2816) (r : Fin 21504) (hr : r.val = 512 * t.val + p.val) :
    val_main_v1 (F := Ideal) x0 (ix3 t p k) = x0 (ix2 r k) := by
  rw [val_main_v1_apply, val_main_v0_apply]
  refine congrArg x0 (funext fun a => Fin.ext ?_)
  have hk := k.isLt
  have hp := p.isLt
  match a with
  | ⟨0, _⟩ => show ((t.val * 512 + p.val) * 2816 + k.val) / 2816 = r.val; omega
  | ⟨1, _⟩ => show ((t.val * 512 + p.val) * 2816 + k.val) % 2816 = k.val; omega

/-- The comparison of a tile's number with the count. -/
theorem used_apply (t : Fin 42) (p : Fin 512) (j : Fin 2048) :
    val_main_call0_v1 (F := Ideal) x3 (ix3 t p j) = IntOp.cmpi .slt (BitVec.ofNat 32 t.val) (x3 (ix1 0)) := by
  rw [val_main_call0_v1_apply, val_main_v14_apply, val_main_v11_apply, val_main_v10_apply, val_main_v13_apply]
  refine congrArg₂ (IntOp.cmpi .slt) rfl ?_
  unfold val_main_v12
  exact shapeCast_apply x3 shapeCasts_S1_S_ _ (ix1 0) (by rfl)

/-- The product of a tile with its matrix. -/
theorem product_apply (t : Fin 42) (p : Fin 512) (j : Fin 2048) (r : Fin 21504) (hr : r.val = 512 * t.val + p.val) (n : Fin 16) (hn : (x2 (ix1 t)).toNat = n.val) :
    (val_main_v9 (F := Ideal) x0 x1 x2 (ix3 t p j) : EReal) = ∑ k : Fin 2816, (x0 (ix2 r k) : EReal) * (x1 (ix3 n k j) : EReal) := by
  rw [val_main_v9_apply]
  refine Finset.sum_congr rfl fun k _ => congrArg₂ (fun a b : EReal => a * b) ?_ ?_
  · have e : lidx_main_v9 (ix3 t p j) k = ix3 t p k := funext fun a => match a with | ⟨0, _⟩ => rfl | ⟨1, _⟩ => rfl | ⟨2, _⟩ => rfl
    rw [e]
    exact row_apply x0 t p k r hr
  · have e : ridx_main_v9 (ix3 t p j) k = ix3 t k j := funext fun a => match a with | ⟨0, _⟩ => rfl | ⟨1, _⟩ => rfl | ⟨2, _⟩ => rfl
    rw [e]
    exact gathered x1 x2 t k j n hn

/-- The bits of zero denote zero. -/
theorem ofBits_zero : Ideal.ofBits .f32 0x00000000#32 = 0 := by
  simp [Ideal.ofBits, Ideal.ieee]

/-- An entry of the reference: on a used tile the row's product with its column of the tile's matrix, else zero. -/
theorem entry (r : Fin 21504) (j : Fin 2048) (n : Fin 16) (hn : (x2 (ix1 ⟨r.val / 512, by omega⟩)).toNat = n.val) :
    (val_main_v16 (F := Ideal) x0 x1 x2 x3 (ix2 r j) : EReal)
      = Scalar.select (IntOp.cmpi .slt (BitVec.ofNat 32 (r.val / 512)) (x3 (ix1 0))) (∑ k : Fin 2816, (x0 (ix2 r k) : EReal) * (x1 (ix3 n k j) : EReal)) (0 : EReal) := by
  have hr := r.isLt
  have e0 : idx_main_v16 (ix2 r j) = ix3 (⟨r.val / 512, by omega⟩ : Fin 42) (⟨r.val % 512, by omega⟩ : Fin 512) j := by
    have hj := j.isLt
    funext a; refine Fin.ext ?_
    match a with
    | ⟨0, _⟩ => show (r.val * 2048 + j.val) / 1048576 = r.val / 512; omega
    | ⟨1, _⟩ => show (r.val * 2048 + j.val) / 2048 % 512 = r.val % 512; omega
    | ⟨2, _⟩ => show (r.val * 2048 + j.val) % 2048 = j.val; omega
  rw [val_main_v16_apply, e0, val_main_v15_apply, used_apply, product_apply x0 x1 x2 _ _ j r (by show r.val = 512 * (r.val / 512) + r.val % 512; omega) n hn,
    val_main_call0_v2_apply, val_main_call0_v0_apply, val_main_cst_apply]
  refine congrArg (Scalar.select _ _) ?_
  exact ofBits_zero

end Cert.DownReferenceIdeal.Entry

end
-- ==== Proof.DownEquation.lean ====
/-
  The kernel's down product is the reference's, entry by entry.
-/
module

public import proofs.«01_k».proof.Proof.DownIdeal.Array
public import proofs.«01_k».proof.Proof.DownReference.Entry

@[expose] public section

set_option maxRecDepth 16384

noncomputable section

namespace Cert.DownEquation

open Cert.DownIdeal Cert.DownIdeal.Any Idealize.ShloMosaic Idealize.ShloMosaic.TcCoe Idealize.SL.Sem

variable (ch : Tables) (m : (ℓ : Loc nD τ sig) → Buf (Elt Ideal) ℓ) (ρ : Dev nD → PrngReg) (c : Dev nD)

/-- The two results agree at an entry. -/
theorem entry_eq (r : Fin 21504) (j : Fin 2048) :
    result ch m ρ c (ix2 r j) = DownReferenceIdeal.Read.val_main_v16 (F := Ideal) (rowsOf m c) (matricesOf m c) (pinT_0 ch) (pinT_1 ch) (ix2 r j) := by
  have hr := r.isLt
  refine Eq.trans ?_ (DownReferenceIdeal.Entry.entry (rowsOf m c) (matricesOf m c) (pinT_0 ch) (pinT_1 ch) r j (matrixOf ch (r.val / 512) (by omega)) rfl).symm
  by_cases h : Used ch (r.val / 512)
  · rw [result_used ch m ρ c r j h]
    exact (if_pos h).symm
  · rw [result_unused ch m ρ c r j h]
    exact (if_neg h).symm

/-- The result array is the reference's result of the same rows, matrices and tables. -/
theorem result_eq : result ch m ρ c = DownReferenceIdeal.Read.val_main_v16 (F := Ideal) (rowsOf m c) (matricesOf m c) (pinT_0 ch) (pinT_1 ch) := by
  refine funext fun (i : S21504x2048.Idx) => ?_
  rw [eq_ix2 i]
  exact entry_eq ch m ρ c (i 0) (i 1)

end Cert.DownEquation

end
-- ==== Proof.DownClaims.lean ====
/-
  The claims about the experts' down product: the frames of the kernel, of its idealisation and of the reference, and the
  equation of the two results.
-/
module

public import proofs.«01_k».proof.Defs
public import proofs.«01_k».proof.Proof.Down.Run
public import proofs.«01_k».proof.Proof.DownGroups
public import proofs.«01_k».proof.Proof.DownEquation

@[expose] public section

set_option maxRecDepth 16384

noncomputable section

namespace Cert.DownClaims

open Idealize.ShloMosaic Idealize.ShloMosaic.TcCoe Idealize.SL.Sem

/-- Under the precondition the kernel's launch memory holds tables of the kind its run is proved for. -/
theorem pinned_kernel (m : (ℓ : Loc Down.nD Down.τ Down.sig) → Buf (Elt Bits) ℓ)
    (h : Cert.Pre_Down (hPre_down_groups := Pre_down_groups.Gen.facts) m) : ∃ ch, Down.Any.Pinned ch m :=
  ⟨⟨(m (((0 : Dev Down.nD) : Thread Down.nD Down.τ).loc Down.main_arg2), m (((0 : Dev Down.nD) : Thread Down.nD Down.τ).loc Down.main_arg3)),
    fun i => @Pre_down_groups.lt_of_fn Bits _ Pre_down_groups.Gen.facts _ _ _ _ (h 0) i⟩,
    fun c => by rw [Subsingleton.elim c 0]; rfl, fun c => by rw [Subsingleton.elim c 0]; rfl⟩

/-- The same for the idealisation. -/
theorem pinned_ideal (m : (ℓ : Loc DownIdeal.nD DownIdeal.τ DownIdeal.sig) → Buf (Elt Ideal) ℓ)
    (h : Cert.Pre_DownIdeal (hPre_down_groups := Pre_down_groups.Gen.facts) m) : ∃ ch, DownIdeal.Any.Pinned ch m :=
  ⟨⟨(m (((0 : Dev DownIdeal.nD) : Thread DownIdeal.nD DownIdeal.τ).loc DownIdeal.main_arg2), m (((0 : Dev DownIdeal.nD) : Thread DownIdeal.nD DownIdeal.τ).loc DownIdeal.main_arg3)),
    fun i => @Pre_down_groups.lt_of_fn Ideal _ Pre_down_groups.Gen.facts _ _ _ _ (h 0) i⟩,
    fun c => by rw [Subsingleton.elim c 0]; rfl, fun c => by rw [Subsingleton.elim c 0]; rfl⟩

/-- The kernel runs, leaves its arguments alone and ends with every counter at zero. -/
theorem frame_kernel : Cert.quiescent_Down (hDown := Down.Gen.facts) (hPre_down_groups := Pre_down_groups.Gen.facts) := fun m ρ h => by
  obtain ⟨ch, hp⟩ := pinned_kernel m h
  exact Down.Any.frame ch m ρ hp

/-- So does its idealisation. -/
theorem frame_ideal : Cert.quiescent_DownIdeal (hDownIdeal := DownIdeal.Gen.facts) (hPre_down_groups := Pre_down_groups.Gen.facts) := fun m ρ h => by
  obtain ⟨ch, hp⟩ := pinned_ideal m h
  exact DownIdeal.Any.frame ch m ρ hp

/-- The reference runs and leaves its arguments alone; it declares no semaphore. -/
theorem frame_reference : Cert.quiescent_DownReferenceIdeal (hDownReferenceIdeal := DownReferenceIdeal.Gen.facts) := fun m ρ _ =>
  (θ_run DownReferenceIdeal.defs _ _).mono (fun r h => ⟨fun c => (h c).2, sem_eq_zero_of_no_sems (by decide) r.2⟩)
    (DownReferenceIdeal.Value.run (F := Ideal) m ρ)

/-- The same from the memories of the precondition. -/
theorem frame_reference_pre : Cert.quiescent_DownReferenceIdeal_pre_down_groups (hDownReferenceIdeal := DownReferenceIdeal.Gen.facts)
    (hPre_down_groups := Pre_down_groups.Gen.facts) := fun m ρ _ => frame_reference m ρ trivial

/-- From agreeing arguments whose table names matrices, the kernel and the reference end with the same result. -/
theorem algebraic : Cert.algebraic_DownIdeal_DownReferenceIdeal (hDownIdeal := DownIdeal.Gen.facts)
    (hDownReferenceIdeal := DownReferenceIdeal.Gen.facts) (hPre_down_groups := Pre_down_groups.Gen.facts) := by
  intro m ρ m' ρ' hpre hag
  obtain ⟨ch, hp⟩ := pinned_ideal m hpre
  refine ⟨fun c => DownIdeal.Any.result ch m ρ c,
    (θ_run DownIdeal.defs _ _).mono (fun r h c => ⟨(h.1 c).1 (2 : Fin 3), h.2 c⟩) (θ_run_and (DownIdeal.Any.run_main ch m ρ hp) (DownIdeal.Any.unchanged ch m ρ hp)),
    (θ_run DownReferenceIdeal.defs _ _).mono (fun r h c => ⟨(h c).1.trans ?_, (h c).2⟩) (DownReferenceIdeal.Value.run (F := Ideal) m' ρ')⟩
  obtain ⟨a0, a1, a2, a3⟩ := hag c
  refine (DownReferenceIdeal.Read.val_main_v16_eq _ _ _ _).trans ?_
  rw [a0, a1, a2, a3, hp.1 c, hp.2 c]
  exact (DownEquation.result_eq ch m ρ c).symm

end Cert.DownClaims

end
-- ==== Proof.GateUp.Tables.lean ====
/-
  The launch of GateUp at ANY tables whose words name a matrix: the tables, the side condition of the pipeline at them, the pipeline, a point's
  coordinates, staging buffers and blocks, and the two decisions the body takes there.
-/
module

public import proofs.«01_k».proof.Proof.Gen.GateUp.Flash.Runs

@[expose] public section

set_option maxRecDepth 16384
set_option Elab.async false

noncomputable section

namespace Cert.GateUp.Any

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- Tables the launch may find: a tile table all of whose words are below 16, and any count of used tiles. -/
def Tables : Type := { T : (S42.Idx → BitVec 32) × (S1.Idx → BitVec 32) // ∀ x, (T.1 x).toNat < 16 }

/-- The tile table. -/
def pinT_0 (ch : Tables) : S42.Idx → BitVec 32 := ch.1.1
/-- The count of used tiles. -/
def pinT_1 (ch : Tables) : S1.Idx → BitVec 32 := ch.1.2
theorem pinT_0_lt (ch : Tables) (x : S42.Idx) : (pinT_0 ch x).toNat < 16 := ch.2 x

variable (ch : Tables)

set_option backward.proofsInPublic true in
/-- The two tables as the region reads them. -/
def pfN : pre0.Contents (Elt Bits) := fun | ⟨0, _⟩ => pinT_0 ch | ⟨1, _⟩ => pinT_1 ch | ⟨_ + 2, h⟩ => absurd h (by simp)

/-- The launch memory holds these tables. -/
def Pinned (m : (ℓ : Loc nD τ sig) → Buf (Elt Bits) ℓ) : Prop :=
  (∀ c : Dev nD, m ((c : Thread nD τ).loc main_arg3) = pinT_0 ch) ∧ (∀ c : Dev nD, m ((c : Thread nD τ).loc main_arg4) = pinT_1 ch)

theorem column_block_lt : ∀ n : Fin 3, ((Scalar.addi (BitVec.ofNat 32 n.val) 0#32).toNat + 1) * 1024 ≤ 3072 := by decide

/-- Every block of weight window 1 is inside its array: its matrix is one of the sixteen, its columns are whole blocks. -/
theorem ok_win1 (i : grid0.Coords) (a : Fin 3) :
    (cc0_transform_1 k0_off1_inb numel1_S1 (pfN ch) i a + 1) * S1x2048x1024.size a ≤ S16x2048x3072.size a := by
  fin_cases a
  · have h := pinT_0_lt ch
    exact (Nat.mul_one _).trans_le (Nat.succ_le_of_lt (h _))
  · exact le_of_eq rfl
  · exact column_block_lt (i 0)

/-- Every block of weight window 2 is inside its array: its matrix is one of the sixteen, its columns are whole blocks. -/
theorem ok_win2 (i : grid0.Coords) (a : Fin 3) :
    (cc0_transform_2 k0_off1_inb numel1_S1 (pfN ch) i a + 1) * S1x2048x1024.size a ≤ S16x2048x3072.size a := by
  fin_cases a
  · have h := pinT_0_lt ch
    exact (Nat.mul_one _).trans_le (Nat.succ_le_of_lt (h _))
  · exact le_of_eq rfl
  · exact column_block_lt (i 0)

/-- The pipeline's side condition holds of the tables. -/
theorem ok_pfN : ok0 (F := Bits) (pfN ch) := ⟨fun i => ⟨ok_win1 ch i, Or.inl rfl⟩, fun i => ⟨ok_win2 ch i, Or.inl rfl⟩⟩

/-- The admissible contents, the pipeline at them, as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x2048 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S1x2048x1024 .f32 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S1x2048x1024 .f32 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S512x1024 .bf16 := spec0_3.stage ((cfgA ch).slots t (3 : Fin 4))
abbrev hs0_3 (t : Fin (cfgA ch).N) : (ms0_3 ch t).IsWhole := hstage0_3 (((cfgA ch).slots t (3 : Fin 4)).cast nbuf0_3)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.ori (Scalar.cmpi .eq (BitVec.ofNat 32 ((crd ch t) 1).val) 0#32) (Scalar.cmpi .ne (View.readAt (Elt Bits) (tbM0_0).view (Rect.unit (s := S42) (k0_off1 (crd ch t)) S1.size (k0_off1_inb (crd ch t))).toLoadRect (pinT_0 ch) (Shape.Idx.first (numel1_S1.symm ▸ Nat.one_pos))) (View.readAt (Elt Bits) (tbM0_0).view (Rect.unit (s := S42) (k0_off2 (crd ch t)) S1.size (k0_off2_inb (crd ch t))).toLoadRect (pinT_0 ch) (Shape.Idx.first (numel1_S1.symm ▸ Nat.one_pos)))))) 0#32) = 1#1
abbrev P0_1 (t : Fin (cfgA ch).N) : Prop := k0_cond2 (crd ch t) (View.readAt (Elt Bits) (tbM0_1).view (Rect.unit (s := S1) ![0] S1.size inb_S1_S1_0).toLoadRect (pinT_1 ch) (Shape.Idx.first (numel1_S1.symm ▸ Nat.one_pos))) = 1#1

/-- Scratch 0 holds nothing determined before the first point, and what a point left after it. -/
def sfresh0_0 (_ : Tables) : ℕ → Bool := fun n => decide (n = 0)

/-- Scratch 1 holds nothing determined before the first point, and what a point left after it. -/
def sfresh0_1 (_ : Tables) : ℕ → Bool := fun n => decide (n = 0)

/-! ## What the body decides at a point -/

theorem extui_ne (b : BitVec 1) : Scalar.cmpi .ne (Scalar.extui b : BitVec 32) 0#32 = b := by
  revert b; decide

/-- A tile is used iff it is not past the used ones, whatever the count. -/
theorem used_or (i : grid0.Coords) (w : BitVec 32) : k0_cond3 i w = ~~~(k0_cond2 i w) := by
  unfold k0_cond3 k0_cond2
  dsimp only
  rw [extui_ne, extui_ne]
  simp only [Scalar.cmpi, IntOp.cmpi, BitVec.slt, BitVec.sle]
  by_cases h : (BitVec.ofNat 32 (i 1).val).toInt < w.toInt
  · simp [h, not_le.2 h]
  · simp [h, not_lt.1 h]
theorem cond3_of_unused {i : grid0.Coords} {w : BitVec 32} (h : ¬k0_cond2 i w = 1#1) : k0_cond3 i w = 1#1 := by
  rw [used_or]; revert h; generalize k0_cond2 i w = b; revert b; decide
theorem not_cond3_of_used {i : grid0.Coords} {w : BitVec 32} (h : k0_cond2 i w = 1#1) : ¬k0_cond3 i w = 1#1 := by
  rw [used_or, h]; decide

/-- A point whose tile is the first reloads the weights. -/
theorem fresh_of_first (t : Fin (cfgA ch).N) (h : ((crd ch t) 1).val = 0) : P0_0 ch t := by
  unfold P0_0; rw [extui_ne, h]
  generalize Scalar.cmpi .ne _ _ = b
  revert b; decide

/-- The first point of the grid is at tile zero. -/
theorem first_tile : ∀ t : Fin grid0.N, t.val = 0 → ((grid0.coords t) 1).val = 0 := by decide +kernel

/-- A point that keeps the weights is not the first. -/
theorem pos_of_carry (t : Fin (cfgA ch).N) (h : ¬P0_0 ch t) : t.val ≠ 0 := fun h0 =>
  h (fresh_of_first ch t (first_tile t h0))

/-- Every point writes its output block back: no two consecutive points have the same one. -/
theorem flush_out : ∀ t : Fin grid0.N, (spec0_3).flushAt (G := grid0) cc0_transform_3 t = true := by decide +kernel

theorem flush_eq (t : Fin (cfgA ch).N) : ((cfgA ch).win (3 : Fin 4)).flush t = true := flush_out t

/-- One of the two conditional stores happens, whatever the count. -/
theorem stores_word (i : grid0.Coords) (w : BitVec 32) : (!(k0_cond2 i w == 1#1) && !(k0_cond3 i w == 1#1)) = false := by
  rw [used_or]
  generalize k0_cond2 i w = b
  revert b; decide

/-- Every point stores its output block: it is used or it is not. -/
theorem idle_eq (t : Fin (cfgA ch).N) : (cfgA ch).idle (3 : Fin 4) ((cfgA ch).grid.coords t) = false := stores_word _ _

/-- The output's staging buffer holds nothing stored before any point. -/
theorem fresh_eq (t : Fin (cfgA ch).N) : (cfgA ch).fresh (3 : Fin 4) t.val = true :=
  Pipeline.Cfg.fresh_tab (cfgA ch) (3 : Fin 4) (fun _ => true) rfl (fun t => by rw [flush_eq]; rfl) t.val (Nat.le_of_lt t.isLt)

end Cert.GateUp.Any

end
-- ==== Proof.GateUp.Run.lean ====
/-
  The run of GateUp at any tables whose words name a matrix: what each point leaves, the body obligation, the launch and the frame.
-/
module

public import proofs.«01_k».proof.Proof.GateUp.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.GateUp.Any

open Cert.GateUp Cert.GateUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Tables)
variable (m : (ℓ : Loc nD τ sig) → Buf (Elt Bits) ℓ) (ρ : Dev nD → PrngReg)

/-- The decisions along path A. -/
theorem hypsR0_A : ∀ (ch : Tables) (t : Fin (cfgA ch).N), P0_0 ch t → ¬P0_1 ch t →
    ((Scalar.cmpi .ne (Scalar.extui (Scalar.ori (Scalar.cmpi .eq (BitVec.ofNat 32 ((crd ch t) 1).val) 0#32) (Scalar.cmpi .ne (View.readAt (Elt Bits) (tbM0_0).view (Rect.unit (s := S42) (k0_off1 (crd ch t)) S1.size (k0_off1_inb (crd ch t))).toLoadRect (pinT_0 ch) (Shape.Idx.first (numel1_S1.symm ▸ Nat.one_pos))) (View.readAt (Elt Bits) (tbM0_0).view (Rect.unit (s := S42) (k0_off2 (crd ch t)) S1.size (k0_off2_inb (crd ch t))).toLoadRect (pinT_0 ch) (Shape.Idx.first (numel1_S1.symm ▸ Nat.one_pos)))))) 0#32) = 1#1) ∧ ((¬(k0_cond2 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True))) :=
  fun ch t q0 q1 => ⟨q0, q1, cond3_of_unused q1, trivial⟩

/-- The schedule along path A. -/
theorem sched0_A : ∀ (ch : Tables) (t : Fin (cfgA ch).N), P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch (t.val + 1) = false ∧ sfresh0_1 ch (t.val + 1) = false :=
  fun ch t q0 q1 => ⟨idle_eq ch t, flush_eq ch t, fresh_eq ch t, decide_eq_false (Nat.succ_ne_zero _), decide_eq_false (Nat.succ_ne_zero _)⟩

/-- The decisions along path B. -/
theorem hypsR0_B : ∀ (ch : Tables) (t : Fin (cfgA ch).N), ¬P0_0 ch t → ¬P0_1 ch t →
    (¬((Scalar.cmpi .ne (Scalar.extui (Scalar.ori (Scalar.cmpi .eq (BitVec.ofNat 32 ((crd ch t) 1).val) 0#32) (Scalar.cmpi .ne (View.readAt (Elt Bits) (tbM0_0).view (Rect.unit (s := S42) (k0_off1 (crd ch t)) S1.size (k0_off1_inb (crd ch t))).toLoadRect (pinT_0 ch) (Shape.Idx.first (numel1_S1.symm ▸ Nat.one_pos))) (View.readAt (Elt Bits) (tbM0_0).view (Rect.unit (s := S42) (k0_off2 (crd ch t)) S1.size (k0_off2_inb (crd ch t))).toLoadRect (pinT_0 ch) (Shape.Idx.first (numel1_S1.symm ▸ Nat.one_pos)))))) 0#32) = 1#1)) ∧ ((¬(k0_cond2 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True))) :=
  fun ch t q0 q1 => ⟨q0, q1, cond3_of_unused q1, trivial⟩

/-- The schedule along path B. -/
theorem sched0_B : ∀ (ch : Tables) (t : Fin (cfgA ch).N), ¬P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false :=
  fun ch t q0 q1 => ⟨idle_eq ch t, flush_eq ch t, fresh_eq ch t, decide_eq_false (pos_of_carry ch t q0), decide_eq_false (Nat.succ_ne_zero _), decide_eq_false (pos_of_carry ch t q0), decide_eq_false (Nat.succ_ne_zero _)⟩

/-- The decisions along path C. -/
theorem hypsR0_C : ∀ (ch : Tables) (t : Fin (cfgA ch).N), P0_0 ch t → P0_1 ch t →
    ((Scalar.cmpi .ne (Scalar.extui (Scalar.ori (Scalar.cmpi .eq (BitVec.ofNat 32 ((crd ch t) 1).val) 0#32) (Scalar.cmpi .ne (View.readAt (Elt Bits) (tbM0_0).view (Rect.unit (s := S42) (k0_off1 (crd ch t)) S1.size (k0_off1_inb (crd ch t))).toLoadRect (pinT_0 ch) (Shape.Idx.first (numel1_S1.symm ▸ Nat.one_pos))) (View.readAt (Elt Bits) (tbM0_0).view (Rect.unit (s := S42) (k0_off2 (crd ch t)) S1.size (k0_off2_inb (crd ch t))).toLoadRect (pinT_0 ch) (Shape.Idx.first (numel1_S1.symm ▸ Nat.one_pos)))))) 0#32) = 1#1) ∧ ((k0_cond2 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) :=
  fun ch t q0 q1 => ⟨q0, q1, not_cond3_of_used q1, trivial⟩

/-- The schedule along path C. -/
theorem sched0_C : ∀ (ch : Tables) (t : Fin (cfgA ch).N), P0_0 ch t → P0_1 ch t →
    (cfgA ch).idle (3 : Fin 4) ((cfgA ch).grid.coords t) = false ∧ ((cfgA ch).win (3 : Fin 4)).flush t = true ∧ (cfgA ch).fresh (3 : Fin 4) t.val = true ∧ sfresh0_0 ch (t.val + 1) = false ∧ sfresh0_1 ch (t.val + 1) = false :=
  fun ch t q0 q1 => ⟨idle_eq ch t, flush_eq ch t, fresh_eq ch t, decide_eq_false (Nat.succ_ne_zero _), decide_eq_false (Nat.succ_ne_zero _)⟩

/-- The decisions along path D. -/
theorem hypsR0_D : ∀ (ch : Tables) (t : Fin (cfgA ch).N), ¬P0_0 ch t → P0_1 ch t →
    (¬((Scalar.cmpi .ne (Scalar.extui (Scalar.ori (Scalar.cmpi .eq (BitVec.ofNat 32 ((crd ch t) 1).val) 0#32) (Scalar.cmpi .ne (View.readAt (Elt Bits) (tbM0_0).view (Rect.unit (s := S42) (k0_off1 (crd ch t)) S1.size (k0_off1_inb (crd ch t))).toLoadRect (pinT_0 ch) (Shape.Idx.first (numel1_S1.symm ▸ Nat.one_pos))) (View.readAt (Elt Bits) (tbM0_0).view (Rect.unit (s := S42) (k0_off2 (crd ch t)) S1.size (k0_off2_inb (crd ch t))).toLoadRect (pinT_0 ch) (Shape.Idx.first (numel1_S1.symm ▸ Nat.one_pos)))))) 0#32) = 1#1)) ∧ ((k0_cond2 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) :=
  fun ch t q0 q1 => ⟨q0, q1, not_cond3_of_used q1, trivial⟩

/-- The schedule along path D. -/
theorem sched0_D : ∀ (ch : Tables) (t : Fin (cfgA ch).N), ¬P0_0 ch t → P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false :=
  fun ch t q0 q1 => ⟨idle_eq ch t, flush_eq ch t, fresh_eq ch t, decide_eq_false (pos_of_carry ch t q0), decide_eq_false (Nat.succ_ne_zero _), decide_eq_false (pos_of_carry ch t q0), decide_eq_false (Nat.succ_ne_zero _)⟩

/-! ## What the outputs and scratches hold after each point -/

/-- ONE STEP of the trajectory: what the outputs' current buffers and the scratches hold after the body at point `t`
    (output 3, scratch 0, scratch 1), from what they held before (`prev`): the path the decisions select at `t`, its
    run's contents; an output the path leaves idle keeps what it held (junk — `default`, named by nothing — where fresh). -/
def step0 (c : Dev nD) (t : Fin (cfgA ch).N) (prev : (S512x1024.Idx → Elt Bits .bf16) × Buf (Elt Bits) ((c : Thread nD τ).loc cc0_scratch0) × Buf (Elt Bits) ((c : Thread nD τ).loc cc0_scratch1)) : (S512x1024.Idx → Elt Bits .bf16) × Buf (Elt Bits) ((c : Thread nD τ).loc cc0_scratch0) × Buf (Elt Bits) ((c : Thread nD τ).loc cc0_scratch1) :=
  if q0 : P0_0 ch t then
    if q1 : P0_1 ch t then
      (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1).2.2.1)
    else
      (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.1)
  else
    if q1 : P0_1 ch t then
      (out0_D_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1).2.2.1)
    else
      (out0_B_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1).2.2.1)

/-- THE TRAJECTORY: after position `n`. -/
def traj0 (c : Dev nD) : (n : ℕ) → n < (cfgA ch).N → (S512x1024.Idx → Elt Bits .bf16) × Buf (Elt Bits) ((c : Thread nD τ).loc cc0_scratch0) × Buf (Elt Bits) ((c : Thread nD τ).loc cc0_scratch1)
  | 0, h => step0 ch m ρ c ⟨0, h⟩ (default, default, default)
  | n + 1, h => step0 ch m ρ c ⟨n + 1, h⟩ (traj0 c n (Nat.lt_of_succ_lt h))

/-- What they held BEFORE point `t` (junk before the first). -/
def prev0 (c : Dev nD) (t : Fin (cfgA ch).N) : (S512x1024.Idx → Elt Bits .bf16) × Buf (Elt Bits) ((c : Thread nD τ).loc cc0_scratch0) × Buf (Elt Bits) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S512x1024.Idx → Elt Bits .bf16) × Buf (Elt Bits) ((c : Thread nD τ).loc cc0_scratch0) × Buf (Elt Bits) ((c : Thread nD τ).loc cc0_scratch1)) (q0 : P0_0 ch t) (q1 : ¬P0_1 ch t) :
    step0 ch m ρ c t prev = (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.1) := by
  unfold step0; simp only [dif_pos q0, dif_neg q1]

/-- `step0` at a point of path B. -/
theorem step0_B (c : Dev nD) (t : Fin (cfgA ch).N) (prev : (S512x1024.Idx → Elt Bits .bf16) × Buf (Elt Bits) ((c : Thread nD τ).loc cc0_scratch0) × Buf (Elt Bits) ((c : Thread nD τ).loc cc0_scratch1)) (q0 : ¬P0_0 ch t) (q1 : ¬P0_1 ch t) :
    step0 ch m ρ c t prev = (out0_B_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1).2.2.1) := by
  unfold step0; simp only [dif_neg q0, dif_neg q1]

/-- `step0` at a point of path C. -/
theorem step0_C (c : Dev nD) (t : Fin (cfgA ch).N) (prev : (S512x1024.Idx → Elt Bits .bf16) × Buf (Elt Bits) ((c : Thread nD τ).loc cc0_scratch0) × Buf (Elt Bits) ((c : Thread nD τ).loc cc0_scratch1)) (q0 : P0_0 ch t) (q1 : P0_1 ch t) :
    step0 ch m ρ c t prev = (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1).2.2.1) := by
  unfold step0; simp only [dif_pos q0, dif_pos q1]

/-- `step0` at a point of path D. -/
theorem step0_D (c : Dev nD) (t : Fin (cfgA ch).N) (prev : (S512x1024.Idx → Elt Bits .bf16) × Buf (Elt Bits) ((c : Thread nD τ).loc cc0_scratch0) × Buf (Elt Bits) ((c : Thread nD τ).loc cc0_scratch1)) (q0 : ¬P0_0 ch t) (q1 : P0_1 ch t) :
    step0 ch m ρ c t prev = (out0_D_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1).2.2.1) := by
  unfold step0; simp only [dif_neg q0, dif_pos q1]

/-! ## The pipeline's proof data -/

/-- What the tracked buffers held before position `t` of `Fin (N+1)` (the invariant's index). -/
def prev0T (c : Dev nD) (t : Fin ((cfgA ch).N + 1)) : (S512x1024.Idx → Elt Bits .bf16) × Buf (Elt Bits) ((c : Thread nD τ).loc cc0_scratch0) × Buf (Elt Bits) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2⌝ ∗ (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj0 ch m ρ c t.val t.isLt).1
  Φ t := Phi ch m ρ c t
  q _ := fullShare
  owed _ := 0

theorem after0_0 (c : Dev nD) (t : Fin (cfgA ch).N) : (dats ch m ρ 0 c).after (0 : Fin 4) t = iblk ch m ρ c (0 : Fin 4) t := rfl
theorem after0_1 (c : Dev nD) (t : Fin (cfgA ch).N) : (dats ch m ρ 0 c).after (1 : Fin 4) t = iblk ch m ρ c (1 : Fin 4) t := rfl
theorem after0_2 (c : Dev nD) (t : Fin (cfgA ch).N) : (dats ch m ρ 0 c).after (2 : Fin 4) t = iblk ch m ρ c (2 : Fin 4) t := rfl
theorem after0_3 (c : Dev nD) (t : Fin (cfgA ch).N) : (dats ch m ρ 0 c).after (3 : Fin 4) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA ch).N) (ht : t.val ≠ 0), (cfgA ch).idle (3 : Fin 4) ((cfgA ch).grid.coords t) = true → (cfgA ch).fresh (3 : Fin 4) t.val = false →
    (dats ch m ρ 0 c).after (3 : Fin 4) t = (dats ch m ρ 0 c).after (3 : Fin 4) ⟨t.val - 1, by omega⟩ := by
  intro t ht hi hf
  rw [after0_3, after0_3, traj0_eq]
  by_cases q0 : P0_0 ch t
  · by_cases q1 : P0_1 ch t
    · obtain ⟨i3, -, -, -, -⟩ := sched0_C ch t q0 q1
      rw [i3] at hi; exact absurd hi (by decide)
    · obtain ⟨i3, -, -, -, -⟩ := sched0_A ch t q0 q1
      rw [i3] at hi; exact absurd hi (by decide)
  · by_cases q1 : P0_1 ch t
    · obtain ⟨i3, -, -, -, -, -, -⟩ := sched0_D ch t q0 q1
      rw [i3] at hi; exact absurd hi (by decide)
    · obtain ⟨i3, -, -, -, -, -, -⟩ := sched0_B ch t q0 q1
      rw [i3] at hi; exact absurd hi (by decide)

/-- Output window 3 holds, when the body runs at `t`: junk if nothing was stored since its last write-back (`Cfg.fresh`),
    else what the point before left (TableIdle.lean `Dat.before_out_traj`). -/
theorem before0_3 (c : Dev nD) (t : Fin (cfgA ch).N) (d) :
    (dats ch m ρ 0 c).before (3 : Fin 4) t d = if (cfgA ch).fresh (3 : Fin 4) t.val then d else (prev0 ch m ρ c t).1 := by
  rw [(dats ch m ρ 0 c).before_out_traj (3 : Fin 4) rfl (fun _ _ => rfl) (hcarry0_3 ch m ρ c) t.val t rfl d]
  by_cases hf : (cfgA ch).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_moe_gate_up (crd ch t) (Memref.whole main_arg3) (Memref.isWhole_whole _) (Memref.whole main_arg4) (Memref.isWhole_whole _) (ms0_0 ch t) (hs0_0 ch t) (ms0_1 ch t) (hs0_1 ch t) (ms0_2 ch t) (hs0_2 ch t) (ms0_3 ch t) (hs0_3 ch t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 4) t d))
        ∗ (∃ d, owns (c : Thread nD τ) (ms0_1 ch t) fullShare ((dats ch m ρ 0 c).before (1 : Fin 4) t d))
        ∗ (∃ d, owns (c : Thread nD τ) (ms0_2 ch t) fullShare ((dats ch m ρ 0 c).before (2 : Fin 4) t d))
        ∗ (∃ d, owns (c : Thread nD τ) (ms0_3 ch t) fullShare ((dats ch m ρ 0 c).before (3 : Fin 4) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i3, f3, fr3, sfn0, sfn1⟩ := sched0_C ch t q0 q1
      have F0 := hypsR0_C ch t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _)
    · obtain ⟨i3, f3, fr3, sfn0, sfn1⟩ := sched0_A ch t q0 q1
      have F0 := hypsR0_A ch t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
  · by_cases q1 : P0_1 ch t
    · obtain ⟨i3, f3, fr3, sf0, sfn0, sf1, sfn1⟩ := sched0_D ch t q0 q1
      have F0 := hypsR0_D ch t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_D_3 c _ _ _ _ _ _ _ _ _ _ _ _ _ _ _ _ _ _ _)
    · obtain ⟨i3, f3, fr3, sf0, sfn0, sf1, sfn1⟩ := sched0_B ch t q0 q1
      have F0 := hypsR0_B ch t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_B_3 c _ _ _ _ _ _ _ _ _ _ _ _ _ _ _ _ _ _ _)

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables are `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 (0 : Fin 4)).trans ((dats ch m ρ 0 c).arrAt_in (0 : Fin 4) rfl _), ((h c).1 (1 : Fin 4)).trans ((dats ch m ρ 0 c).arrAt_in (1 : Fin 4) rfl _), ((h c).1 (2 : Fin 4)).trans ((dats ch m ρ 0 c).arrAt_in (2 : Fin 4) rfl _), ((h c).2 0).trans (hp.1 c).symm, ((h c).2 1).trans (hp.2 c).symm⟩) (run_main ch m ρ hp)

/-- THE FRAME under the pinning: from a launch memory whose tables are `ch`'s, every weakly fair
    execution terminates, nothing faults, every argument array ends unchanged and every semaphore counter of the machine reads
    zero at every final state — `Cert.quiescent_GateUp`'s post. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged ch m ρ hp) ((θ_run defs _ _).mono (fun _ h => h.2) (run_main_quiescent ch m ρ hp))

end Cert.GateUp.Any

end
-- ==== Proof.GateUpGroups.lean ====
/-
  The precondition `gate_up_groups`: every word of the tile table names one of the sixteen matrices.
-/
module

public import proofs.«01_k».proof.Defs
public import proofs.«01_k».proof.Proof.Gen.Pre_gate_up_groups
public import Idealize.ShloMosaic.Lib.ReduceAll
public import Idealize.ShloMosaic.Lib.Affine
public import proofs.«01_k».proof.Proof.TileTake

@[expose] public section

set_option maxRecDepth 16384

noncomputable section

namespace Cert.Pre_gate_up_groups

open Idealize.ShloMosaic

variable {F : FTy → Type} [FloatOps F]

instance : Subsingleton S_.Idx := ⟨fun _ _ => funext fun a => a.elim0⟩

/-- Where the predicate holds, every word of the table is below sixteen. -/
theorem lt_of_fn [Facts] (X : FVec F S21504x2048 .bf16) (A B : FVec F S16x2048x3072 .f32) (T : IVec S42 32) (U : IVec S1 32) (h : fn (F := F) X A B T U = fun _ => 1#1) (i : S42.Idx) : (T i).toNat < 16 := by
  have h0 := congrFun h (Shape.Idx.first Facts.h_S_)
  dsimp only [fn] at h0
  exact Cert.TileTake.lt_of_range _ (Host.reduce_andi_all _ _ _ _ _ h0 i)

end Cert.Pre_gate_up_groups

end
-- ==== Proof.GateUpIdeal.Tables.lean ====
/-
  The launch of GateUpIdeal at ANY tables whose words name a matrix: the tables, the side condition of the pipeline at them, the pipeline, a point's
  coordinates, staging buffers and blocks, and the two decisions the body takes there.
-/
module

public import proofs.«01_k».proof.Proof.Gen.GateUpIdeal.Flash.Runs

@[expose] public section

set_option maxRecDepth 16384
set_option Elab.async false

noncomputable section

namespace Cert.GateUpIdeal.Any

open Cert.GateUpIdeal Cert.GateUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- Tables the launch may find: a tile table all of whose words are below 16, and any count of used tiles. -/
def Tables : Type := { T : (S42.Idx → BitVec 32) × (S1.Idx → BitVec 32) // ∀ x, (T.1 x).toNat < 16 }

/-- The tile table. -/
def pinT_0 (ch : Tables) : S42.Idx → BitVec 32 := ch.1.1
/-- The count of used tiles. -/
def pinT_1 (ch : Tables) : S1.Idx → BitVec 32 := ch.1.2
theorem pinT_0_lt (ch : Tables) (x : S42.Idx) : (pinT_0 ch x).toNat < 16 := ch.2 x

variable (ch : Tables)

set_option backward.proofsInPublic true in
/-- The two tables as the region reads them. -/
def pfN : pre0.Contents (Elt Ideal) := fun | ⟨0, _⟩ => pinT_0 ch | ⟨1, _⟩ => pinT_1 ch | ⟨_ + 2, h⟩ => absurd h (by simp)

/-- The launch memory holds these tables. -/
def Pinned (m : (ℓ : Loc nD τ sig) → Buf (Elt Ideal) ℓ) : Prop :=
  (∀ c : Dev nD, m ((c : Thread nD τ).loc main_arg3) = pinT_0 ch) ∧ (∀ c : Dev nD, m ((c : Thread nD τ).loc main_arg4) = pinT_1 ch)

theorem column_block_lt : ∀ n : Fin 3, ((Scalar.addi (BitVec.ofNat 32 n.val) 0#32).toNat + 1) * 1024 ≤ 3072 := by decide

/-- Every block of weight window 1 is inside its array: its matrix is one of the sixteen, its columns are whole blocks. -/
theorem ok_win1 (i : grid0.Coords) (a : Fin 3) :
    (cc0_transform_1 k0_off1_inb numel1_S1 (pfN ch) i a + 1) * S1x2048x1024.size a ≤ S16x2048x3072.size a := by
  fin_cases a
  · have h := pinT_0_lt ch
    exact (Nat.mul_one _).trans_le (Nat.succ_le_of_lt (h _))
  · exact le_of_eq rfl
  · exact column_block_lt (i 0)

/-- Every block of weight window 2 is inside its array: its matrix is one of the sixteen, its columns are whole blocks. -/
theorem ok_win2 (i : grid0.Coords) (a : Fin 3) :
    (cc0_transform_2 k0_off1_inb numel1_S1 (pfN ch) i a + 1) * S1x2048x1024.size a ≤ S16x2048x3072.size a := by
  fin_cases a
  · have h := pinT_0_lt ch
    exact (Nat.mul_one _).trans_le (Nat.succ_le_of_lt (h _))
  · exact le_of_eq rfl
  · exact column_block_lt (i 0)

/-- The pipeline's side condition holds of the tables. -/
theorem ok_pfN : ok0 (F := Ideal) (pfN ch) := ⟨fun i => ⟨ok_win1 ch i, Or.inl rfl⟩, fun i => ⟨ok_win2 ch i, Or.inl rfl⟩⟩

/-- The admissible contents, the pipeline at them, as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x2048 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S1x2048x1024 .f32 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S1x2048x1024 .f32 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S512x1024 .bf16 := spec0_3.stage ((cfgA ch).slots t (3 : Fin 4))
abbrev hs0_3 (t : Fin (cfgA ch).N) : (ms0_3 ch t).IsWhole := hstage0_3 (((cfgA ch).slots t (3 : Fin 4)).cast nbuf0_3)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.ori (Scalar.cmpi .eq (BitVec.ofNat 32 ((crd ch t) 1).val) 0#32) (Scalar.cmpi .ne (View.readAt (Elt Ideal) (tbM0_0).view (Rect.unit (s := S42) (k0_off1 (crd ch t)) S1.size (k0_off1_inb (crd ch t))).toLoadRect (pinT_0 ch) (Shape.Idx.first (numel1_S1.symm ▸ Nat.one_pos))) (View.readAt (Elt Ideal) (tbM0_0).view (Rect.unit (s := S42) (k0_off2 (crd ch t)) S1.size (k0_off2_inb (crd ch t))).toLoadRect (pinT_0 ch) (Shape.Idx.first (numel1_S1.symm ▸ Nat.one_pos)))))) 0#32) = 1#1
abbrev P0_1 (t : Fin (cfgA ch).N) : Prop := k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1

/-- Scratch 0 holds nothing determined before the first point, and what a point left after it. -/
def sfresh0_0 (_ : Tables) : ℕ → Bool := fun n => decide (n = 0)

/-- Scratch 1 holds nothing determined before the first point, and what a point left after it. -/
def sfresh0_1 (_ : Tables) : ℕ → Bool := fun n => decide (n = 0)

/-! ## What the body decides at a point -/

theorem extui_ne (b : BitVec 1) : Scalar.cmpi .ne (Scalar.extui b : BitVec 32) 0#32 = b := by
  revert b; decide

/-- A tile is used iff it is not past the used ones, whatever the count. -/
theorem used_or (i : grid0.Coords) (w : BitVec 32) : k0_cond3 i w = ~~~(k0_cond2 i w) := by
  unfold k0_cond3 k0_cond2
  dsimp only
  rw [extui_ne, extui_ne]
  simp only [Scalar.cmpi, IntOp.cmpi, BitVec.slt, BitVec.sle]
  by_cases h : (BitVec.ofNat 32 (i 1).val).toInt < w.toInt
  · simp [h, not_le.2 h]
  · simp [h, not_lt.1 h]
theorem cond3_of_unused {i : grid0.Coords} {w : BitVec 32} (h : ¬k0_cond2 i w = 1#1) : k0_cond3 i w = 1#1 := by
  rw [used_or]; revert h; generalize k0_cond2 i w = b; revert b; decide
theorem not_cond3_of_used {i : grid0.Coords} {w : BitVec 32} (h : k0_cond2 i w = 1#1) : ¬k0_cond3 i w = 1#1 := by
  rw [used_or, h]; decide

/-- A point whose tile is the first reloads the weights. -/
theorem fresh_of_first (t : Fin (cfgA ch).N) (h : ((crd ch t) 1).val = 0) : P0_0 ch t := by
  unfold P0_0; rw [extui_ne, h]
  generalize Scalar.cmpi .ne _ _ = b
  revert b; decide

/-- The first point of the grid is at tile zero. -/
theorem first_tile : ∀ t : Fin grid0.N, t.val = 0 → ((grid0.coords t) 1).val = 0 := by decide +kernel

/-- A point that keeps the weights is not the first. -/
theorem pos_of_carry (t : Fin (cfgA ch).N) (h : ¬P0_0 ch t) : t.val ≠ 0 := fun h0 =>
  h (fresh_of_first ch t (first_tile t h0))

/-- Every point writes its output block back: no two consecutive points have the same one. -/
theorem flush_out : ∀ t : Fin grid0.N, (spec0_3).flushAt (G := grid0) cc0_transform_3 t = true := by decide +kernel

theorem flush_eq (t : Fin (cfgA ch).N) : ((cfgA ch).win (3 : Fin 4)).flush t = true := flush_out t

/-- One of the two conditional stores happens, whatever the count. -/
theorem stores_word (i : grid0.Coords) (w : BitVec 32) : (!(k0_cond2 i w == 1#1) && !(k0_cond3 i w == 1#1)) = false := by
  rw [used_or]
  generalize k0_cond2 i w = b
  revert b; decide

/-- Every point stores its output block: it is used or it is not. -/
theorem idle_eq (t : Fin (cfgA ch).N) : (cfgA ch).idle (3 : Fin 4) ((cfgA ch).grid.coords t) = false := stores_word _ _

/-- The output's staging buffer holds nothing stored before any point. -/
theorem fresh_eq (t : Fin (cfgA ch).N) : (cfgA ch).fresh (3 : Fin 4) t.val = true :=
  Pipeline.Cfg.fresh_tab (cfgA ch) (3 : Fin 4) (fun _ => true) rfl (fun t => by rw [flush_eq]; rfl) t.val (Nat.le_of_lt t.isLt)

end Cert.GateUpIdeal.Any

end
-- ==== Proof.GateUpIdeal.Run.lean ====
/-
  The run of GateUpIdeal at any tables whose words name a matrix: what each point leaves, the body obligation, the launch and the frame.
-/
module

public import proofs.«01_k».proof.Proof.GateUpIdeal.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.GateUpIdeal.Any

open Cert.GateUpIdeal Cert.GateUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Tables)
variable (m : (ℓ : Loc nD τ sig) → Buf (Elt Ideal) ℓ) (ρ : Dev nD → PrngReg)

/-- The decisions along path A. -/
theorem hypsR0_A : ∀ (ch : Tables) (t : Fin (cfgA ch).N), P0_0 ch t → ¬P0_1 ch t →
    ((Scalar.cmpi .ne (Scalar.extui (Scalar.ori (Scalar.cmpi .eq (BitVec.ofNat 32 ((crd ch t) 1).val) 0#32) (Scalar.cmpi .ne (View.readAt (Elt Ideal) (tbM0_0).view (Rect.unit (s := S42) (k0_off1 (crd ch t)) S1.size (k0_off1_inb (crd ch t))).toLoadRect (pinT_0 ch) (Shape.Idx.first (numel1_S1.symm ▸ Nat.one_pos))) (View.readAt (Elt Ideal) (tbM0_0).view (Rect.unit (s := S42) (k0_off2 (crd ch t)) S1.size (k0_off2_inb (crd ch t))).toLoadRect (pinT_0 ch) (Shape.Idx.first (numel1_S1.symm ▸ Nat.one_pos)))))) 0#32) = 1#1) ∧ ((¬(k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True))) :=
  fun ch t q0 q1 => ⟨q0, q1, cond3_of_unused q1, trivial⟩

/-- The schedule along path A. -/
theorem sched0_A : ∀ (ch : Tables) (t : Fin (cfgA ch).N), P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch (t.val + 1) = false ∧ sfresh0_1 ch (t.val + 1) = false :=
  fun ch t q0 q1 => ⟨idle_eq ch t, flush_eq ch t, fresh_eq ch t, decide_eq_false (Nat.succ_ne_zero _), decide_eq_false (Nat.succ_ne_zero _)⟩

/-- The decisions along path B. -/
theorem hypsR0_B : ∀ (ch : Tables) (t : Fin (cfgA ch).N), ¬P0_0 ch t → ¬P0_1 ch t →
    (¬((Scalar.cmpi .ne (Scalar.extui (Scalar.ori (Scalar.cmpi .eq (BitVec.ofNat 32 ((crd ch t) 1).val) 0#32) (Scalar.cmpi .ne (View.readAt (Elt Ideal) (tbM0_0).view (Rect.unit (s := S42) (k0_off1 (crd ch t)) S1.size (k0_off1_inb (crd ch t))).toLoadRect (pinT_0 ch) (Shape.Idx.first (numel1_S1.symm ▸ Nat.one_pos))) (View.readAt (Elt Ideal) (tbM0_0).view (Rect.unit (s := S42) (k0_off2 (crd ch t)) S1.size (k0_off2_inb (crd ch t))).toLoadRect (pinT_0 ch) (Shape.Idx.first (numel1_S1.symm ▸ Nat.one_pos)))))) 0#32) = 1#1)) ∧ ((¬(k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True))) :=
  fun ch t q0 q1 => ⟨q0, q1, cond3_of_unused q1, trivial⟩

/-- The schedule along path B. -/
theorem sched0_B : ∀ (ch : Tables) (t : Fin (cfgA ch).N), ¬P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false :=
  fun ch t q0 q1 => ⟨idle_eq ch t, flush_eq ch t, fresh_eq ch t, decide_eq_false (pos_of_carry ch t q0), decide_eq_false (Nat.succ_ne_zero _), decide_eq_false (pos_of_carry ch t q0), decide_eq_false (Nat.succ_ne_zero _)⟩

/-- The decisions along path C. -/
theorem hypsR0_C : ∀ (ch : Tables) (t : Fin (cfgA ch).N), P0_0 ch t → P0_1 ch t →
    ((Scalar.cmpi .ne (Scalar.extui (Scalar.ori (Scalar.cmpi .eq (BitVec.ofNat 32 ((crd ch t) 1).val) 0#32) (Scalar.cmpi .ne (View.readAt (Elt Ideal) (tbM0_0).view (Rect.unit (s := S42) (k0_off1 (crd ch t)) S1.size (k0_off1_inb (crd ch t))).toLoadRect (pinT_0 ch) (Shape.Idx.first (numel1_S1.symm ▸ Nat.one_pos))) (View.readAt (Elt Ideal) (tbM0_0).view (Rect.unit (s := S42) (k0_off2 (crd ch t)) S1.size (k0_off2_inb (crd ch t))).toLoadRect (pinT_0 ch) (Shape.Idx.first (numel1_S1.symm ▸ Nat.one_pos)))))) 0#32) = 1#1) ∧ ((k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) :=
  fun ch t q0 q1 => ⟨q0, q1, not_cond3_of_used q1, trivial⟩

/-- The schedule along path C. -/
theorem sched0_C : ∀ (ch : Tables) (t : Fin (cfgA ch).N), P0_0 ch t → P0_1 ch t →
    (cfgA ch).idle (3 : Fin 4) ((cfgA ch).grid.coords t) = false ∧ ((cfgA ch).win (3 : Fin 4)).flush t = true ∧ (cfgA ch).fresh (3 : Fin 4) t.val = true ∧ sfresh0_0 ch (t.val + 1) = false ∧ sfresh0_1 ch (t.val + 1) = false :=
  fun ch t q0 q1 => ⟨idle_eq ch t, flush_eq ch t, fresh_eq ch t, decide_eq_false (Nat.succ_ne_zero _), decide_eq_false (Nat.succ_ne_zero _)⟩

/-- The decisions along path D. -/
theorem hypsR0_D : ∀ (ch : Tables) (t : Fin (cfgA ch).N), ¬P0_0 ch t → P0_1 ch t →
    (¬((Scalar.cmpi .ne (Scalar.extui (Scalar.ori (Scalar.cmpi .eq (BitVec.ofNat 32 ((crd ch t) 1).val) 0#32) (Scalar.cmpi .ne (View.readAt (Elt Ideal) (tbM0_0).view (Rect.unit (s := S42) (k0_off1 (crd ch t)) S1.size (k0_off1_inb (crd ch t))).toLoadRect (pinT_0 ch) (Shape.Idx.first (numel1_S1.symm ▸ Nat.one_pos))) (View.readAt (Elt Ideal) (tbM0_0).view (Rect.unit (s := S42) (k0_off2 (crd ch t)) S1.size (k0_off2_inb (crd ch t))).toLoadRect (pinT_0 ch) (Shape.Idx.first (numel1_S1.symm ▸ Nat.one_pos)))))) 0#32) = 1#1)) ∧ ((k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) :=
  fun ch t q0 q1 => ⟨q0, q1, not_cond3_of_used q1, trivial⟩

/-- The schedule along path D. -/
theorem sched0_D : ∀ (ch : Tables) (t : Fin (cfgA ch).N), ¬P0_0 ch t → P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false :=
  fun ch t q0 q1 => ⟨idle_eq ch t, flush_eq ch t, fresh_eq ch t, decide_eq_false (pos_of_carry ch t q0), decide_eq_false (Nat.succ_ne_zero _), decide_eq_false (pos_of_carry ch t q0), decide_eq_false (Nat.succ_ne_zero _)⟩

/-! ## What the outputs and scratches hold after each point -/

/-- ONE STEP of the trajectory: what the outputs' current buffers and the scratches hold after the body at point `t`
    (output 3, scratch 0, scratch 1), from what they held before (`prev`): the path the decisions select at `t`, its
    run's contents; an output the path leaves idle keeps what it held (junk — `default`, named by nothing — where fresh). -/
def step0 (c : Dev nD) (t : Fin (cfgA ch).N) (prev : (S512x1024.Idx → Elt Ideal .bf16) × Buf (Elt Ideal) ((c : Thread nD τ).loc cc0_scratch0) × Buf (Elt Ideal) ((c : Thread nD τ).loc cc0_scratch1)) : (S512x1024.Idx → Elt Ideal .bf16) × Buf (Elt Ideal) ((c : Thread nD τ).loc cc0_scratch0) × Buf (Elt Ideal) ((c : Thread nD τ).loc cc0_scratch1) :=
  if q0 : P0_0 ch t then
    if q1 : P0_1 ch t then
      (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1).2.2.1)
    else
      (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.1)
  else
    if q1 : P0_1 ch t then
      (out0_D_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1).2.2.1)
    else
      (out0_B_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1).2.2.1)

/-- THE TRAJECTORY: after position `n`. -/
def traj0 (c : Dev nD) : (n : ℕ) → n < (cfgA ch).N → (S512x1024.Idx → Elt Ideal .bf16) × Buf (Elt Ideal) ((c : Thread nD τ).loc cc0_scratch0) × Buf (Elt Ideal) ((c : Thread nD τ).loc cc0_scratch1)
  | 0, h => step0 ch m ρ c ⟨0, h⟩ (default, default, default)
  | n + 1, h => step0 ch m ρ c ⟨n + 1, h⟩ (traj0 c n (Nat.lt_of_succ_lt h))

/-- What they held BEFORE point `t` (junk before the first). -/
def prev0 (c : Dev nD) (t : Fin (cfgA ch).N) : (S512x1024.Idx → Elt Ideal .bf16) × Buf (Elt Ideal) ((c : Thread nD τ).loc cc0_scratch0) × Buf (Elt Ideal) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S512x1024.Idx → Elt Ideal .bf16) × Buf (Elt Ideal) ((c : Thread nD τ).loc cc0_scratch0) × Buf (Elt Ideal) ((c : Thread nD τ).loc cc0_scratch1)) (q0 : P0_0 ch t) (q1 : ¬P0_1 ch t) :
    step0 ch m ρ c t prev = (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1).2.2.1) := by
  unfold step0; simp only [dif_pos q0, dif_neg q1]

/-- `step0` at a point of path B. -/
theorem step0_B (c : Dev nD) (t : Fin (cfgA ch).N) (prev : (S512x1024.Idx → Elt Ideal .bf16) × Buf (Elt Ideal) ((c : Thread nD τ).loc cc0_scratch0) × Buf (Elt Ideal) ((c : Thread nD τ).loc cc0_scratch1)) (q0 : ¬P0_0 ch t) (q1 : ¬P0_1 ch t) :
    step0 ch m ρ c t prev = (out0_B_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_B ch t q0 q1).1 (hypsR0_B ch t q0 q1).2.1 (hypsR0_B ch t q0 q1).2.2.1).2.2.1) := by
  unfold step0; simp only [dif_neg q0, dif_neg q1]

/-- `step0` at a point of path C. -/
theorem step0_C (c : Dev nD) (t : Fin (cfgA ch).N) (prev : (S512x1024.Idx → Elt Ideal .bf16) × Buf (Elt Ideal) ((c : Thread nD τ).loc cc0_scratch0) × Buf (Elt Ideal) ((c : Thread nD τ).loc cc0_scratch1)) (q0 : P0_0 ch t) (q1 : P0_1 ch t) :
    step0 ch m ρ c t prev = (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) (hypsR0_C ch t q0 q1).1 (hypsR0_C ch t q0 q1).2.1 (hypsR0_C ch t q0 q1).2.2.1).2.2.1) := by
  unfold step0; simp only [dif_pos q0, dif_pos q1]

/-- `step0` at a point of path D. -/
theorem step0_D (c : Dev nD) (t : Fin (cfgA ch).N) (prev : (S512x1024.Idx → Elt Ideal .bf16) × Buf (Elt Ideal) ((c : Thread nD τ).loc cc0_scratch0) × Buf (Elt Ideal) ((c : Thread nD τ).loc cc0_scratch1)) (q0 : ¬P0_0 ch t) (q1 : P0_1 ch t) :
    step0 ch m ρ c t prev = (out0_D_3 c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2 (hypsR0_D ch t q0 q1).1 (hypsR0_D ch t q0 q1).2.1 (hypsR0_D ch t q0 q1).2.2.1).2.2.1) := by
  unfold step0; simp only [dif_neg q0, dif_pos q1]

/-! ## The pipeline's proof data -/

/-- What the tracked buffers held before position `t` of `Fin (N+1)` (the invariant's index). -/
def prev0T (c : Dev nD) (t : Fin ((cfgA ch).N + 1)) : (S512x1024.Idx → Elt Ideal .bf16) × Buf (Elt Ideal) ((c : Thread nD τ).loc cc0_scratch0) × Buf (Elt Ideal) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2⌝ ∗ (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj0 ch m ρ c t.val t.isLt).1
  Φ t := Phi ch m ρ c t
  q _ := fullShare
  owed _ := 0

theorem after0_0 (c : Dev nD) (t : Fin (cfgA ch).N) : (dats ch m ρ 0 c).after (0 : Fin 4) t = iblk ch m ρ c (0 : Fin 4) t := rfl
theorem after0_1 (c : Dev nD) (t : Fin (cfgA ch).N) : (dats ch m ρ 0 c).after (1 : Fin 4) t = iblk ch m ρ c (1 : Fin 4) t := rfl
theorem after0_2 (c : Dev nD) (t : Fin (cfgA ch).N) : (dats ch m ρ 0 c).after (2 : Fin 4) t = iblk ch m ρ c (2 : Fin 4) t := rfl
theorem after0_3 (c : Dev nD) (t : Fin (cfgA ch).N) : (dats ch m ρ 0 c).after (3 : Fin 4) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA ch).N) (ht : t.val ≠ 0), (cfgA ch).idle (3 : Fin 4) ((cfgA ch).grid.coords t) = true → (cfgA ch).fresh (3 : Fin 4) t.val = false →
    (dats ch m ρ 0 c).after (3 : Fin 4) t = (dats ch m ρ 0 c).after (3 : Fin 4) ⟨t.val - 1, by omega⟩ := by
  intro t ht hi hf
  rw [after0_3, after0_3, traj0_eq]
  by_cases q0 : P0_0 ch t
  · by_cases q1 : P0_1 ch t
    · obtain ⟨i3, -, -, -, -⟩ := sched0_C ch t q0 q1
      rw [i3] at hi; exact absurd hi (by decide)
    · obtain ⟨i3, -, -, -, -⟩ := sched0_A ch t q0 q1
      rw [i3] at hi; exact absurd hi (by decide)
  · by_cases q1 : P0_1 ch t
    · obtain ⟨i3, -, -, -, -, -, -⟩ := sched0_D ch t q0 q1
      rw [i3] at hi; exact absurd hi (by decide)
    · obtain ⟨i3, -, -, -, -, -, -⟩ := sched0_B ch t q0 q1
      rw [i3] at hi; exact absurd hi (by decide)

/-- Output window 3 holds, when the body runs at `t`: junk if nothing was stored since its last write-back (`Cfg.fresh`),
    else what the point before left (TableIdle.lean `Dat.before_out_traj`). -/
theorem before0_3 (c : Dev nD) (t : Fin (cfgA ch).N) (d) :
    (dats ch m ρ 0 c).before (3 : Fin 4) t d = if (cfgA ch).fresh (3 : Fin 4) t.val then d else (prev0 ch m ρ c t).1 := by
  rw [(dats ch m ρ 0 c).before_out_traj (3 : Fin 4) rfl (fun _ _ => rfl) (hcarry0_3 ch m ρ c) t.val t rfl d]
  by_cases hf : (cfgA ch).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_moe_gate_up (crd ch t) (Memref.whole main_arg3) (Memref.isWhole_whole _) (Memref.whole main_arg4) (Memref.isWhole_whole _) (ms0_0 ch t) (hs0_0 ch t) (ms0_1 ch t) (hs0_1 ch t) (ms0_2 ch t) (hs0_2 ch t) (ms0_3 ch t) (hs0_3 ch t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 4) t d))
        ∗ (∃ d, owns (c : Thread nD τ) (ms0_1 ch t) fullShare ((dats ch m ρ 0 c).before (1 : Fin 4) t d))
        ∗ (∃ d, owns (c : Thread nD τ) (ms0_2 ch t) fullShare ((dats ch m ρ 0 c).before (2 : Fin 4) t d))
        ∗ (∃ d, owns (c : Thread nD τ) (ms0_3 ch t) fullShare ((dats ch m ρ 0 c).before (3 : Fin 4) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i3, f3, fr3, sfn0, sfn1⟩ := sched0_C ch t q0 q1
      have F0 := hypsR0_C ch t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _)
    · obtain ⟨i3, f3, fr3, sfn0, sfn1⟩ := sched0_A ch t q0 q1
      have F0 := hypsR0_A ch t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) hc0 k0_h2 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
  · by_cases q1 : P0_1 ch t
    · obtain ⟨i3, f3, fr3, sf0, sfn0, sf1, sfn1⟩ := sched0_D ch t q0 q1
      have F0 := hypsR0_D ch t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_D_3 c _ _ _ _ _ _ _ _ _ _ _ _ _ _ _ _ _ _ _)
    · obtain ⟨i3, f3, fr3, sf0, sfn0, sf1, sfn1⟩ := sched0_B ch t q0 q1
      have F0 := hypsR0_B ch t q0 q1
      have hc0 := F0.1; have F1 := F0.2
      have k0_h2 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) _ _ hc0 k0_h2 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_B_3 c _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables are `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 (0 : Fin 4)).trans ((dats ch m ρ 0 c).arrAt_in (0 : Fin 4) rfl _), ((h c).1 (1 : Fin 4)).trans ((dats ch m ρ 0 c).arrAt_in (1 : Fin 4) rfl _), ((h c).1 (2 : Fin 4)).trans ((dats ch m ρ 0 c).arrAt_in (2 : Fin 4) rfl _), ((h c).2 0).trans (hp.1 c).symm, ((h c).2 1).trans (hp.2 c).symm⟩) (run_main ch m ρ hp)

/-- THE FRAME under the pinning: from a launch memory whose tables are `ch`'s, every weakly fair
    execution terminates, nothing faults, every argument array ends unchanged and every semaphore counter of the machine reads
    zero at every final state — `Cert.quiescent_GateUpIdeal`'s post. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged ch m ρ hp) ((θ_run defs _ _).mono (fun _ h => h.2) (run_main_quiescent ch m ρ hp))

end Cert.GateUpIdeal.Any

end
-- ==== Proof.GateUpIdeal.Block.lean ====
/-
  What one grid point of the kernel leaves: the scratches hold the group's gate and up blocks, cut to the true columns; the
  output block is the rows' gated product with them or zeros.
-/
module

public import Idealize.ShloMosaic.Lib.Pointwise
public import Idealize.ShloMosaic.Lib.VecWindow
public import Idealize.ShloMosaic.Lib.Pipeline.ValueKit.Tiles
public import proofs.«01_k».proof.Proof.GateUpIdeal.Run

@[expose] public section

set_option maxRecDepth 16384

noncomputable section

namespace Cert.GateUpIdeal.Any

open Cert.GateUpIdeal Cert.GateUpIdeal.Gen
open Idealize.ShloMosaic Idealize.ShloMosaic.TcCoe Idealize.SL.Sem

theorem hz : (![0, 0] : Fin 2 → ℕ) = fun _ => 0 := funext fun a => by fin_cases a <;> rfl

/-- What a whole buffer holds after one store of its own sizes is the payload. -/
theorem whole_store {κ : Kind} (b : Ref sig κ) (f : b.ty.Contents (Elt Ideal)) (off : Fin b.ty.shape.rank → ℕ)
    (inb : ∀ a, off a + b.ty.shape.size a ≤ b.ty.shape.size a) (w : b.ty.Contents (Elt Ideal)) :
    (View.whole b).writes (Elt Ideal) f [⟨Rect.unit off b.ty.shape.size inb, w⟩] = w :=
  (View.read_whole b _).symm.trans (View.read_writes_full (View.whole b) f inb w [])

variable (c : Dev nD) (i : grid0.Coords) (arg4 : Memref sig .tc .vmem S512x2048 .bf16) (harg4 : arg4.IsWhole)
  (arg5 : Memref sig .tc .vmem S1x2048x1024 .f32) (harg5 : arg5.IsWhole) (arg6 : Memref sig .tc .vmem S1x2048x1024 .f32) (harg6 : arg6.IsWhole)
  (arg7 : Memref sig .tc .vmem S512x1024 .bf16) (harg7 : arg7.IsWhole)
  (T0 : S42.Idx → BitVec 32) (T1 : S1.Idx → BitVec 32)
  (x0 : FVec Ideal S512x2048 .bf16) (x1 x2 : FVec Ideal S1x2048x1024 .f32) (xa0 xa1 : FVec Ideal S2048x1024 .bf16)

/-- The gated product depends on its four operands. -/
theorem pay3_congr {a a' c c' : Vec Ideal S512x2048 .bf16} {b b' d d' : Vec Ideal S2048x1024 .bf16} (ha : a = a') (hb : b = b') (hc : c = c') (hd : d = d') :
    k0_pay3 (F := Ideal) a b c d = k0_pay3 (F := Ideal) a' b' c' d' := by rw [ha, hb, hc, hd]

/-- A reloading, unused point leaves zeros in its output block. -/
theorem out_A (hc0) (h2) (h3) :
    out0_A_3 c i arg4 harg4 arg5 harg5 arg6 harg6 arg7 harg7 T0 T1 x0 x1 x2 hc0 h2 h3 = k0_pay4 (F := Ideal) := by
  unfold out0_A_3
  rw [View.read_writes_eq_canon _ _ _ (cover0_A_3 c i arg4 harg4 arg5 harg5 arg6 harg6 arg7 harg7 T0 T1 x0 x1 x2 hc0 h2 h3)]
  unfold kernelRun0_A
  dsimp only
  sl_unfold_words
  exact View.canon_unit_zero hz _ _

/-- A keeping, unused point leaves zeros in its output block. -/
theorem out_B (hc0) (h2) (h3) :
    out0_B_3 c i arg4 harg4 arg5 harg5 arg6 harg6 arg7 harg7 T0 T1 x0 x1 x2 xa0 xa1 hc0 h2 h3 = k0_pay4 (F := Ideal) := by
  unfold out0_B_3
  rw [View.read_writes_eq_canon _ _ _ (cover0_B_3 c i arg4 harg4 arg5 harg5 arg6 harg6 arg7 harg7 T0 T1 x0 x1 x2 xa0 xa1 hc0 h2 h3)]
  unfold kernelRun0_B
  dsimp only
  sl_unfold_words
  exact View.canon_unit_zero hz _ _

/-- A keeping, used point leaves the gated product of its rows with the blocks the scratches hold. -/
theorem out_D (hc0) (h2) (h3) :
    out0_D_3 c i arg4 harg4 arg5 harg5 arg6 harg6 arg7 harg7 T0 T1 x0 x1 x2 xa0 xa1 hc0 h2 h3 = k0_pay3 (F := Ideal) x0 xa0 x0 xa1 := by
  unfold out0_D_3
  rw [View.read_writes_eq_canon _ _ _ (cover0_D_3 c i arg4 harg4 arg5 harg5 arg6 harg6 arg7 harg7 T0 T1 x0 x1 x2 xa0 xa1 hc0 h2 h3)]
  unfold kernelRun0_D
  dsimp only
  sl_unfold_words
  refine (View.canon_unit_zero hz _ _).trans ?_
  exact pay3_congr (View.readAt_rep_full _ _ _) (View.readAt_full _ _ _) (View.readAt_rep_full _ _ _) (View.readAt_full _ _ _)

/-- A reloading, used point leaves the gated product of its rows with the blocks it has just reloaded. -/
theorem out_C (hc0) (h2) (h3) :
    out0_C_3 c i arg4 harg4 arg5 harg5 arg6 harg6 arg7 harg7 T0 T1 x0 x1 x2 hc0 h2 h3 = k0_pay3 (F := Ideal) x0 (k0_pay1 (F := Ideal) i x1) x0 (k0_pay2 (F := Ideal) i x2) := by
  unfold out0_C_3
  rw [View.read_writes_eq_canon _ _ _ (cover0_C_3 c i arg4 harg4 arg5 harg5 arg6 harg6 arg7 harg7 T0 T1 x0 x1 x2 hc0 h2 h3)]
  unfold kernelRun0_C
  dsimp only
  sl_unfold_words
  refine (View.canon_unit_zero hz _ _).trans ?_
  refine pay3_congr (View.readAt_rep_full _ _ _) ?_ (View.readAt_rep_full _ _ _) ?_
  · exact (View.readCov_full _ _ _ _ _).trans (congrArg (k0_pay1 (F := Ideal) i) (View.readAt_rep_full _ _ _))
  · exact (View.readCov_full _ _ _ _ _).trans (congrArg (k0_pay2 (F := Ideal) i) (View.readAt_rep_full _ _ _))

/-- A keeping point leaves the scratches as they were. -/
theorem gate_B (hc0) (h2) (h3) : (kernelRun0_B c i arg4 harg4 arg5 harg5 arg6 harg6 arg7 harg7 T0 T1 x0 x1 x2 xa0 xa1 hc0 h2 h3).2.1 = xa0 := rfl
theorem up_B (hc0) (h2) (h3) : (kernelRun0_B c i arg4 harg4 arg5 harg5 arg6 harg6 arg7 harg7 T0 T1 x0 x1 x2 xa0 xa1 hc0 h2 h3).2.2.1 = xa1 := rfl
theorem gate_D (hc0) (h2) (h3) : (kernelRun0_D c i arg4 harg4 arg5 harg5 arg6 harg6 arg7 harg7 T0 T1 x0 x1 x2 xa0 xa1 hc0 h2 h3).2.1 = xa0 := rfl
theorem up_D (hc0) (h2) (h3) : (kernelRun0_D c i arg4 harg4 arg5 harg5 arg6 harg6 arg7 harg7 T0 T1 x0 x1 x2 xa0 xa1 hc0 h2 h3).2.2.1 = xa1 := rfl

/-- A reloading point leaves its weight blocks, cut and rounded, in the scratches. -/
theorem gate_A (hc0) (h2) (h3) : (kernelRun0_A c i arg4 harg4 arg5 harg5 arg6 harg6 arg7 harg7 T0 T1 x0 x1 x2 hc0 h2 h3).2.1 = k0_pay1 (F := Ideal) i x1 := by
  unfold kernelRun0_A
  dsimp only
  sl_unfold_words
  refine (whole_store cc0_scratch0 _ _ inb_S2048x1024_S2048x1024_0_0 _).trans (congrArg (k0_pay1 (F := Ideal) i) (View.readAt_rep_full _ _ _))

theorem up_A (hc0) (h2) (h3) : (kernelRun0_A c i arg4 harg4 arg5 harg5 arg6 harg6 arg7 harg7 T0 T1 x0 x1 x2 hc0 h2 h3).2.2.1 = k0_pay2 (F := Ideal) i x2 := by
  unfold kernelRun0_A
  dsimp only
  sl_unfold_words
  refine (whole_store cc0_scratch1 _ _ inb_S2048x1024_S2048x1024_0_0 _).trans (congrArg (k0_pay2 (F := Ideal) i) (View.readAt_rep_full _ _ _))

theorem gate_C (hc0) (h2) (h3) : (kernelRun0_C c i arg4 harg4 arg5 harg5 arg6 harg6 arg7 harg7 T0 T1 x0 x1 x2 hc0 h2 h3).2.1 = k0_pay1 (F := Ideal) i x1 := by
  unfold kernelRun0_C
  dsimp only
  sl_unfold_words
  refine (whole_store cc0_scratch0 _ _ inb_S2048x1024_S2048x1024_0_0 _).trans (congrArg (k0_pay1 (F := Ideal) i) (View.readAt_rep_full _ _ _))

theorem up_C (hc0) (h2) (h3) : (kernelRun0_C c i arg4 harg4 arg5 harg5 arg6 harg6 arg7 harg7 T0 T1 x0 x1 x2 hc0 h2 h3).2.2.1 = k0_pay2 (F := Ideal) i x2 := by
  unfold kernelRun0_C
  dsimp only
  sl_unfold_words
  refine (whole_store cc0_scratch1 _ _ inb_S2048x1024_S2048x1024_0_0 _).trans (congrArg (k0_pay2 (F := Ideal) i) (View.readAt_rep_full _ _ _))

/-! ## The payloads at an entry -/

/-- The test of a column against the number of true columns. -/
theorem mask_eq : ∀ (n : Fin 3) (d : Fin 1024),
    IntOp.cmpi .slt (IntOp.addi (Scalar.muli (Scalar.addi (BitVec.ofNat 32 n.val) 0#32) 1024#32) (BitVec.ofNat 32 d.val)) 2816#32 = 1#1 ↔ 1024 * n.val + d.val < 2816 := by
  decide +kernel

theorem pay1_apply (k : Fin 2048) (d : Fin 1024) :
    (k0_pay1 (F := Ideal) i x1 (ix2 k d) : EReal) = if 1024 * (i 0).val + d.val < 2816 then x1 (ix3 0 k d) else 0 := by
  pointwise [k0_pay1]
  have h := mask_eq (i 0) d
  by_cases hc : 1024 * (i 0).val + d.val < 2816
  · rw [if_pos hc]; exact if_pos (h.2 hc)
  · rw [if_neg hc]; exact if_neg fun e => hc (h.1 e)

theorem pay2_apply (k : Fin 2048) (d : Fin 1024) :
    (k0_pay2 (F := Ideal) i x2 (ix2 k d) : EReal) = if 1024 * (i 0).val + d.val < 2816 then x2 (ix3 0 k d) else 0 := by
  pointwise [k0_pay2]
  have h := mask_eq (i 0) d
  by_cases hc : 1024 * (i 0).val + d.val < 2816
  · rw [if_pos hc]; exact if_pos (h.2 hc)
  · rw [if_neg hc]; exact if_neg fun e => hc (h.1 e)

theorem pay4_apply (p : Fin 512) (d : Fin 1024) : (k0_pay4 (F := Ideal) (ix2 p d) : EReal) = 0 := by
  pointwise [k0_pay4]

theorem pay3_apply (p : Fin 512) (d : Fin 1024) :
    (k0_pay3 (F := Ideal) x0 xa0 x0 xa1 (ix2 p d) : EReal)
      = (∑ k : Fin 2048, (x0 (ix2 p k) : EReal) * xa0 (ix2 k d)) * Ideal.logistic (∑ k : Fin 2048, (x0 (ix2 p k) : EReal) * xa0 (ix2 k d))
        * ∑ k : Fin 2048, (x0 (ix2 p k) : EReal) * xa1 (ix2 k d) := by
  pointwise [k0_pay3]

end Cert.GateUpIdeal.Any

end
-- ==== Proof.GateUpIdeal.Words.lean ====
/-
  What the tables tell a grid point: its matrices, whether its tile is used, whether it keeps the matrices of the tile before it; and its blocks.
-/
module

public import proofs.«01_k».proof.Proof.GateUpIdeal.Block

@[expose] public section

set_option maxRecDepth 163126

noncomputable section

namespace Cert.GateUpIdeal.Any

open Cert.GateUpIdeal Cert.GateUpIdeal.Gen
open Idealize.ShloMosaic Idealize.ShloMosaic.TcCoe Idealize.SL.Sem
open Idealize.ShloMosaic.Pipeline (Dat)

/-- A point's coordinates: the column block, then the row tile. -/
theorem crd_val : ∀ t : Fin grid0.N, ((grid0.coords t) 0).val = t.val / 42 ∧ ((grid0.coords t) 1).val = t.val % 42 := by decide +kernel
/-- Where the body reads the tile table: at its tile, and at the tile before. -/
theorem off1_val : ∀ t : Fin grid0.N, k0_off1 (grid0.coords t) (0 : Fin 1) = t.val % 42 := by decide +kernel
theorem off2_val : ∀ t : Fin grid0.N, k0_off2 (grid0.coords t) (0 : Fin 1) = t.val % 42 - 1 := by decide +kernel
/-- Where the blocks of the rows and of the result start, in blocks. -/
theorem idx_rows : ∀ t : Fin grid0.N, cc0_transform_0 (grid0.coords t) (0 : Fin 2) = t.val % 42 ∧ cc0_transform_0 (grid0.coords t) (1 : Fin 2) = 0 := by decide +kernel
theorem idx_out : ∀ t : Fin grid0.N, cc0_transform_3 (grid0.coords t) (0 : Fin 2) = t.val % 42 ∧ cc0_transform_3 (grid0.coords t) (1 : Fin 2) = t.val / 42 := by decide +kernel
theorem idx_col : ∀ n : Fin 3, (Scalar.addi (BitVec.ofNat 32 n.val) 0#32).toNat = n.val := by decide

variable (ch : Tables)

/-- The matrix of tile `j`. -/
def matrixOf (j : ℕ) (h : j < 42) : Fin 16 := ⟨(pinT_0 ch (ix1 ⟨j, h⟩)).toNat, pinT_0_lt ch _⟩

/-- Tile `j` is one of the used ones. -/
def Used (j : ℕ) : Prop := Scalar.cmpi .slt (BitVec.ofNat 32 j) (pinT_1 ch (ix1 0)) = 1#1

/-- The word the body reads at its tile. -/
theorem word1 (t : Fin (cfgA ch).N) :
    View.readAt (Elt Ideal) (tbM0_0).view (Rect.unit (s := S42) (k0_off1 (crd ch t)) S1.size (k0_off1_inb (crd ch t))).toLoadRect (pinT_0 ch)
      (Shape.Idx.first (numel1_S1.symm ▸ Nat.one_pos)) = pinT_0 ch (ix1 ⟨t.val % 42, Nat.mod_lt _ (by decide)⟩) := by
  refine congrArg (pinT_0 ch) (funext fun a => Fin.ext ?_)
  match a with
  | ⟨0, _⟩ => show k0_off1 (crd ch t) (0 : Fin 1) + 1 * 0 = t.val % 42; rw [show k0_off1 (crd ch t) (0 : Fin 1) = t.val % 42 from off1_val t]; rfl

/-- The word the body reads at the tile before. -/
theorem word2 (t : Fin (cfgA ch).N) :
    View.readAt (Elt Ideal) (tbM0_0).view (Rect.unit (s := S42) (k0_off2 (crd ch t)) S1.size (k0_off2_inb (crd ch t))).toLoadRect (pinT_0 ch)
      (Shape.Idx.first (numel1_S1.symm ▸ Nat.one_pos)) = pinT_0 ch (ix1 ⟨t.val % 42 - 1, by omega⟩) := by
  refine congrArg (pinT_0 ch) (funext fun a => Fin.ext ?_)
  match a with
  | ⟨0, _⟩ => show k0_off2 (crd ch t) (0 : Fin 1) + 1 * 0 = t.val % 42 - 1; rw [show k0_off2 (crd ch t) (0 : Fin 1) = t.val % 42 - 1 from off2_val t]; rfl

theorem ori_keep (a b : BitVec 1) (h : ¬Scalar.ori a b = 1#1) : ¬a = 1#1 ∧ ¬b = 1#1 := by
  revert a b; decide

/-- A point keeping its weights is past the first tile, and its tile has the matrix of the tile before. -/
theorem keep_iff (t : Fin (cfgA ch).N) (h : ¬P0_0 ch t) :
    t.val % 42 ≠ 0 ∧ matrixOf ch (t.val % 42) (Nat.mod_lt _ (by decide)) = matrixOf ch (t.val % 42 - 1) (by omega) := by
  refine ⟨fun h0 => h (fresh_of_first ch t ((crd_val t).2.trans h0)), ?_⟩
  have h' : ¬ (Scalar.cmpi .ne (Scalar.extui (Scalar.ori _ (Scalar.cmpi .ne _ _)) : BitVec 32) 0#32) = 1#1 := h
  rw [extui_ne, word1, word2] at h'
  have h2 := (ori_keep _ _ h').2
  have hw : pinT_0 ch (ix1 ⟨t.val % 42, Nat.mod_lt _ (by decide)⟩) = pinT_0 ch (ix1 ⟨t.val % 42 - 1, by omega⟩) := by
    by_contra hne
    exact h2 ((congrArg BitVec.ofBool (bne_iff_ne.2 hne)).trans rfl)
  unfold matrixOf
  simp only [hw]

/-- The body's test of its tile. -/
theorem used_iff (t : Fin (cfgA ch).N) : P0_1 ch t ↔ Used ch (t.val % 42) := by
  have e : View.readAt (Elt Ideal) (tbM0_1).view (Rect.unit (s := S1) ![0] S1.size inb_S1_S1_0).toLoadRect (pinT_1 ch) (Shape.Idx.first (numel1_S1.symm ▸ Nat.one_pos)) = pinT_1 ch (ix1 0) := by
    refine congrArg (pinT_1 ch) (funext fun a => Fin.ext ?_)
    match a with
    | ⟨0, _⟩ => rfl
  show k0_cond2 (crd ch t) _ = 1#1 ↔ _
  rw [e]
  unfold k0_cond2 Used
  dsimp only
  rw [extui_ne, show ((crd ch t) 1).val = t.val % 42 from (crd_val t).2]

/-- Where the gate weights' block starts, in blocks. -/
theorem idx_gate (t : Fin (cfgA ch).N) :
    cc0_transform_1 k0_off1_inb numel1_S1 (pfN ch) (crd ch t) (0 : Fin 3) = (matrixOf ch (t.val % 42) (Nat.mod_lt _ (by decide))).val
    ∧ cc0_transform_1 k0_off1_inb numel1_S1 (pfN ch) (crd ch t) (1 : Fin 3) = 0
    ∧ cc0_transform_1 k0_off1_inb numel1_S1 (pfN ch) (crd ch t) (2 : Fin 3) = t.val / 42 :=
  ⟨by have h := congrArg (fun w : BitVec 32 => w.toNat) (word1 ch t); exact h, rfl, (idx_col ((crd ch t) 0)).trans (crd_val t).1⟩

/-- Where the up weights' block starts, in blocks. -/
theorem idx_up (t : Fin (cfgA ch).N) :
    cc0_transform_2 k0_off1_inb numel1_S1 (pfN ch) (crd ch t) (0 : Fin 3) = (matrixOf ch (t.val % 42) (Nat.mod_lt _ (by decide))).val
    ∧ cc0_transform_2 k0_off1_inb numel1_S1 (pfN ch) (crd ch t) (1 : Fin 3) = 0
    ∧ cc0_transform_2 k0_off1_inb numel1_S1 (pfN ch) (crd ch t) (2 : Fin 3) = t.val / 42 :=
  ⟨by have h := congrArg (fun w : BitVec 32 => w.toNat) (word1 ch t); exact h, rfl, (idx_col ((crd ch t) 0)).trans (crd_val t).1⟩

variable (m : (ℓ : Loc nD τ sig) → Buf (Elt Ideal) ℓ) (ρ : Dev nD → PrngReg) (c : Dev nD)

/-- The rows of all tiles. -/
def rowsOf : FVec Ideal S21504x2048 .bf16 := m ((c : Thread nD τ).loc main_arg0)

/-- The gate matrices of all experts, and their up matrices. -/
def gatesOf : FVec Ideal S16x2048x3072 .f32 := m ((c : Thread nD τ).loc main_arg1)
def upsOf : FVec Ideal S16x2048x3072 .f32 := m ((c : Thread nD τ).loc main_arg2)

/-- A column of all experts' matrices `X`: the column of matrix `g`, or zeros past the true ones. -/
def cutColumn (X : FVec Ideal S16x2048x3072 .f32) (g : Fin 16) (k : Fin 2048) (j : Fin 3072) : EReal :=
  if j.val < 2816 then X (ix3 g k j) else 0

theorem column_lt (n : Fin 3) (d : Fin 1024) : 1024 * n.val + d.val < 3072 := by omega

/-- The block of matrix `g` of `X` from column `1024 n` on, cut to the true columns, as a scratch holds it. -/
def weights (X : FVec Ideal S16x2048x3072 .f32) (g : Fin 16) (n : Fin 3) : FVec Ideal S2048x1024 .bf16 := fun y =>
  cutColumn X g (y 0) ⟨1024 * n.val + (y 1).val, column_lt n (y 1)⟩

theorem point_lt (t : Fin (cfgA ch).N) : t.val < 126 := lt_of_lt_of_eq t.isLt (by decide +kernel : grid0.N = 126)

/-- A point's column block. -/
def columnOf (n : ℕ) (h : n < 126) : Fin 3 := ⟨n / 42, by omega⟩

/-- A point's gate block, cut and rounded. -/
theorem block_gate (t : Fin (cfgA ch).N) :
    k0_pay1 (F := Ideal) (crd ch t) (iblk ch m ρ c (1 : Fin 4) t)
      = weights (gatesOf m c) (matrixOf ch (t.val % 42) (Nat.mod_lt _ (by decide))) (columnOf t.val (point_lt ch t)) := by
  obtain ⟨e0, e1, e2⟩ := idx_gate ch t
  have hv : ((crd ch t) 0).val = t.val / 42 := (crd_val t).1
  funext y
  rw [eq_ix2 y]
  refine (pay1_apply _ _ _ _).trans ?_
  rw [hv]
  unfold weights cutColumn columnOf
  by_cases hc : 1024 * (t.val / 42) + (y 1).val < 2816
  · refine (if_pos hc).trans (Eq.trans ?_ (if_pos hc).symm)
    refine congrArg (m ((c : Thread nD τ).loc main_arg1)) (funext fun a => Fin.ext ?_)
    match a with
    | ⟨0, _⟩ => show cc0_transform_1 k0_off1_inb numel1_S1 (pfN ch) (crd ch t) (0 : Fin 3) * 1 + 1 * 0 = _; rw [e0]; simp
    | ⟨1, _⟩ => show cc0_transform_1 k0_off1_inb numel1_S1 (pfN ch) (crd ch t) (1 : Fin 3) * 2048 + 1 * (y 0).val = (y 0).val; rw [e1]; simp
    | ⟨2, _⟩ => show cc0_transform_1 k0_off1_inb numel1_S1 (pfN ch) (crd ch t) (2 : Fin 3) * 1024 + 1 * (y 1).val = 1024 * (t.val / 42) + (y 1).val; rw [e2]; omega
  · exact (if_neg hc).trans (if_neg hc).symm

/-- A point's up block, cut and rounded. -/
theorem block_up (t : Fin (cfgA ch).N) :
    k0_pay2 (F := Ideal) (crd ch t) (iblk ch m ρ c (2 : Fin 4) t)
      = weights (upsOf m c) (matrixOf ch (t.val % 42) (Nat.mod_lt _ (by decide))) (columnOf t.val (point_lt ch t)) := by
  obtain ⟨e0, e1, e2⟩ := idx_up ch t
  have hv : ((crd ch t) 0).val = t.val / 42 := (crd_val t).1
  funext y
  rw [eq_ix2 y]
  refine (pay2_apply _ _ _ _).trans ?_
  rw [hv]
  unfold weights cutColumn columnOf
  by_cases hc : 1024 * (t.val / 42) + (y 1).val < 2816
  · refine (if_pos hc).trans (Eq.trans ?_ (if_pos hc).symm)
    refine congrArg (m ((c : Thread nD τ).loc main_arg2)) (funext fun a => Fin.ext ?_)
    match a with
    | ⟨0, _⟩ => show cc0_transform_2 k0_off1_inb numel1_S1 (pfN ch) (crd ch t) (0 : Fin 3) * 1 + 1 * 0 = _; rw [e0]; simp
    | ⟨1, _⟩ => show cc0_transform_2 k0_off1_inb numel1_S1 (pfN ch) (crd ch t) (1 : Fin 3) * 2048 + 1 * (y 0).val = (y 0).val; rw [e1]; simp
    | ⟨2, _⟩ => show cc0_transform_2 k0_off1_inb numel1_S1 (pfN ch) (crd ch t) (2 : Fin 3) * 1024 + 1 * (y 1).val = 1024 * (t.val / 42) + (y 1).val; rw [e2]; omega
  · exact (if_neg hc).trans (if_neg hc).symm

/-- A point's rows. -/
theorem block_rows (t : Fin (cfgA ch).N) (p : Fin 512) (k : Fin 2048) (r : Fin 21504) (hr : r.val = 512 * (t.val % 42) + p.val) :
    iblk ch m ρ c (0 : Fin 4) t (ix2 p k) = m ((c : Thread nD τ).loc main_arg0) (ix2 r k) := by
  obtain ⟨e0, e1⟩ := idx_rows t
  refine congrArg (m ((c : Thread nD τ).loc main_arg0)) (funext fun a => Fin.ext ?_)
  match a with
  | ⟨0, _⟩ => show cc0_transform_0 (crd ch t) (0 : Fin 2) * 512 + 1 * p.val = r.val; rw [show cc0_transform_0 (crd ch t) (0 : Fin 2) = _ from e0]; omega
  | ⟨1, _⟩ => show cc0_transform_0 (crd ch t) (1 : Fin 2) * 2048 + 1 * k.val = k.val; rw [show cc0_transform_0 (crd ch t) (1 : Fin 2) = _ from e1]; omega

/-- What a point that reloads its weights and is unused leaves. -/
theorem step_A (t : Fin (cfgA ch).N) (prev) (q0 : P0_0 ch t) (q1 : ¬P0_1 ch t) :
    (step0 ch m ρ c t prev).1 = k0_pay4 (F := Ideal)
    ∧ (step0 ch m ρ c t prev).2.1 = k0_pay1 (F := Ideal) (crd ch t) (iblk ch m ρ c (1 : Fin 4) t) ∧ (step0 ch m ρ c t prev).2.2 = k0_pay2 (F := Ideal) (crd ch t) (iblk ch m ρ c (2 : Fin 4) t) := by
  refine ⟨?_, ?_, ?_⟩
  · refine (congrArg Prod.fst (step0_A ch m ρ c t prev q0 q1)).trans ?_
    dsimp only
    have h := out_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t)
      (hypsR0_A ch t q0 q1).1 (hypsR0_A ch t q0 q1).2.1 (hypsR0_A ch t q0 q1).2.2.1
    exact h
  · refine (congrArg (fun s => s.2.1) (step0_A ch m ρ c t prev q0 q1)).trans ?_
    dsimp only
    have h := gate_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t)
      (hypsR0_A ch t q0 q1).1 (hypsR0_A ch t q0 q1).2.1 (hypsR0_A ch t q0 q1).2.2.1
    exact h
  · refine (congrArg (fun s => s.2.2) (step0_A ch m ρ c t prev q0 q1)).trans ?_
    dsimp only
    have h := up_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t)
      (hypsR0_A ch t q0 q1).1 (hypsR0_A ch t q0 q1).2.1 (hypsR0_A ch t q0 q1).2.2.1
    exact h

/-- What a point that keeps its weights and is unused leaves. -/
theorem step_B (t : Fin (cfgA ch).N) (prev) (q0 : ¬P0_0 ch t) (q1 : ¬P0_1 ch t) :
    (step0 ch m ρ c t prev).1 = k0_pay4 (F := Ideal)
    ∧ (step0 ch m ρ c t prev).2.1 = prev.2.1 ∧ (step0 ch m ρ c t prev).2.2 = prev.2.2 := by
  refine ⟨?_, ?_, ?_⟩
  · refine (congrArg Prod.fst (step0_B ch m ρ c t prev q0 q1)).trans ?_
    dsimp only
    have h := out_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2
      (hypsR0_B ch t q0 q1).1 (hypsR0_B ch t q0 q1).2.1 (hypsR0_B ch t q0 q1).2.2.1
    exact h
  · refine (congrArg (fun s => s.2.1) (step0_B ch m ρ c t prev q0 q1)).trans ?_
    dsimp only
    have h := gate_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2
      (hypsR0_B ch t q0 q1).1 (hypsR0_B ch t q0 q1).2.1 (hypsR0_B ch t q0 q1).2.2.1
    exact h
  · refine (congrArg (fun s => s.2.2) (step0_B ch m ρ c t prev q0 q1)).trans ?_
    dsimp only
    have h := up_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2
      (hypsR0_B ch t q0 q1).1 (hypsR0_B ch t q0 q1).2.1 (hypsR0_B ch t q0 q1).2.2.1
    exact h

/-- What a point that reloads its weights and is used leaves. -/
theorem step_C (t : Fin (cfgA ch).N) (prev) (q0 : P0_0 ch t) (q1 : P0_1 ch t) :
    (step0 ch m ρ c t prev).1 = k0_pay3 (F := Ideal) (iblk ch m ρ c (0 : Fin 4) t) (k0_pay1 (F := Ideal) (crd ch t) (iblk ch m ρ c (1 : Fin 4) t)) (iblk ch m ρ c (0 : Fin 4) t) (k0_pay2 (F := Ideal) (crd ch t) (iblk ch m ρ c (2 : Fin 4) t))
    ∧ (step0 ch m ρ c t prev).2.1 = k0_pay1 (F := Ideal) (crd ch t) (iblk ch m ρ c (1 : Fin 4) t) ∧ (step0 ch m ρ c t prev).2.2 = k0_pay2 (F := Ideal) (crd ch t) (iblk ch m ρ c (2 : Fin 4) t) := by
  refine ⟨?_, ?_, ?_⟩
  · refine (congrArg Prod.fst (step0_C ch m ρ c t prev q0 q1)).trans ?_
    dsimp only
    have h := out_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t)
      (hypsR0_C ch t q0 q1).1 (hypsR0_C ch t q0 q1).2.1 (hypsR0_C ch t q0 q1).2.2.1
    exact h
  · refine (congrArg (fun s => s.2.1) (step0_C ch m ρ c t prev q0 q1)).trans ?_
    dsimp only
    have h := gate_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t)
      (hypsR0_C ch t q0 q1).1 (hypsR0_C ch t q0 q1).2.1 (hypsR0_C ch t q0 q1).2.2.1
    exact h
  · refine (congrArg (fun s => s.2.2) (step0_C ch m ρ c t prev q0 q1)).trans ?_
    dsimp only
    have h := up_C c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t)
      (hypsR0_C ch t q0 q1).1 (hypsR0_C ch t q0 q1).2.1 (hypsR0_C ch t q0 q1).2.2.1
    exact h

/-- What a point that keeps its weights and is used leaves. -/
theorem step_D (t : Fin (cfgA ch).N) (prev) (q0 : ¬P0_0 ch t) (q1 : P0_1 ch t) :
    (step0 ch m ρ c t prev).1 = k0_pay3 (F := Ideal) (iblk ch m ρ c (0 : Fin 4) t) prev.2.1 (iblk ch m ρ c (0 : Fin 4) t) prev.2.2
    ∧ (step0 ch m ρ c t prev).2.1 = prev.2.1 ∧ (step0 ch m ρ c t prev).2.2 = prev.2.2 := by
  refine ⟨?_, ?_, ?_⟩
  · refine (congrArg Prod.fst (step0_D ch m ρ c t prev q0 q1)).trans ?_
    dsimp only
    have h := out_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2
      (hypsR0_D ch t q0 q1).1 (hypsR0_D ch t q0 q1).2.1 (hypsR0_D ch t q0 q1).2.2.1
    exact h
  · refine (congrArg (fun s => s.2.1) (step0_D ch m ρ c t prev q0 q1)).trans ?_
    dsimp only
    have h := gate_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2
      (hypsR0_D ch t q0 q1).1 (hypsR0_D ch t q0 q1).2.1 (hypsR0_D ch t q0 q1).2.2.1
    exact h
  · refine (congrArg (fun s => s.2.2) (step0_D ch m ρ c t prev q0 q1)).trans ?_
    dsimp only
    have h := up_D c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2.1 prev.2.2
      (hypsR0_D ch t q0 q1).1 (hypsR0_D ch t q0 q1).2.1 (hypsR0_D ch t q0 q1).2.2.1
    exact h

/-- THE SCRATCHES after every point: the weights of the point's matrices and column block, whether it reloaded them or not. -/
theorem scratch_eq : ∀ (n : ℕ) (h : n < (cfgA ch).N),
    (traj0 ch m ρ c n h).2.1 = weights (gatesOf m c) (matrixOf ch (n % 42) (Nat.mod_lt _ (by decide))) (columnOf n (point_lt ch ⟨n, h⟩))
    ∧ (traj0 ch m ρ c n h).2.2 = weights (upsOf m c) (matrixOf ch (n % 42) (Nat.mod_lt _ (by decide))) (columnOf n (point_lt ch ⟨n, h⟩))
  | n, h => by
    rw [traj0_eq ch m ρ c ⟨n, h⟩]
    by_cases q0 : P0_0 ch ⟨n, h⟩
    · have bg := block_gate ch m ρ c ⟨n, h⟩
      have bu := block_up ch m ρ c ⟨n, h⟩
      by_cases q1 : P0_1 ch ⟨n, h⟩
      · have s := step_C ch m ρ c ⟨n, h⟩ (prev0 ch m ρ c ⟨n, h⟩) q0 q1
        exact ⟨s.2.1.trans bg, s.2.2.trans bu⟩
      · have s := step_A ch m ρ c ⟨n, h⟩ (prev0 ch m ρ c ⟨n, h⟩) q0 q1
        exact ⟨s.2.1.trans bg, s.2.2.trans bu⟩
    · obtain ⟨hm, hg⟩ := keep_iff ch ⟨n, h⟩ q0
      have hm' : n % 42 ≠ 0 := hm
      have hn : n ≠ 0 := fun h0 => hm' (by subst h0; rfl)
      have hprev : prev0 ch m ρ c ⟨n, h⟩ = traj0 ch m ρ c (n - 1) (by omega) := by
        unfold prev0; rw [dif_neg hn]
      have ih := scratch_eq (n - 1) (by omega)
      have h1 : (n - 1) % 42 = n % 42 - 1 := by omega
      have h2 : columnOf (n - 1) (point_lt ch ⟨n - 1, by omega⟩) = columnOf n (point_lt ch ⟨n, h⟩) := Fin.ext (by show (n - 1) / 42 = n / 42; omega)
      have h3 : matrixOf ch ((n - 1) % 42) (Nat.mod_lt _ (by decide)) = matrixOf ch (n % 42) (Nat.mod_lt _ (by decide)) := by
        refine Eq.trans ?_ hg.symm
        simp only [h1]
      rw [h2, h3, ← hprev] at ih
      by_cases q1 : P0_1 ch ⟨n, h⟩
      · have s := step_D ch m ρ c ⟨n, h⟩ (prev0 ch m ρ c ⟨n, h⟩) q0 q1
        exact ⟨s.2.1.trans ih.1, s.2.2.trans ih.2⟩
      · have s := step_B ch m ρ c ⟨n, h⟩ (prev0 ch m ρ c ⟨n, h⟩) q0 q1
        exact ⟨s.2.1.trans ih.1, s.2.2.trans ih.2⟩
  termination_by n => n

/-- THE OUTPUT BLOCK after every point: on a used tile the gated product of the tile's rows with the weights, else zeros. -/
theorem out_used (t : Fin (cfgA ch).N) (h : Used ch (t.val % 42)) :
    (traj0 ch m ρ c t.val t.isLt).1 = k0_pay3 (F := Ideal) (iblk ch m ρ c (0 : Fin 4) t)
      (weights (gatesOf m c) (matrixOf ch (t.val % 42) (Nat.mod_lt _ (by decide))) (columnOf t.val (point_lt ch t))) (iblk ch m ρ c (0 : Fin 4) t)
      (weights (upsOf m c) (matrixOf ch (t.val % 42) (Nat.mod_lt _ (by decide))) (columnOf t.val (point_lt ch t))) := by
  have q1 := (used_iff ch t).2 h
  have hs := scratch_eq ch m ρ c t.val t.isLt
  rw [traj0_eq ch m ρ c t] at hs ⊢
  by_cases q0 : P0_0 ch t
  · have s := step_C ch m ρ c t (prev0 ch m ρ c t) q0 q1
    rw [← hs.1, ← hs.2, s.2.1, s.2.2, s.1]
  · have s := step_D ch m ρ c t (prev0 ch m ρ c t) q0 q1
    rw [← hs.1, ← hs.2, s.2.1, s.2.2, s.1]

theorem out_unused (t : Fin (cfgA ch).N) (h : ¬Used ch (t.val % 42)) : (traj0 ch m ρ c t.val t.isLt).1 = k0_pay4 (F := Ideal) := by
  have q1 : ¬P0_1 ch t := fun q => h ((used_iff ch t).1 q)
  rw [traj0_eq ch m ρ c t]
  by_cases q0 : P0_0 ch t
  · exact (step_A ch m ρ c t _ q0 q1).1
  · exact (step_B ch m ρ c t _ q0 q1).1

end Cert.GateUpIdeal.Any

end
-- ==== Proof.GateUpIdeal.Array.lean ====
/-
  The result array of the kernel, entry by entry, as a function of the argument arrays and the tables.
-/
module

public import Idealize.ShloMosaic.Lib.Pipeline.ValueKit.Geometry
public import proofs.«01_k».proof.Proof.GateUpIdeal.Words

@[expose] public section

set_option maxRecDepth 163126

noncomputable section

namespace Cert.GateUpIdeal.Any

open Cert.GateUpIdeal Cert.GateUpIdeal.Gen
open Idealize.ShloMosaic Idealize.ShloMosaic.TcCoe Idealize.SL.Sem
open Idealize.ShloMosaic.Pipeline (Dat)

variable (ch : Tables) (m : (ℓ : Loc nD τ sig) → Buf (Elt Ideal) ℓ) (ρ : Dev nD → PrngReg) (c : Dev nD)

/-- No two points write the same output block. -/
theorem disjoint_out : ∀ t t' : Fin (cfgA ch).N, ((cfgA ch).win (3 : Fin 4)).flush t = true → ((cfgA ch).win (3 : Fin 4)).flush t' = true → t ≠ t' →
    Disjoint (((cfgA ch).win (3 : Fin 4)).blk t).view.set (((cfgA ch).win (3 : Fin 4)).blk t').view.set :=
  Pipeline.Window.hdisj_of_index_inj _ fun t t' _ _ e => by
    have e0 : t.val % 42 = t'.val % 42 := (idx_out t).1.symm.trans ((congrFun e (0 : Fin 2)).trans (idx_out t').1)
    have e1 : t.val / 42 = t'.val / 42 := (idx_out t).2.symm.trans ((congrFun e (1 : Fin 2)).trans (idx_out t').2)
    exact Fin.ext (by omega)

/-- What a point's write-back carries is what the point left in its output block. -/
theorem flushed_out (t : Fin (cfgA ch).N) : (dats ch m ρ 0 c).flushed (3 : Fin 4) t = (traj0 ch m ρ c t.val t.isLt).1 := by
  show ((cfgA ch).win (3 : Fin 4)).cut (grid0.coords t) ((dats ch m ρ 0 c).after (3 : Fin 4) t) = _
  rw [after0_3]
  rfl

/-- The result array after the last point. -/
def result : FVec Ideal S21504x3072 .bf16 := (dats ch m ρ 0 c).arrAt (3 : Fin 4) (cfgA ch).N

/-- An entry of the result is what the point of its block left in its output block. -/
theorem result_block (t : Fin (cfgA ch).N) (p : Fin 512) (d : Fin 1024) (r : Fin 21504) (j : Fin 3072)
    (hr : r.val = 512 * (t.val % 42) + p.val) (hj : j.val = 1024 * (t.val / 42) + d.val) :
    result ch m ρ c (ix2 r j) = (traj0 ch m ρ c t.val t.isLt).1 (ix2 p d) := by
  have hemb : (((cfgA ch).win (3 : Fin 4)).blk t).view.emb (ix2 p d) = ix2 r j := by
    obtain ⟨e0, e1⟩ := idx_out t
    refine funext fun a => Fin.ext ?_
    match a with
    | ⟨0, _⟩ =>
      show cc0_transform_3 (grid0.coords t) (0 : Fin 2) * 512 + 1 * p.val = r.val
      rw [show cc0_transform_3 (grid0.coords t) (0 : Fin 2) = _ from e0]; omega
    | ⟨1, _⟩ =>
      show cc0_transform_3 (grid0.coords t) (1 : Fin 2) * 1024 + 1 * d.val = j.val
      rw [show cc0_transform_3 (grid0.coords t) (1 : Fin 2) = _ from e1]; omega
  have h := (dats ch m ρ 0 c).arrAt_emb_eq_flushed (3 : Fin 4) (disjoint_out ch) t (flush_eq ch t) (ix2 p d)
  rw [hemb, flushed_out] at h
  exact h

/-- Every entry has the point that writes it. -/
theorem point_of (r : Fin 21504) (j : Fin 3072) : ∃ t : Fin (cfgA ch).N, t.val % 42 = r.val / 512 ∧ t.val / 42 = j.val / 1024 := by
  have h : 42 * (j.val / 1024) + r.val / 512 < 126 := by omega
  refine ⟨⟨42 * (j.val / 1024) + r.val / 512, lt_of_lt_of_eq h (by decide +kernel : 126 = grid0.N)⟩, ?_, ?_⟩
  · show (42 * (j.val / 1024) + r.val / 512) % 42 = _; omega
  · show (42 * (j.val / 1024) + r.val / 512) / 42 = _; omega

/-- A row's product with a column of a tile's matrix in `X`, cut to the true columns. -/
def product (X : FVec Ideal S16x2048x3072 .f32) (r : Fin 21504) (j : Fin 3072) : EReal :=
  ∑ k : Fin 2048, (rowsOf m c (ix2 r k) : EReal) * cutColumn X (matrixOf ch (r.val / 512) (by omega)) k j

/-- A point's block of rows. -/
def rowBlock (t : Fin (cfgA ch).N) : FVec Ideal S512x2048 .bf16 := iblk ch m ρ c (0 : Fin 4) t

/-- A row of a tile's block times a column of its weights is the product at the array's entry. -/
theorem product_block (X : FVec Ideal S16x2048x3072 .f32) (t : Fin (cfgA ch).N) (r : Fin 21504) (j : Fin 3072)
    (f0 : t.val % 42 = r.val / 512) (f1 : t.val / 42 = j.val / 1024) :
    ∑ k : Fin 2048, (rowBlock ch m ρ c t (ix2 ⟨r.val % 512, Nat.mod_lt _ (by decide)⟩ k) : EReal)
        * weights X (matrixOf ch (t.val % 42) (Nat.mod_lt _ (by decide))) (columnOf t.val (point_lt ch t)) (ix2 k ⟨j.val % 1024, Nat.mod_lt _ (by decide)⟩)
      = product ch m c X r j := by
  refine Finset.sum_congr rfl fun k _ => congrArg₂ (fun a b : EReal => a * b) ?_ ?_
  · exact block_rows ch m ρ c _ _ k r (by rw [f0]; show r.val = 512 * (r.val / 512) + r.val % 512; omega)
  · have e2 : (⟨1024 * (t.val / 42) + j.val % 1024, by omega⟩ : Fin 3072) = j := Fin.ext (by show 1024 * (t.val / 42) + _ = _; omega)
    refine Eq.trans (b := cutColumn X (matrixOf ch (t.val % 42) (Nat.mod_lt _ (by decide))) k ⟨1024 * (t.val / 42) + j.val % 1024, by omega⟩) rfl ?_
    simp only [e2, f0]

/-- On a used tile an entry is the gate product times its sigmoid times the up product. -/
theorem result_used (r : Fin 21504) (j : Fin 3072) (h : Used ch (r.val / 512)) :
    (result ch m ρ c (ix2 r j) : EReal)
      = product ch m c (gatesOf m c) r j * Ideal.logistic (product ch m c (gatesOf m c) r j) * product ch m c (upsOf m c) r j := by
  obtain ⟨t, f0, f1⟩ := point_of ch r j
  have hp := point_lt ch t
  refine (result_block ch m ρ c t ⟨r.val % 512, Nat.mod_lt _ (by decide)⟩ ⟨j.val % 1024, Nat.mod_lt _ (by decide)⟩ r j
    (by rw [f0]; show r.val = 512 * (r.val / 512) + r.val % 512; omega) (by rw [f1]; show j.val = 1024 * (j.val / 1024) + j.val % 1024; omega)).trans ?_
  rw [out_used ch m ρ c t (by rw [f0]; exact h)]
  refine (pay3_apply _ _ _ _ _).trans ?_
  exact congrArg₂ (fun g u : EReal => g * Ideal.logistic g * u) (product_block ch m ρ c (gatesOf m c) t r j f0 f1) (product_block ch m ρ c (upsOf m c) t r j f0 f1)

/-- Among the true columns the product is with the column of the tile's matrix. -/
theorem product_true (X : FVec Ideal S16x2048x3072 .f32) (r : Fin 21504) (j : Fin 3072) (h : j.val < 2816) :
    product ch m c X r j = ∑ k : Fin 2048, (rowsOf m c (ix2 r k) : EReal) * (X (ix3 (matrixOf ch (r.val / 512) (by omega)) k j) : EReal) :=
  Finset.sum_congr rfl fun k _ => congrArg₂ (fun a b : EReal => a * b) rfl (if_pos h)

/-- Past them it is zero. -/
theorem product_past (X : FVec Ideal S16x2048x3072 .f32) (r : Fin 21504) (j : Fin 3072) (h : ¬j.val < 2816) : product ch m c X r j = 0 :=
  Finset.sum_eq_zero fun k _ => (congrArg₂ (fun a b : EReal => a * b) rfl (if_neg h)).trans (mul_zero _)

/-- On an unused tile an entry is zero. -/
theorem result_unused (r : Fin 21504) (j : Fin 3072) (h : ¬Used ch (r.val / 512)) : (result ch m ρ c (ix2 r j) : EReal) = 0 := by
  obtain ⟨t, f0, f1⟩ := point_of ch r j
  refine (result_block ch m ρ c t ⟨r.val % 512, Nat.mod_lt _ (by decide)⟩ ⟨j.val % 1024, Nat.mod_lt _ (by decide)⟩ r j
    (by rw [f0]; show r.val = 512 * (r.val / 512) + r.val % 512; omega) (by rw [f1]; show j.val = 1024 * (j.val / 1024) + j.val % 1024; omega)).trans ?_
  rw [out_unused ch m ρ c t (by rw [f0]; exact h)]
  exact pay4_apply _ _

end Cert.GateUpIdeal.Any

end
-- ==== Proof.GateUpReference.Entry.lean ====
/-
  The reference read at an entry: on a used tile the gate product through silu times the up product, zero on an unused
  tile and in the padding columns.
-/
module

public import proofs.«01_k».proof.Proof.TileTake
public import proofs.«01_k».proof.Proof.Gen.GateUpReferenceIdeal.Read
public import proofs.«01_k».proof.Proof.Gen.GateUpReferenceIdeal.Run

@[expose] public section

set_option maxRecDepth 16384

noncomputable section

namespace Cert.GateUpReferenceIdeal.Entry

open Cert.GateUpReferenceIdeal Cert.GateUpReferenceIdeal.Gen Cert.GateUpReferenceIdeal.Read
open Idealize.ShloMosaic Idealize.SL.Sem
open Cert.TileTake (gather_apply not_neg)

/-! ## Padding the last axis, read at an entry -/

section Pad
variable {α : Type} (y : S42x512x2816.Idx → α) (v : S_.Idx → α) (hp : S42x512x2816.Pads ![0, 0, 0] ![0, 0, 256] ![0, 0, 0] S42x512x3072) (hv : 0 < S_.numel)

/-- Before the padding. -/
theorem pad_inside (t : Fin 42) (p : Fin 512) (j : Fin 3072) (h : j.val < 2816) :
    pad S42x512x3072 ![0, 0, 0] ![0, 0, 256] ![0, 0, 0] y v hp hv (ix3 t p j) = y (ix3 t p ⟨j.val, h⟩) := by
  unfold pad
  have hin : ∀ a : Fin 3, (![0, 0, 0] : Fin 3 → ℕ) a ≤ ((ix3 t p j) (a.cast hp.1)).val ∧ (((ix3 t p j) (a.cast hp.1)).val - (![0, 0, 0] : Fin 3 → ℕ) a) % ((![0, 0, 0] : Fin 3 → ℕ) a + 1) = 0
      ∧ (((ix3 t p j) (a.cast hp.1)).val - (![0, 0, 0] : Fin 3 → ℕ) a) / ((![0, 0, 0] : Fin 3 → ℕ) a + 1) < S42x512x2816.size a := fun a => by
    match a with
    | ⟨0, _⟩ => show 0 ≤ t.val ∧ (t.val - 0) % (0 + 1) = 0 ∧ (t.val - 0) / (0 + 1) < 42; omega
    | ⟨1, _⟩ => show 0 ≤ p.val ∧ (p.val - 0) % (0 + 1) = 0 ∧ (p.val - 0) / (0 + 1) < 512; omega
    | ⟨2, _⟩ => show 0 ≤ j.val ∧ (j.val - 0) % (0 + 1) = 0 ∧ (j.val - 0) / (0 + 1) < 2816; omega
  refine (dif_pos hin).trans (congrArg y (funext fun a => Fin.ext ?_))
  match a with
  | ⟨0, _⟩ => show (t.val - 0) / (0 + 1) = t.val; omega
  | ⟨1, _⟩ => show (p.val - 0) / (0 + 1) = p.val; omega
  | ⟨2, _⟩ => show (j.val - 0) / (0 + 1) = j.val; omega

/-- In the padding. -/
theorem pad_outside (t : Fin 42) (p : Fin 512) (j : Fin 3072) (h : ¬j.val < 2816) :
    pad S42x512x3072 ![0, 0, 0] ![0, 0, 256] ![0, 0, 0] y v hp hv (ix3 t p j) = v (Shape.Idx.first hv) := by
  unfold pad
  refine dif_neg fun hin => h ?_
  have e : 0 ≤ j.val ∧ (j.val - 0) % (0 + 1) = 0 ∧ (j.val - 0) / (0 + 1) < 2816 := hin (2 : Fin 3)
  omega

end Pad

variable (x0 : FVec Ideal S21504x2048 .bf16) (x1 x2 : FVec Ideal S16x2048x3072 .f32) (x3 : IVec S42 32) (x4 : IVec S1 32)

/-- The gate matrices the index table names, cut to the true columns. -/
theorem gate_gathered (t : Fin 42) (k : Fin 2048) (j : Fin 2816) (n : Fin 16) (hn : (x3 (ix1 t)).toNat = n.val) :
    val_main_v9 (F := Ideal) x1 x3 (ix3 t k j) = x1 (ix3 n k ⟨j.val, by omega⟩) := by
  unfold val_main_v9
  have h1 := n.isLt
  refine (gather_apply _ (val_main_v2 (F := Ideal) x1) _ t k j n (by decide) ?_).trans ?_
  · rw [val_main_v8_apply, val_main_v7_apply, val_main_v4_apply]
    have e : idx_main_v8 (ix2 t 0) = ix1 t := funext fun a => match a with | ⟨0, _⟩ => rfl
    rw [e, val_main_v3_apply, val_main_c_apply, not_neg _ (by omega)]
    exact hn
  · rw [val_main_v2_apply]
    exact congrArg x1 (funext fun a => Fin.ext (match a with | ⟨0, _⟩ => rfl | ⟨1, _⟩ => rfl | ⟨2, _⟩ => rfl))

/-- The up matrices the index table names, cut to the true columns. -/
theorem up_gathered (t : Fin 42) (k : Fin 2048) (j : Fin 2816) (n : Fin 16) (hn : (x3 (ix1 t)).toNat = n.val) :
    val_main_v18 (F := Ideal) x2 x3 (ix3 t k j) = x2 (ix3 n k ⟨j.val, by omega⟩) := by
  unfold val_main_v18
  have h1 := n.isLt
  refine (gather_apply _ (val_main_v11 (F := Ideal) x2) _ t k j n (by decide) ?_).trans ?_
  · rw [val_main_v17_apply, val_main_v16_apply, val_main_v13_apply]
    have e : idx_main_v17 (ix2 t 0) = ix1 t := funext fun a => match a with | ⟨0, _⟩ => rfl
    rw [e, val_main_v12_apply, val_main_c_1_apply, not_neg _ (by omega)]
    exact hn
  · rw [val_main_v11_apply]
    exact congrArg x2 (funext fun a => Fin.ext (match a with | ⟨0, _⟩ => rfl | ⟨1, _⟩ => rfl | ⟨2, _⟩ => rfl))

/-- A tile's row of the stacked rows. -/
theorem row_apply (t : Fin 42) (p : Fin 512) (k : Fin 2048) (r : Fin 21504) (hr : r.val = 512 * t.val + p.val) :
    val_main_v1 (F := Ideal) x0 (ix3 t p k) = x0 (ix2 r k) := by
  rw [val_main_v1_apply, val_main_v0_apply]
  refine congrArg x0 (funext fun a => Fin.ext ?_)
  have hk := k.isLt
  have hp := p.isLt
  match a with
  | ⟨0, _⟩ => show ((t.val * 512 + p.val) * 2048 + k.val) / 2048 = r.val; omega
  | ⟨1, _⟩ => show ((t.val * 512 + p.val) * 2048 + k.val) % 2048 = k.val; omega

/-- The comparison of a tile's number with the count. -/
theorem used_apply (t : Fin 42) (p : Fin 512) (j : Fin 2816) :
    val_main_call1_v1 (F := Ideal) x4 (ix3 t p j) = IntOp.cmpi .slt (BitVec.ofNat 32 t.val) (x4 (ix1 0)) := by
  rw [val_main_call1_v1_apply, val_main_v26_apply, val_main_v23_apply, val_main_v22_apply, val_main_v25_apply]
  refine congrArg₂ (IntOp.cmpi .slt) rfl ?_
  unfold val_main_v24
  exact shapeCast_apply x4 shapeCasts_S1_S_ _ (ix1 0) (by rfl)

/-- The gate product of a tile. -/
theorem gate_product (t : Fin 42) (p : Fin 512) (j : Fin 2816) (r : Fin 21504) (hr : r.val = 512 * t.val + p.val) (n : Fin 16) (hn : (x3 (ix1 t)).toNat = n.val) :
    (val_main_v10 (F := Ideal) x0 x1 x3 (ix3 t p j) : EReal) = ∑ k : Fin 2048, (x0 (ix2 r k) : EReal) * (x1 (ix3 n k ⟨j.val, by omega⟩) : EReal) := by
  rw [val_main_v10_apply]
  refine Finset.sum_congr rfl fun k _ => congrArg₂ (fun a b : EReal => a * b) ?_ ?_
  · have e : lidx_main_v10 (ix3 t p j) k = ix3 t p k := funext fun a => match a with | ⟨0, _⟩ => rfl | ⟨1, _⟩ => rfl | ⟨2, _⟩ => rfl
    rw [e]
    exact row_apply x0 t p k r hr
  · have e : ridx_main_v10 (ix3 t p j) k = ix3 t k j := funext fun a => match a with | ⟨0, _⟩ => rfl | ⟨1, _⟩ => rfl | ⟨2, _⟩ => rfl
    rw [e]
    exact gate_gathered x1 x3 t k j n hn

/-- The up product of a tile. -/
theorem up_product (t : Fin 42) (p : Fin 512) (j : Fin 2816) (r : Fin 21504) (hr : r.val = 512 * t.val + p.val) (n : Fin 16) (hn : (x3 (ix1 t)).toNat = n.val) :
    (val_main_v19 (F := Ideal) x0 x2 x3 (ix3 t p j) : EReal) = ∑ k : Fin 2048, (x0 (ix2 r k) : EReal) * (x2 (ix3 n k ⟨j.val, by omega⟩) : EReal) := by
  rw [val_main_v19_apply]
  refine Finset.sum_congr rfl fun k _ => congrArg₂ (fun a b : EReal => a * b) ?_ ?_
  · have e : lidx_main_v19 (ix3 t p j) k = ix3 t p k := funext fun a => match a with | ⟨0, _⟩ => rfl | ⟨1, _⟩ => rfl | ⟨2, _⟩ => rfl
    rw [e]
    exact row_apply x0 t p k r hr
  · have e : ridx_main_v19 (ix3 t p j) k = ix3 t k j := funext fun a => match a with | ⟨0, _⟩ => rfl | ⟨1, _⟩ => rfl | ⟨2, _⟩ => rfl
    rw [e]
    exact up_gathered x2 x3 t k j n hn

/-- The bits of zero denote zero, and those of one denote one. -/
theorem ofBits_zero : Ideal.ofBits .f32 0x00000000#32 = 0 := by
  simp [Ideal.ofBits, Ideal.ieee]

theorem ofBits_one : Ideal.ofBits .f32 0x3F800000#32 = 1 := by
  simp [Ideal.ofBits, Ideal.ieee]
  rw [← EReal.coe_mul]
  norm_num

/-- The silu of the gate product is the product times its sigmoid. -/
theorem silu_apply (i : S42x512x2816.Idx) :
    (val_main_v20 (F := Ideal) x0 x1 x3 i : EReal) = val_main_v10 (F := Ideal) x0 x1 x3 i * Ideal.logistic (val_main_v10 (F := Ideal) x0 x1 x3 i) := by
  rw [val_main_v20_apply, val_main_call0_v5_apply, val_main_call0_v4_apply, val_main_call0_cst_0_apply, val_main_call0_v3_apply,
    val_main_call0_v2_apply, val_main_call0_cst_apply, val_main_call0_v1_apply, val_main_call0_v0_apply]
  generalize val_main_v10 (F := Ideal) x0 x1 x3 i = g
  show g * Ideal.div (Ideal.ofBits .f32 0x3F800000#32) (Ideal.ofBits .f32 0x3F800000#32 + Ideal.exp (-g)) = g * Ideal.logistic g
  rw [ofBits_one]
  rfl

/-- The padding past the true columns is zero. -/
theorem padding_zero (i : S_.Idx) : (val_main_call2_v0 (F := Ideal) i : EReal) = 0 := by
  rw [val_main_call2_v0_apply, val_main_c_3_apply]
  show (((0#32).toInt : ℝ) : EReal) = 0
  simp

/-- Among the true columns the padded array is the array. -/
theorem pad_true (t : Fin 42) (p : Fin 512) (j : Fin 3072) (h : j.val < 2816) :
    val_main_v28 (F := Ideal) x0 x1 x2 x3 x4 (ix3 t p j) = val_main_v27 (F := Ideal) x0 x1 x2 x3 x4 (ix3 t p ⟨j.val, h⟩) := by
  unfold val_main_v28
  generalize val_main_v27 (F := Ideal) x0 x1 x2 x3 x4 = y
  exact pad_inside y _ _ _ t p j h

/-- Past them it is zero. -/
theorem pad_past (t : Fin 42) (p : Fin 512) (j : Fin 3072) (h : ¬j.val < 2816) :
    (val_main_v28 (F := Ideal) x0 x1 x2 x3 x4 (ix3 t p j) : EReal) = 0 := by
  unfold val_main_v28
  exact (pad_outside _ _ _ _ t p j h).trans (padding_zero _)

/-- The entry's index in the stacked tiles. -/
theorem idx_entry (r : Fin 21504) (j : Fin 3072) :
    idx_main_v29 (ix2 r j) = ix3 (⟨r.val / 512, by omega⟩ : Fin 42) (⟨r.val % 512, by omega⟩ : Fin 512) j := by
  have hr := r.isLt
  have hj := j.isLt
  funext a; refine Fin.ext ?_
  match a with
  | ⟨0, _⟩ => show (r.val * 3072 + j.val) / 1572864 = r.val / 512; omega
  | ⟨1, _⟩ => show (r.val * 3072 + j.val) / 3072 % 512 = r.val % 512; omega
  | ⟨2, _⟩ => show (r.val * 3072 + j.val) % 3072 = j.val; omega

/-- An entry of the reference in a padding column. -/
theorem entry_past (r : Fin 21504) (j : Fin 3072) (h : ¬j.val < 2816) : (val_main_v30 (F := Ideal) x0 x1 x2 x3 x4 (ix2 r j) : EReal) = 0 := by
  rw [val_main_v30_apply, val_main_v29_apply, idx_entry]
  exact pad_past x0 x1 x2 x3 x4 _ _ j h

/-- A product of a row with a column of a matrix. -/
def product (X : FVec Ideal S16x2048x3072 .f32) (n : Fin 16) (r : Fin 21504) (j : Fin 3072) : EReal :=
  ∑ k : Fin 2048, (x0 (ix2 r k) : EReal) * (X (ix3 n k j) : EReal)

/-- An entry of the reference in a true column: on a used tile the gate product times its sigmoid times the up product, else zero. -/
theorem entry_true (r : Fin 21504) (j : Fin 3072) (h : j.val < 2816) (n : Fin 16) (hn : (x3 (ix1 ⟨r.val / 512, by omega⟩)).toNat = n.val) :
    (val_main_v30 (F := Ideal) x0 x1 x2 x3 x4 (ix2 r j) : EReal)
      = Scalar.select (IntOp.cmpi .slt (BitVec.ofNat 32 (r.val / 512)) (x4 (ix1 0)))
          (product x0 x1 n r j * Ideal.logistic (product x0 x1 n r j) * product x0 x2 n r j) (0 : EReal) := by
  have hr : r.val = 512 * (r.val / 512) + r.val % 512 := by omega
  rw [val_main_v30_apply, val_main_v29_apply, idx_entry, pad_true x0 x1 x2 x3 x4 _ _ j h, val_main_v27_apply, used_apply,
    val_main_call1_v2_apply, val_main_call1_v0_apply, val_main_cst_apply, val_main_v21_apply, silu_apply,
    gate_product x0 x1 x3 _ _ ⟨j.val, h⟩ r hr n hn, up_product x0 x2 x3 _ _ ⟨j.val, h⟩ r hr n hn]
  refine Eq.trans ?_ (congrArg (Scalar.select _ _) ofBits_zero)
  rfl

end Cert.GateUpReferenceIdeal.Entry

end
-- ==== Proof.GateUpEquation.lean ====
/-
  The kernel's gated product is the reference's, entry by entry.
-/
module

public import proofs.«01_k».proof.Proof.GateUpIdeal.Array
public import proofs.«01_k».proof.Proof.GateUpReference.Entry

@[expose] public section

set_option maxRecDepth 16384

noncomputable section

namespace Cert.GateUpEquation

open Cert.GateUpIdeal Cert.GateUpIdeal.Any Idealize.ShloMosaic Idealize.ShloMosaic.TcCoe Idealize.SL.Sem

variable (ch : Tables) (m : (ℓ : Loc nD τ sig) → Buf (Elt Ideal) ℓ) (ρ : Dev nD → PrngReg) (c : Dev nD)

/-- The two results agree at an entry. -/
theorem entry_eq (r : Fin 21504) (j : Fin 3072) :
    result ch m ρ c (ix2 r j) = GateUpReferenceIdeal.Read.val_main_v30 (F := Ideal) (rowsOf m c) (gatesOf m c) (upsOf m c) (pinT_0 ch) (pinT_1 ch) (ix2 r j) := by
  have hr := r.isLt
  by_cases hj : j.val < 2816
  · refine Eq.trans ?_ (GateUpReferenceIdeal.Entry.entry_true (rowsOf m c) (gatesOf m c) (upsOf m c) (pinT_0 ch) (pinT_1 ch) r j hj
      (matrixOf ch (r.val / 512) (by omega)) rfl).symm
    by_cases h : Used ch (r.val / 512)
    · rw [result_used ch m ρ c r j h, product_true ch m c (gatesOf m c) r j hj, product_true ch m c (upsOf m c) r j hj]
      exact (if_pos h).symm
    · rw [result_unused ch m ρ c r j h]
      exact (if_neg h).symm
  · refine Eq.trans ?_ (GateUpReferenceIdeal.Entry.entry_past (rowsOf m c) (gatesOf m c) (upsOf m c) (pinT_0 ch) (pinT_1 ch) r j hj).symm
    by_cases h : Used ch (r.val / 512)
    · rw [result_used ch m ρ c r j h, product_past ch m c (gatesOf m c) r j hj, product_past ch m c (upsOf m c) r j hj]
      exact mul_zero _
    · exact result_unused ch m ρ c r j h

/-- The result array is the reference's result of the same rows, matrices and tables. -/
theorem result_eq : result ch m ρ c = GateUpReferenceIdeal.Read.val_main_v30 (F := Ideal) (rowsOf m c) (gatesOf m c) (upsOf m c) (pinT_0 ch) (pinT_1 ch) := by
  refine funext fun (i : S21504x3072.Idx) => ?_
  rw [eq_ix2 i]
  exact entry_eq ch m ρ c (i 0) (i 1)

end Cert.GateUpEquation

end
-- ==== Proof.GateUpClaims.lean ====
/-
  The claims about the experts' gate and up products: the frames of the kernel, of its idealisation and of the reference, and the
  equation of the two results.
-/
module

public import proofs.«01_k».proof.Defs
public import proofs.«01_k».proof.Proof.GateUp.Run
public import proofs.«01_k».proof.Proof.GateUpGroups
public import proofs.«01_k».proof.Proof.GateUpEquation

@[expose] public section

set_option maxRecDepth 16384

noncomputable section

namespace Cert.GateUpClaims

open Idealize.ShloMosaic Idealize.ShloMosaic.TcCoe Idealize.SL.Sem

/-- Under the precondition the kernel's launch memory holds tables of the kind its run is proved for. -/
theorem pinned_kernel (m : (ℓ : Loc GateUp.nD GateUp.τ GateUp.sig) → Buf (Elt Bits) ℓ)
    (h : Cert.Pre_GateUp (hPre_gate_up_groups := Pre_gate_up_groups.Gen.facts) m) : ∃ ch, GateUp.Any.Pinned ch m :=
  ⟨⟨(m (((0 : Dev GateUp.nD) : Thread GateUp.nD GateUp.τ).loc GateUp.main_arg3), m (((0 : Dev GateUp.nD) : Thread GateUp.nD GateUp.τ).loc GateUp.main_arg4)),
    fun i => @Pre_gate_up_groups.lt_of_fn Bits _ Pre_gate_up_groups.Gen.facts _ _ _ _ _ (h 0) i⟩,
    fun c => by rw [Subsingleton.elim c 0]; rfl, fun c => by rw [Subsingleton.elim c 0]; rfl⟩

/-- The same for the idealisation. -/
theorem pinned_ideal (m : (ℓ : Loc GateUpIdeal.nD GateUpIdeal.τ GateUpIdeal.sig) → Buf (Elt Ideal) ℓ)
    (h : Cert.Pre_GateUpIdeal (hPre_gate_up_groups := Pre_gate_up_groups.Gen.facts) m) : ∃ ch, GateUpIdeal.Any.Pinned ch m :=
  ⟨⟨(m (((0 : Dev GateUpIdeal.nD) : Thread GateUpIdeal.nD GateUpIdeal.τ).loc GateUpIdeal.main_arg3), m (((0 : Dev GateUpIdeal.nD) : Thread GateUpIdeal.nD GateUpIdeal.τ).loc GateUpIdeal.main_arg4)),
    fun i => @Pre_gate_up_groups.lt_of_fn Ideal _ Pre_gate_up_groups.Gen.facts _ _ _ _ _ (h 0) i⟩,
    fun c => by rw [Subsingleton.elim c 0]; rfl, fun c => by rw [Subsingleton.elim c 0]; rfl⟩

/-- The kernel runs, leaves its arguments alone and ends with every counter at zero. -/
theorem frame_kernel : Cert.quiescent_GateUp (hGateUp := GateUp.Gen.facts) (hPre_gate_up_groups := Pre_gate_up_groups.Gen.facts) := fun m ρ h => by
  obtain ⟨ch, hp⟩ := pinned_kernel m h
  exact GateUp.Any.frame ch m ρ hp

/-- So does its idealisation. -/
theorem frame_ideal : Cert.quiescent_GateUpIdeal (hGateUpIdeal := GateUpIdeal.Gen.facts) (hPre_gate_up_groups := Pre_gate_up_groups.Gen.facts) := fun m ρ h => by
  obtain ⟨ch, hp⟩ := pinned_ideal m h
  exact GateUpIdeal.Any.frame ch m ρ hp

/-- The reference runs and leaves its arguments alone; it declares no semaphore. -/
theorem frame_reference : Cert.quiescent_GateUpReferenceIdeal (hGateUpReferenceIdeal := GateUpReferenceIdeal.Gen.facts) := fun m ρ _ =>
  (θ_run GateUpReferenceIdeal.defs _ _).mono (fun r h => ⟨fun c => (h c).2, sem_eq_zero_of_no_sems (by decide) r.2⟩)
    (GateUpReferenceIdeal.Value.run (F := Ideal) m ρ)

/-- The same from the memories of the precondition. -/
theorem frame_reference_pre : Cert.quiescent_GateUpReferenceIdeal_pre_gate_up_groups (hGateUpReferenceIdeal := GateUpReferenceIdeal.Gen.facts)
    (hPre_gate_up_groups := Pre_gate_up_groups.Gen.facts) := fun m ρ _ => frame_reference m ρ trivial

/-- From agreeing arguments whose table names matrices, the kernel and the reference end with the same result. -/
theorem algebraic : Cert.algebraic_GateUpIdeal_GateUpReferenceIdeal (hGateUpIdeal := GateUpIdeal.Gen.facts)
    (hGateUpReferenceIdeal := GateUpReferenceIdeal.Gen.facts) (hPre_gate_up_groups := Pre_gate_up_groups.Gen.facts) := by
  intro m ρ m' ρ' hpre hag
  obtain ⟨ch, hp⟩ := pinned_ideal m hpre
  refine ⟨fun c => GateUpIdeal.Any.result ch m ρ c,
    (θ_run GateUpIdeal.defs _ _).mono (fun r h c => ⟨(h.1 c).1 (3 : Fin 4), h.2 c⟩) (θ_run_and (GateUpIdeal.Any.run_main ch m ρ hp) (GateUpIdeal.Any.unchanged ch m ρ hp)),
    (θ_run GateUpReferenceIdeal.defs _ _).mono (fun r h c => ⟨(h c).1.trans ?_, (h c).2⟩) (GateUpReferenceIdeal.Value.run (F := Ideal) m' ρ')⟩
  obtain ⟨a0, a1, a2, a3, a4⟩ := hag c
  refine (GateUpReferenceIdeal.Read.val_main_v30_eq _ _ _ _ _).trans ?_
  rw [a0, a1, a2, a3, a4, hp.1 c, hp.2 c]
  exact (GateUpEquation.result_eq ch m ρ c).symm

end Cert.GateUpClaims

end
-- ==== Proof.LayerTable.lean ====
/-
  The words of a table that names one layer: what the precondition's comparisons say of them.
-/
module

public import Idealize.ShloMosaic.Lib.Pointwise
public import Idealize.ShloMosaic.Lib.ReduceAll
public import Idealize.ShloMosaic.Lib.Affine

@[expose] public section

set_option maxRecDepth 16384

noncomputable section

namespace Cert.LayerTable

open Idealize.ShloMosaic

/-- There is one index without axes. -/
theorem no_axes (x y : (⟨0, ![]⟩ : Shape).Idx) : x = y := funext fun a => a.elim0

/-- A single word broadcast to an array is the same at every index. -/
theorem bcast_const {s : Shape} (h : (⟨0, ![]⟩ : Shape).BroadcastsInDim s ![]) (x : IVec ⟨0, ![]⟩ 32) (i i' : s.Idx) :
    broadcastInDim s ![] h x i = broadcastInDim s ![] h x i' := by
  unfold broadcastInDim
  exact congrArg x (no_axes _ _)

/-- A word compared equal to another is it. -/
theorem eq_of_cmpi (x w : BitVec 32) (h : IntOp.cmpi .eq x w = 1#1) : x = w := by
  have e : BitVec.ofBool (x == w) = 1#1 := h
  by_contra hne
  rw [beq_eq_false_iff_ne.2 hne] at e
  exact absurd e (by decide)

/-- A word that is at least zero and less than a small bound, as a signed number, is less than it as an unsigned one. -/
theorem lt_of_cmpi (x : BitVec 32) (D : ℕ) (hD : D ≤ 1024) (h1 : IntOp.cmpi .sge x 0#32 = 1#1) (h2 : IntOp.cmpi .slt x (BitVec.ofNat 32 D) = 1#1) :
    x.toNat < D := by
  have e1 : BitVec.ofBool ((0#32).sle x) = 1#1 := h1
  have e2 : BitVec.ofBool (x.slt (BitVec.ofNat 32 D)) = 1#1 := h2
  have b1 : (0#32).sle x = true := by
    cases hb : (0#32).sle x
    · rw [hb] at e1; exact absurd e1 (by decide)
    · rfl
  have b2 : x.slt (BitVec.ofNat 32 D) = true := by
    cases hb : x.slt (BitVec.ofNat 32 D)
    · rw [hb] at e2; exact absurd e2 (by decide)
    · rfl
  rw [BitVec.sle, decide_eq_true_eq] at b1
  rw [BitVec.slt, decide_eq_true_eq] at b2
  have k0 : (0#32).toInt = 0 := by decide
  have k2 : (BitVec.ofNat 32 D).toNat = D := by rw [BitVec.toNat_ofNat]; omega
  have k1 : (BitVec.ofNat 32 D).toInt = D := by rw [BitVec.toInt_eq_toNat_of_lt (by omega), k2]
  rw [k0] at b1
  rw [k1] at b2
  have hx := x.isLt
  rw [BitVec.toInt_eq_toNat_cond] at b1 b2
  split at b1
  · rw [if_pos ‹_›] at b2; omega
  · omega

/-- Tables whose words all pass the three comparisons with one word, and whose count is compared equal to seventeen. -/
theorem layer_of_words {D : ℕ} (T : IVec ⟨1, ![17]⟩ 32) (U : IVec ⟨1, ![1]⟩ 32) (z d w : IVec ⟨1, ![17]⟩ 32) (u : BitVec 32)
    (hT : ∀ i, andi (andi (cmpi .sge T z) (cmpi .slt T d)) (cmpi .eq T w) i = 1#1) (hz : ∀ i, z i = 0#32) (hd : ∀ i, d i = BitVec.ofNat 32 D) (hw : ∀ i i', w i = w i')
    (hu : u = U (ix1 0)) (hU : IntOp.cmpi .eq u 17#32 = 1#1) (hD : D ≤ 1024 := by decide) :
    ∃ g : Fin D, T = (fun _ => BitVec.ofNat 32 g.val) ∧ U = fun _ => 17#32 := by
  have ht : ∀ i, T i = w i := fun i => eq_of_cmpi _ _ (IntOp.andi_eq_one.1 (hT i)).2
  have h0 := IntOp.andi_eq_one.1 (IntOp.andi_eq_one.1 (hT (ix1 0))).1
  have h1 : IntOp.cmpi .sge (T (ix1 0)) 0#32 = 1#1 := (congrArg (IntOp.cmpi .sge (T (ix1 0))) (hz (ix1 0)).symm).trans h0.1
  have h2 : IntOp.cmpi .slt (T (ix1 0)) (BitVec.ofNat 32 D) = 1#1 := (congrArg (IntOp.cmpi .slt (T (ix1 0))) (hd (ix1 0)).symm).trans h0.2
  refine ⟨⟨(T (ix1 0)).toNat, lt_of_cmpi _ D hD h1 h2⟩, funext fun i => ?_, funext fun i => ?_⟩
  · rw [ht i, hw i (ix1 0), ← ht (ix1 0)]
    exact BitVec.eq_of_toNat_eq (by rw [BitVec.toNat_ofNat]; exact (Nat.mod_eq_of_lt (T (ix1 0)).isLt).symm)
  · have e : i = ix1 0 := funext fun a => match a with | ⟨0, _⟩ => Fin.ext (by have := (i ⟨0, by decide⟩).isLt; exact Nat.lt_one_iff.1 this)
    rw [e, ← hu]
    exact eq_of_cmpi _ _ hU

end Cert.LayerTable

end
-- ==== Proof.ProjInLayer.lean ====
/-
  The precondition `proj_in_layer`: the tile table is one layer's and every tile is used.
-/
module

public import proofs.«01_k».proof.Defs
public import proofs.«01_k».proof.Proof.Gen.Pre_proj_in_layer
public import proofs.«01_k».proof.Proof.LayerTable

@[expose] public section

set_option maxRecDepth 16384

noncomputable section

namespace Cert.Pre_proj_in_layer

open Idealize.ShloMosaic
open Cert.LayerTable (layer_of_words bcast_const)

variable {F : FTy → Type} [FloatOps F]

/-- Where the predicate holds, the tile table is one layer's and every tile is used. -/
theorem layer_of_fn [Facts] (X : FVec F S8704x2048 .bf16) (W : FVec F S4x3840x2048 .f32) (T : IVec S17 32) (U : IVec S1 32)
    (h : fn (F := F) X W T U = fun _ => 1#1) : ∃ g : Fin 4, T = (fun _ => BitVec.ofNat 32 g.val) ∧ U = fun _ => 17#32 := by
  have h0 := congrFun h (Shape.Idx.first Facts.h_S_)
  dsimp only [fn] at h0
  obtain ⟨h1, h2⟩ := IntOp.andi_eq_one.1 h0
  refine layer_of_words T U _ _ _ _ (fun i => Host.reduce_andi_all _ _ _ _ _ h1 i) (fun _ => rfl) (fun _ => rfl) (bcast_const _ _) ?_ h2
  exact shapeCast_apply U Facts.shapeCasts_S1_S_ _ (ix1 0) (by rfl)

end Cert.Pre_proj_in_layer

end
-- ==== Proof.ProjInIdeal.Block.lean ====
/-
  What one grid point of the kernel of the layer's input projection leaves: the scratch holds the layer's weight block, the output block is computed from
  the rows' product with it.
-/
module

public import Idealize.ShloMosaic.Lib.Pointwise
public import Idealize.ShloMosaic.Lib.VecWindow
public import Idealize.ShloMosaic.Lib.Pipeline.ValueKit.Tiles
public import proofs.«01_k».proof.Proof.Gen.ProjInIdeal.Flash

@[expose] public section

set_option maxRecDepth 16384

noncomputable section

namespace Cert.ProjInIdeal.Layer

open Cert.ProjInIdeal Cert.ProjInIdeal.Gen
open Idealize.ShloMosaic Idealize.ShloMosaic.TcCoe Idealize.SL.Sem
open Idealize.ShloMosaic.Pipeline (Dat)

theorem hz : (![0, 0] : Fin 2 → ℕ) = fun _ => 0 := funext fun a => by fin_cases a <;> rfl

/-- What a whole buffer holds after one store of its own sizes is the payload. -/
theorem whole_store {κ : Kind} (b : Ref sig κ) (f : b.ty.Contents (Elt Ideal)) (off : Fin b.ty.shape.rank → ℕ)
    (inb : ∀ a, off a + b.ty.shape.size a ≤ b.ty.shape.size a) (w : b.ty.Contents (Elt Ideal)) :
    (View.whole b).writes (Elt Ideal) f [⟨Rect.unit off b.ty.shape.size inb, w⟩] = w :=
  (View.read_whole b _).symm.trans (View.read_writes_full (View.whole b) f inb w [])

variable (c : Dev nD) (i : grid0.Coords)
  (arg4 : Memref sig .tc .vmem S512x2048 .bf16) (harg4 : arg4.IsWhole)
  (arg5 : Memref sig .tc .vmem S1x1280x2048 .f32) (harg5 : arg5.IsWhole)
  (arg6 : Memref sig .tc .vmem S512x1280 .bf16) (harg6 : arg6.IsWhole)
  (T0 : S17.Idx → BitVec 32) (T1 : S1.Idx → BitVec 32)
  (x0 : FVec Ideal S512x2048 .bf16) (x1 : FVec Ideal S1x1280x2048 .f32) (xa0 : FVec Ideal S1280x2048 .bf16)

/-- A point that keeps its weights leaves the product of its rows with the block the scratch holds. -/
theorem out_B (hc0) (h2) (h3) :
    out0_B_2 c i arg4 harg4 arg5 harg5 arg6 harg6 T0 T1 x0 x1 xa0 hc0 h2 h3 = k0_pay2 (F := Ideal) x0 xa0 := by
  unfold out0_B_2
  rw [View.read_writes_eq_canon _ _ _ (cover0_B_2 c i arg4 harg4 arg5 harg5 arg6 harg6 T0 T1 x0 x1 xa0 hc0 h2 h3)]
  unfold kernelRun0_B
  dsimp only
  sl_unfold_words
  refine (View.canon_unit_zero hz _ _).trans ?_
  refine congrArg₂ (k0_pay2 (F := Ideal)) (View.readAt_rep_full _ _ _) ?_
  exact View.readAt_full _ _ _

/-- A point that reloads its weights leaves the product of its rows with the block it has just reloaded. -/
theorem out_A (hc0) (h2) (h3) :
    out0_A_2 c i arg4 harg4 arg5 harg5 arg6 harg6 T0 T1 x0 x1 hc0 h2 h3 = k0_pay2 (F := Ideal) x0 (k0_pay1 (F := Ideal) x1) := by
  unfold out0_A_2
  rw [View.read_writes_eq_canon _ _ _ (cover0_A_2 c i arg4 harg4 arg5 harg5 arg6 harg6 T0 T1 x0 x1 hc0 h2 h3)]
  unfold kernelRun0_A
  dsimp only
  sl_unfold_words
  refine (View.canon_unit_zero hz _ _).trans ?_
  refine congrArg₂ (k0_pay2 (F := Ideal)) (View.readAt_rep_full _ _ _) ?_
  exact (View.readCov_full _ _ _ _ _).trans (congrArg (k0_pay1 (F := Ideal)) (View.readAt_rep_full _ _ _))

/-- A keeping point leaves the scratch as it was. -/
theorem scratch_B (hc0) (h2) (h3) : (kernelRun0_B c i arg4 harg4 arg5 harg5 arg6 harg6 T0 T1 x0 x1 xa0 hc0 h2 h3).2.1 = xa0 := rfl

/-- A reloading point leaves its weight block, rounded, in the scratch. -/
theorem scratch_A (hc0) (h2) (h3) : (kernelRun0_A c i arg4 harg4 arg5 harg5 arg6 harg6 T0 T1 x0 x1 hc0 h2 h3).2.1 = k0_pay1 (F := Ideal) x1 := by
  unfold kernelRun0_A
  dsimp only
  sl_unfold_words
  refine (whole_store cc0_scratch0 _ _ inb_S1280x2048_S1280x2048_0_0 _).trans (congrArg (k0_pay1 (F := Ideal)) (View.readAt_rep_full _ _ _))

/-! ## The payloads at an entry -/

theorem pay1_apply (a : Fin 1280) (b : Fin 2048) : (k0_pay1 (F := Ideal) x1 (ix2 a b) : EReal) = x1 (ix3 0 a b) := by
  pointwise [k0_pay1]

theorem pay2_apply (p : Fin 512) (d : Fin 1280) :
    (k0_pay2 (F := Ideal) x0 xa0 (ix2 p d) : EReal) = ∑ k : Fin 2048, (x0 (ix2 p k) : EReal) * xa0 (ix2 d k) := by
  pointwise [k0_pay2]

end Cert.ProjInIdeal.Layer

end
-- ==== Proof.ProjInIdeal.Words.lean ====
/-
  What the tables tell a grid point, its blocks, and what it leaves.
-/
module

public import proofs.«01_k».proof.Proof.ProjInIdeal.Block

@[expose] public section

set_option maxRecDepth 16384

noncomputable section

namespace Cert.ProjInIdeal.Layer

open Cert.ProjInIdeal Cert.ProjInIdeal.Gen
open Idealize.ShloMosaic Idealize.ShloMosaic.TcCoe Idealize.SL.Sem
open Idealize.ShloMosaic.Pipeline (Dat)

/-- A point's coordinates: the column block, then the row tile. -/
theorem crd_val : ∀ t : Fin grid0.N, ((grid0.coords t) 0).val = t.val / 17 ∧ ((grid0.coords t) 1).val = t.val % 17 := by decide +kernel
/-- Where the blocks of the rows and of the result start, in blocks. -/
theorem idx_rows : ∀ t : Fin grid0.N, cc0_transform_0 (grid0.coords t) (0 : Fin 2) = t.val % 17 ∧ cc0_transform_0 (grid0.coords t) (1 : Fin 2) = 0 := by decide +kernel
theorem idx_out : ∀ t : Fin grid0.N, cc0_transform_2 (grid0.coords t) (0 : Fin 2) = t.val % 17 ∧ cc0_transform_2 (grid0.coords t) (1 : Fin 2) = t.val / 17 := by decide +kernel
theorem idx_col : ∀ n : Fin 3, (Scalar.addi (BitVec.ofNat 32 n.val) 0#32).toNat = n.val := by decide

variable (ch : Fin 4)

/-- A widened bit is not zero when the bit is one. -/
theorem extui_ne (b : BitVec 1) : Scalar.cmpi .ne (Scalar.extui b : BitVec 32) 0#32 = b := by
  revert b; decide

/-- Every word of the tile table is the layer's number. -/
theorem layer_word (x : S17.Idx) : (pinT_0 ch x).toNat = ch.val := by
  show (BitVec.ofNat 32 ch.val).toNat = ch.val
  have := ch.isLt
  rw [BitVec.toNat_ofNat]
  omega

/-- A point that keeps its weights is past the first tile. -/
theorem keep_ne (t : Fin (cfgA ch).N) (h : ¬P0_0 ch t) : t.val % 17 ≠ 0 := fun h0 => by
  refine h ?_
  unfold P0_0
  rw [extui_ne, show ((crd ch t) 1).val = 0 from (crd_val t).2.trans h0]
  generalize Scalar.cmpi .ne _ _ = b
  revert b; decide

/-- Where the weights' block starts, in blocks. -/
theorem idx_weights (t : Fin (cfgA ch).N) :
    cc0_transform_1 k0_off1_inb numel1_S1 (pfN ch) (crd ch t) (0 : Fin 3) = ch.val
    ∧ cc0_transform_1 k0_off1_inb numel1_S1 (pfN ch) (crd ch t) (2 : Fin 3) = 0
    ∧ cc0_transform_1 k0_off1_inb numel1_S1 (pfN ch) (crd ch t) (1 : Fin 3) = t.val / 17 :=
  ⟨by have h := layer_word ch (ix1 0); exact h, rfl, (idx_col ((crd ch t) 0)).trans (crd_val t).1⟩

variable (m : (ℓ : Loc nD τ sig) → Buf (Elt Ideal) ℓ) (ρ : Dev nD → PrngReg) (c : Dev nD)

/-- The weight block of layer `g` from output column `1280 n` on, as the scratch holds it. -/
def weights (g : Fin 4) (n : Fin 3) : FVec Ideal S1280x2048 .bf16 := fun y =>
  m ((c : Thread nD τ).loc main_arg1) (ix3 g ⟨1280 * n.val + (y 0).val, by have := (y 0).isLt; have h : S1280x2048.size 0 = 1280 := rfl; omega⟩ (y 1))

theorem point_lt (t : Fin (cfgA ch).N) : t.val < 51 := lt_of_lt_of_eq t.isLt (by decide +kernel : grid0.N = 51)

/-- A point's weight block, rounded. -/
theorem block_weights (t : Fin (cfgA ch).N) :
    k0_pay1 (F := Ideal) (iblk ch m ρ c (1 : Fin 3) t) = weights m c ch ⟨t.val / 17, by have : t.val < 51 := point_lt ch t; omega⟩ := by
  obtain ⟨e0, ek, ec⟩ := idx_weights ch t
  funext y
  rw [eq_ix2 y]
  refine (pay1_apply _ _ _).trans ?_
  refine congrArg (m ((c : Thread nD τ).loc main_arg1)) (funext fun a => Fin.ext ?_)
  match a with
  | ⟨0, _⟩ => show cc0_transform_1 k0_off1_inb numel1_S1 (pfN ch) (crd ch t) (0 : Fin 3) * 1 + 1 * 0 = _; rw [e0]; simp
  | ⟨1, _⟩ => show cc0_transform_1 k0_off1_inb numel1_S1 (pfN ch) (crd ch t) (1 : Fin 3) * 1280 + 1 * (y 0).val = 1280 * (t.val / 17) + (y 0).val; rw [ec]; omega
  | ⟨2, _⟩ => show cc0_transform_1 k0_off1_inb numel1_S1 (pfN ch) (crd ch t) (2 : Fin 3) * 2048 + 1 * (y 1).val = (y 1).val; rw [ek]; simp

/-- A point's rows. -/
theorem block_rows (t : Fin (cfgA ch).N) (p : Fin 512) (k : Fin 2048) (r : Fin 8704) (hr : r.val = 512 * (t.val % 17) + p.val) :
    iblk ch m ρ c (0 : Fin 3) t (ix2 p k) = m ((c : Thread nD τ).loc main_arg0) (ix2 r k) := by
  obtain ⟨e0, e1⟩ := idx_rows t
  refine congrArg (m ((c : Thread nD τ).loc main_arg0)) (funext fun a => Fin.ext ?_)
  match a with
  | ⟨0, _⟩ => show cc0_transform_0 (crd ch t) (0 : Fin 2) * 512 + 1 * p.val = r.val; rw [show cc0_transform_0 (crd ch t) (0 : Fin 2) = _ from e0]; omega
  | ⟨1, _⟩ => show cc0_transform_0 (crd ch t) (1 : Fin 2) * 2048 + 1 * k.val = k.val; rw [show cc0_transform_0 (crd ch t) (1 : Fin 2) = _ from e1]; omega

/-- What a point that reloads its weights leaves. -/
theorem step_A (t : Fin (cfgA ch).N) (prev) (q0 : P0_0 ch t) :
    (step0 ch m ρ c t prev).1 = k0_pay2 (F := Ideal) (iblk ch m ρ c (0 : Fin 3) t) (k0_pay1 (F := Ideal) (iblk ch m ρ c (1 : Fin 3) t)) ∧ (step0 ch m ρ c t prev).2 = k0_pay1 (F := Ideal) (iblk ch m ρ c (1 : Fin 3) t) := by
  have h1 := out_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
    (hypsR0_A ch t q0).1 (hypsR0_A ch t q0).2.1 (hypsR0_A ch t q0).2.2.1
  have h2 := scratch_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
    (hypsR0_A ch t q0).1 (hypsR0_A ch t q0).2.1 (hypsR0_A ch t q0).2.2.1
  refine ⟨(congrArg Prod.fst (step0_A ch m ρ c t prev q0)).trans ?_, (congrArg Prod.snd (step0_A ch m ρ c t prev q0)).trans ?_⟩
  · dsimp only
    exact h1
  · dsimp only
    exact h2

/-- What a point that keeps its weights leaves. -/
theorem step_B (t : Fin (cfgA ch).N) (prev) (q0 : ¬P0_0 ch t) :
    (step0 ch m ρ c t prev).1 = k0_pay2 (F := Ideal) (iblk ch m ρ c (0 : Fin 3) t) prev.2 ∧ (step0 ch m ρ c t prev).2 = prev.2 := by
  have h1 := out_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
    (hypsR0_B ch t q0).1 (hypsR0_B ch t q0).2.1 (hypsR0_B ch t q0).2.2.1
  have h2 := scratch_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
    (hypsR0_B ch t q0).1 (hypsR0_B ch t q0).2.1 (hypsR0_B ch t q0).2.2.1
  refine ⟨(congrArg Prod.fst (step0_B ch m ρ c t prev q0)).trans ?_, (congrArg Prod.snd (step0_B ch m ρ c t prev q0)).trans ?_⟩
  · dsimp only
    exact h1
  · dsimp only
    exact h2

/-- THE SCRATCH after every point: the layer's weights of the point's column block, whether it reloaded them or not. -/
theorem scratch_eq : ∀ (n : ℕ) (h : n < (cfgA ch).N), (traj0 ch m ρ c n h).2 = weights m c ch ⟨n / 17, by have : n < 51 := point_lt ch ⟨n, h⟩; omega⟩
  | n, h => by
    rw [traj0_eq ch m ρ c ⟨n, h⟩]
    by_cases q0 : P0_0 ch ⟨n, h⟩
    · exact ((step_A ch m ρ c ⟨n, h⟩ _ q0).2).trans (block_weights ch m ρ c ⟨n, h⟩)
    · have hm : n % 17 ≠ 0 := keep_ne ch ⟨n, h⟩ q0
      have hn : n ≠ 0 := fun h0 => hm (by subst h0; rfl)
      have hprev : (prev0 ch m ρ c ⟨n, h⟩).2 = (traj0 ch m ρ c (n - 1) (by omega)).2 := by
        unfold prev0; rw [dif_neg hn]
      have ih := scratch_eq (n - 1) (by omega)
      have h2 : (n - 1) / 17 = n / 17 := by omega
      exact ((step_B ch m ρ c ⟨n, h⟩ _ q0).2.trans hprev).trans (ih.trans (congrArg (weights m c ch) (Fin.ext h2)))
  termination_by n => n

/-- THE OUTPUT BLOCK after every point, from the product of the tile's rows with the layer's weights. -/
theorem out_eq (t : Fin (cfgA ch).N) :
    (traj0 ch m ρ c t.val t.isLt).1 = k0_pay2 (F := Ideal) (iblk ch m ρ c (0 : Fin 3) t) (weights m c ch ⟨t.val / 17, by have : t.val < 51 := point_lt ch t; omega⟩) := by
  have hs := scratch_eq ch m ρ c t.val t.isLt
  rw [traj0_eq ch m ρ c t] at hs ⊢
  by_cases q0 : P0_0 ch t
  · have := step_A ch m ρ c t (prev0 ch m ρ c t) q0
    rw [← hs, this.2, this.1]
  · have := step_B ch m ρ c t (prev0 ch m ρ c t) q0
    rw [← hs, this.2, this.1]

end Cert.ProjInIdeal.Layer

end
-- ==== Proof.ProjInIdeal.Array.lean ====
/-
  The result array of the kernel, entry by entry, as a function of the argument arrays and the layer.
-/
module

public import Idealize.ShloMosaic.Lib.Pipeline.ValueKit.Geometry
public import proofs.«01_k».proof.Proof.ProjInIdeal.Words

@[expose] public section

set_option maxRecDepth 16384

noncomputable section

namespace Cert.ProjInIdeal.Layer

open Cert.ProjInIdeal Cert.ProjInIdeal.Gen
open Idealize.ShloMosaic Idealize.ShloMosaic.TcCoe Idealize.SL.Sem
open Idealize.ShloMosaic.Pipeline (Dat)

variable (ch : Fin 4) (m : (ℓ : Loc nD τ sig) → Buf (Elt Ideal) ℓ) (ρ : Dev nD → PrngReg) (c : Dev nD)

/-- Every point writes its output block back. -/
theorem flush_eq (t : Fin (cfgA ch).N) : ((cfgA ch).win (2 : Fin 3)).flush t = true := by
  by_cases q : P0_0 ch t
  · exact (sched0_A ch t q).2.1
  · exact (sched0_B ch t q).2.1

/-- No two points write the same output block. -/
theorem disjoint_out : ∀ t t' : Fin (cfgA ch).N, ((cfgA ch).win (2 : Fin 3)).flush t = true → ((cfgA ch).win (2 : Fin 3)).flush t' = true → t ≠ t' →
    Disjoint (((cfgA ch).win (2 : Fin 3)).blk t).view.set (((cfgA ch).win (2 : Fin 3)).blk t').view.set :=
  Pipeline.Window.hdisj_of_index_inj _ fun t t' _ _ e => by
    have e0 : t.val % 17 = t'.val % 17 := (idx_out t).1.symm.trans ((congrFun e (0 : Fin 2)).trans (idx_out t').1)
    have e1 : t.val / 17 = t'.val / 17 := (idx_out t).2.symm.trans ((congrFun e (1 : Fin 2)).trans (idx_out t').2)
    exact Fin.ext (by omega)

/-- What a point's write-back carries is what the point left in its output block. -/
theorem flushed_out (t : Fin (cfgA ch).N) : (dats ch m ρ 0 c).flushed (2 : Fin 3) t = (traj0 ch m ρ c t.val t.isLt).1 := by
  show ((cfgA ch).win (2 : Fin 3)).cut (grid0.coords t) ((dats ch m ρ 0 c).after (2 : Fin 3) t) = _
  rw [after0_2]
  rfl

/-- A point's block of rows. -/
def rowBlock (t : Fin (cfgA ch).N) : FVec Ideal S512x2048 .bf16 := iblk ch m ρ c (0 : Fin 3) t

/-- The rows of all tiles. -/
def rowsOf : FVec Ideal S8704x2048 .bf16 := m ((c : Thread nD τ).loc main_arg0)

/-- The matrices of all layers. -/
def matricesOf : FVec Ideal S4x3840x2048 .f32 := m ((c : Thread nD τ).loc main_arg1)

/-- The result array after the last point. -/
def result : FVec Ideal S8704x3840 .bf16 := (dats ch m ρ 0 c).arrAt (2 : Fin 3) (cfgA ch).N

/-- A row's product with a column of the layer's matrix. -/
def product (r : Fin 8704) (j : Fin 3840) : EReal := ∑ k : Fin 2048, (rowsOf m c (ix2 r k) : EReal) * (matricesOf m c (ix3 ch j k) : EReal)

/-- An entry of the result is what the point of its block left in its output block. -/
theorem result_block (t : Fin (cfgA ch).N) (p : Fin 512) (d : Fin 1280) (r : Fin 8704) (j : Fin 3840)
    (hr : r.val = 512 * (t.val % 17) + p.val) (hj : j.val = 1280 * (t.val / 17) + d.val) :
    result ch m ρ c (ix2 r j) = (traj0 ch m ρ c t.val t.isLt).1 (ix2 p d) := by
  have hemb : (((cfgA ch).win (2 : Fin 3)).blk t).view.emb (ix2 p d) = ix2 r j := by
    obtain ⟨e0, e1⟩ := idx_out t
    refine funext fun a => Fin.ext ?_
    match a with
    | ⟨0, _⟩ =>
      show cc0_transform_2 (grid0.coords t) (0 : Fin 2) * 512 + 1 * p.val = r.val
      rw [show cc0_transform_2 (grid0.coords t) (0 : Fin 2) = _ from e0]; omega
    | ⟨1, _⟩ =>
      show cc0_transform_2 (grid0.coords t) (1 : Fin 2) * 1280 + 1 * d.val = j.val
      rw [show cc0_transform_2 (grid0.coords t) (1 : Fin 2) = _ from e1]; omega
  have h := (dats ch m ρ 0 c).arrAt_emb_eq_flushed (2 : Fin 3) (disjoint_out ch) t (flush_eq ch t) (ix2 p d)
  rw [hemb, flushed_out] at h
  exact h

/-- Every entry has the point that writes it. -/
theorem point_of (r : Fin 8704) (j : Fin 3840) : ∃ t : Fin (cfgA ch).N, t.val % 17 = r.val / 512 ∧ t.val / 17 = j.val / 1280 := by
  have h : 17 * (j.val / 1280) + r.val / 512 < 51 := by omega
  refine ⟨⟨17 * (j.val / 1280) + r.val / 512, lt_of_lt_of_eq h (by decide +kernel : 51 = grid0.N)⟩, ?_, ?_⟩
  · show (17 * (j.val / 1280) + r.val / 512) % 17 = _; omega
  · show (17 * (j.val / 1280) + r.val / 512) / 17 = _; omega

/-- An entry of the result, from its row's product with its column of the layer's matrix. -/
theorem result_entry (r : Fin 8704) (j : Fin 3840) :
    (result ch m ρ c (ix2 r j) : EReal) = product ch m c r j := by
  obtain ⟨t, f0, f1⟩ := point_of ch r j
  have hp := point_lt ch t
  refine (result_block ch m ρ c t ⟨r.val % 512, Nat.mod_lt _ (by decide)⟩ ⟨j.val % 1280, Nat.mod_lt _ (by decide)⟩ r j (by rw [f0]; show r.val = 512 * (r.val / 512) + r.val % 512; omega) (by rw [f1]; show j.val = 1280 * (j.val / 1280) + j.val % 1280; omega)).trans ?_
  rw [out_eq ch m ρ c t]
  refine (pay2_apply _ _ _ _).trans ?_
  have hsum : ∑ k : Fin 2048, (rowBlock ch m ρ c t (ix2 ⟨r.val % 512, Nat.mod_lt _ (by decide)⟩ k) : EReal)
      * (weights m c ch ⟨t.val / 17, by have : t.val < 51 := point_lt ch t; omega⟩ (ix2 ⟨j.val % 1280, Nat.mod_lt _ (by decide)⟩ k) : EReal) = product ch m c r j := by
    refine Finset.sum_congr rfl fun k _ => congrArg₂ (fun a b : EReal => a * b) ?_ ?_
    · exact block_rows ch m ρ c _ _ k r (by rw [f0]; show r.val = 512 * (r.val / 512) + r.val % 512; omega)
    · have e2 : (⟨1280 * (t.val / 17) + j.val % 1280, by omega⟩ : Fin 3840) = j := Fin.ext (by show 1280 * (t.val / 17) + _ = _; omega)
      refine Eq.trans (b := matricesOf m c (ix3 ch (⟨1280 * (t.val / 17) + j.val % 1280, by omega⟩ : Fin 3840) k)) rfl ?_
      rw [e2]
  exact hsum

end Cert.ProjInIdeal.Layer

end
-- ==== Proof.ProjInReference.Entry.lean ====
/-
  The reference read at an entry.
-/
module

public import proofs.«01_k».proof.Proof.TileTake
public import proofs.«01_k».proof.Proof.Gen.ProjInReferenceIdeal.Read
public import proofs.«01_k».proof.Proof.Gen.ProjInReferenceIdeal.Run

@[expose] public section

set_option maxRecDepth 16384

noncomputable section

namespace Cert.ProjInReferenceIdeal.Entry

open Cert.ProjInReferenceIdeal Cert.ProjInReferenceIdeal.Gen Cert.ProjInReferenceIdeal.Read
open Idealize.ShloMosaic Idealize.SL.Sem
open Cert.TileTake (gather_apply not_neg)

variable (x0 : FVec Ideal S8704x2048 .bf16) (x1 : FVec Ideal S4x3840x2048 .f32) (x2 : IVec S17 32)

/-- The matrices the index table names. -/
theorem gathered (t : Fin 17) (j : Fin 3840) (k : Fin 2048) (n : Fin 4) (hn : (x2 (ix1 t)).toNat = n.val) :
    val_main_v8 (F := Ideal) x1 x2 (ix3 t j k) = x1 (ix3 n j k) := by
  unfold val_main_v8
  have h1 := n.isLt
  refine gather_apply _ x1 _ t j k n (by decide) ?_
  rw [val_main_v7_apply, val_main_v6_apply, val_main_v3_apply]
  have e : idx_main_v7 (ix2 t 0) = ix1 t := funext fun a => match a with | ⟨0, _⟩ => rfl
  rw [e, val_main_v2_apply, val_main_c_apply, not_neg _ (by omega)]
  exact hn

/-- A tile's row of the stacked rows. -/
theorem row_apply (t : Fin 17) (p : Fin 512) (k : Fin 2048) (r : Fin 8704) (hr : r.val = 512 * t.val + p.val) :
    val_main_v1 (F := Ideal) x0 (ix3 t p k) = x0 (ix2 r k) := by
  rw [val_main_v1_apply, val_main_v0_apply]
  refine congrArg x0 (funext fun a => Fin.ext ?_)
  have hk := k.isLt
  have hp := p.isLt
  match a with
  | ⟨0, _⟩ => show ((t.val * 512 + p.val) * 2048 + k.val) / 2048 = r.val; omega
  | ⟨1, _⟩ => show ((t.val * 512 + p.val) * 2048 + k.val) % 2048 = k.val; omega

/-- A row's product with a column of a layer's matrix. -/
def product (n : Fin 4) (r : Fin 8704) (j : Fin 3840) : EReal := ∑ k : Fin 2048, (x0 (ix2 r k) : EReal) * (x1 (ix3 n j k) : EReal)

/-- The product of a tile with its matrix. -/
theorem product_apply (t : Fin 17) (p : Fin 512) (j : Fin 3840) (r : Fin 8704) (hr : r.val = 512 * t.val + p.val) (n : Fin 4) (hn : (x2 (ix1 t)).toNat = n.val) :
    (val_main_v9 (F := Ideal) x0 x1 x2 (ix3 t p j) : EReal) = product x0 x1 n r j := by
  rw [val_main_v9_apply]
  refine Finset.sum_congr rfl fun k _ => congrArg₂ (fun a b : EReal => a * b) ?_ ?_
  · have e : lidx_main_v9 (ix3 t p j) k = ix3 t p k := funext fun a => match a with | ⟨0, _⟩ => rfl | ⟨1, _⟩ => rfl | ⟨2, _⟩ => rfl
    rw [e]
    exact row_apply x0 t p k r hr
  · have e : ridx_main_v9 (ix3 t p j) k = (ix3 t j k) := funext fun a => match a with | ⟨0, _⟩ => rfl | ⟨1, _⟩ => rfl | ⟨2, _⟩ => rfl
    rw [e]
    exact gathered x1 x2 t j k n hn

/-- The entry's index in the stacked tiles. -/
theorem idx_entry (r : Fin 8704) (j : Fin 3840) :
    idx_main_v10 (ix2 r j) = ix3 (⟨r.val / 512, by omega⟩ : Fin 17) (⟨r.val % 512, by omega⟩ : Fin 512) j := by
  have hr := r.isLt
  have hj := j.isLt
  funext a; refine Fin.ext ?_
  match a with
  | ⟨0, _⟩ => show (r.val * 3840 + j.val) / 1966080 = r.val / 512; omega
  | ⟨1, _⟩ => show (r.val * 3840 + j.val) / 3840 % 512 = r.val % 512; omega
  | ⟨2, _⟩ => show (r.val * 3840 + j.val) % 3840 = j.val; omega

/-- An entry of the reference, from its row's product with its column of the matrix its tile names. -/
theorem entry (r : Fin 8704) (j : Fin 3840) (n : Fin 4) (hn : (x2 (ix1 ⟨r.val / 512, by omega⟩)).toNat = n.val) :
    (val_main_v11 (F := Ideal) x0 x1 x2 (ix2 r j) : EReal) = product x0 x1 n r j := by
  have hr : r.val = 512 * (r.val / 512) + r.val % 512 := by omega
  rw [val_main_v11_apply, val_main_v10_apply, idx_entry, product_apply x0 x1 x2 _ _ j r hr n hn]
  rfl

end Cert.ProjInReferenceIdeal.Entry

end
-- ==== Proof.ProjInEquation.lean ====
/-
  The kernel's result for the layer's input projection is the reference's, entry by entry.
-/
module

public import proofs.«01_k».proof.Proof.ProjInIdeal.Array
public import proofs.«01_k».proof.Proof.ProjInReference.Entry

@[expose] public section

set_option maxRecDepth 16384

noncomputable section

namespace Cert.ProjInEquation

open Cert.ProjInIdeal Cert.ProjInIdeal.Gen Cert.ProjInIdeal.Layer Idealize.ShloMosaic Idealize.ShloMosaic.TcCoe Idealize.SL.Sem

variable (ch : Fin 4) (m : (ℓ : Loc nD τ sig) → Buf (Elt Ideal) ℓ) (ρ : Dev nD → PrngReg) (c : Dev nD)

/-- The result array is the reference's result of the same arguments. -/
theorem result_eq : result ch m ρ c = ProjInReferenceIdeal.Read.val_main_v11 (F := Ideal) (rowsOf m c) (matricesOf m c) (pinT_0 ch) := by
  refine funext fun (i : S8704x3840.Idx) => ?_
  rw [eq_ix2 i]
  exact (result_entry ch m ρ c (i 0) (i 1)).trans (ProjInReferenceIdeal.Entry.entry (rowsOf m c) (matricesOf m c) (pinT_0 ch) (i 0) (i 1) ch (layer_word ch _)).symm

end Cert.ProjInEquation

end
-- ==== Proof.ProjInClaims.lean ====
/-
  The claims about the layer's input projection: the frames of the kernel, of its idealisation and of the reference, and the equation of
  the two results.
-/
module

public import proofs.«01_k».proof.Defs
public import proofs.«01_k».proof.Proof.Gen.ProjIn.Flash
public import proofs.«01_k».proof.Proof.ProjInLayer
public import proofs.«01_k».proof.Proof.ProjInEquation

@[expose] public section

set_option maxRecDepth 16384

noncomputable section

namespace Cert.ProjInClaims

open Idealize.ShloMosaic Idealize.ShloMosaic.TcCoe Idealize.SL.Sem

/-- Under the precondition the kernel's launch memory holds one layer's tables. -/
theorem pinned_kernel (m : (ℓ : Loc ProjIn.nD ProjIn.τ ProjIn.sig) → Buf (Elt Bits) ℓ)
    (h : Cert.Pre_ProjIn (hPre_proj_in_layer := Pre_proj_in_layer.Gen.facts) m) : ∃ ch, ProjIn.Gen.Pinned ch m := by
  obtain ⟨g, hT, hU⟩ := @Pre_proj_in_layer.layer_of_fn Bits _ Pre_proj_in_layer.Gen.facts _ _ _ _ (h 0)
  exact ⟨g, fun c => by rw [Subsingleton.elim c 0]; exact hT, fun c => by rw [Subsingleton.elim c 0]; exact hU⟩

/-- The same for the idealisation. -/
theorem pinned_ideal (m : (ℓ : Loc ProjInIdeal.nD ProjInIdeal.τ ProjInIdeal.sig) → Buf (Elt Ideal) ℓ)
    (h : Cert.Pre_ProjInIdeal (hPre_proj_in_layer := Pre_proj_in_layer.Gen.facts) m) : ∃ ch, ProjInIdeal.Gen.Pinned ch m := by
  obtain ⟨g, hT, hU⟩ := @Pre_proj_in_layer.layer_of_fn Ideal _ Pre_proj_in_layer.Gen.facts _ _ _ _ (h 0)
  exact ⟨g, fun c => by rw [Subsingleton.elim c 0]; exact hT, fun c => by rw [Subsingleton.elim c 0]; exact hU⟩

/-- The kernel runs, leaves its arguments alone and ends with every counter at zero. -/
theorem frame_kernel : Cert.quiescent_ProjIn (hProjIn := ProjIn.Gen.facts) (hPre_proj_in_layer := Pre_proj_in_layer.Gen.facts) := fun m ρ h => by
  obtain ⟨ch, hp⟩ := pinned_kernel m h
  exact ProjIn.Gen.frame ch m ρ hp

/-- So does its idealisation. -/
theorem frame_ideal : Cert.quiescent_ProjInIdeal (hProjInIdeal := ProjInIdeal.Gen.facts) (hPre_proj_in_layer := Pre_proj_in_layer.Gen.facts) := fun m ρ h => by
  obtain ⟨ch, hp⟩ := pinned_ideal m h
  exact ProjInIdeal.Gen.frame ch m ρ hp

/-- The reference runs and leaves its arguments alone; it declares no semaphore. -/
theorem frame_reference : Cert.quiescent_ProjInReferenceIdeal (hProjInReferenceIdeal := ProjInReferenceIdeal.Gen.facts) := fun m ρ _ =>
  (θ_run ProjInReferenceIdeal.defs _ _).mono (fun r h => ⟨fun c => (h c).2, sem_eq_zero_of_no_sems (by decide) r.2⟩)
    (ProjInReferenceIdeal.Value.run (F := Ideal) m ρ)

/-- The same from the memories of the precondition. -/
theorem frame_reference_pre : Cert.quiescent_ProjInReferenceIdeal_pre_proj_in_layer (hProjInReferenceIdeal := ProjInReferenceIdeal.Gen.facts)
    (hPre_proj_in_layer := Pre_proj_in_layer.Gen.facts) := fun m ρ _ => frame_reference m ρ trivial

/-- From agreeing arguments under the precondition, the kernel and the reference end with the same result. -/
theorem algebraic : Cert.algebraic_ProjInIdeal_ProjInReferenceIdeal (hProjInIdeal := ProjInIdeal.Gen.facts) (hProjInReferenceIdeal := ProjInReferenceIdeal.Gen.facts) (hPre_proj_in_layer := Pre_proj_in_layer.Gen.facts) := by
  intro m ρ m' ρ' hpre hag
  obtain ⟨ch, hp⟩ := pinned_ideal m hpre
  refine ⟨fun c => ProjInIdeal.Layer.result ch m ρ c,
    (θ_run ProjInIdeal.defs _ _).mono (fun r h c => ⟨(h.1 c).1 (2 : Fin 3), h.2 c⟩) (θ_run_and (ProjInIdeal.Gen.run_main ch m ρ hp) (ProjInIdeal.Gen.unchanged ch m ρ hp)),
    (θ_run ProjInReferenceIdeal.defs _ _).mono (fun r h c => ⟨(h c).1.trans ?_, (h c).2⟩) (ProjInReferenceIdeal.Value.run (F := Ideal) m' ρ')⟩
  obtain ⟨a0, a1, a2, a3⟩ := hag c
  refine (ProjInReferenceIdeal.Read.val_main_v11_eq _ _ _).trans ?_
  rw [a0, a1, a2, hp.1 c]
  exact (ProjInEquation.result_eq ch m ρ c).symm

end Cert.ProjInClaims

end
-- ==== Proof.FfnDownLayer.lean ====
/-
  The precondition `ffn_down_layer`: the tile table is one layer's and every tile is used.
-/
module

public import proofs.«01_k».proof.Defs
public import proofs.«01_k».proof.Proof.Gen.Pre_ffn_down_layer
public import proofs.«01_k».proof.Proof.LayerTable

@[expose] public section

set_option maxRecDepth 16384

noncomputable section

namespace Cert.Pre_ffn_down_layer

open Idealize.ShloMosaic
open Cert.LayerTable (layer_of_words bcast_const)

variable {F : FTy → Type} [FloatOps F]

/-- Where the predicate holds, the tile table is one layer's and every tile is used. -/
theorem layer_of_fn [Facts] (X : FVec F S8704x5632 .bf16) (W : FVec F S2x5632x2048 .f32) (T : IVec S17 32) (U : IVec S1 32)
    (h : fn (F := F) X W T U = fun _ => 1#1) : ∃ g : Fin 2, T = (fun _ => BitVec.ofNat 32 g.val) ∧ U = fun _ => 17#32 := by
  have h0 := congrFun h (Shape.Idx.first Facts.h_S_)
  dsimp only [fn] at h0
  obtain ⟨h1, h2⟩ := IntOp.andi_eq_one.1 h0
  refine layer_of_words T U _ _ _ _ (fun i => Host.reduce_andi_all _ _ _ _ _ h1 i) (fun _ => rfl) (fun _ => rfl) (bcast_const _ _) ?_ h2
  exact shapeCast_apply U Facts.shapeCasts_S1_S_ _ (ix1 0) (by rfl)

end Cert.Pre_ffn_down_layer

end
-- ==== Proof.FfnDownIdeal.Block.lean ====
/-
  What one grid point of the kernel of the dense layer's down product leaves: the scratch holds the layer's weight block, the output block is computed from
  the rows' product with it.
-/
module

public import Idealize.ShloMosaic.Lib.Pointwise
public import Idealize.ShloMosaic.Lib.VecWindow
public import Idealize.ShloMosaic.Lib.Pipeline.ValueKit.Tiles
public import proofs.«01_k».proof.Proof.Gen.FfnDownIdeal.Flash

@[expose] public section

set_option maxRecDepth 16384

noncomputable section

namespace Cert.FfnDownIdeal.Layer

open Cert.FfnDownIdeal Cert.FfnDownIdeal.Gen
open Idealize.ShloMosaic Idealize.ShloMosaic.TcCoe Idealize.SL.Sem
open Idealize.ShloMosaic.Pipeline (Dat)

theorem hz : (![0, 0] : Fin 2 → ℕ) = fun _ => 0 := funext fun a => by fin_cases a <;> rfl

/-- What a whole buffer holds after one store of its own sizes is the payload. -/
theorem whole_store {κ : Kind} (b : Ref sig κ) (f : b.ty.Contents (Elt Ideal)) (off : Fin b.ty.shape.rank → ℕ)
    (inb : ∀ a, off a + b.ty.shape.size a ≤ b.ty.shape.size a) (w : b.ty.Contents (Elt Ideal)) :
    (View.whole b).writes (Elt Ideal) f [⟨Rect.unit off b.ty.shape.size inb, w⟩] = w :=
  (View.read_whole b _).symm.trans (View.read_writes_full (View.whole b) f inb w [])

variable (c : Dev nD) (i : grid0.Coords)
  (arg4 : Memref sig .tc .vmem S512x5632 .bf16) (harg4 : arg4.IsWhole)
  (arg5 : Memref sig .tc .vmem S1x5632x512 .f32) (harg5 : arg5.IsWhole)
  (arg6 : Memref sig .tc .vmem S512x512 .bf16) (harg6 : arg6.IsWhole)
  (T0 : S17.Idx → BitVec 32) (T1 : S1.Idx → BitVec 32)
  (x0 : FVec Ideal S512x5632 .bf16) (x1 : FVec Ideal S1x5632x512 .f32) (xa0 : FVec Ideal S5632x512 .bf16)

/-- A point that keeps its weights leaves the product of its rows with the block the scratch holds. -/
theorem out_B (hc0) (h2) (h3) :
    out0_B_2 c i arg4 harg4 arg5 harg5 arg6 harg6 T0 T1 x0 x1 xa0 hc0 h2 h3 = k0_pay2 (F := Ideal) x0 xa0 := by
  unfold out0_B_2
  rw [View.read_writes_eq_canon _ _ _ (cover0_B_2 c i arg4 harg4 arg5 harg5 arg6 harg6 T0 T1 x0 x1 xa0 hc0 h2 h3)]
  unfold kernelRun0_B
  dsimp only
  sl_unfold_words
  refine (View.canon_unit_zero hz _ _).trans ?_
  refine congrArg₂ (k0_pay2 (F := Ideal)) (View.readAt_rep_full _ _ _) ?_
  exact View.readAt_full _ _ _

/-- A point that reloads its weights leaves the product of its rows with the block it has just reloaded. -/
theorem out_A (hc0) (h2) (h3) :
    out0_A_2 c i arg4 harg4 arg5 harg5 arg6 harg6 T0 T1 x0 x1 hc0 h2 h3 = k0_pay2 (F := Ideal) x0 (k0_pay1 (F := Ideal) x1) := by
  unfold out0_A_2
  rw [View.read_writes_eq_canon _ _ _ (cover0_A_2 c i arg4 harg4 arg5 harg5 arg6 harg6 T0 T1 x0 x1 hc0 h2 h3)]
  unfold kernelRun0_A
  dsimp only
  sl_unfold_words
  refine (View.canon_unit_zero hz _ _).trans ?_
  refine congrArg₂ (k0_pay2 (F := Ideal)) (View.readAt_rep_full _ _ _) ?_
  exact (View.readCov_full _ _ _ _ _).trans (congrArg (k0_pay1 (F := Ideal)) (View.readAt_rep_full _ _ _))

/-- A keeping point leaves the scratch as it was. -/
theorem scratch_B (hc0) (h2) (h3) : (kernelRun0_B c i arg4 harg4 arg5 harg5 arg6 harg6 T0 T1 x0 x1 xa0 hc0 h2 h3).2.1 = xa0 := rfl

/-- A reloading point leaves its weight block, rounded, in the scratch. -/
theorem scratch_A (hc0) (h2) (h3) : (kernelRun0_A c i arg4 harg4 arg5 harg5 arg6 harg6 T0 T1 x0 x1 hc0 h2 h3).2.1 = k0_pay1 (F := Ideal) x1 := by
  unfold kernelRun0_A
  dsimp only
  sl_unfold_words
  refine (whole_store cc0_scratch0 _ _ inb_S5632x512_S5632x512_0_0 _).trans (congrArg (k0_pay1 (F := Ideal)) (View.readAt_rep_full _ _ _))

/-! ## The payloads at an entry -/

theorem pay1_apply (a : Fin 5632) (b : Fin 512) : (k0_pay1 (F := Ideal) x1 (ix2 a b) : EReal) = x1 (ix3 0 a b) := by
  pointwise [k0_pay1]

theorem pay2_apply (p : Fin 512) (d : Fin 512) :
    (k0_pay2 (F := Ideal) x0 xa0 (ix2 p d) : EReal) = ∑ k : Fin 5632, (x0 (ix2 p k) : EReal) * xa0 (ix2 k d) := by
  pointwise [k0_pay2]

end Cert.FfnDownIdeal.Layer

end
-- ==== Proof.FfnDownIdeal.Words.lean ====
/-
  What the tables tell a grid point, its blocks, and what it leaves.
-/
module

public import proofs.«01_k».proof.Proof.FfnDownIdeal.Block

@[expose] public section

set_option maxRecDepth 16384

noncomputable section

namespace Cert.FfnDownIdeal.Layer

open Cert.FfnDownIdeal Cert.FfnDownIdeal.Gen
open Idealize.ShloMosaic Idealize.ShloMosaic.TcCoe Idealize.SL.Sem
open Idealize.ShloMosaic.Pipeline (Dat)

/-- A point's coordinates: the column block, then the row tile. -/
theorem crd_val : ∀ t : Fin grid0.N, ((grid0.coords t) 0).val = t.val / 17 ∧ ((grid0.coords t) 1).val = t.val % 17 := by decide +kernel
/-- Where the blocks of the rows and of the result start, in blocks. -/
theorem idx_rows : ∀ t : Fin grid0.N, cc0_transform_0 (grid0.coords t) (0 : Fin 2) = t.val % 17 ∧ cc0_transform_0 (grid0.coords t) (1 : Fin 2) = 0 := by decide +kernel
theorem idx_out : ∀ t : Fin grid0.N, cc0_transform_2 (grid0.coords t) (0 : Fin 2) = t.val % 17 ∧ cc0_transform_2 (grid0.coords t) (1 : Fin 2) = t.val / 17 := by decide +kernel
theorem idx_col : ∀ n : Fin 4, (Scalar.addi (BitVec.ofNat 32 n.val) 0#32).toNat = n.val := by decide

variable (ch : Fin 2)

/-- A widened bit is not zero when the bit is one. -/
theorem extui_ne (b : BitVec 1) : Scalar.cmpi .ne (Scalar.extui b : BitVec 32) 0#32 = b := by
  revert b; decide

/-- Every word of the tile table is the layer's number. -/
theorem layer_word (x : S17.Idx) : (pinT_0 ch x).toNat = ch.val := by
  show (BitVec.ofNat 32 ch.val).toNat = ch.val
  have := ch.isLt
  rw [BitVec.toNat_ofNat]
  omega

/-- A point that keeps its weights is past the first tile. -/
theorem keep_ne (t : Fin (cfgA ch).N) (h : ¬P0_0 ch t) : t.val % 17 ≠ 0 := fun h0 => by
  refine h ?_
  unfold P0_0
  rw [extui_ne, show ((crd ch t) 1).val = 0 from (crd_val t).2.trans h0]
  generalize Scalar.cmpi .ne _ _ = b
  revert b; decide

/-- Where the weights' block starts, in blocks. -/
theorem idx_weights (t : Fin (cfgA ch).N) :
    cc0_transform_1 k0_off1_inb numel1_S1 (pfN ch) (crd ch t) (0 : Fin 3) = ch.val
    ∧ cc0_transform_1 k0_off1_inb numel1_S1 (pfN ch) (crd ch t) (1 : Fin 3) = 0
    ∧ cc0_transform_1 k0_off1_inb numel1_S1 (pfN ch) (crd ch t) (2 : Fin 3) = t.val / 17 :=
  ⟨by have h := layer_word ch (ix1 0); exact h, rfl, (idx_col ((crd ch t) 0)).trans (crd_val t).1⟩

variable (m : (ℓ : Loc nD τ sig) → Buf (Elt Ideal) ℓ) (ρ : Dev nD → PrngReg) (c : Dev nD)

/-- The weight block of layer `g` from output column `512 n` on, as the scratch holds it. -/
def weights (g : Fin 2) (n : Fin 4) : FVec Ideal S5632x512 .bf16 := fun y =>
  m ((c : Thread nD τ).loc main_arg1) (ix3 g (y 0) ⟨512 * n.val + (y 1).val, by have := (y 1).isLt; have h : S5632x512.size 1 = 512 := rfl; omega⟩)

theorem point_lt (t : Fin (cfgA ch).N) : t.val < 68 := lt_of_lt_of_eq t.isLt (by decide +kernel : grid0.N = 68)

/-- A point's weight block, rounded. -/
theorem block_weights (t : Fin (cfgA ch).N) :
    k0_pay1 (F := Ideal) (iblk ch m ρ c (1 : Fin 3) t) = weights m c ch ⟨t.val / 17, by have : t.val < 68 := point_lt ch t; omega⟩ := by
  obtain ⟨e0, ek, ec⟩ := idx_weights ch t
  funext y
  rw [eq_ix2 y]
  refine (pay1_apply _ _ _).trans ?_
  refine congrArg (m ((c : Thread nD τ).loc main_arg1)) (funext fun a => Fin.ext ?_)
  match a with
  | ⟨0, _⟩ => show cc0_transform_1 k0_off1_inb numel1_S1 (pfN ch) (crd ch t) (0 : Fin 3) * 1 + 1 * 0 = _; rw [e0]; simp
  | ⟨1, _⟩ => show cc0_transform_1 k0_off1_inb numel1_S1 (pfN ch) (crd ch t) (1 : Fin 3) * 5632 + 1 * (y 0).val = (y 0).val; rw [ek]; simp
  | ⟨2, _⟩ => show cc0_transform_1 k0_off1_inb numel1_S1 (pfN ch) (crd ch t) (2 : Fin 3) * 512 + 1 * (y 1).val = 512 * (t.val / 17) + (y 1).val; rw [ec]; omega

/-- A point's rows. -/
theorem block_rows (t : Fin (cfgA ch).N) (p : Fin 512) (k : Fin 5632) (r : Fin 8704) (hr : r.val = 512 * (t.val % 17) + p.val) :
    iblk ch m ρ c (0 : Fin 3) t (ix2 p k) = m ((c : Thread nD τ).loc main_arg0) (ix2 r k) := by
  obtain ⟨e0, e1⟩ := idx_rows t
  refine congrArg (m ((c : Thread nD τ).loc main_arg0)) (funext fun a => Fin.ext ?_)
  match a with
  | ⟨0, _⟩ => show cc0_transform_0 (crd ch t) (0 : Fin 2) * 512 + 1 * p.val = r.val; rw [show cc0_transform_0 (crd ch t) (0 : Fin 2) = _ from e0]; omega
  | ⟨1, _⟩ => show cc0_transform_0 (crd ch t) (1 : Fin 2) * 5632 + 1 * k.val = k.val; rw [show cc0_transform_0 (crd ch t) (1 : Fin 2) = _ from e1]; omega

/-- What a point that reloads its weights leaves. -/
theorem step_A (t : Fin (cfgA ch).N) (prev) (q0 : P0_0 ch t) :
    (step0 ch m ρ c t prev).1 = k0_pay2 (F := Ideal) (iblk ch m ρ c (0 : Fin 3) t) (k0_pay1 (F := Ideal) (iblk ch m ρ c (1 : Fin 3) t)) ∧ (step0 ch m ρ c t prev).2 = k0_pay1 (F := Ideal) (iblk ch m ρ c (1 : Fin 3) t) := by
  have h1 := out_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
    (hypsR0_A ch t q0).1 (hypsR0_A ch t q0).2.1 (hypsR0_A ch t q0).2.2.1
  have h2 := scratch_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
    (hypsR0_A ch t q0).1 (hypsR0_A ch t q0).2.1 (hypsR0_A ch t q0).2.2.1
  refine ⟨(congrArg Prod.fst (step0_A ch m ρ c t prev q0)).trans ?_, (congrArg Prod.snd (step0_A ch m ρ c t prev q0)).trans ?_⟩
  · dsimp only
    exact h1
  · dsimp only
    exact h2

/-- What a point that keeps its weights leaves. -/
theorem step_B (t : Fin (cfgA ch).N) (prev) (q0 : ¬P0_0 ch t) :
    (step0 ch m ρ c t prev).1 = k0_pay2 (F := Ideal) (iblk ch m ρ c (0 : Fin 3) t) prev.2 ∧ (step0 ch m ρ c t prev).2 = prev.2 := by
  have h1 := out_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
    (hypsR0_B ch t q0).1 (hypsR0_B ch t q0).2.1 (hypsR0_B ch t q0).2.2.1
  have h2 := scratch_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
    (hypsR0_B ch t q0).1 (hypsR0_B ch t q0).2.1 (hypsR0_B ch t q0).2.2.1
  refine ⟨(congrArg Prod.fst (step0_B ch m ρ c t prev q0)).trans ?_, (congrArg Prod.snd (step0_B ch m ρ c t prev q0)).trans ?_⟩
  · dsimp only
    exact h1
  · dsimp only
    exact h2

/-- THE SCRATCH after every point: the layer's weights of the point's column block, whether it reloaded them or not. -/
theorem scratch_eq : ∀ (n : ℕ) (h : n < (cfgA ch).N), (traj0 ch m ρ c n h).2 = weights m c ch ⟨n / 17, by have : n < 68 := point_lt ch ⟨n, h⟩; omega⟩
  | n, h => by
    rw [traj0_eq ch m ρ c ⟨n, h⟩]
    by_cases q0 : P0_0 ch ⟨n, h⟩
    · exact ((step_A ch m ρ c ⟨n, h⟩ _ q0).2).trans (block_weights ch m ρ c ⟨n, h⟩)
    · have hm : n % 17 ≠ 0 := keep_ne ch ⟨n, h⟩ q0
      have hn : n ≠ 0 := fun h0 => hm (by subst h0; rfl)
      have hprev : (prev0 ch m ρ c ⟨n, h⟩).2 = (traj0 ch m ρ c (n - 1) (by omega)).2 := by
        unfold prev0; rw [dif_neg hn]
      have ih := scratch_eq (n - 1) (by omega)
      have h2 : (n - 1) / 17 = n / 17 := by omega
      exact ((step_B ch m ρ c ⟨n, h⟩ _ q0).2.trans hprev).trans (ih.trans (congrArg (weights m c ch) (Fin.ext h2)))
  termination_by n => n

/-- THE OUTPUT BLOCK after every point, from the product of the tile's rows with the layer's weights. -/
theorem out_eq (t : Fin (cfgA ch).N) :
    (traj0 ch m ρ c t.val t.isLt).1 = k0_pay2 (F := Ideal) (iblk ch m ρ c (0 : Fin 3) t) (weights m c ch ⟨t.val / 17, by have : t.val < 68 := point_lt ch t; omega⟩) := by
  have hs := scratch_eq ch m ρ c t.val t.isLt
  rw [traj0_eq ch m ρ c t] at hs ⊢
  by_cases q0 : P0_0 ch t
  · have := step_A ch m ρ c t (prev0 ch m ρ c t) q0
    rw [← hs, this.2, this.1]
  · have := step_B ch m ρ c t (prev0 ch m ρ c t) q0
    rw [← hs, this.2, this.1]

end Cert.FfnDownIdeal.Layer

end
-- ==== Proof.FfnDownIdeal.Array.lean ====
/-
  The result array of the kernel, entry by entry, as a function of the argument arrays and the layer.
-/
module

public import Idealize.ShloMosaic.Lib.Pipeline.ValueKit.Geometry
public import proofs.«01_k».proof.Proof.FfnDownIdeal.Words

@[expose] public section

set_option maxRecDepth 16384

noncomputable section

namespace Cert.FfnDownIdeal.Layer

open Cert.FfnDownIdeal Cert.FfnDownIdeal.Gen
open Idealize.ShloMosaic Idealize.ShloMosaic.TcCoe Idealize.SL.Sem
open Idealize.ShloMosaic.Pipeline (Dat)

variable (ch : Fin 2) (m : (ℓ : Loc nD τ sig) → Buf (Elt Ideal) ℓ) (ρ : Dev nD → PrngReg) (c : Dev nD)

/-- Every point writes its output block back. -/
theorem flush_eq (t : Fin (cfgA ch).N) : ((cfgA ch).win (2 : Fin 3)).flush t = true := by
  by_cases q : P0_0 ch t
  · exact (sched0_A ch t q).2.1
  · exact (sched0_B ch t q).2.1

/-- No two points write the same output block. -/
theorem disjoint_out : ∀ t t' : Fin (cfgA ch).N, ((cfgA ch).win (2 : Fin 3)).flush t = true → ((cfgA ch).win (2 : Fin 3)).flush t' = true → t ≠ t' →
    Disjoint (((cfgA ch).win (2 : Fin 3)).blk t).view.set (((cfgA ch).win (2 : Fin 3)).blk t').view.set :=
  Pipeline.Window.hdisj_of_index_inj _ fun t t' _ _ e => by
    have e0 : t.val % 17 = t'.val % 17 := (idx_out t).1.symm.trans ((congrFun e (0 : Fin 2)).trans (idx_out t').1)
    have e1 : t.val / 17 = t'.val / 17 := (idx_out t).2.symm.trans ((congrFun e (1 : Fin 2)).trans (idx_out t').2)
    exact Fin.ext (by omega)

/-- What a point's write-back carries is what the point left in its output block. -/
theorem flushed_out (t : Fin (cfgA ch).N) : (dats ch m ρ 0 c).flushed (2 : Fin 3) t = (traj0 ch m ρ c t.val t.isLt).1 := by
  show ((cfgA ch).win (2 : Fin 3)).cut (grid0.coords t) ((dats ch m ρ 0 c).after (2 : Fin 3) t) = _
  rw [after0_2]
  rfl

/-- A point's block of rows. -/
def rowBlock (t : Fin (cfgA ch).N) : FVec Ideal S512x5632 .bf16 := iblk ch m ρ c (0 : Fin 3) t

/-- The rows of all tiles. -/
def rowsOf : FVec Ideal S8704x5632 .bf16 := m ((c : Thread nD τ).loc main_arg0)

/-- The matrices of all layers. -/
def matricesOf : FVec Ideal S2x5632x2048 .f32 := m ((c : Thread nD τ).loc main_arg1)

/-- The result array after the last point. -/
def result : FVec Ideal S8704x2048 .bf16 := (dats ch m ρ 0 c).arrAt (2 : Fin 3) (cfgA ch).N

/-- A row's product with a column of the layer's matrix. -/
def product (r : Fin 8704) (j : Fin 2048) : EReal := ∑ k : Fin 5632, (rowsOf m c (ix2 r k) : EReal) * (matricesOf m c (ix3 ch k j) : EReal)

/-- An entry of the result is what the point of its block left in its output block. -/
theorem result_block (t : Fin (cfgA ch).N) (p : Fin 512) (d : Fin 512) (r : Fin 8704) (j : Fin 2048)
    (hr : r.val = 512 * (t.val % 17) + p.val) (hj : j.val = 512 * (t.val / 17) + d.val) :
    result ch m ρ c (ix2 r j) = (traj0 ch m ρ c t.val t.isLt).1 (ix2 p d) := by
  have hemb : (((cfgA ch).win (2 : Fin 3)).blk t).view.emb (ix2 p d) = ix2 r j := by
    obtain ⟨e0, e1⟩ := idx_out t
    refine funext fun a => Fin.ext ?_
    match a with
    | ⟨0, _⟩ =>
      show cc0_transform_2 (grid0.coords t) (0 : Fin 2) * 512 + 1 * p.val = r.val
      rw [show cc0_transform_2 (grid0.coords t) (0 : Fin 2) = _ from e0]; omega
    | ⟨1, _⟩ =>
      show cc0_transform_2 (grid0.coords t) (1 : Fin 2) * 512 + 1 * d.val = j.val
      rw [show cc0_transform_2 (grid0.coords t) (1 : Fin 2) = _ from e1]; omega
  have h := (dats ch m ρ 0 c).arrAt_emb_eq_flushed (2 : Fin 3) (disjoint_out ch) t (flush_eq ch t) (ix2 p d)
  rw [hemb, flushed_out] at h
  exact h

/-- Every entry has the point that writes it. -/
theorem point_of (r : Fin 8704) (j : Fin 2048) : ∃ t : Fin (cfgA ch).N, t.val % 17 = r.val / 512 ∧ t.val / 17 = j.val / 512 := by
  have h : 17 * (j.val / 512) + r.val / 512 < 68 := by omega
  refine ⟨⟨17 * (j.val / 512) + r.val / 512, lt_of_lt_of_eq h (by decide +kernel : 68 = grid0.N)⟩, ?_, ?_⟩
  · show (17 * (j.val / 512) + r.val / 512) % 17 = _; omega
  · show (17 * (j.val / 512) + r.val / 512) / 17 = _; omega

/-- An entry of the result, from its row's product with its column of the layer's matrix. -/
theorem result_entry (r : Fin 8704) (j : Fin 2048) :
    (result ch m ρ c (ix2 r j) : EReal) = product ch m c r j := by
  obtain ⟨t, f0, f1⟩ := point_of ch r j
  have hp := point_lt ch t
  refine (result_block ch m ρ c t ⟨r.val % 512, Nat.mod_lt _ (by decide)⟩ ⟨j.val % 512, Nat.mod_lt _ (by decide)⟩ r j (by rw [f0]; show r.val = 512 * (r.val / 512) + r.val % 512; omega) (by rw [f1]; show j.val = 512 * (j.val / 512) + j.val % 512; omega)).trans ?_
  rw [out_eq ch m ρ c t]
  refine (pay2_apply _ _ _ _).trans ?_
  have hsum : ∑ k : Fin 5632, (rowBlock ch m ρ c t (ix2 ⟨r.val % 512, Nat.mod_lt _ (by decide)⟩ k) : EReal)
      * (weights m c ch ⟨t.val / 17, by have : t.val < 68 := point_lt ch t; omega⟩ (ix2 k ⟨j.val % 512, Nat.mod_lt _ (by decide)⟩) : EReal) = product ch m c r j := by
    refine Finset.sum_congr rfl fun k _ => congrArg₂ (fun a b : EReal => a * b) ?_ ?_
    · exact block_rows ch m ρ c _ _ k r (by rw [f0]; show r.val = 512 * (r.val / 512) + r.val % 512; omega)
    · have e2 : (⟨512 * (t.val / 17) + j.val % 512, by omega⟩ : Fin 2048) = j := Fin.ext (by show 512 * (t.val / 17) + _ = _; omega)
      refine Eq.trans (b := matricesOf m c (ix3 ch k (⟨512 * (t.val / 17) + j.val % 512, by omega⟩ : Fin 2048))) rfl ?_
      rw [e2]
  exact hsum

end Cert.FfnDownIdeal.Layer

end
-- ==== Proof.FfnDownReference.Entry.lean ====
/-
  The reference read at an entry.
-/
module

public import proofs.«01_k».proof.Proof.TileTake
public import proofs.«01_k».proof.Proof.Gen.FfnDownReferenceIdeal.Read
public import proofs.«01_k».proof.Proof.Gen.FfnDownReferenceIdeal.Run

@[expose] public section

set_option maxRecDepth 16384

noncomputable section

namespace Cert.FfnDownReferenceIdeal.Entry

open Cert.FfnDownReferenceIdeal Cert.FfnDownReferenceIdeal.Gen Cert.FfnDownReferenceIdeal.Read
open Idealize.ShloMosaic Idealize.SL.Sem
open Cert.TileTake (gather_apply not_neg)

variable (x0 : FVec Ideal S8704x5632 .bf16) (x1 : FVec Ideal S2x5632x2048 .f32) (x2 : IVec S17 32)

/-- The matrices the index table names. -/
theorem gathered (t : Fin 17) (k : Fin 5632) (j : Fin 2048) (n : Fin 2) (hn : (x2 (ix1 t)).toNat = n.val) :
    val_main_v8 (F := Ideal) x1 x2 (ix3 t k j) = x1 (ix3 n k j) := by
  unfold val_main_v8
  have h1 := n.isLt
  refine gather_apply _ x1 _ t k j n (by decide) ?_
  rw [val_main_v7_apply, val_main_v6_apply, val_main_v3_apply]
  have e : idx_main_v7 (ix2 t 0) = ix1 t := funext fun a => match a with | ⟨0, _⟩ => rfl
  rw [e, val_main_v2_apply, val_main_c_apply, not_neg _ (by omega)]
  exact hn

/-- A tile's row of the stacked rows. -/
theorem row_apply (t : Fin 17) (p : Fin 512) (k : Fin 5632) (r : Fin 8704) (hr : r.val = 512 * t.val + p.val) :
    val_main_v1 (F := Ideal) x0 (ix3 t p k) = x0 (ix2 r k) := by
  rw [val_main_v1_apply, val_main_v0_apply]
  refine congrArg x0 (funext fun a => Fin.ext ?_)
  have hk := k.isLt
  have hp := p.isLt
  match a with
  | ⟨0, _⟩ => show ((t.val * 512 + p.val) * 5632 + k.val) / 5632 = r.val; omega
  | ⟨1, _⟩ => show ((t.val * 512 + p.val) * 5632 + k.val) % 5632 = k.val; omega

/-- A row's product with a column of a layer's matrix. -/
def product (n : Fin 2) (r : Fin 8704) (j : Fin 2048) : EReal := ∑ k : Fin 5632, (x0 (ix2 r k) : EReal) * (x1 (ix3 n k j) : EReal)

/-- The product of a tile with its matrix. -/
theorem product_apply (t : Fin 17) (p : Fin 512) (j : Fin 2048) (r : Fin 8704) (hr : r.val = 512 * t.val + p.val) (n : Fin 2) (hn : (x2 (ix1 t)).toNat = n.val) :
    (val_main_v9 (F := Ideal) x0 x1 x2 (ix3 t p j) : EReal) = product x0 x1 n r j := by
  rw [val_main_v9_apply]
  refine Finset.sum_congr rfl fun k _ => congrArg₂ (fun a b : EReal => a * b) ?_ ?_
  · have e : lidx_main_v9 (ix3 t p j) k = ix3 t p k := funext fun a => match a with | ⟨0, _⟩ => rfl | ⟨1, _⟩ => rfl | ⟨2, _⟩ => rfl
    rw [e]
    exact row_apply x0 t p k r hr
  · have e : ridx_main_v9 (ix3 t p j) k = (ix3 t k j) := funext fun a => match a with | ⟨0, _⟩ => rfl | ⟨1, _⟩ => rfl | ⟨2, _⟩ => rfl
    rw [e]
    exact gathered x1 x2 t k j n hn

/-- The entry's index in the stacked tiles. -/
theorem idx_entry (r : Fin 8704) (j : Fin 2048) :
    idx_main_v10 (ix2 r j) = ix3 (⟨r.val / 512, by omega⟩ : Fin 17) (⟨r.val % 512, by omega⟩ : Fin 512) j := by
  have hr := r.isLt
  have hj := j.isLt
  funext a; refine Fin.ext ?_
  match a with
  | ⟨0, _⟩ => show (r.val * 2048 + j.val) / 1048576 = r.val / 512; omega
  | ⟨1, _⟩ => show (r.val * 2048 + j.val) / 2048 % 512 = r.val % 512; omega
  | ⟨2, _⟩ => show (r.val * 2048 + j.val) % 2048 = j.val; omega

/-- An entry of the reference, from its row's product with its column of the matrix its tile names. -/
theorem entry (r : Fin 8704) (j : Fin 2048) (n : Fin 2) (hn : (x2 (ix1 ⟨r.val / 512, by omega⟩)).toNat = n.val) :
    (val_main_v11 (F := Ideal) x0 x1 x2 (ix2 r j) : EReal) = product x0 x1 n r j := by
  have hr : r.val = 512 * (r.val / 512) + r.val % 512 := by omega
  rw [val_main_v11_apply, val_main_v10_apply, idx_entry, product_apply x0 x1 x2 _ _ j r hr n hn]
  rfl

end Cert.FfnDownReferenceIdeal.Entry

end
-- ==== Proof.FfnDownEquation.lean ====
/-
  The kernel's result for the dense layer's down product is the reference's, entry by entry.
-/
module

public import proofs.«01_k».proof.Proof.FfnDownIdeal.Array
public import proofs.«01_k».proof.Proof.FfnDownReference.Entry

@[expose] public section

set_option maxRecDepth 16384

noncomputable section

namespace Cert.FfnDownEquation

open Cert.FfnDownIdeal Cert.FfnDownIdeal.Gen Cert.FfnDownIdeal.Layer Idealize.ShloMosaic Idealize.ShloMosaic.TcCoe Idealize.SL.Sem

variable (ch : Fin 2) (m : (ℓ : Loc nD τ sig) → Buf (Elt Ideal) ℓ) (ρ : Dev nD → PrngReg) (c : Dev nD)

/-- The result array is the reference's result of the same arguments. -/
theorem result_eq : result ch m ρ c = FfnDownReferenceIdeal.Read.val_main_v11 (F := Ideal) (rowsOf m c) (matricesOf m c) (pinT_0 ch) := by
  refine funext fun (i : S8704x2048.Idx) => ?_
  rw [eq_ix2 i]
  exact (result_entry ch m ρ c (i 0) (i 1)).trans (FfnDownReferenceIdeal.Entry.entry (rowsOf m c) (matricesOf m c) (pinT_0 ch) (i 0) (i 1) ch (layer_word ch _)).symm

end Cert.FfnDownEquation

end
-- ==== Proof.FfnDownClaims.lean ====
/-
  The claims about the dense layer's down product: the frames of the kernel, of its idealisation and of the reference, and the equation of
  the two results.
-/
module

public import proofs.«01_k».proof.Defs
public import proofs.«01_k».proof.Proof.Gen.FfnDown.Flash
public import proofs.«01_k».proof.Proof.FfnDownLayer
public import proofs.«01_k».proof.Proof.FfnDownEquation

@[expose] public section

set_option maxRecDepth 16384

noncomputable section

namespace Cert.FfnDownClaims

open Idealize.ShloMosaic Idealize.ShloMosaic.TcCoe Idealize.SL.Sem

/-- Under the precondition the kernel's launch memory holds one layer's tables. -/
theorem pinned_kernel (m : (ℓ : Loc FfnDown.nD FfnDown.τ FfnDown.sig) → Buf (Elt Bits) ℓ)
    (h : Cert.Pre_FfnDown (hPre_ffn_down_layer := Pre_ffn_down_layer.Gen.facts) m) : ∃ ch, FfnDown.Gen.Pinned ch m := by
  obtain ⟨g, hT, hU⟩ := @Pre_ffn_down_layer.layer_of_fn Bits _ Pre_ffn_down_layer.Gen.facts _ _ _ _ (h 0)
  exact ⟨g, fun c => by rw [Subsingleton.elim c 0]; exact hT, fun c => by rw [Subsingleton.elim c 0]; exact hU⟩

/-- The same for the idealisation. -/
theorem pinned_ideal (m : (ℓ : Loc FfnDownIdeal.nD FfnDownIdeal.τ FfnDownIdeal.sig) → Buf (Elt Ideal) ℓ)
    (h : Cert.Pre_FfnDownIdeal (hPre_ffn_down_layer := Pre_ffn_down_layer.Gen.facts) m) : ∃ ch, FfnDownIdeal.Gen.Pinned ch m := by
  obtain ⟨g, hT, hU⟩ := @Pre_ffn_down_layer.layer_of_fn Ideal _ Pre_ffn_down_layer.Gen.facts _ _ _ _ (h 0)
  exact ⟨g, fun c => by rw [Subsingleton.elim c 0]; exact hT, fun c => by rw [Subsingleton.elim c 0]; exact hU⟩

/-- The kernel runs, leaves its arguments alone and ends with every counter at zero. -/
theorem frame_kernel : Cert.quiescent_FfnDown (hFfnDown := FfnDown.Gen.facts) (hPre_ffn_down_layer := Pre_ffn_down_layer.Gen.facts) := fun m ρ h => by
  obtain ⟨ch, hp⟩ := pinned_kernel m h
  exact FfnDown.Gen.frame ch m ρ hp

/-- So does its idealisation. -/
theorem frame_ideal : Cert.quiescent_FfnDownIdeal (hFfnDownIdeal := FfnDownIdeal.Gen.facts) (hPre_ffn_down_layer := Pre_ffn_down_layer.Gen.facts) := fun m ρ h => by
  obtain ⟨ch, hp⟩ := pinned_ideal m h
  exact FfnDownIdeal.Gen.frame ch m ρ hp

/-- The reference runs and leaves its arguments alone; it declares no semaphore. -/
theorem frame_reference : Cert.quiescent_FfnDownReferenceIdeal (hFfnDownReferenceIdeal := FfnDownReferenceIdeal.Gen.facts) := fun m ρ _ =>
  (θ_run FfnDownReferenceIdeal.defs _ _).mono (fun r h => ⟨fun c => (h c).2, sem_eq_zero_of_no_sems (by decide) r.2⟩)
    (FfnDownReferenceIdeal.Value.run (F := Ideal) m ρ)

/-- The same from the memories of the precondition. -/
theorem frame_reference_pre : Cert.quiescent_FfnDownReferenceIdeal_pre_ffn_down_layer (hFfnDownReferenceIdeal := FfnDownReferenceIdeal.Gen.facts)
    (hPre_ffn_down_layer := Pre_ffn_down_layer.Gen.facts) := fun m ρ _ => frame_reference m ρ trivial

/-- From agreeing arguments under the precondition, the kernel and the reference end with the same result. -/
theorem algebraic : Cert.algebraic_FfnDownIdeal_FfnDownReferenceIdeal (hFfnDownIdeal := FfnDownIdeal.Gen.facts) (hFfnDownReferenceIdeal := FfnDownReferenceIdeal.Gen.facts) (hPre_ffn_down_layer := Pre_ffn_down_layer.Gen.facts) := by
  intro m ρ m' ρ' hpre hag
  obtain ⟨ch, hp⟩ := pinned_ideal m hpre
  refine ⟨fun c => FfnDownIdeal.Layer.result ch m ρ c,
    (θ_run FfnDownIdeal.defs _ _).mono (fun r h c => ⟨(h.1 c).1 (2 : Fin 3), h.2 c⟩) (θ_run_and (FfnDownIdeal.Gen.run_main ch m ρ hp) (FfnDownIdeal.Gen.unchanged ch m ρ hp)),
    (θ_run FfnDownReferenceIdeal.defs _ _).mono (fun r h c => ⟨(h c).1.trans ?_, (h c).2⟩) (FfnDownReferenceIdeal.Value.run (F := Ideal) m' ρ')⟩
  obtain ⟨a0, a1, a2, a3⟩ := hag c
  refine (FfnDownReferenceIdeal.Read.val_main_v11_eq _ _ _).trans ?_
  rw [a0, a1, a2, hp.1 c]
  exact (FfnDownEquation.result_eq ch m ρ c).symm

end Cert.FfnDownClaims

end
-- ==== Proof.FfnGateLayer.lean ====
/-
  The precondition `ffn_gate_layer`: the tile table is one layer's and every tile is used.
-/
module

public import proofs.«01_k».proof.Defs
public import proofs.«01_k».proof.Proof.Gen.Pre_ffn_gate_layer
public import proofs.«01_k».proof.Proof.LayerTable

@[expose] public section

set_option maxRecDepth 16384

noncomputable section

namespace Cert.Pre_ffn_gate_layer

open Idealize.ShloMosaic
open Cert.LayerTable (layer_of_words bcast_const)

variable {F : FTy → Type} [FloatOps F]

/-- Where the predicate holds, the tile table is one layer's and every tile is used. -/
theorem layer_of_fn [Facts] (X : FVec F S8704x2048 .bf16) (W : FVec F S2x2048x5632 .f32) (T : IVec S17 32) (U : IVec S1 32)
    (h : fn (F := F) X W T U = fun _ => 1#1) : ∃ g : Fin 2, T = (fun _ => BitVec.ofNat 32 g.val) ∧ U = fun _ => 17#32 := by
  have h0 := congrFun h (Shape.Idx.first Facts.h_S_)
  dsimp only [fn] at h0
  obtain ⟨h1, h2⟩ := IntOp.andi_eq_one.1 h0
  refine layer_of_words T U _ _ _ _ (fun i => Host.reduce_andi_all _ _ _ _ _ h1 i) (fun _ => rfl) (fun _ => rfl) (bcast_const _ _) ?_ h2
  exact shapeCast_apply U Facts.shapeCasts_S1_S_ _ (ix1 0) (by rfl)

end Cert.Pre_ffn_gate_layer

end
-- ==== Proof.FfnGateIdeal.Block.lean ====
/-
  What one grid point of the kernel of the dense layer's gate leaves: the scratch holds the layer's weight block, the output block is computed from
  the rows' product with it.
-/
module

public import Idealize.ShloMosaic.Lib.Pointwise
public import Idealize.ShloMosaic.Lib.VecWindow
public import Idealize.ShloMosaic.Lib.Pipeline.ValueKit.Tiles
public import proofs.«01_k».proof.Proof.Gen.FfnGateIdeal.Flash

@[expose] public section

set_option maxRecDepth 16384

noncomputable section

namespace Cert.FfnGateIdeal.Layer

open Cert.FfnGateIdeal Cert.FfnGateIdeal.Gen
open Idealize.ShloMosaic Idealize.ShloMosaic.TcCoe Idealize.SL.Sem
open Idealize.ShloMosaic.Pipeline (Dat)

theorem hz : (![0, 0] : Fin 2 → ℕ) = fun _ => 0 := funext fun a => by fin_cases a <;> rfl

/-- What a whole buffer holds after one store of its own sizes is the payload. -/
theorem whole_store {κ : Kind} (b : Ref sig κ) (f : b.ty.Contents (Elt Ideal)) (off : Fin b.ty.shape.rank → ℕ)
    (inb : ∀ a, off a + b.ty.shape.size a ≤ b.ty.shape.size a) (w : b.ty.Contents (Elt Ideal)) :
    (View.whole b).writes (Elt Ideal) f [⟨Rect.unit off b.ty.shape.size inb, w⟩] = w :=
  (View.read_whole b _).symm.trans (View.read_writes_full (View.whole b) f inb w [])

variable (c : Dev nD) (i : grid0.Coords)
  (arg4 : Memref sig .tc .vmem S512x2048 .bf16) (harg4 : arg4.IsWhole)
  (arg5 : Memref sig .tc .vmem S1x2048x2816 .f32) (harg5 : arg5.IsWhole)
  (arg6 : Memref sig .tc .vmem S512x2816 .bf16) (harg6 : arg6.IsWhole)
  (T0 : S17.Idx → BitVec 32) (T1 : S1.Idx → BitVec 32)
  (x0 : FVec Ideal S512x2048 .bf16) (x1 : FVec Ideal S1x2048x2816 .f32) (xa0 : FVec Ideal S2048x2816 .bf16)

/-- A point that keeps its weights leaves the product of its rows with the block the scratch holds. -/
theorem out_B (hc0) (h2) (h3) :
    out0_B_2 c i arg4 harg4 arg5 harg5 arg6 harg6 T0 T1 x0 x1 xa0 hc0 h2 h3 = k0_pay2 (F := Ideal) x0 xa0 := by
  unfold out0_B_2
  rw [View.read_writes_eq_canon _ _ _ (cover0_B_2 c i arg4 harg4 arg5 harg5 arg6 harg6 T0 T1 x0 x1 xa0 hc0 h2 h3)]
  unfold kernelRun0_B
  dsimp only
  sl_unfold_words
  refine (View.canon_unit_zero hz _ _).trans ?_
  refine congrArg₂ (k0_pay2 (F := Ideal)) (View.readAt_rep_full _ _ _) ?_
  exact View.readAt_full _ _ _

/-- A point that reloads its weights leaves the product of its rows with the block it has just reloaded. -/
theorem out_A (hc0) (h2) (h3) :
    out0_A_2 c i arg4 harg4 arg5 harg5 arg6 harg6 T0 T1 x0 x1 hc0 h2 h3 = k0_pay2 (F := Ideal) x0 (k0_pay1 (F := Ideal) x1) := by
  unfold out0_A_2
  rw [View.read_writes_eq_canon _ _ _ (cover0_A_2 c i arg4 harg4 arg5 harg5 arg6 harg6 T0 T1 x0 x1 hc0 h2 h3)]
  unfold kernelRun0_A
  dsimp only
  sl_unfold_words
  refine (View.canon_unit_zero hz _ _).trans ?_
  refine congrArg₂ (k0_pay2 (F := Ideal)) (View.readAt_rep_full _ _ _) ?_
  exact (View.readCov_full _ _ _ _ _).trans (congrArg (k0_pay1 (F := Ideal)) (View.readAt_rep_full _ _ _))

/-- A keeping point leaves the scratch as it was. -/
theorem scratch_B (hc0) (h2) (h3) : (kernelRun0_B c i arg4 harg4 arg5 harg5 arg6 harg6 T0 T1 x0 x1 xa0 hc0 h2 h3).2.1 = xa0 := rfl

/-- A reloading point leaves its weight block, rounded, in the scratch. -/
theorem scratch_A (hc0) (h2) (h3) : (kernelRun0_A c i arg4 harg4 arg5 harg5 arg6 harg6 T0 T1 x0 x1 hc0 h2 h3).2.1 = k0_pay1 (F := Ideal) x1 := by
  unfold kernelRun0_A
  dsimp only
  sl_unfold_words
  refine (whole_store cc0_scratch0 _ _ inb_S2048x2816_S2048x2816_0_0 _).trans (congrArg (k0_pay1 (F := Ideal)) (View.readAt_rep_full _ _ _))

/-! ## The payloads at an entry -/

theorem pay1_apply (a : Fin 2048) (b : Fin 2816) : (k0_pay1 (F := Ideal) x1 (ix2 a b) : EReal) = x1 (ix3 0 a b) := by
  pointwise [k0_pay1]

theorem pay2_apply (p : Fin 512) (d : Fin 2816) :
    (k0_pay2 (F := Ideal) x0 xa0 (ix2 p d) : EReal) = (∑ k : Fin 2048, (x0 (ix2 p k) : EReal) * xa0 (ix2 k d)) * Ideal.logistic (∑ k : Fin 2048, (x0 (ix2 p k) : EReal) * xa0 (ix2 k d)) := by
  pointwise [k0_pay2]

end Cert.FfnGateIdeal.Layer

end
-- ==== Proof.FfnGateIdeal.Words.lean ====
/-
  What the tables tell a grid point, its blocks, and what it leaves.
-/
module

public import proofs.«01_k».proof.Proof.FfnGateIdeal.Block

@[expose] public section

set_option maxRecDepth 16384

noncomputable section

namespace Cert.FfnGateIdeal.Layer

open Cert.FfnGateIdeal Cert.FfnGateIdeal.Gen
open Idealize.ShloMosaic Idealize.ShloMosaic.TcCoe Idealize.SL.Sem
open Idealize.ShloMosaic.Pipeline (Dat)

/-- A point's coordinates: the column block, then the row tile. -/
theorem crd_val : ∀ t : Fin grid0.N, ((grid0.coords t) 0).val = t.val / 17 ∧ ((grid0.coords t) 1).val = t.val % 17 := by decide +kernel
/-- Where the blocks of the rows and of the result start, in blocks. -/
theorem idx_rows : ∀ t : Fin grid0.N, cc0_transform_0 (grid0.coords t) (0 : Fin 2) = t.val % 17 ∧ cc0_transform_0 (grid0.coords t) (1 : Fin 2) = 0 := by decide +kernel
theorem idx_out : ∀ t : Fin grid0.N, cc0_transform_2 (grid0.coords t) (0 : Fin 2) = t.val % 17 ∧ cc0_transform_2 (grid0.coords t) (1 : Fin 2) = t.val / 17 := by decide +kernel
theorem idx_col : ∀ n : Fin 2, (Scalar.addi (BitVec.ofNat 32 n.val) 0#32).toNat = n.val := by decide

variable (ch : Fin 2)

/-- A widened bit is not zero when the bit is one. -/
theorem extui_ne (b : BitVec 1) : Scalar.cmpi .ne (Scalar.extui b : BitVec 32) 0#32 = b := by
  revert b; decide

/-- Every word of the tile table is the layer's number. -/
theorem layer_word (x : S17.Idx) : (pinT_0 ch x).toNat = ch.val := by
  show (BitVec.ofNat 32 ch.val).toNat = ch.val
  have := ch.isLt
  rw [BitVec.toNat_ofNat]
  omega

/-- A point that keeps its weights is past the first tile. -/
theorem keep_ne (t : Fin (cfgA ch).N) (h : ¬P0_0 ch t) : t.val % 17 ≠ 0 := fun h0 => by
  refine h ?_
  unfold P0_0
  rw [extui_ne, show ((crd ch t) 1).val = 0 from (crd_val t).2.trans h0]
  generalize Scalar.cmpi .ne _ _ = b
  revert b; decide

/-- Where the weights' block starts, in blocks. -/
theorem idx_weights (t : Fin (cfgA ch).N) :
    cc0_transform_1 k0_off1_inb numel1_S1 (pfN ch) (crd ch t) (0 : Fin 3) = ch.val
    ∧ cc0_transform_1 k0_off1_inb numel1_S1 (pfN ch) (crd ch t) (1 : Fin 3) = 0
    ∧ cc0_transform_1 k0_off1_inb numel1_S1 (pfN ch) (crd ch t) (2 : Fin 3) = t.val / 17 :=
  ⟨by have h := layer_word ch (ix1 0); exact h, rfl, (idx_col ((crd ch t) 0)).trans (crd_val t).1⟩

variable (m : (ℓ : Loc nD τ sig) → Buf (Elt Ideal) ℓ) (ρ : Dev nD → PrngReg) (c : Dev nD)

/-- The weight block of layer `g` from output column `2816 n` on, as the scratch holds it. -/
def weights (g : Fin 2) (n : Fin 2) : FVec Ideal S2048x2816 .bf16 := fun y =>
  m ((c : Thread nD τ).loc main_arg1) (ix3 g (y 0) ⟨2816 * n.val + (y 1).val, by have := (y 1).isLt; have h : S2048x2816.size 1 = 2816 := rfl; omega⟩)

theorem point_lt (t : Fin (cfgA ch).N) : t.val < 34 := lt_of_lt_of_eq t.isLt (by decide +kernel : grid0.N = 34)

/-- A point's weight block, rounded. -/
theorem block_weights (t : Fin (cfgA ch).N) :
    k0_pay1 (F := Ideal) (iblk ch m ρ c (1 : Fin 3) t) = weights m c ch ⟨t.val / 17, by have : t.val < 34 := point_lt ch t; omega⟩ := by
  obtain ⟨e0, ek, ec⟩ := idx_weights ch t
  funext y
  rw [eq_ix2 y]
  refine (pay1_apply _ _ _).trans ?_
  refine congrArg (m ((c : Thread nD τ).loc main_arg1)) (funext fun a => Fin.ext ?_)
  match a with
  | ⟨0, _⟩ => show cc0_transform_1 k0_off1_inb numel1_S1 (pfN ch) (crd ch t) (0 : Fin 3) * 1 + 1 * 0 = _; rw [e0]; simp
  | ⟨1, _⟩ => show cc0_transform_1 k0_off1_inb numel1_S1 (pfN ch) (crd ch t) (1 : Fin 3) * 2048 + 1 * (y 0).val = (y 0).val; rw [ek]; simp
  | ⟨2, _⟩ => show cc0_transform_1 k0_off1_inb numel1_S1 (pfN ch) (crd ch t) (2 : Fin 3) * 2816 + 1 * (y 1).val = 2816 * (t.val / 17) + (y 1).val; rw [ec]; omega

/-- A point's rows. -/
theorem block_rows (t : Fin (cfgA ch).N) (p : Fin 512) (k : Fin 2048) (r : Fin 8704) (hr : r.val = 512 * (t.val % 17) + p.val) :
    iblk ch m ρ c (0 : Fin 3) t (ix2 p k) = m ((c : Thread nD τ).loc main_arg0) (ix2 r k) := by
  obtain ⟨e0, e1⟩ := idx_rows t
  refine congrArg (m ((c : Thread nD τ).loc main_arg0)) (funext fun a => Fin.ext ?_)
  match a with
  | ⟨0, _⟩ => show cc0_transform_0 (crd ch t) (0 : Fin 2) * 512 + 1 * p.val = r.val; rw [show cc0_transform_0 (crd ch t) (0 : Fin 2) = _ from e0]; omega
  | ⟨1, _⟩ => show cc0_transform_0 (crd ch t) (1 : Fin 2) * 2048 + 1 * k.val = k.val; rw [show cc0_transform_0 (crd ch t) (1 : Fin 2) = _ from e1]; omega

/-- What a point that reloads its weights leaves. -/
theorem step_A (t : Fin (cfgA ch).N) (prev) (q0 : P0_0 ch t) :
    (step0 ch m ρ c t prev).1 = k0_pay2 (F := Ideal) (iblk ch m ρ c (0 : Fin 3) t) (k0_pay1 (F := Ideal) (iblk ch m ρ c (1 : Fin 3) t)) ∧ (step0 ch m ρ c t prev).2 = k0_pay1 (F := Ideal) (iblk ch m ρ c (1 : Fin 3) t) := by
  have h1 := out_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
    (hypsR0_A ch t q0).1 (hypsR0_A ch t q0).2.1 (hypsR0_A ch t q0).2.2.1
  have h2 := scratch_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
    (hypsR0_A ch t q0).1 (hypsR0_A ch t q0).2.1 (hypsR0_A ch t q0).2.2.1
  refine ⟨(congrArg Prod.fst (step0_A ch m ρ c t prev q0)).trans ?_, (congrArg Prod.snd (step0_A ch m ρ c t prev q0)).trans ?_⟩
  · dsimp only
    exact h1
  · dsimp only
    exact h2

/-- What a point that keeps its weights leaves. -/
theorem step_B (t : Fin (cfgA ch).N) (prev) (q0 : ¬P0_0 ch t) :
    (step0 ch m ρ c t prev).1 = k0_pay2 (F := Ideal) (iblk ch m ρ c (0 : Fin 3) t) prev.2 ∧ (step0 ch m ρ c t prev).2 = prev.2 := by
  have h1 := out_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
    (hypsR0_B ch t q0).1 (hypsR0_B ch t q0).2.1 (hypsR0_B ch t q0).2.2.1
  have h2 := scratch_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
    (hypsR0_B ch t q0).1 (hypsR0_B ch t q0).2.1 (hypsR0_B ch t q0).2.2.1
  refine ⟨(congrArg Prod.fst (step0_B ch m ρ c t prev q0)).trans ?_, (congrArg Prod.snd (step0_B ch m ρ c t prev q0)).trans ?_⟩
  · dsimp only
    exact h1
  · dsimp only
    exact h2

/-- THE SCRATCH after every point: the layer's weights of the point's column block, whether it reloaded them or not. -/
theorem scratch_eq : ∀ (n : ℕ) (h : n < (cfgA ch).N), (traj0 ch m ρ c n h).2 = weights m c ch ⟨n / 17, by have : n < 34 := point_lt ch ⟨n, h⟩; omega⟩
  | n, h => by
    rw [traj0_eq ch m ρ c ⟨n, h⟩]
    by_cases q0 : P0_0 ch ⟨n, h⟩
    · exact ((step_A ch m ρ c ⟨n, h⟩ _ q0).2).trans (block_weights ch m ρ c ⟨n, h⟩)
    · have hm : n % 17 ≠ 0 := keep_ne ch ⟨n, h⟩ q0
      have hn : n ≠ 0 := fun h0 => hm (by subst h0; rfl)
      have hprev : (prev0 ch m ρ c ⟨n, h⟩).2 = (traj0 ch m ρ c (n - 1) (by omega)).2 := by
        unfold prev0; rw [dif_neg hn]
      have ih := scratch_eq (n - 1) (by omega)
      have h2 : (n - 1) / 17 = n / 17 := by omega
      exact ((step_B ch m ρ c ⟨n, h⟩ _ q0).2.trans hprev).trans (ih.trans (congrArg (weights m c ch) (Fin.ext h2)))
  termination_by n => n

/-- THE OUTPUT BLOCK after every point, from the product of the tile's rows with the layer's weights. -/
theorem out_eq (t : Fin (cfgA ch).N) :
    (traj0 ch m ρ c t.val t.isLt).1 = k0_pay2 (F := Ideal) (iblk ch m ρ c (0 : Fin 3) t) (weights m c ch ⟨t.val / 17, by have : t.val < 34 := point_lt ch t; omega⟩) := by
  have hs := scratch_eq ch m ρ c t.val t.isLt
  rw [traj0_eq ch m ρ c t] at hs ⊢
  by_cases q0 : P0_0 ch t
  · have := step_A ch m ρ c t (prev0 ch m ρ c t) q0
    rw [← hs, this.2, this.1]
  · have := step_B ch m ρ c t (prev0 ch m ρ c t) q0
    rw [← hs, this.2, this.1]

end Cert.FfnGateIdeal.Layer

end
-- ==== Proof.FfnGateIdeal.Array.lean ====
/-
  The result array of the kernel, entry by entry, as a function of the argument arrays and the layer.
-/
module

public import Idealize.ShloMosaic.Lib.Pipeline.ValueKit.Geometry
public import proofs.«01_k».proof.Proof.FfnGateIdeal.Words

@[expose] public section

set_option maxRecDepth 16384

noncomputable section

namespace Cert.FfnGateIdeal.Layer

open Cert.FfnGateIdeal Cert.FfnGateIdeal.Gen
open Idealize.ShloMosaic Idealize.ShloMosaic.TcCoe Idealize.SL.Sem
open Idealize.ShloMosaic.Pipeline (Dat)

variable (ch : Fin 2) (m : (ℓ : Loc nD τ sig) → Buf (Elt Ideal) ℓ) (ρ : Dev nD → PrngReg) (c : Dev nD)

/-- Every point writes its output block back. -/
theorem flush_eq (t : Fin (cfgA ch).N) : ((cfgA ch).win (2 : Fin 3)).flush t = true := by
  by_cases q : P0_0 ch t
  · exact (sched0_A ch t q).2.1
  · exact (sched0_B ch t q).2.1

/-- No two points write the same output block. -/
theorem disjoint_out : ∀ t t' : Fin (cfgA ch).N, ((cfgA ch).win (2 : Fin 3)).flush t = true → ((cfgA ch).win (2 : Fin 3)).flush t' = true → t ≠ t' →
    Disjoint (((cfgA ch).win (2 : Fin 3)).blk t).view.set (((cfgA ch).win (2 : Fin 3)).blk t').view.set :=
  Pipeline.Window.hdisj_of_index_inj _ fun t t' _ _ e => by
    have e0 : t.val % 17 = t'.val % 17 := (idx_out t).1.symm.trans ((congrFun e (0 : Fin 2)).trans (idx_out t').1)
    have e1 : t.val / 17 = t'.val / 17 := (idx_out t).2.symm.trans ((congrFun e (1 : Fin 2)).trans (idx_out t').2)
    exact Fin.ext (by omega)

/-- What a point's write-back carries is what the point left in its output block. -/
theorem flushed_out (t : Fin (cfgA ch).N) : (dats ch m ρ 0 c).flushed (2 : Fin 3) t = (traj0 ch m ρ c t.val t.isLt).1 := by
  show ((cfgA ch).win (2 : Fin 3)).cut (grid0.coords t) ((dats ch m ρ 0 c).after (2 : Fin 3) t) = _
  rw [after0_2]
  rfl

/-- A point's block of rows. -/
def rowBlock (t : Fin (cfgA ch).N) : FVec Ideal S512x2048 .bf16 := iblk ch m ρ c (0 : Fin 3) t

/-- The rows of all tiles. -/
def rowsOf : FVec Ideal S8704x2048 .bf16 := m ((c : Thread nD τ).loc main_arg0)

/-- The matrices of all layers. -/
def matricesOf : FVec Ideal S2x2048x5632 .f32 := m ((c : Thread nD τ).loc main_arg1)

/-- The result array after the last point. -/
def result : FVec Ideal S8704x5632 .bf16 := (dats ch m ρ 0 c).arrAt (2 : Fin 3) (cfgA ch).N

/-- A row's product with a column of the layer's matrix. -/
def product (r : Fin 8704) (j : Fin 5632) : EReal := ∑ k : Fin 2048, (rowsOf m c (ix2 r k) : EReal) * (matricesOf m c (ix3 ch k j) : EReal)

/-- An entry of the result is what the point of its block left in its output block. -/
theorem result_block (t : Fin (cfgA ch).N) (p : Fin 512) (d : Fin 2816) (r : Fin 8704) (j : Fin 5632)
    (hr : r.val = 512 * (t.val % 17) + p.val) (hj : j.val = 2816 * (t.val / 17) + d.val) :
    result ch m ρ c (ix2 r j) = (traj0 ch m ρ c t.val t.isLt).1 (ix2 p d) := by
  have hemb : (((cfgA ch).win (2 : Fin 3)).blk t).view.emb (ix2 p d) = ix2 r j := by
    obtain ⟨e0, e1⟩ := idx_out t
    refine funext fun a => Fin.ext ?_
    match a with
    | ⟨0, _⟩ =>
      show cc0_transform_2 (grid0.coords t) (0 : Fin 2) * 512 + 1 * p.val = r.val
      rw [show cc0_transform_2 (grid0.coords t) (0 : Fin 2) = _ from e0]; omega
    | ⟨1, _⟩ =>
      show cc0_transform_2 (grid0.coords t) (1 : Fin 2) * 2816 + 1 * d.val = j.val
      rw [show cc0_transform_2 (grid0.coords t) (1 : Fin 2) = _ from e1]; omega
  have h := (dats ch m ρ 0 c).arrAt_emb_eq_flushed (2 : Fin 3) (disjoint_out ch) t (flush_eq ch t) (ix2 p d)
  rw [hemb, flushed_out] at h
  exact h

/-- Every entry has the point that writes it. -/
theorem point_of (r : Fin 8704) (j : Fin 5632) : ∃ t : Fin (cfgA ch).N, t.val % 17 = r.val / 512 ∧ t.val / 17 = j.val / 2816 := by
  have h : 17 * (j.val / 2816) + r.val / 512 < 34 := by omega
  refine ⟨⟨17 * (j.val / 2816) + r.val / 512, lt_of_lt_of_eq h (by decide +kernel : 34 = grid0.N)⟩, ?_, ?_⟩
  · show (17 * (j.val / 2816) + r.val / 512) % 17 = _; omega
  · show (17 * (j.val / 2816) + r.val / 512) / 17 = _; omega

/-- An entry of the result, from its row's product with its column of the layer's matrix. -/
theorem result_entry (r : Fin 8704) (j : Fin 5632) :
    (result ch m ρ c (ix2 r j) : EReal) = (product ch m c r j) * Ideal.logistic (product ch m c r j) := by
  obtain ⟨t, f0, f1⟩ := point_of ch r j
  have hp := point_lt ch t
  refine (result_block ch m ρ c t ⟨r.val % 512, Nat.mod_lt _ (by decide)⟩ ⟨j.val % 2816, Nat.mod_lt _ (by decide)⟩ r j (by rw [f0]; show r.val = 512 * (r.val / 512) + r.val % 512; omega) (by rw [f1]; show j.val = 2816 * (j.val / 2816) + j.val % 2816; omega)).trans ?_
  rw [out_eq ch m ρ c t]
  refine (pay2_apply _ _ _ _).trans ?_
  have hsum : ∑ k : Fin 2048, (rowBlock ch m ρ c t (ix2 ⟨r.val % 512, Nat.mod_lt _ (by decide)⟩ k) : EReal)
      * (weights m c ch ⟨t.val / 17, by have : t.val < 34 := point_lt ch t; omega⟩ (ix2 k ⟨j.val % 2816, Nat.mod_lt _ (by decide)⟩) : EReal) = product ch m c r j := by
    refine Finset.sum_congr rfl fun k _ => congrArg₂ (fun a b : EReal => a * b) ?_ ?_
    · exact block_rows ch m ρ c _ _ k r (by rw [f0]; show r.val = 512 * (r.val / 512) + r.val % 512; omega)
    · have e2 : (⟨2816 * (t.val / 17) + j.val % 2816, by omega⟩ : Fin 5632) = j := Fin.ext (by show 2816 * (t.val / 17) + _ = _; omega)
      refine Eq.trans (b := matricesOf m c (ix3 ch k (⟨2816 * (t.val / 17) + j.val % 2816, by omega⟩ : Fin 5632))) rfl ?_
      rw [e2]
  exact congrArg (fun s : EReal => s * Ideal.logistic s) hsum

end Cert.FfnGateIdeal.Layer

end
-- ==== Proof.FfnGateReference.Entry.lean ====
/-
  The reference read at an entry.
-/
module

public import proofs.«01_k».proof.Proof.TileTake
public import proofs.«01_k».proof.Proof.Gen.FfnGateReferenceIdeal.Read
public import proofs.«01_k».proof.Proof.Gen.FfnGateReferenceIdeal.Run

@[expose] public section

set_option maxRecDepth 16384

noncomputable section

namespace Cert.FfnGateReferenceIdeal.Entry

open Cert.FfnGateReferenceIdeal Cert.FfnGateReferenceIdeal.Gen Cert.FfnGateReferenceIdeal.Read
open Idealize.ShloMosaic Idealize.SL.Sem
open Cert.TileTake (gather_apply not_neg)

variable (x0 : FVec Ideal S8704x2048 .bf16) (x1 : FVec Ideal S2x2048x5632 .f32) (x2 : IVec S17 32)

/-- The matrices the index table names. -/
theorem gathered (t : Fin 17) (k : Fin 2048) (j : Fin 5632) (n : Fin 2) (hn : (x2 (ix1 t)).toNat = n.val) :
    val_main_v8 (F := Ideal) x1 x2 (ix3 t k j) = x1 (ix3 n k j) := by
  unfold val_main_v8
  have h1 := n.isLt
  refine gather_apply _ x1 _ t k j n (by decide) ?_
  rw [val_main_v7_apply, val_main_v6_apply, val_main_v3_apply]
  have e : idx_main_v7 (ix2 t 0) = ix1 t := funext fun a => match a with | ⟨0, _⟩ => rfl
  rw [e, val_main_v2_apply, val_main_c_apply, not_neg _ (by omega)]
  exact hn

/-- A tile's row of the stacked rows. -/
theorem row_apply (t : Fin 17) (p : Fin 512) (k : Fin 2048) (r : Fin 8704) (hr : r.val = 512 * t.val + p.val) :
    val_main_v1 (F := Ideal) x0 (ix3 t p k) = x0 (ix2 r k) := by
  rw [val_main_v1_apply, val_main_v0_apply]
  refine congrArg x0 (funext fun a => Fin.ext ?_)
  have hk := k.isLt
  have hp := p.isLt
  match a with
  | ⟨0, _⟩ => show ((t.val * 512 + p.val) * 2048 + k.val) / 2048 = r.val; omega
  | ⟨1, _⟩ => show ((t.val * 512 + p.val) * 2048 + k.val) % 2048 = k.val; omega

/-- A row's product with a column of a layer's matrix. -/
def product (n : Fin 2) (r : Fin 8704) (j : Fin 5632) : EReal := ∑ k : Fin 2048, (x0 (ix2 r k) : EReal) * (x1 (ix3 n k j) : EReal)

/-- The product of a tile with its matrix. -/
theorem product_apply (t : Fin 17) (p : Fin 512) (j : Fin 5632) (r : Fin 8704) (hr : r.val = 512 * t.val + p.val) (n : Fin 2) (hn : (x2 (ix1 t)).toNat = n.val) :
    (val_main_v9 (F := Ideal) x0 x1 x2 (ix3 t p j) : EReal) = product x0 x1 n r j := by
  rw [val_main_v9_apply]
  refine Finset.sum_congr rfl fun k _ => congrArg₂ (fun a b : EReal => a * b) ?_ ?_
  · have e : lidx_main_v9 (ix3 t p j) k = ix3 t p k := funext fun a => match a with | ⟨0, _⟩ => rfl | ⟨1, _⟩ => rfl | ⟨2, _⟩ => rfl
    rw [e]
    exact row_apply x0 t p k r hr
  · have e : ridx_main_v9 (ix3 t p j) k = (ix3 t k j) := funext fun a => match a with | ⟨0, _⟩ => rfl | ⟨1, _⟩ => rfl | ⟨2, _⟩ => rfl
    rw [e]
    exact gathered x1 x2 t k j n hn

/-- The entry's index in the stacked tiles. -/
theorem idx_entry (r : Fin 8704) (j : Fin 5632) :
    idx_main_v11 (ix2 r j) = ix3 (⟨r.val / 512, by omega⟩ : Fin 17) (⟨r.val % 512, by omega⟩ : Fin 512) j := by
  have hr := r.isLt
  have hj := j.isLt
  funext a; refine Fin.ext ?_
  match a with
  | ⟨0, _⟩ => show (r.val * 5632 + j.val) / 2883584 = r.val / 512; omega
  | ⟨1, _⟩ => show (r.val * 5632 + j.val) / 5632 % 512 = r.val % 512; omega
  | ⟨2, _⟩ => show (r.val * 5632 + j.val) % 5632 = j.val; omega

/-- The bits of one denote one. -/
theorem ofBits_one : Ideal.ofBits .f32 0x3F800000#32 = 1 := by
  simp [Ideal.ofBits, Ideal.ieee]
  rw [← EReal.coe_mul]
  norm_num

/-- The silu of the product is the product times its sigmoid. -/
theorem silu_apply (i : S17x512x5632.Idx) :
    (val_main_v10 (F := Ideal) x0 x1 x2 i : EReal) = val_main_v9 (F := Ideal) x0 x1 x2 i * Ideal.logistic (val_main_v9 (F := Ideal) x0 x1 x2 i) := by
  rw [val_main_v10_apply, val_main_call0_v5_apply, val_main_call0_v4_apply, val_main_call0_cst_0_apply, val_main_call0_v3_apply,
    val_main_call0_v2_apply, val_main_call0_cst_apply, val_main_call0_v1_apply, val_main_call0_v0_apply]
  generalize val_main_v9 (F := Ideal) x0 x1 x2 i = g
  show g * Ideal.div (Ideal.ofBits .f32 0x3F800000#32) (Ideal.ofBits .f32 0x3F800000#32 + Ideal.exp (-g)) = g * Ideal.logistic g
  rw [ofBits_one]
  rfl

/-- An entry of the reference, from its row's product with its column of the matrix its tile names. -/
theorem entry (r : Fin 8704) (j : Fin 5632) (n : Fin 2) (hn : (x2 (ix1 ⟨r.val / 512, by omega⟩)).toNat = n.val) :
    (val_main_v12 (F := Ideal) x0 x1 x2 (ix2 r j) : EReal) = (product x0 x1 n r j) * Ideal.logistic (product x0 x1 n r j) := by
  have hr : r.val = 512 * (r.val / 512) + r.val % 512 := by omega
  rw [val_main_v12_apply, val_main_v11_apply, idx_entry, silu_apply, product_apply x0 x1 x2 _ _ j r hr n hn]
  rfl

end Cert.FfnGateReferenceIdeal.Entry

end
-- ==== Proof.FfnGateEquation.lean ====
/-
  The kernel's result for the dense layer's gate is the reference's, entry by entry.
-/
module

public import proofs.«01_k».proof.Proof.FfnGateIdeal.Array
public import proofs.«01_k».proof.Proof.FfnGateReference.Entry

@[expose] public section

set_option maxRecDepth 16384

noncomputable section

namespace Cert.FfnGateEquation

open Cert.FfnGateIdeal Cert.FfnGateIdeal.Gen Cert.FfnGateIdeal.Layer Idealize.ShloMosaic Idealize.ShloMosaic.TcCoe Idealize.SL.Sem

variable (ch : Fin 2) (m : (ℓ : Loc nD τ sig) → Buf (Elt Ideal) ℓ) (ρ : Dev nD → PrngReg) (c : Dev nD)

/-- The result array is the reference's result of the same arguments. -/
theorem result_eq : result ch m ρ c = FfnGateReferenceIdeal.Read.val_main_v12 (F := Ideal) (rowsOf m c) (matricesOf m c) (pinT_0 ch) := by
  refine funext fun (i : S8704x5632.Idx) => ?_
  rw [eq_ix2 i]
  exact (result_entry ch m ρ c (i 0) (i 1)).trans (FfnGateReferenceIdeal.Entry.entry (rowsOf m c) (matricesOf m c) (pinT_0 ch) (i 0) (i 1) ch (layer_word ch _)).symm

end Cert.FfnGateEquation

end
-- ==== Proof.FfnGateClaims.lean ====
/-
  The claims about the dense layer's gate: the frames of the kernel, of its idealisation and of the reference, and the equation of
  the two results.
-/
module

public import proofs.«01_k».proof.Defs
public import proofs.«01_k».proof.Proof.Gen.FfnGate.Flash
public import proofs.«01_k».proof.Proof.FfnGateLayer
public import proofs.«01_k».proof.Proof.FfnGateEquation

@[expose] public section

set_option maxRecDepth 16384

noncomputable section

namespace Cert.FfnGateClaims

open Idealize.ShloMosaic Idealize.ShloMosaic.TcCoe Idealize.SL.Sem

/-- Under the precondition the kernel's launch memory holds one layer's tables. -/
theorem pinned_kernel (m : (ℓ : Loc FfnGate.nD FfnGate.τ FfnGate.sig) → Buf (Elt Bits) ℓ)
    (h : Cert.Pre_FfnGate (hPre_ffn_gate_layer := Pre_ffn_gate_layer.Gen.facts) m) : ∃ ch, FfnGate.Gen.Pinned ch m := by
  obtain ⟨g, hT, hU⟩ := @Pre_ffn_gate_layer.layer_of_fn Bits _ Pre_ffn_gate_layer.Gen.facts _ _ _ _ (h 0)
  exact ⟨g, fun c => by rw [Subsingleton.elim c 0]; exact hT, fun c => by rw [Subsingleton.elim c 0]; exact hU⟩

/-- The same for the idealisation. -/
theorem pinned_ideal (m : (ℓ : Loc FfnGateIdeal.nD FfnGateIdeal.τ FfnGateIdeal.sig) → Buf (Elt Ideal) ℓ)
    (h : Cert.Pre_FfnGateIdeal (hPre_ffn_gate_layer := Pre_ffn_gate_layer.Gen.facts) m) : ∃ ch, FfnGateIdeal.Gen.Pinned ch m := by
  obtain ⟨g, hT, hU⟩ := @Pre_ffn_gate_layer.layer_of_fn Ideal _ Pre_ffn_gate_layer.Gen.facts _ _ _ _ (h 0)
  exact ⟨g, fun c => by rw [Subsingleton.elim c 0]; exact hT, fun c => by rw [Subsingleton.elim c 0]; exact hU⟩

/-- The kernel runs, leaves its arguments alone and ends with every counter at zero. -/
theorem frame_kernel : Cert.quiescent_FfnGate (hFfnGate := FfnGate.Gen.facts) (hPre_ffn_gate_layer := Pre_ffn_gate_layer.Gen.facts) := fun m ρ h => by
  obtain ⟨ch, hp⟩ := pinned_kernel m h
  exact FfnGate.Gen.frame ch m ρ hp

/-- So does its idealisation. -/
theorem frame_ideal : Cert.quiescent_FfnGateIdeal (hFfnGateIdeal := FfnGateIdeal.Gen.facts) (hPre_ffn_gate_layer := Pre_ffn_gate_layer.Gen.facts) := fun m ρ h => by
  obtain ⟨ch, hp⟩ := pinned_ideal m h
  exact FfnGateIdeal.Gen.frame ch m ρ hp

/-- The reference runs and leaves its arguments alone; it declares no semaphore. -/
theorem frame_reference : Cert.quiescent_FfnGateReferenceIdeal (hFfnGateReferenceIdeal := FfnGateReferenceIdeal.Gen.facts) := fun m ρ _ =>
  (θ_run FfnGateReferenceIdeal.defs _ _).mono (fun r h => ⟨fun c => (h c).2, sem_eq_zero_of_no_sems (by decide) r.2⟩)
    (FfnGateReferenceIdeal.Value.run (F := Ideal) m ρ)

/-- The same from the memories of the precondition. -/
theorem frame_reference_pre : Cert.quiescent_FfnGateReferenceIdeal_pre_ffn_gate_layer (hFfnGateReferenceIdeal := FfnGateReferenceIdeal.Gen.facts)
    (hPre_ffn_gate_layer := Pre_ffn_gate_layer.Gen.facts) := fun m ρ _ => frame_reference m ρ trivial

/-- From agreeing arguments under the precondition, the kernel and the reference end with the same result. -/
theorem algebraic : Cert.algebraic_FfnGateIdeal_FfnGateReferenceIdeal (hFfnGateIdeal := FfnGateIdeal.Gen.facts) (hFfnGateReferenceIdeal := FfnGateReferenceIdeal.Gen.facts) (hPre_ffn_gate_layer := Pre_ffn_gate_layer.Gen.facts) := by
  intro m ρ m' ρ' hpre hag
  obtain ⟨ch, hp⟩ := pinned_ideal m hpre
  refine ⟨fun c => FfnGateIdeal.Layer.result ch m ρ c,
    (θ_run FfnGateIdeal.defs _ _).mono (fun r h c => ⟨(h.1 c).1 (2 : Fin 3), h.2 c⟩) (θ_run_and (FfnGateIdeal.Gen.run_main ch m ρ hp) (FfnGateIdeal.Gen.unchanged ch m ρ hp)),
    (θ_run FfnGateReferenceIdeal.defs _ _).mono (fun r h c => ⟨(h c).1.trans ?_, (h c).2⟩) (FfnGateReferenceIdeal.Value.run (F := Ideal) m' ρ')⟩
  obtain ⟨a0, a1, a2, a3⟩ := hag c
  refine (FfnGateReferenceIdeal.Read.val_main_v12_eq _ _ _).trans ?_
  rw [a0, a1, a2, hp.1 c]
  exact (FfnGateEquation.result_eq ch m ρ c).symm

end Cert.FfnGateClaims

end
-- ==== Proof.FfnUpLayer.lean ====
/-
  The precondition `ffn_up_layer`: the tile table is one layer's and every tile is used.
-/
module

public import proofs.«01_k».proof.Defs
public import proofs.«01_k».proof.Proof.Gen.Pre_ffn_up_layer
public import proofs.«01_k».proof.Proof.LayerTable

@[expose] public section

set_option maxRecDepth 16384

noncomputable section

namespace Cert.Pre_ffn_up_layer

open Idealize.ShloMosaic
open Cert.LayerTable (layer_of_words bcast_const)

variable {F : FTy → Type} [FloatOps F]

/-- Where the predicate holds, the tile table is one layer's and every tile is used. -/
theorem layer_of_fn [Facts] (X : FVec F S8704x2048 .bf16) (W : FVec F S2x2048x5632 .f32) (T : IVec S17 32) (U : IVec S1 32) (G : FVec F S8704x5632 .bf16)
    (h : fn (F := F) X W T U G = fun _ => 1#1) : ∃ g : Fin 2, T = (fun _ => BitVec.ofNat 32 g.val) ∧ U = fun _ => 17#32 := by
  have h0 := congrFun h (Shape.Idx.first Facts.h_S_)
  dsimp only [fn] at h0
  obtain ⟨h1, h2⟩ := IntOp.andi_eq_one.1 h0
  refine layer_of_words T U _ _ _ _ (fun i => Host.reduce_andi_all _ _ _ _ _ h1 i) (fun _ => rfl) (fun _ => rfl) (bcast_const _ _) ?_ h2
  exact shapeCast_apply U Facts.shapeCasts_S1_S_ _ (ix1 0) (by rfl)

end Cert.Pre_ffn_up_layer

end
-- ==== Proof.FfnUpIdeal.Block.lean ====
/-
  What one grid point of the kernel of the dense layer's hidden rows leaves: the scratch holds the layer's weight block, the output block is computed from
  the rows' product with it.
-/
module

public import Idealize.ShloMosaic.Lib.Pointwise
public import Idealize.ShloMosaic.Lib.VecWindow
public import Idealize.ShloMosaic.Lib.Pipeline.ValueKit.Tiles
public import proofs.«01_k».proof.Proof.Gen.FfnUpIdeal.Flash

@[expose] public section

set_option maxRecDepth 16384

noncomputable section

namespace Cert.FfnUpIdeal.Layer

open Cert.FfnUpIdeal Cert.FfnUpIdeal.Gen
open Idealize.ShloMosaic Idealize.ShloMosaic.TcCoe Idealize.SL.Sem
open Idealize.ShloMosaic.Pipeline (Dat)

theorem hz : (![0, 0] : Fin 2 → ℕ) = fun _ => 0 := funext fun a => by fin_cases a <;> rfl

/-- What a whole buffer holds after one store of its own sizes is the payload. -/
theorem whole_store {κ : Kind} (b : Ref sig κ) (f : b.ty.Contents (Elt Ideal)) (off : Fin b.ty.shape.rank → ℕ)
    (inb : ∀ a, off a + b.ty.shape.size a ≤ b.ty.shape.size a) (w : b.ty.Contents (Elt Ideal)) :
    (View.whole b).writes (Elt Ideal) f [⟨Rect.unit off b.ty.shape.size inb, w⟩] = w :=
  (View.read_whole b _).symm.trans (View.read_writes_full (View.whole b) f inb w [])

variable (c : Dev nD) (i : grid0.Coords)
  (arg4 : Memref sig .tc .vmem S512x2048 .bf16) (harg4 : arg4.IsWhole)
  (arg5 : Memref sig .tc .vmem S1x2048x2816 .f32) (harg5 : arg5.IsWhole)
  (arg6 : Memref sig .tc .vmem S512x2816 .bf16) (harg6 : arg6.IsWhole)
  (arg7 : Memref sig .tc .vmem S512x2816 .bf16) (harg7 : arg7.IsWhole)
  (T0 : S17.Idx → BitVec 32) (T1 : S1.Idx → BitVec 32)
  (x0 : FVec Ideal S512x2048 .bf16) (x1 : FVec Ideal S1x2048x2816 .f32) (x2 : FVec Ideal S512x2816 .bf16) (xa0 : FVec Ideal S2048x2816 .bf16)

/-- A point that keeps its weights leaves the product of its rows with the block the scratch holds. -/
theorem out_B (hc0) (h2) (h3) :
    out0_B_3 c i arg4 harg4 arg5 harg5 arg6 harg6 arg7 harg7 T0 T1 x0 x1 x2 xa0 hc0 h2 h3 = k0_pay2 (F := Ideal) x0 xa0 x2 := by
  unfold out0_B_3
  rw [View.read_writes_eq_canon _ _ _ (cover0_B_3 c i arg4 harg4 arg5 harg5 arg6 harg6 arg7 harg7 T0 T1 x0 x1 x2 xa0 hc0 h2 h3)]
  unfold kernelRun0_B
  dsimp only
  sl_unfold_words
  refine (View.canon_unit_zero hz _ _).trans ?_
  refine congr (congrArg₂ (k0_pay2 (F := Ideal)) (View.readAt_rep_full _ _ _) ?_) (View.readAt_rep_full _ _ _)
  exact View.readAt_full _ _ _

/-- A point that reloads its weights leaves the product of its rows with the block it has just reloaded. -/
theorem out_A (hc0) (h2) (h3) :
    out0_A_3 c i arg4 harg4 arg5 harg5 arg6 harg6 arg7 harg7 T0 T1 x0 x1 x2 hc0 h2 h3 = k0_pay2 (F := Ideal) x0 (k0_pay1 (F := Ideal) x1) x2 := by
  unfold out0_A_3
  rw [View.read_writes_eq_canon _ _ _ (cover0_A_3 c i arg4 harg4 arg5 harg5 arg6 harg6 arg7 harg7 T0 T1 x0 x1 x2 hc0 h2 h3)]
  unfold kernelRun0_A
  dsimp only
  sl_unfold_words
  refine (View.canon_unit_zero hz _ _).trans ?_
  refine congr (congrArg₂ (k0_pay2 (F := Ideal)) (View.readAt_rep_full _ _ _) ?_) (View.readAt_rep_full _ _ _)
  exact (View.readCov_full _ _ _ _ _).trans (congrArg (k0_pay1 (F := Ideal)) (View.readAt_rep_full _ _ _))

/-- A keeping point leaves the scratch as it was. -/
theorem scratch_B (hc0) (h2) (h3) : (kernelRun0_B c i arg4 harg4 arg5 harg5 arg6 harg6 arg7 harg7 T0 T1 x0 x1 x2 xa0 hc0 h2 h3).2.1 = xa0 := rfl

/-- A reloading point leaves its weight block, rounded, in the scratch. -/
theorem scratch_A (hc0) (h2) (h3) : (kernelRun0_A c i arg4 harg4 arg5 harg5 arg6 harg6 arg7 harg7 T0 T1 x0 x1 x2 hc0 h2 h3).2.1 = k0_pay1 (F := Ideal) x1 := by
  unfold kernelRun0_A
  dsimp only
  sl_unfold_words
  refine (whole_store cc0_scratch0 _ _ inb_S2048x2816_S2048x2816_0_0 _).trans (congrArg (k0_pay1 (F := Ideal)) (View.readAt_rep_full _ _ _))

/-! ## The payloads at an entry -/

theorem pay1_apply (a : Fin 2048) (b : Fin 2816) : (k0_pay1 (F := Ideal) x1 (ix2 a b) : EReal) = x1 (ix3 0 a b) := by
  pointwise [k0_pay1]

theorem pay2_apply (p : Fin 512) (d : Fin 2816) :
    (k0_pay2 (F := Ideal) x0 xa0 x2 (ix2 p d) : EReal) = (∑ k : Fin 2048, (x0 (ix2 p k) : EReal) * xa0 (ix2 k d)) * (x2 (ix2 p d) : EReal) := by
  pointwise [k0_pay2]

end Cert.FfnUpIdeal.Layer

end
-- ==== Proof.FfnUpIdeal.Words.lean ====
/-
  What the tables tell a grid point, its blocks, and what it leaves.
-/
module

public import proofs.«01_k».proof.Proof.FfnUpIdeal.Block

@[expose] public section

set_option maxRecDepth 16384

noncomputable section

namespace Cert.FfnUpIdeal.Layer

open Cert.FfnUpIdeal Cert.FfnUpIdeal.Gen
open Idealize.ShloMosaic Idealize.ShloMosaic.TcCoe Idealize.SL.Sem
open Idealize.ShloMosaic.Pipeline (Dat)

/-- A point's coordinates: the column block, then the row tile. -/
theorem crd_val : ∀ t : Fin grid0.N, ((grid0.coords t) 0).val = t.val / 17 ∧ ((grid0.coords t) 1).val = t.val % 17 := by decide +kernel
/-- Where the blocks of the rows and of the result start, in blocks. -/
theorem idx_rows : ∀ t : Fin grid0.N, cc0_transform_0 (grid0.coords t) (0 : Fin 2) = t.val % 17 ∧ cc0_transform_0 (grid0.coords t) (1 : Fin 2) = 0 := by decide +kernel
theorem idx_out : ∀ t : Fin grid0.N, cc0_transform_3 (grid0.coords t) (0 : Fin 2) = t.val % 17 ∧ cc0_transform_3 (grid0.coords t) (1 : Fin 2) = t.val / 17 := by decide +kernel
theorem idx_gate : ∀ t : Fin grid0.N, cc0_transform_2 (grid0.coords t) (0 : Fin 2) = t.val % 17 ∧ cc0_transform_2 (grid0.coords t) (1 : Fin 2) = t.val / 17 := by decide +kernel
theorem idx_col : ∀ n : Fin 2, (Scalar.addi (BitVec.ofNat 32 n.val) 0#32).toNat = n.val := by decide

variable (ch : Fin 2)

/-- A widened bit is not zero when the bit is one. -/
theorem extui_ne (b : BitVec 1) : Scalar.cmpi .ne (Scalar.extui b : BitVec 32) 0#32 = b := by
  revert b; decide

/-- Every word of the tile table is the layer's number. -/
theorem layer_word (x : S17.Idx) : (pinT_0 ch x).toNat = ch.val := by
  show (BitVec.ofNat 32 ch.val).toNat = ch.val
  have := ch.isLt
  rw [BitVec.toNat_ofNat]
  omega

/-- A point that keeps its weights is past the first tile. -/
theorem keep_ne (t : Fin (cfgA ch).N) (h : ¬P0_0 ch t) : t.val % 17 ≠ 0 := fun h0 => by
  refine h ?_
  unfold P0_0
  rw [extui_ne, show ((crd ch t) 1).val = 0 from (crd_val t).2.trans h0]
  generalize Scalar.cmpi .ne _ _ = b
  revert b; decide

/-- Where the weights' block starts, in blocks. -/
theorem idx_weights (t : Fin (cfgA ch).N) :
    cc0_transform_1 k0_off1_inb numel1_S1 (pfN ch) (crd ch t) (0 : Fin 3) = ch.val
    ∧ cc0_transform_1 k0_off1_inb numel1_S1 (pfN ch) (crd ch t) (1 : Fin 3) = 0
    ∧ cc0_transform_1 k0_off1_inb numel1_S1 (pfN ch) (crd ch t) (2 : Fin 3) = t.val / 17 :=
  ⟨by have h := layer_word ch (ix1 0); exact h, rfl, (idx_col ((crd ch t) 0)).trans (crd_val t).1⟩

variable (m : (ℓ : Loc nD τ sig) → Buf (Elt Ideal) ℓ) (ρ : Dev nD → PrngReg) (c : Dev nD)

/-- The weight block of layer `g` from output column `2816 n` on, as the scratch holds it. -/
def weights (g : Fin 2) (n : Fin 2) : FVec Ideal S2048x2816 .bf16 := fun y =>
  m ((c : Thread nD τ).loc main_arg1) (ix3 g (y 0) ⟨2816 * n.val + (y 1).val, by have := (y 1).isLt; have h : S2048x2816.size 1 = 2816 := rfl; omega⟩)

theorem point_lt (t : Fin (cfgA ch).N) : t.val < 34 := lt_of_lt_of_eq t.isLt (by decide +kernel : grid0.N = 34)

/-- A point's weight block, rounded. -/
theorem block_weights (t : Fin (cfgA ch).N) :
    k0_pay1 (F := Ideal) (iblk ch m ρ c (1 : Fin 4) t) = weights m c ch ⟨t.val / 17, by have : t.val < 34 := point_lt ch t; omega⟩ := by
  obtain ⟨e0, ek, ec⟩ := idx_weights ch t
  funext y
  rw [eq_ix2 y]
  refine (pay1_apply _ _ _).trans ?_
  refine congrArg (m ((c : Thread nD τ).loc main_arg1)) (funext fun a => Fin.ext ?_)
  match a with
  | ⟨0, _⟩ => show cc0_transform_1 k0_off1_inb numel1_S1 (pfN ch) (crd ch t) (0 : Fin 3) * 1 + 1 * 0 = _; rw [e0]; simp
  | ⟨1, _⟩ => show cc0_transform_1 k0_off1_inb numel1_S1 (pfN ch) (crd ch t) (1 : Fin 3) * 2048 + 1 * (y 0).val = (y 0).val; rw [ek]; simp
  | ⟨2, _⟩ => show cc0_transform_1 k0_off1_inb numel1_S1 (pfN ch) (crd ch t) (2 : Fin 3) * 2816 + 1 * (y 1).val = 2816 * (t.val / 17) + (y 1).val; rw [ec]; omega

/-- A point's rows. -/
theorem block_rows (t : Fin (cfgA ch).N) (p : Fin 512) (k : Fin 2048) (r : Fin 8704) (hr : r.val = 512 * (t.val % 17) + p.val) :
    iblk ch m ρ c (0 : Fin 4) t (ix2 p k) = m ((c : Thread nD τ).loc main_arg0) (ix2 r k) := by
  obtain ⟨e0, e1⟩ := idx_rows t
  refine congrArg (m ((c : Thread nD τ).loc main_arg0)) (funext fun a => Fin.ext ?_)
  match a with
  | ⟨0, _⟩ => show cc0_transform_0 (crd ch t) (0 : Fin 2) * 512 + 1 * p.val = r.val; rw [show cc0_transform_0 (crd ch t) (0 : Fin 2) = _ from e0]; omega
  | ⟨1, _⟩ => show cc0_transform_0 (crd ch t) (1 : Fin 2) * 2048 + 1 * k.val = k.val; rw [show cc0_transform_0 (crd ch t) (1 : Fin 2) = _ from e1]; omega

/-- A point's gate block. -/
theorem block_gate (t : Fin (cfgA ch).N) (p : Fin 512) (d : Fin 2816) (r : Fin 8704) (j : Fin 5632) (hr : r.val = 512 * (t.val % 17) + p.val)
    (hj : j.val = 2816 * (t.val / 17) + d.val) : iblk ch m ρ c (2 : Fin 4) t (ix2 p d) = m ((c : Thread nD τ).loc main_arg4) (ix2 r j) := by
  obtain ⟨e0, e1⟩ := idx_gate t
  refine congrArg (m ((c : Thread nD τ).loc main_arg4)) (funext fun a => Fin.ext ?_)
  match a with
  | ⟨0, _⟩ => show cc0_transform_2 (crd ch t) (0 : Fin 2) * 512 + 1 * p.val = r.val; rw [show cc0_transform_2 (crd ch t) (0 : Fin 2) = _ from e0]; omega
  | ⟨1, _⟩ => show cc0_transform_2 (crd ch t) (1 : Fin 2) * 2816 + 1 * d.val = j.val; rw [show cc0_transform_2 (crd ch t) (1 : Fin 2) = _ from e1]; omega

/-- What a point that reloads its weights leaves. -/
theorem step_A (t : Fin (cfgA ch).N) (prev) (q0 : P0_0 ch t) :
    (step0 ch m ρ c t prev).1 = k0_pay2 (F := Ideal) (iblk ch m ρ c (0 : Fin 4) t) (k0_pay1 (F := Ideal) (iblk ch m ρ c (1 : Fin 4) t)) (iblk ch m ρ c (2 : Fin 4) t) ∧ (step0 ch m ρ c t prev).2 = k0_pay1 (F := Ideal) (iblk ch m ρ c (1 : Fin 4) t) := by
  have h1 := out_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t)
    (hypsR0_A ch t q0).1 (hypsR0_A ch t q0).2.1 (hypsR0_A ch t q0).2.2.1
  have h2 := scratch_A c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t)
    (hypsR0_A ch t q0).1 (hypsR0_A ch t q0).2.1 (hypsR0_A ch t q0).2.2.1
  refine ⟨(congrArg Prod.fst (step0_A ch m ρ c t prev q0)).trans ?_, (congrArg Prod.snd (step0_A ch m ρ c t prev q0)).trans ?_⟩
  · dsimp only
    exact h1
  · dsimp only
    exact h2

/-- What a point that keeps its weights leaves. -/
theorem step_B (t : Fin (cfgA ch).N) (prev) (q0 : ¬P0_0 ch t) :
    (step0 ch m ρ c t prev).1 = k0_pay2 (F := Ideal) (iblk ch m ρ c (0 : Fin 4) t) prev.2 (iblk ch m ρ c (2 : Fin 4) t) ∧ (step0 ch m ρ c t prev).2 = prev.2 := by
  have h1 := out_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2
    (hypsR0_B ch t q0).1 (hypsR0_B ch t q0).2.1 (hypsR0_B ch t q0).2.2.1
  have h2 := scratch_B c (crd ch t) (ms0_0 ch t) (hs0_0 ch t) (ms0_1 ch t) (hs0_1 ch t) (ms0_2 ch t) (hs0_2 ch t) (ms0_3 ch t) (hs0_3 ch t) (pinT_0 ch) (pinT_1 ch) (iblk ch m ρ c (0 : Fin 4) t) (iblk ch m ρ c (1 : Fin 4) t) (iblk ch m ρ c (2 : Fin 4) t) prev.2
    (hypsR0_B ch t q0).1 (hypsR0_B ch t q0).2.1 (hypsR0_B ch t q0).2.2.1
  refine ⟨(congrArg Prod.fst (step0_B ch m ρ c t prev q0)).trans ?_, (congrArg Prod.snd (step0_B ch m ρ c t prev q0)).trans ?_⟩
  · dsimp only
    exact h1
  · dsimp only
    exact h2

/-- THE SCRATCH after every point: the layer's weights of the point's column block, whether it reloaded them or not. -/
theorem scratch_eq : ∀ (n : ℕ) (h : n < (cfgA ch).N), (traj0 ch m ρ c n h).2 = weights m c ch ⟨n / 17, by have : n < 34 := point_lt ch ⟨n, h⟩; omega⟩
  | n, h => by
    rw [traj0_eq ch m ρ c ⟨n, h⟩]
    by_cases q0 : P0_0 ch ⟨n, h⟩
    · exact ((step_A ch m ρ c ⟨n, h⟩ _ q0).2).trans (block_weights ch m ρ c ⟨n, h⟩)
    · have hm : n % 17 ≠ 0 := keep_ne ch ⟨n, h⟩ q0
      have hn : n ≠ 0 := fun h0 => hm (by subst h0; rfl)
      have hprev : (prev0 ch m ρ c ⟨n, h⟩).2 = (traj0 ch m ρ c (n - 1) (by omega)).2 := by
        unfold prev0; rw [dif_neg hn]
      have ih := scratch_eq (n - 1) (by omega)
      have h2 : (n - 1) / 17 = n / 17 := by omega
      exact ((step_B ch m ρ c ⟨n, h⟩ _ q0).2.trans hprev).trans (ih.trans (congrArg (weights m c ch) (Fin.ext h2)))
  termination_by n => n

/-- THE OUTPUT BLOCK after every point, from the product of the tile's rows with the layer's weights. -/
theorem out_eq (t : Fin (cfgA ch).N) :
    (traj0 ch m ρ c t.val t.isLt).1 = k0_pay2 (F := Ideal) (iblk ch m ρ c (0 : Fin 4) t) (weights m c ch ⟨t.val / 17, by have : t.val < 34 := point_lt ch t; omega⟩) (iblk ch m ρ c (2 : Fin 4) t) := by
  have hs := scratch_eq ch m ρ c t.val t.isLt
  rw [traj0_eq ch m ρ c t] at hs ⊢
  by_cases q0 : P0_0 ch t
  · have := step_A ch m ρ c t (prev0 ch m ρ c t) q0
    rw [← hs, this.2, this.1]
  · have := step_B ch m ρ c t (prev0 ch m ρ c t) q0
    rw [← hs, this.2, this.1]

end Cert.FfnUpIdeal.Layer

end
-- ==== Proof.FfnUpIdeal.Array.lean ====
/-
  The result array of the kernel, entry by entry, as a function of the argument arrays and the layer.
-/
module

public import Idealize.ShloMosaic.Lib.Pipeline.ValueKit.Geometry
public import proofs.«01_k».proof.Proof.FfnUpIdeal.Words

@[expose] public section

set_option maxRecDepth 16384

noncomputable section

namespace Cert.FfnUpIdeal.Layer

open Cert.FfnUpIdeal Cert.FfnUpIdeal.Gen
open Idealize.ShloMosaic Idealize.ShloMosaic.TcCoe Idealize.SL.Sem
open Idealize.ShloMosaic.Pipeline (Dat)

variable (ch : Fin 2) (m : (ℓ : Loc nD τ sig) → Buf (Elt Ideal) ℓ) (ρ : Dev nD → PrngReg) (c : Dev nD)

/-- Every point writes its output block back. -/
theorem flush_eq (t : Fin (cfgA ch).N) : ((cfgA ch).win (3 : Fin 4)).flush t = true := by
  by_cases q : P0_0 ch t
  · exact (sched0_A ch t q).2.1
  · exact (sched0_B ch t q).2.1

/-- No two points write the same output block. -/
theorem disjoint_out : ∀ t t' : Fin (cfgA ch).N, ((cfgA ch).win (3 : Fin 4)).flush t = true → ((cfgA ch).win (3 : Fin 4)).flush t' = true → t ≠ t' →
    Disjoint (((cfgA ch).win (3 : Fin 4)).blk t).view.set (((cfgA ch).win (3 : Fin 4)).blk t').view.set :=
  Pipeline.Window.hdisj_of_index_inj _ fun t t' _ _ e => by
    have e0 : t.val % 17 = t'.val % 17 := (idx_out t).1.symm.trans ((congrFun e (0 : Fin 2)).trans (idx_out t').1)
    have e1 : t.val / 17 = t'.val / 17 := (idx_out t).2.symm.trans ((congrFun e (1 : Fin 2)).trans (idx_out t').2)
    exact Fin.ext (by omega)

/-- What a point's write-back carries is what the point left in its output block. -/
theorem flushed_out (t : Fin (cfgA ch).N) : (dats ch m ρ 0 c).flushed (3 : Fin 4) t = (traj0 ch m ρ c t.val t.isLt).1 := by
  show ((cfgA ch).win (3 : Fin 4)).cut (grid0.coords t) ((dats ch m ρ 0 c).after (3 : Fin 4) t) = _
  rw [after0_3]
  rfl

/-- A point's block of rows. -/
def rowBlock (t : Fin (cfgA ch).N) : FVec Ideal S512x2048 .bf16 := iblk ch m ρ c (0 : Fin 4) t

/-- The rows of all tiles. -/
def rowsOf : FVec Ideal S8704x2048 .bf16 := m ((c : Thread nD τ).loc main_arg0)

/-- The matrices of all layers. -/
def matricesOf : FVec Ideal S2x2048x5632 .f32 := m ((c : Thread nD τ).loc main_arg1)

/-- The gate. -/
def gateOf : FVec Ideal S8704x5632 .bf16 := m ((c : Thread nD τ).loc main_arg4)

/-- The result array after the last point. -/
def result : FVec Ideal S8704x5632 .bf16 := (dats ch m ρ 0 c).arrAt (3 : Fin 4) (cfgA ch).N

/-- A row's product with a column of the layer's matrix. -/
def product (r : Fin 8704) (j : Fin 5632) : EReal := ∑ k : Fin 2048, (rowsOf m c (ix2 r k) : EReal) * (matricesOf m c (ix3 ch k j) : EReal)

/-- An entry of the result is what the point of its block left in its output block. -/
theorem result_block (t : Fin (cfgA ch).N) (p : Fin 512) (d : Fin 2816) (r : Fin 8704) (j : Fin 5632)
    (hr : r.val = 512 * (t.val % 17) + p.val) (hj : j.val = 2816 * (t.val / 17) + d.val) :
    result ch m ρ c (ix2 r j) = (traj0 ch m ρ c t.val t.isLt).1 (ix2 p d) := by
  have hemb : (((cfgA ch).win (3 : Fin 4)).blk t).view.emb (ix2 p d) = ix2 r j := by
    obtain ⟨e0, e1⟩ := idx_out t
    refine funext fun a => Fin.ext ?_
    match a with
    | ⟨0, _⟩ =>
      show cc0_transform_3 (grid0.coords t) (0 : Fin 2) * 512 + 1 * p.val = r.val
      rw [show cc0_transform_3 (grid0.coords t) (0 : Fin 2) = _ from e0]; omega
    | ⟨1, _⟩ =>
      show cc0_transform_3 (grid0.coords t) (1 : Fin 2) * 2816 + 1 * d.val = j.val
      rw [show cc0_transform_3 (grid0.coords t) (1 : Fin 2) = _ from e1]; omega
  have h := (dats ch m ρ 0 c).arrAt_emb_eq_flushed (3 : Fin 4) (disjoint_out ch) t (flush_eq ch t) (ix2 p d)
  rw [hemb, flushed_out] at h
  exact h

/-- Every entry has the point that writes it. -/
theorem point_of (r : Fin 8704) (j : Fin 5632) : ∃ t : Fin (cfgA ch).N, t.val % 17 = r.val / 512 ∧ t.val / 17 = j.val / 2816 := by
  have h : 17 * (j.val / 2816) + r.val / 512 < 34 := by omega
  refine ⟨⟨17 * (j.val / 2816) + r.val / 512, lt_of_lt_of_eq h (by decide +kernel : 34 = grid0.N)⟩, ?_, ?_⟩
  · show (17 * (j.val / 2816) + r.val / 512) % 17 = _; omega
  · show (17 * (j.val / 2816) + r.val / 512) / 17 = _; omega

/-- An entry of the result, from its row's product with its column of the layer's matrix. -/
theorem result_entry (r : Fin 8704) (j : Fin 5632) :
    (result ch m ρ c (ix2 r j) : EReal) = (product ch m c r j) * (gateOf m c (ix2 r j) : EReal) := by
  obtain ⟨t, f0, f1⟩ := point_of ch r j
  have hp := point_lt ch t
  refine (result_block ch m ρ c t ⟨r.val % 512, Nat.mod_lt _ (by decide)⟩ ⟨j.val % 2816, Nat.mod_lt _ (by decide)⟩ r j (by rw [f0]; show r.val = 512 * (r.val / 512) + r.val % 512; omega) (by rw [f1]; show j.val = 2816 * (j.val / 2816) + j.val % 2816; omega)).trans ?_
  rw [out_eq ch m ρ c t]
  refine (pay2_apply _ _ _ _ _).trans ?_
  have hsum : ∑ k : Fin 2048, (rowBlock ch m ρ c t (ix2 ⟨r.val % 512, Nat.mod_lt _ (by decide)⟩ k) : EReal)
      * (weights m c ch ⟨t.val / 17, by have : t.val < 34 := point_lt ch t; omega⟩ (ix2 k ⟨j.val % 2816, Nat.mod_lt _ (by decide)⟩) : EReal) = product ch m c r j := by
    refine Finset.sum_congr rfl fun k _ => congrArg₂ (fun a b : EReal => a * b) ?_ ?_
    · exact block_rows ch m ρ c _ _ k r (by rw [f0]; show r.val = 512 * (r.val / 512) + r.val % 512; omega)
    · have e2 : (⟨2816 * (t.val / 17) + j.val % 2816, by omega⟩ : Fin 5632) = j := Fin.ext (by show 2816 * (t.val / 17) + _ = _; omega)
      refine Eq.trans (b := matricesOf m c (ix3 ch k (⟨2816 * (t.val / 17) + j.val % 2816, by omega⟩ : Fin 5632))) rfl ?_
      rw [e2]
  exact congrArg₂ (fun s g : EReal => s * g) hsum (block_gate ch m ρ c t _ _ r j (by rw [f0]; show r.val = 512 * (r.val / 512) + r.val % 512; omega) (by rw [f1]; show j.val = 2816 * (j.val / 2816) + j.val % 2816; omega))

end Cert.FfnUpIdeal.Layer

end
-- ==== Proof.FfnUpReference.Entry.lean ====
/-
  The reference read at an entry.
-/
module

public import proofs.«01_k».proof.Proof.TileTake
public import proofs.«01_k».proof.Proof.Gen.FfnUpReferenceIdeal.Read
public import proofs.«01_k».proof.Proof.Gen.FfnUpReferenceIdeal.Run

@[expose] public section

set_option maxRecDepth 16384

noncomputable section

namespace Cert.FfnUpReferenceIdeal.Entry

open Cert.FfnUpReferenceIdeal Cert.FfnUpReferenceIdeal.Gen Cert.FfnUpReferenceIdeal.Read
open Idealize.ShloMosaic Idealize.SL.Sem
open Cert.TileTake (gather_apply not_neg)

variable (x0 : FVec Ideal S8704x2048 .bf16) (x1 : FVec Ideal S2x2048x5632 .f32) (x2 : IVec S17 32) (x4 : FVec Ideal S8704x5632 .bf16)

/-- The matrices the index table names. -/
theorem gathered (t : Fin 17) (k : Fin 2048) (j : Fin 5632) (n : Fin 2) (hn : (x2 (ix1 t)).toNat = n.val) :
    val_main_v8 (F := Ideal) x1 x2 (ix3 t k j) = x1 (ix3 n k j) := by
  unfold val_main_v8
  have h1 := n.isLt
  refine gather_apply _ x1 _ t k j n (by decide) ?_
  rw [val_main_v7_apply, val_main_v6_apply, val_main_v3_apply]
  have e : idx_main_v7 (ix2 t 0) = ix1 t := funext fun a => match a with | ⟨0, _⟩ => rfl
  rw [e, val_main_v2_apply, val_main_c_apply, not_neg _ (by omega)]
  exact hn

/-- A tile's row of the stacked rows. -/
theorem row_apply (t : Fin 17) (p : Fin 512) (k : Fin 2048) (r : Fin 8704) (hr : r.val = 512 * t.val + p.val) :
    val_main_v1 (F := Ideal) x0 (ix3 t p k) = x0 (ix2 r k) := by
  rw [val_main_v1_apply, val_main_v0_apply]
  refine congrArg x0 (funext fun a => Fin.ext ?_)
  have hk := k.isLt
  have hp := p.isLt
  match a with
  | ⟨0, _⟩ => show ((t.val * 512 + p.val) * 2048 + k.val) / 2048 = r.val; omega
  | ⟨1, _⟩ => show ((t.val * 512 + p.val) * 2048 + k.val) % 2048 = k.val; omega

/-- A row's product with a column of a layer's matrix. -/
def product (n : Fin 2) (r : Fin 8704) (j : Fin 5632) : EReal := ∑ k : Fin 2048, (x0 (ix2 r k) : EReal) * (x1 (ix3 n k j) : EReal)

/-- The product of a tile with its matrix. -/
theorem product_apply (t : Fin 17) (p : Fin 512) (j : Fin 5632) (r : Fin 8704) (hr : r.val = 512 * t.val + p.val) (n : Fin 2) (hn : (x2 (ix1 t)).toNat = n.val) :
    (val_main_v9 (F := Ideal) x0 x1 x2 (ix3 t p j) : EReal) = product x0 x1 n r j := by
  rw [val_main_v9_apply]
  refine Finset.sum_congr rfl fun k _ => congrArg₂ (fun a b : EReal => a * b) ?_ ?_
  · have e : lidx_main_v9 (ix3 t p j) k = ix3 t p k := funext fun a => match a with | ⟨0, _⟩ => rfl | ⟨1, _⟩ => rfl | ⟨2, _⟩ => rfl
    rw [e]
    exact row_apply x0 t p k r hr
  · have e : ridx_main_v9 (ix3 t p j) k = (ix3 t k j) := funext fun a => match a with | ⟨0, _⟩ => rfl | ⟨1, _⟩ => rfl | ⟨2, _⟩ => rfl
    rw [e]
    exact gathered x1 x2 t k j n hn

/-- The entry's index in the stacked tiles. -/
theorem idx_entry (r : Fin 8704) (j : Fin 5632) :
    idx_main_v10 (ix2 r j) = ix3 (⟨r.val / 512, by omega⟩ : Fin 17) (⟨r.val % 512, by omega⟩ : Fin 512) j := by
  have hr := r.isLt
  have hj := j.isLt
  funext a; refine Fin.ext ?_
  match a with
  | ⟨0, _⟩ => show (r.val * 5632 + j.val) / 2883584 = r.val / 512; omega
  | ⟨1, _⟩ => show (r.val * 5632 + j.val) / 5632 % 512 = r.val % 512; omega
  | ⟨2, _⟩ => show (r.val * 5632 + j.val) % 5632 = j.val; omega

/-- An entry of the reference, from its row's product with its column of the matrix its tile names. -/
theorem entry (r : Fin 8704) (j : Fin 5632) (n : Fin 2) (hn : (x2 (ix1 ⟨r.val / 512, by omega⟩)).toNat = n.val) :
    (val_main_v13 (F := Ideal) x0 x1 x2 x4 (ix2 r j) : EReal) = (product x0 x1 n r j) * (x4 (ix2 r j) : EReal) := by
  have hr : r.val = 512 * (r.val / 512) + r.val % 512 := by omega
  rw [val_main_v13_apply, val_main_v12_apply, val_main_v11_apply, val_main_v10_apply, idx_entry, product_apply x0 x1 x2 _ _ j r hr n hn]
  rfl

end Cert.FfnUpReferenceIdeal.Entry

end
-- ==== Proof.FfnUpEquation.lean ====
/-
  The kernel's result for the dense layer's hidden rows is the reference's, entry by entry.
-/
module

public import proofs.«01_k».proof.Proof.FfnUpIdeal.Array
public import proofs.«01_k».proof.Proof.FfnUpReference.Entry

@[expose] public section

set_option maxRecDepth 16384

noncomputable section

namespace Cert.FfnUpEquation

open Cert.FfnUpIdeal Cert.FfnUpIdeal.Gen Cert.FfnUpIdeal.Layer Idealize.ShloMosaic Idealize.ShloMosaic.TcCoe Idealize.SL.Sem

variable (ch : Fin 2) (m : (ℓ : Loc nD τ sig) → Buf (Elt Ideal) ℓ) (ρ : Dev nD → PrngReg) (c : Dev nD)

/-- The result array is the reference's result of the same arguments. -/
theorem result_eq : result ch m ρ c = FfnUpReferenceIdeal.Read.val_main_v13 (F := Ideal) (rowsOf m c) (matricesOf m c) (pinT_0 ch) (gateOf m c) := by
  refine funext fun (i : S8704x5632.Idx) => ?_
  rw [eq_ix2 i]
  exact (result_entry ch m ρ c (i 0) (i 1)).trans (FfnUpReferenceIdeal.Entry.entry (rowsOf m c) (matricesOf m c) (pinT_0 ch) (gateOf m c) (i 0) (i 1) ch (layer_word ch _)).symm

end Cert.FfnUpEquation

end
-- ==== Proof.FfnUpClaims.lean ====
/-
  The claims about the dense layer's hidden rows: the frames of the kernel, of its idealisation and of the reference, and the equation of
  the two results.
-/
module

public import proofs.«01_k».proof.Defs
public import proofs.«01_k».proof.Proof.Gen.FfnUp.Flash
public import proofs.«01_k».proof.Proof.FfnUpLayer
public import proofs.«01_k».proof.Proof.FfnUpEquation

@[expose] public section

set_option maxRecDepth 16384

noncomputable section

namespace Cert.FfnUpClaims

open Idealize.ShloMosaic Idealize.ShloMosaic.TcCoe Idealize.SL.Sem

/-- Under the precondition the kernel's launch memory holds one layer's tables. -/
theorem pinned_kernel (m : (ℓ : Loc FfnUp.nD FfnUp.τ FfnUp.sig) → Buf (Elt Bits) ℓ)
    (h : Cert.Pre_FfnUp (hPre_ffn_up_layer := Pre_ffn_up_layer.Gen.facts) m) : ∃ ch, FfnUp.Gen.Pinned ch m := by
  obtain ⟨g, hT, hU⟩ := @Pre_ffn_up_layer.layer_of_fn Bits _ Pre_ffn_up_layer.Gen.facts _ _ _ _ _ (h 0)
  exact ⟨g, fun c => by rw [Subsingleton.elim c 0]; exact hT, fun c => by rw [Subsingleton.elim c 0]; exact hU⟩

/-- The same for the idealisation. -/
theorem pinned_ideal (m : (ℓ : Loc FfnUpIdeal.nD FfnUpIdeal.τ FfnUpIdeal.sig) → Buf (Elt Ideal) ℓ)
    (h : Cert.Pre_FfnUpIdeal (hPre_ffn_up_layer := Pre_ffn_up_layer.Gen.facts) m) : ∃ ch, FfnUpIdeal.Gen.Pinned ch m := by
  obtain ⟨g, hT, hU⟩ := @Pre_ffn_up_layer.layer_of_fn Ideal _ Pre_ffn_up_layer.Gen.facts _ _ _ _ _ (h 0)
  exact ⟨g, fun c => by rw [Subsingleton.elim c 0]; exact hT, fun c => by rw [Subsingleton.elim c 0]; exact hU⟩

/-- The kernel runs, leaves its arguments alone and ends with every counter at zero. -/
theorem frame_kernel : Cert.quiescent_FfnUp (hFfnUp := FfnUp.Gen.facts) (hPre_ffn_up_layer := Pre_ffn_up_layer.Gen.facts) := fun m ρ h => by
  obtain ⟨ch, hp⟩ := pinned_kernel m h
  exact FfnUp.Gen.frame ch m ρ hp

/-- So does its idealisation. -/
theorem frame_ideal : Cert.quiescent_FfnUpIdeal (hFfnUpIdeal := FfnUpIdeal.Gen.facts) (hPre_ffn_up_layer := Pre_ffn_up_layer.Gen.facts) := fun m ρ h => by
  obtain ⟨ch, hp⟩ := pinned_ideal m h
  exact FfnUpIdeal.Gen.frame ch m ρ hp

/-- The reference runs and leaves its arguments alone; it declares no semaphore. -/
theorem frame_reference : Cert.quiescent_FfnUpReferenceIdeal (hFfnUpReferenceIdeal := FfnUpReferenceIdeal.Gen.facts) := fun m ρ _ =>
  (θ_run FfnUpReferenceIdeal.defs _ _).mono (fun r h => ⟨fun c => (h c).2, sem_eq_zero_of_no_sems (by decide) r.2⟩)
    (FfnUpReferenceIdeal.Value.run (F := Ideal) m ρ)

/-- The same from the memories of the precondition. -/
theorem frame_reference_pre : Cert.quiescent_FfnUpReferenceIdeal_pre_ffn_up_layer (hFfnUpReferenceIdeal := FfnUpReferenceIdeal.Gen.facts)
    (hPre_ffn_up_layer := Pre_ffn_up_layer.Gen.facts) := fun m ρ _ => frame_reference m ρ trivial

/-- From agreeing arguments under the precondition, the kernel and the reference end with the same result. -/
theorem algebraic : Cert.algebraic_FfnUpIdeal_FfnUpReferenceIdeal (hFfnUpIdeal := FfnUpIdeal.Gen.facts) (hFfnUpReferenceIdeal := FfnUpReferenceIdeal.Gen.facts) (hPre_ffn_up_layer := Pre_ffn_up_layer.Gen.facts) := by
  intro m ρ m' ρ' hpre hag
  obtain ⟨ch, hp⟩ := pinned_ideal m hpre
  refine ⟨fun c => FfnUpIdeal.Layer.result ch m ρ c,
    (θ_run FfnUpIdeal.defs _ _).mono (fun r h c => ⟨(h.1 c).1 (3 : Fin 4), h.2 c⟩) (θ_run_and (FfnUpIdeal.Gen.run_main ch m ρ hp) (FfnUpIdeal.Gen.unchanged ch m ρ hp)),
    (θ_run FfnUpReferenceIdeal.defs _ _).mono (fun r h c => ⟨(h c).1.trans ?_, (h c).2⟩) (FfnUpReferenceIdeal.Value.run (F := Ideal) m' ρ')⟩
  obtain ⟨a0, a1, a2, a3, a4⟩ := hag c
  refine (FfnUpReferenceIdeal.Read.val_main_v13_eq _ _ _ _).trans ?_
  rw [a0, a1, a2, a4, hp.1 c]
  exact (FfnUpEquation.result_eq ch m ρ c).symm

end Cert.FfnUpClaims

end
-- ==== Proof.MlaUvLayer.lean ====
/-
  The precondition `mla_uv_layer`: the tile table is one layer's and every tile is used.
-/
module

public import proofs.«01_k».proof.Defs
public import proofs.«01_k».proof.Proof.Gen.Pre_mla_uv_layer
public import proofs.«01_k».proof.Proof.LayerTable

@[expose] public section

set_option maxRecDepth 16384

noncomputable section

namespace Cert.Pre_mla_uv_layer

open Idealize.ShloMosaic
open Cert.LayerTable (layer_of_words bcast_const)

variable {F : FTy → Type} [FloatOps F]

/-- Where the predicate holds, the tile table is one layer's and every tile is used. -/
theorem layer_of_fn [Facts] (X : FVec F S8704x256 .bf16) (W : FVec F S4x256x512 .f32) (T : IVec S17 32) (U : IVec S1 32)
    (h : fn (F := F) X W T U = fun _ => 1#1) : ∃ g : Fin 4, T = (fun _ => BitVec.ofNat 32 g.val) ∧ U = fun _ => 17#32 := by
  have h0 := congrFun h (Shape.Idx.first Facts.h_S_)
  dsimp only [fn] at h0
  obtain ⟨h1, h2⟩ := IntOp.andi_eq_one.1 h0
  refine layer_of_words T U _ _ _ _ (fun i => Host.reduce_andi_all _ _ _ _ _ h1 i) (fun _ => rfl) (fun _ => rfl) (bcast_const _ _) ?_ h2
  exact shapeCast_apply U Facts.shapeCasts_S1_S_ _ (ix1 0) (by rfl)

end Cert.Pre_mla_uv_layer

end
-- ==== Proof.MlaUvIdeal.Block.lean ====
/-
  What one grid point of the kernel of the latent attention's values leaves: the scratch holds the layer's weight block, the output block is computed from
  the rows' product with it.
-/
module

public import Idealize.ShloMosaic.Lib.Pointwise
public import Idealize.ShloMosaic.Lib.VecWindow
public import Idealize.ShloMosaic.Lib.Pipeline.ValueKit.Tiles
public import proofs.«01_k».proof.Proof.Gen.MlaUvIdeal.Flash

@[expose] public section

set_option maxRecDepth 16384

noncomputable section

namespace Cert.MlaUvIdeal.Layer

open Cert.MlaUvIdeal Cert.MlaUvIdeal.Gen
open Idealize.ShloMosaic Idealize.ShloMosaic.TcCoe Idealize.SL.Sem
open Idealize.ShloMosaic.Pipeline (Dat)

theorem hz : (![0, 0] : Fin 2 → ℕ) = fun _ => 0 := funext fun a => by fin_cases a <;> rfl

/-- What a whole buffer holds after one store of its own sizes is the payload. -/
theorem whole_store {κ : Kind} (b : Ref sig κ) (f : b.ty.Contents (Elt Ideal)) (off : Fin b.ty.shape.rank → ℕ)
    (inb : ∀ a, off a + b.ty.shape.size a ≤ b.ty.shape.size a) (w : b.ty.Contents (Elt Ideal)) :
    (View.whole b).writes (Elt Ideal) f [⟨Rect.unit off b.ty.shape.size inb, w⟩] = w :=
  (View.read_whole b _).symm.trans (View.read_writes_full (View.whole b) f inb w [])

variable (c : Dev nD) (i : grid0.Coords)
  (arg4 : Memref sig .tc .vmem S512x256 .bf16) (harg4 : arg4.IsWhole)
  (arg5 : Memref sig .tc .vmem S1x256x512 .f32) (harg5 : arg5.IsWhole)
  (arg6 : Memref sig .tc .vmem S512x512 .bf16) (harg6 : arg6.IsWhole)
  (T0 : S17.Idx → BitVec 32) (T1 : S1.Idx → BitVec 32)
  (x0 : FVec Ideal S512x256 .bf16) (x1 : FVec Ideal S1x256x512 .f32) (xa0 : FVec Ideal S256x512 .bf16)

/-- A point that keeps its weights leaves the product of its rows with the block the scratch holds. -/
theorem out_B (hc0) (h2) (h3) :
    out0_B_2 c i arg4 harg4 arg5 harg5 arg6 harg6 T0 T1 x0 x1 xa0 hc0 h2 h3 = k0_pay2 (F := Ideal) x0 xa0 := by
  unfold out0_B_2
  rw [View.read_writes_eq_canon _ _ _ (cover0_B_2 c i arg4 harg4 arg5 harg5 arg6 harg6 T0 T1 x0 x1 xa0 hc0 h2 h3)]
  unfold kernelRun0_B
  dsimp only
  sl_unfold_words
  refine (View.canon_unit_zero hz _ _).trans ?_
  refine congrArg₂ (k0_pay2 (F := Ideal)) (View.readAt_rep_full _ _ _) ?_
  exact View.readAt_full _ _ _

/-- A point that reloads its weights leaves the product of its rows with the block it has just reloaded. -/
theorem out_A (hc0) (h2) (h3) :
    out0_A_2 c i arg4 harg4 arg5 harg5 arg6 harg6 T0 T1 x0 x1 hc0 h2 h3 = k0_pay2 (F := Ideal) x0 (k0_pay1 (F := Ideal) x1) := by
  unfold out0_A_2
  rw [View.read_writes_eq_canon _ _ _ (cover0_A_2 c i arg4 harg4 arg5 harg5 arg6 harg6 T0 T1 x0 x1 hc0 h2 h3)]
  unfold kernelRun0_A
  dsimp only
  sl_unfold_words
  refine (View.canon_unit_zero hz _ _).trans ?_
  refine congrArg₂ (k0_pay2 (F := Ideal)) (View.readAt_rep_full _ _ _) ?_
  exact (View.readCov_full _ _ _ _ _).trans (congrArg (k0_pay1 (F := Ideal)) (View.readAt_rep_full _ _ _))

/-- A keeping point leaves the scratch as it was. -/
theorem scratch_B (hc0) (h2) (h3) : (kernelRun0_B c i arg4 harg4 arg5 harg5 arg6 harg6 T0 T1 x0 x1 xa0 hc0 h2 h3).2.1 = xa0 := rfl

/-- A reloading point leaves its weight block, rounded, in the scratch. -/
theorem scratch_A (hc0) (h2) (h3) : (kernelRun0_A c i arg4 harg4 arg5 harg5 arg6 harg6 T0 T1 x0 x1 hc0 h2 h3).2.1 = k0_pay1 (F := Ideal) x1 := by
  unfold kernelRun0_A
  dsimp only
  sl_unfold_words
  refine (whole_store cc0_scratch0 _ _ inb_S256x512_S256x512_0_0 _).trans (congrArg (k0_pay1 (F := Ideal)) (View.readAt_rep_full _ _ _))

/-! ## The payloads at an entry -/

theorem pay1_apply (a : Fin 256) (b : Fin 512) : (k0_pay1 (F := Ideal) x1 (ix2 a b) : EReal) = x1 (ix3 0 a b) := by
  pointwise [k0_pay1]

theorem pay2_apply (p : Fin 512) (d : Fin 512) :
    (k0_pay2 (F := Ideal) x0 xa0 (ix2 p d) : EReal) = ∑ k : Fin 256, (x0 (ix2 p k) : EReal) * xa0 (ix2 k d) := by
  pointwise [k0_pay2]

end Cert.MlaUvIdeal.Layer

end
-- ==== Proof.MlaUvIdeal.Words.lean ====
/-
  What the tables tell a grid point, its blocks, and what it leaves.
-/
module

public import proofs.«01_k».proof.Proof.MlaUvIdeal.Block

@[expose] public section

set_option maxRecDepth 16384

noncomputable section

namespace Cert.MlaUvIdeal.Layer

open Cert.MlaUvIdeal Cert.MlaUvIdeal.Gen
open Idealize.ShloMosaic Idealize.ShloMosaic.TcCoe Idealize.SL.Sem
open Idealize.ShloMosaic.Pipeline (Dat)

/-- A point's coordinates: the column block, then the row tile. -/
theorem crd_val : ∀ t : Fin grid0.N, ((grid0.coords t) 0).val = t.val / 17 ∧ ((grid0.coords t) 1).val = t.val % 17 := by decide +kernel
/-- Where the blocks of the rows and of the result start, in blocks. -/
theorem idx_rows : ∀ t : Fin grid0.N, cc0_transform_0 (grid0.coords t) (0 : Fin 2) = t.val % 17 ∧ cc0_transform_0 (grid0.coords t) (1 : Fin 2) = 0 := by decide +kernel
theorem idx_out : ∀ t : Fin grid0.N, cc0_transform_2 (grid0.coords t) (0 : Fin 2) = t.val % 17 ∧ cc0_transform_2 (grid0.coords t) (1 : Fin 2) = t.val / 17 := by decide +kernel
theorem idx_col : ∀ n : Fin 1, (Scalar.addi (BitVec.ofNat 32 n.val) 0#32).toNat = n.val := by decide

variable (ch : Fin 4)

/-- A widened bit is not zero when the bit is one. -/
theorem extui_ne (b : BitVec 1) : Scalar.cmpi .ne (Scalar.extui b : BitVec 32) 0#32 = b := by
  revert b; decide

/-- Every word of the tile table is the layer's number. -/
theorem layer_word (x : S17.Idx) : (pinT_0 ch x).toNat = ch.val := by
  show (BitVec.ofNat 32 ch.val).toNat = ch.val
  have := ch.isLt
  rw [BitVec.toNat_ofNat]
  omega

/-- A point that keeps its weights is past the first tile. -/
theorem keep_ne (t : Fin (cfgA ch).N) (h : ¬P0_0 ch t) : t.val % 17 ≠ 0 := fun h0 => by
  refine h ?_
  unfold P0_0
  rw [extui_ne, show ((crd ch t) 1).val = 0 from (crd_val t).2.trans h0]
  generalize Scalar.cmpi .ne _ _ = b
  revert b; decide

/-- Where the weights' block starts, in blocks. -/
theorem idx_weights (t : Fin (cfgA ch).N) :
    cc0_transform_1 k0_off1_inb numel1_S1 (pfN ch) (crd ch t) (0 : Fin 3) = ch.val
    ∧ cc0_transform_1 k0_off1_inb numel1_S1 (pfN ch) (crd ch t) (1 : Fin 3) = 0
    ∧ cc0_transform_1 k0_off1_inb numel1_S1 (pfN ch) (crd ch t) (2 : Fin 3) = t.val / 17 :=
  ⟨by have h := layer_word ch (ix1 0); exact h, rfl, (idx_col ((crd ch t) 0)).trans (crd_val t).1⟩

variable (m : (ℓ : Loc nD τ sig) → Buf (Elt Ideal) ℓ) (ρ : Dev nD → PrngReg) (c : Dev nD)

/-- The weight block of layer `g` from output column `512 n` on, as the scratch holds it. -/
def weights (g : Fin 4) (n : Fin 1) : FVec Ideal S256x512 .bf16 := fun y =>
  m ((c : Thread nD τ).loc main_arg1) (ix3 g (y 0) ⟨512 * n.val + (y 1).val, by have := (y 1).isLt; have h : S256x512.size 1 = 512 := rfl; omega⟩)

theorem point_lt (t : Fin (cfgA ch).N) : t.val < 17 := lt_of_lt_of_eq t.isLt (by decide +kernel : grid0.N = 17)

/-- A point's weight block, rounded. -/
theorem block_weights (t : Fin (cfgA ch).N) :
    k0_pay1 (F := Ideal) (iblk ch m ρ c (1 : Fin 3) t) = weights m c ch ⟨t.val / 17, by have : t.val < 17 := point_lt ch t; omega⟩ := by
  obtain ⟨e0, ek, ec⟩ := idx_weights ch t
  funext y
  rw [eq_ix2 y]
  refine (pay1_apply _ _ _).trans ?_
  refine congrArg (m ((c : Thread nD τ).loc main_arg1)) (funext fun a => Fin.ext ?_)
  match a with
  | ⟨0, _⟩ => show cc0_transform_1 k0_off1_inb numel1_S1 (pfN ch) (crd ch t) (0 : Fin 3) * 1 + 1 * 0 = _; rw [e0]; simp
  | ⟨1, _⟩ => show cc0_transform_1 k0_off1_inb numel1_S1 (pfN ch) (crd ch t) (1 : Fin 3) * 256 + 1 * (y 0).val = (y 0).val; rw [ek]; simp
  | ⟨2, _⟩ => show cc0_transform_1 k0_off1_inb numel1_S1 (pfN ch) (crd ch t) (2 : Fin 3) * 512 + 1 * (y 1).val = 512 * (t.val / 17) + (y 1).val; rw [ec]; omega

/-- A point's rows. -/
theorem block_rows (t : Fin (cfgA ch).N) (p : Fin 512) (k : Fin 256) (r : Fin 8704) (hr : r.val = 512 * (t.val % 17) + p.val) :
    iblk ch m ρ c (0 : Fin 3) t (ix2 p k) = m ((c : Thread nD τ).loc main_arg0) (ix2 r k) := by
  obtain ⟨e0, e1⟩ := idx_rows t
  refine congrArg (m ((c : Thread nD τ).loc main_arg0)) (funext fun a => Fin.ext ?_)
  match a with
  | ⟨0, _⟩ => show cc0_transform_0 (crd ch t) (0 : Fin 2) * 512 + 1 * p.val = r.val; rw [show cc0_transform_0 (crd ch t) (0 : Fin 2) = _ from e0]; omega
  | ⟨1, _⟩ => show cc0_transform_0 (crd ch t) (1 : Fin 2) * 256 + 1 * k.val = k.val; rw [show cc0_transform_0 (crd ch t) (1 : Fin 2) = _ from e1]; omega

/-- What a point that reloads its weights leaves. -/
theorem step_A (t : Fin (cfgA ch).N) (prev) (q0 : P0_0 ch t) :
    (step0 ch m ρ c t prev).1 = k0_pay2 (F := Ideal) (iblk ch m ρ c (0 : Fin 3) t) (k0_pay1 (F := Ideal) (iblk ch m ρ c (1 : Fin 3) t)) ∧ (step0 ch m ρ c t prev).2 = k0_pay1 (F := Ideal) (iblk ch m ρ c (1 : Fin 3) t) := by
  have h1 := out_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
    (hypsR0_A ch t q0).1 (hypsR0_A ch t q0).2.1 (hypsR0_A ch t q0).2.2.1
  have h2 := scratch_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
    (hypsR0_A ch t q0).1 (hypsR0_A ch t q0).2.1 (hypsR0_A ch t q0).2.2.1
  refine ⟨(congrArg Prod.fst (step0_A ch m ρ c t prev q0)).trans ?_, (congrArg Prod.snd (step0_A ch m ρ c t prev q0)).trans ?_⟩
  · dsimp only
    exact h1
  · dsimp only
    exact h2

/-- What a point that keeps its weights leaves. -/
theorem step_B (t : Fin (cfgA ch).N) (prev) (q0 : ¬P0_0 ch t) :
    (step0 ch m ρ c t prev).1 = k0_pay2 (F := Ideal) (iblk ch m ρ c (0 : Fin 3) t) prev.2 ∧ (step0 ch m ρ c t prev).2 = prev.2 := by
  have h1 := out_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
    (hypsR0_B ch t q0).1 (hypsR0_B ch t q0).2.1 (hypsR0_B ch t q0).2.2.1
  have h2 := scratch_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
    (hypsR0_B ch t q0).1 (hypsR0_B ch t q0).2.1 (hypsR0_B ch t q0).2.2.1
  refine ⟨(congrArg Prod.fst (step0_B ch m ρ c t prev q0)).trans ?_, (congrArg Prod.snd (step0_B ch m ρ c t prev q0)).trans ?_⟩
  · dsimp only
    exact h1
  · dsimp only
    exact h2

/-- THE SCRATCH after every point: the layer's weights of the point's column block, whether it reloaded them or not. -/
theorem scratch_eq : ∀ (n : ℕ) (h : n < (cfgA ch).N), (traj0 ch m ρ c n h).2 = weights m c ch ⟨n / 17, by have : n < 17 := point_lt ch ⟨n, h⟩; omega⟩
  | n, h => by
    rw [traj0_eq ch m ρ c ⟨n, h⟩]
    by_cases q0 : P0_0 ch ⟨n, h⟩
    · exact ((step_A ch m ρ c ⟨n, h⟩ _ q0).2).trans (block_weights ch m ρ c ⟨n, h⟩)
    · have hm : n % 17 ≠ 0 := keep_ne ch ⟨n, h⟩ q0
      have hn : n ≠ 0 := fun h0 => hm (by subst h0; rfl)
      have hprev : (prev0 ch m ρ c ⟨n, h⟩).2 = (traj0 ch m ρ c (n - 1) (by omega)).2 := by
        unfold prev0; rw [dif_neg hn]
      have ih := scratch_eq (n - 1) (by omega)
      have h2 : (n - 1) / 17 = n / 17 := by omega
      exact ((step_B ch m ρ c ⟨n, h⟩ _ q0).2.trans hprev).trans (ih.trans (congrArg (weights m c ch) (Fin.ext h2)))
  termination_by n => n

/-- THE OUTPUT BLOCK after every point, from the product of the tile's rows with the layer's weights. -/
theorem out_eq (t : Fin (cfgA ch).N) :
    (traj0 ch m ρ c t.val t.isLt).1 = k0_pay2 (F := Ideal) (iblk ch m ρ c (0 : Fin 3) t) (weights m c ch ⟨t.val / 17, by have : t.val < 17 := point_lt ch t; omega⟩) := by
  have hs := scratch_eq ch m ρ c t.val t.isLt
  rw [traj0_eq ch m ρ c t] at hs ⊢
  by_cases q0 : P0_0 ch t
  · have := step_A ch m ρ c t (prev0 ch m ρ c t) q0
    rw [← hs, this.2, this.1]
  · have := step_B ch m ρ c t (prev0 ch m ρ c t) q0
    rw [← hs, this.2, this.1]

end Cert.MlaUvIdeal.Layer

end
-- ==== Proof.MlaUvIdeal.Array.lean ====
/-
  The result array of the kernel, entry by entry, as a function of the argument arrays and the layer.
-/
module

public import Idealize.ShloMosaic.Lib.Pipeline.ValueKit.Geometry
public import proofs.«01_k».proof.Proof.MlaUvIdeal.Words

@[expose] public section

set_option maxRecDepth 16384

noncomputable section

namespace Cert.MlaUvIdeal.Layer

open Cert.MlaUvIdeal Cert.MlaUvIdeal.Gen
open Idealize.ShloMosaic Idealize.ShloMosaic.TcCoe Idealize.SL.Sem
open Idealize.ShloMosaic.Pipeline (Dat)

variable (ch : Fin 4) (m : (ℓ : Loc nD τ sig) → Buf (Elt Ideal) ℓ) (ρ : Dev nD → PrngReg) (c : Dev nD)

/-- Every point writes its output block back. -/
theorem flush_eq (t : Fin (cfgA ch).N) : ((cfgA ch).win (2 : Fin 3)).flush t = true := by
  by_cases q : P0_0 ch t
  · exact (sched0_A ch t q).2.1
  · exact (sched0_B ch t q).2.1

/-- No two points write the same output block. -/
theorem disjoint_out : ∀ t t' : Fin (cfgA ch).N, ((cfgA ch).win (2 : Fin 3)).flush t = true → ((cfgA ch).win (2 : Fin 3)).flush t' = true → t ≠ t' →
    Disjoint (((cfgA ch).win (2 : Fin 3)).blk t).view.set (((cfgA ch).win (2 : Fin 3)).blk t').view.set :=
  Pipeline.Window.hdisj_of_index_inj _ fun t t' _ _ e => by
    have e0 : t.val % 17 = t'.val % 17 := (idx_out t).1.symm.trans ((congrFun e (0 : Fin 2)).trans (idx_out t').1)
    have e1 : t.val / 17 = t'.val / 17 := (idx_out t).2.symm.trans ((congrFun e (1 : Fin 2)).trans (idx_out t').2)
    exact Fin.ext (by omega)

/-- What a point's write-back carries is what the point left in its output block. -/
theorem flushed_out (t : Fin (cfgA ch).N) : (dats ch m ρ 0 c).flushed (2 : Fin 3) t = (traj0 ch m ρ c t.val t.isLt).1 := by
  show ((cfgA ch).win (2 : Fin 3)).cut (grid0.coords t) ((dats ch m ρ 0 c).after (2 : Fin 3) t) = _
  rw [after0_2]
  rfl

/-- A point's block of rows. -/
def rowBlock (t : Fin (cfgA ch).N) : FVec Ideal S512x256 .bf16 := iblk ch m ρ c (0 : Fin 3) t

/-- The rows of all tiles. -/
def rowsOf : FVec Ideal S8704x256 .bf16 := m ((c : Thread nD τ).loc main_arg0)

/-- The matrices of all layers. -/
def matricesOf : FVec Ideal S4x256x512 .f32 := m ((c : Thread nD τ).loc main_arg1)

/-- The result array after the last point. -/
def result : FVec Ideal S8704x512 .bf16 := (dats ch m ρ 0 c).arrAt (2 : Fin 3) (cfgA ch).N

/-- A row's product with a column of the layer's matrix. -/
def product (r : Fin 8704) (j : Fin 512) : EReal := ∑ k : Fin 256, (rowsOf m c (ix2 r k) : EReal) * (matricesOf m c (ix3 ch k j) : EReal)

/-- An entry of the result is what the point of its block left in its output block. -/
theorem result_block (t : Fin (cfgA ch).N) (p : Fin 512) (d : Fin 512) (r : Fin 8704) (j : Fin 512)
    (hr : r.val = 512 * (t.val % 17) + p.val) (hj : j.val = 512 * (t.val / 17) + d.val) :
    result ch m ρ c (ix2 r j) = (traj0 ch m ρ c t.val t.isLt).1 (ix2 p d) := by
  have hemb : (((cfgA ch).win (2 : Fin 3)).blk t).view.emb (ix2 p d) = ix2 r j := by
    obtain ⟨e0, e1⟩ := idx_out t
    refine funext fun a => Fin.ext ?_
    match a with
    | ⟨0, _⟩ =>
      show cc0_transform_2 (grid0.coords t) (0 : Fin 2) * 512 + 1 * p.val = r.val
      rw [show cc0_transform_2 (grid0.coords t) (0 : Fin 2) = _ from e0]; omega
    | ⟨1, _⟩ =>
      show cc0_transform_2 (grid0.coords t) (1 : Fin 2) * 512 + 1 * d.val = j.val
      rw [show cc0_transform_2 (grid0.coords t) (1 : Fin 2) = _ from e1]; omega
  have h := (dats ch m ρ 0 c).arrAt_emb_eq_flushed (2 : Fin 3) (disjoint_out ch) t (flush_eq ch t) (ix2 p d)
  rw [hemb, flushed_out] at h
  exact h

/-- Every entry has the point that writes it. -/
theorem point_of (r : Fin 8704) (j : Fin 512) : ∃ t : Fin (cfgA ch).N, t.val % 17 = r.val / 512 ∧ t.val / 17 = j.val / 512 := by
  have h : 17 * (j.val / 512) + r.val / 512 < 17 := by omega
  refine ⟨⟨17 * (j.val / 512) + r.val / 512, lt_of_lt_of_eq h (by decide +kernel : 17 = grid0.N)⟩, ?_, ?_⟩
  · show (17 * (j.val / 512) + r.val / 512) % 17 = _; omega
  · show (17 * (j.val / 512) + r.val / 512) / 17 = _; omega

/-- An entry of the result, from its row's product with its column of the layer's matrix. -/
theorem result_entry (r : Fin 8704) (j : Fin 512) :
    (result ch m ρ c (ix2 r j) : EReal) = product ch m c r j := by
  obtain ⟨t, f0, f1⟩ := point_of ch r j
  have hp := point_lt ch t
  refine (result_block ch m ρ c t ⟨r.val % 512, Nat.mod_lt _ (by decide)⟩ ⟨j.val % 512, Nat.mod_lt _ (by decide)⟩ r j (by rw [f0]; show r.val = 512 * (r.val / 512) + r.val % 512; omega) (by rw [f1]; show j.val = 512 * (j.val / 512) + j.val % 512; omega)).trans ?_
  rw [out_eq ch m ρ c t]
  refine (pay2_apply _ _ _ _).trans ?_
  have hsum : ∑ k : Fin 256, (rowBlock ch m ρ c t (ix2 ⟨r.val % 512, Nat.mod_lt _ (by decide)⟩ k) : EReal)
      * (weights m c ch ⟨t.val / 17, by have : t.val < 17 := point_lt ch t; omega⟩ (ix2 k ⟨j.val % 512, Nat.mod_lt _ (by decide)⟩) : EReal) = product ch m c r j := by
    refine Finset.sum_congr rfl fun k _ => congrArg₂ (fun a b : EReal => a * b) ?_ ?_
    · exact block_rows ch m ρ c _ _ k r (by rw [f0]; show r.val = 512 * (r.val / 512) + r.val % 512; omega)
    · have e2 : (⟨512 * (t.val / 17) + j.val % 512, by omega⟩ : Fin 512) = j := Fin.ext (by show 512 * (t.val / 17) + _ = _; omega)
      refine Eq.trans (b := matricesOf m c (ix3 ch k (⟨512 * (t.val / 17) + j.val % 512, by omega⟩ : Fin 512))) rfl ?_
      rw [e2]
  exact hsum

end Cert.MlaUvIdeal.Layer

end
-- ==== Proof.MlaUvReference.Entry.lean ====
/-
  The reference read at an entry.
-/
module

public import proofs.«01_k».proof.Proof.TileTake
public import proofs.«01_k».proof.Proof.Gen.MlaUvReferenceIdeal.Read
public import proofs.«01_k».proof.Proof.Gen.MlaUvReferenceIdeal.Run

@[expose] public section

set_option maxRecDepth 16384

noncomputable section

namespace Cert.MlaUvReferenceIdeal.Entry

open Cert.MlaUvReferenceIdeal Cert.MlaUvReferenceIdeal.Gen Cert.MlaUvReferenceIdeal.Read
open Idealize.ShloMosaic Idealize.SL.Sem
open Cert.TileTake (gather_apply not_neg)

variable (x0 : FVec Ideal S8704x256 .bf16) (x1 : FVec Ideal S4x256x512 .f32) (x2 : IVec S17 32)

/-- The matrices the index table names. -/
theorem gathered (t : Fin 17) (k : Fin 256) (j : Fin 512) (n : Fin 4) (hn : (x2 (ix1 t)).toNat = n.val) :
    val_main_v8 (F := Ideal) x1 x2 (ix3 t k j) = x1 (ix3 n k j) := by
  unfold val_main_v8
  have h1 := n.isLt
  refine gather_apply _ x1 _ t k j n (by decide) ?_
  rw [val_main_v7_apply, val_main_v6_apply, val_main_v3_apply]
  have e : idx_main_v7 (ix2 t 0) = ix1 t := funext fun a => match a with | ⟨0, _⟩ => rfl
  rw [e, val_main_v2_apply, val_main_c_apply, not_neg _ (by omega)]
  exact hn

/-- A tile's row of the stacked rows. -/
theorem row_apply (t : Fin 17) (p : Fin 512) (k : Fin 256) (r : Fin 8704) (hr : r.val = 512 * t.val + p.val) :
    val_main_v1 (F := Ideal) x0 (ix3 t p k) = x0 (ix2 r k) := by
  rw [val_main_v1_apply, val_main_v0_apply]
  refine congrArg x0 (funext fun a => Fin.ext ?_)
  have hk := k.isLt
  have hp := p.isLt
  match a with
  | ⟨0, _⟩ => show ((t.val * 512 + p.val) * 256 + k.val) / 256 = r.val; omega
  | ⟨1, _⟩ => show ((t.val * 512 + p.val) * 256 + k.val) % 256 = k.val; omega

/-- A row's product with a column of a layer's matrix. -/
def product (n : Fin 4) (r : Fin 8704) (j : Fin 512) : EReal := ∑ k : Fin 256, (x0 (ix2 r k) : EReal) * (x1 (ix3 n k j) : EReal)

/-- The product of a tile with its matrix. -/
theorem product_apply (t : Fin 17) (p : Fin 512) (j : Fin 512) (r : Fin 8704) (hr : r.val = 512 * t.val + p.val) (n : Fin 4) (hn : (x2 (ix1 t)).toNat = n.val) :
    (val_main_v9 (F := Ideal) x0 x1 x2 (ix3 t p j) : EReal) = product x0 x1 n r j := by
  rw [val_main_v9_apply]
  refine Finset.sum_congr rfl fun k _ => congrArg₂ (fun a b : EReal => a * b) ?_ ?_
  · have e : lidx_main_v9 (ix3 t p j) k = ix3 t p k := funext fun a => match a with | ⟨0, _⟩ => rfl | ⟨1, _⟩ => rfl | ⟨2, _⟩ => rfl
    rw [e]
    exact row_apply x0 t p k r hr
  · have e : ridx_main_v9 (ix3 t p j) k = (ix3 t k j) := funext fun a => match a with | ⟨0, _⟩ => rfl | ⟨1, _⟩ => rfl | ⟨2, _⟩ => rfl
    rw [e]
    exact gathered x1 x2 t k j n hn

/-- The entry's index in the stacked tiles. -/
theorem idx_entry (r : Fin 8704) (j : Fin 512) :
    idx_main_v10 (ix2 r j) = ix3 (⟨r.val / 512, by omega⟩ : Fin 17) (⟨r.val % 512, by omega⟩ : Fin 512) j := by
  have hr := r.isLt
  have hj := j.isLt
  funext a; refine Fin.ext ?_
  match a with
  | ⟨0, _⟩ => show (r.val * 512 + j.val) / 262144 = r.val / 512; omega
  | ⟨1, _⟩ => show (r.val * 512 + j.val) / 512 % 512 = r.val % 512; omega
  | ⟨2, _⟩ => show (r.val * 512 + j.val) % 512 = j.val; omega

/-- An entry of the reference, from its row's product with its column of the matrix its tile names. -/
theorem entry (r : Fin 8704) (j : Fin 512) (n : Fin 4) (hn : (x2 (ix1 ⟨r.val / 512, by omega⟩)).toNat = n.val) :
    (val_main_v11 (F := Ideal) x0 x1 x2 (ix2 r j) : EReal) = product x0 x1 n r j := by
  have hr : r.val = 512 * (r.val / 512) + r.val % 512 := by omega
  rw [val_main_v11_apply, val_main_v10_apply, idx_entry, product_apply x0 x1 x2 _ _ j r hr n hn]
  rfl

end Cert.MlaUvReferenceIdeal.Entry

end
-- ==== Proof.MlaUvEquation.lean ====
/-
  The kernel's result for the latent attention's values is the reference's, entry by entry.
-/
module

public import proofs.«01_k».proof.Proof.MlaUvIdeal.Array
public import proofs.«01_k».proof.Proof.MlaUvReference.Entry

@[expose] public section

set_option maxRecDepth 16384

noncomputable section

namespace Cert.MlaUvEquation

open Cert.MlaUvIdeal Cert.MlaUvIdeal.Gen Cert.MlaUvIdeal.Layer Idealize.ShloMosaic Idealize.ShloMosaic.TcCoe Idealize.SL.Sem

variable (ch : Fin 4) (m : (ℓ : Loc nD τ sig) → Buf (Elt Ideal) ℓ) (ρ : Dev nD → PrngReg) (c : Dev nD)

/-- The result array is the reference's result of the same arguments. -/
theorem result_eq : result ch m ρ c = MlaUvReferenceIdeal.Read.val_main_v11 (F := Ideal) (rowsOf m c) (matricesOf m c) (pinT_0 ch) := by
  refine funext fun (i : S8704x512.Idx) => ?_
  rw [eq_ix2 i]
  exact (result_entry ch m ρ c (i 0) (i 1)).trans (MlaUvReferenceIdeal.Entry.entry (rowsOf m c) (matricesOf m c) (pinT_0 ch) (i 0) (i 1) ch (layer_word ch _)).symm

end Cert.MlaUvEquation

end
-- ==== Proof.MlaUvClaims.lean ====
/-
  The claims about the latent attention's values: the frames of the kernel, of its idealisation and of the reference, and the equation of
  the two results.
-/
module

public import proofs.«01_k».proof.Defs
public import proofs.«01_k».proof.Proof.Gen.MlaUv.Flash
public import proofs.«01_k».proof.Proof.MlaUvLayer
public import proofs.«01_k».proof.Proof.MlaUvEquation

@[expose] public section

set_option maxRecDepth 16384

noncomputable section

namespace Cert.MlaUvClaims

open Idealize.ShloMosaic Idealize.ShloMosaic.TcCoe Idealize.SL.Sem

/-- Under the precondition the kernel's launch memory holds one layer's tables. -/
theorem pinned_kernel (m : (ℓ : Loc MlaUv.nD MlaUv.τ MlaUv.sig) → Buf (Elt Bits) ℓ)
    (h : Cert.Pre_MlaUv (hPre_mla_uv_layer := Pre_mla_uv_layer.Gen.facts) m) : ∃ ch, MlaUv.Gen.Pinned ch m := by
  obtain ⟨g, hT, hU⟩ := @Pre_mla_uv_layer.layer_of_fn Bits _ Pre_mla_uv_layer.Gen.facts _ _ _ _ (h 0)
  exact ⟨g, fun c => by rw [Subsingleton.elim c 0]; exact hT, fun c => by rw [Subsingleton.elim c 0]; exact hU⟩

/-- The same for the idealisation. -/
theorem pinned_ideal (m : (ℓ : Loc MlaUvIdeal.nD MlaUvIdeal.τ MlaUvIdeal.sig) → Buf (Elt Ideal) ℓ)
    (h : Cert.Pre_MlaUvIdeal (hPre_mla_uv_layer := Pre_mla_uv_layer.Gen.facts) m) : ∃ ch, MlaUvIdeal.Gen.Pinned ch m := by
  obtain ⟨g, hT, hU⟩ := @Pre_mla_uv_layer.layer_of_fn Ideal _ Pre_mla_uv_layer.Gen.facts _ _ _ _ (h 0)
  exact ⟨g, fun c => by rw [Subsingleton.elim c 0]; exact hT, fun c => by rw [Subsingleton.elim c 0]; exact hU⟩

/-- The kernel runs, leaves its arguments alone and ends with every counter at zero. -/
theorem frame_kernel : Cert.quiescent_MlaUv (hMlaUv := MlaUv.Gen.facts) (hPre_mla_uv_layer := Pre_mla_uv_layer.Gen.facts) := fun m ρ h => by
  obtain ⟨ch, hp⟩ := pinned_kernel m h
  exact MlaUv.Gen.frame ch m ρ hp

/-- So does its idealisation. -/
theorem frame_ideal : Cert.quiescent_MlaUvIdeal (hMlaUvIdeal := MlaUvIdeal.Gen.facts) (hPre_mla_uv_layer := Pre_mla_uv_layer.Gen.facts) := fun m ρ h => by
  obtain ⟨ch, hp⟩ := pinned_ideal m h
  exact MlaUvIdeal.Gen.frame ch m ρ hp

/-- The reference runs and leaves its arguments alone; it declares no semaphore. -/
theorem frame_reference : Cert.quiescent_MlaUvReferenceIdeal (hMlaUvReferenceIdeal := MlaUvReferenceIdeal.Gen.facts) := fun m ρ _ =>
  (θ_run MlaUvReferenceIdeal.defs _ _).mono (fun r h => ⟨fun c => (h c).2, sem_eq_zero_of_no_sems (by decide) r.2⟩)
    (MlaUvReferenceIdeal.Value.run (F := Ideal) m ρ)

/-- The same from the memories of the precondition. -/
theorem frame_reference_pre : Cert.quiescent_MlaUvReferenceIdeal_pre_mla_uv_layer (hMlaUvReferenceIdeal := MlaUvReferenceIdeal.Gen.facts)
    (hPre_mla_uv_layer := Pre_mla_uv_layer.Gen.facts) := fun m ρ _ => frame_reference m ρ trivial

/-- From agreeing arguments under the precondition, the kernel and the reference end with the same result. -/
theorem algebraic : Cert.algebraic_MlaUvIdeal_MlaUvReferenceIdeal (hMlaUvIdeal := MlaUvIdeal.Gen.facts) (hMlaUvReferenceIdeal := MlaUvReferenceIdeal.Gen.facts) (hPre_mla_uv_layer := Pre_mla_uv_layer.Gen.facts) := by
  intro m ρ m' ρ' hpre hag
  obtain ⟨ch, hp⟩ := pinned_ideal m hpre
  refine ⟨fun c => MlaUvIdeal.Layer.result ch m ρ c,
    (θ_run MlaUvIdeal.defs _ _).mono (fun r h c => ⟨(h.1 c).1 (2 : Fin 3), h.2 c⟩) (θ_run_and (MlaUvIdeal.Gen.run_main ch m ρ hp) (MlaUvIdeal.Gen.unchanged ch m ρ hp)),
    (θ_run MlaUvReferenceIdeal.defs _ _).mono (fun r h c => ⟨(h c).1.trans ?_, (h c).2⟩) (MlaUvReferenceIdeal.Value.run (F := Ideal) m' ρ')⟩
  obtain ⟨a0, a1, a2, a3⟩ := hag c
  refine (MlaUvReferenceIdeal.Read.val_main_v11_eq _ _ _).trans ?_
  rw [a0, a1, a2, hp.1 c]
  exact (MlaUvEquation.result_eq ch m ρ c).symm

end Cert.MlaUvClaims

end
-- ==== Proof.ProjOutLayer.lean ====
/-
  The precondition `proj_out_layer`: the tile table is one layer's and every tile is used.
-/
module

public import proofs.«01_k».proof.Defs
public import proofs.«01_k».proof.Proof.Gen.Pre_proj_out_layer
public import proofs.«01_k».proof.Proof.LayerTable

@[expose] public section

set_option maxRecDepth 16384

noncomputable section

namespace Cert.Pre_proj_out_layer

open Idealize.ShloMosaic
open Cert.LayerTable (layer_of_words bcast_const)

variable {F : FTy → Type} [FloatOps F]

/-- Where the predicate holds, the tile table is one layer's and every tile is used. -/
theorem layer_of_fn [Facts] (A B M D : FVec F S8704x512 .bf16) (W : FVec F S4x2048x2048 .f32) (T : IVec S17 32) (U : IVec S1 32)
    (h : fn (F := F) A B M D W T U = fun _ => 1#1) : ∃ g : Fin 4, T = (fun _ => BitVec.ofNat 32 g.val) ∧ U = fun _ => 17#32 := by
  have h0 := congrFun h (Shape.Idx.first Facts.h_S_)
  dsimp only [fn] at h0
  obtain ⟨h1, h2⟩ := IntOp.andi_eq_one.1 h0
  refine layer_of_words T U _ _ _ _ (fun i => Host.reduce_andi_all _ _ _ _ _ h1 i) (fun _ => rfl) (fun _ => rfl) (bcast_const _ _) ?_ h2
  exact shapeCast_apply U Facts.shapeCasts_S1_S_ _ (ix1 0) (by rfl)

end Cert.Pre_proj_out_layer

end
-- ==== Proof.ProjOutIdeal.Block.lean ====
/-
  What one grid point of the kernel of the layer's output projection leaves: the scratch holds the layer's weight block, the output block is computed from
  the rows' product with it.
-/
module

public import Idealize.ShloMosaic.Lib.Pointwise
public import Idealize.ShloMosaic.Lib.VecWindow
public import Idealize.ShloMosaic.Lib.Pipeline.ValueKit.Tiles
public import proofs.«01_k».proof.Proof.Gen.ProjOutIdeal.Flash

@[expose] public section

set_option maxRecDepth 16384

noncomputable section

namespace Cert.ProjOutIdeal.Layer

open Cert.ProjOutIdeal Cert.ProjOutIdeal.Gen
open Idealize.ShloMosaic Idealize.ShloMosaic.TcCoe Idealize.SL.Sem
open Idealize.ShloMosaic.Pipeline (Dat)

theorem hz : (![0, 0] : Fin 2 → ℕ) = fun _ => 0 := funext fun a => by fin_cases a <;> rfl

/-- What a whole buffer holds after one store of its own sizes is the payload. -/
theorem whole_store {κ : Kind} (b : Ref sig κ) (f : b.ty.Contents (Elt Ideal)) (off : Fin b.ty.shape.rank → ℕ)
    (inb : ∀ a, off a + b.ty.shape.size a ≤ b.ty.shape.size a) (w : b.ty.Contents (Elt Ideal)) :
    (View.whole b).writes (Elt Ideal) f [⟨Rect.unit off b.ty.shape.size inb, w⟩] = w :=
  (View.read_whole b _).symm.trans (View.read_writes_full (View.whole b) f inb w [])

/-- The `q`-th 512 rows of a block of 2048. -/
def quarter {F : FTy → Type} (w : FVec F S2048x1024 .bf16) (q : Fin 4) : FVec F S512x1024 .bf16 := fun y =>
  w (ix2 ⟨512 * q.val + (y 0).val, by have := (y 0).isLt; have h : S512x1024.size 0 = 512 := rfl; omega⟩ (y 1))

/-- Reading 512 rows of the scratch reads its quarter. -/
theorem quarter_read (w : FVec Ideal S2048x1024 .bf16) (q : Fin 4) (o : Fin 2 → ℕ) (ho : o = ![512 * q.val, 0]) (inb : ∀ a, o a + S512x1024.size a ≤ S2048x1024.size a) :
    (View.whole cc0_scratch0).readAt (Elt Ideal) (Rect.unit (s := S2048x1024) o S512x1024.size inb).toLoadRect w = quarter w q := by
  subst ho
  funext y
  refine congrArg w (funext fun a => Fin.ext ?_)
  match a with
  | ⟨0, _⟩ => show 512 * q.val + 1 * (y 0).val = 512 * q.val + (y 0).val; omega
  | ⟨1, _⟩ => show 0 + 1 * (y 1).val = (y 1).val; omega

/-- The same right after a store of the whole scratch. -/
theorem quarter_stored (f : FVec Ideal S2048x1024 .bf16) (w : FVec Ideal S2048x1024 .bf16) (q : Fin 4) (o : Fin 2 → ℕ) (ho : o = ![512 * q.val, 0]) (inb : ∀ a, o a + S512x1024.size a ≤ S2048x1024.size a)
    (off : Fin 2 → ℕ) (inb' : ∀ a, off a + S2048x1024.size a ≤ S2048x1024.size a) :
    (View.whole cc0_scratch0).readAt (Elt Ideal) (Rect.unit (s := S2048x1024) o S512x1024.size inb).toLoadRect
      ((View.whole cc0_scratch0).writes (Elt Ideal) f [⟨Rect.unit off S2048x1024.size inb', w⟩]) = quarter w q :=
  (congrArg ((View.whole cc0_scratch0).readAt (Elt Ideal) (Rect.unit (s := S2048x1024) o S512x1024.size inb).toLoadRect) (whole_store cc0_scratch0 f off inb' w)).trans (quarter_read w q o ho inb)

/-- What a tile's four blocks of rows give with the weights in the scratch. -/
def tileOut {F : FTy → Type} [FloatOps F] (x0 x1 x2 x3 : FVec F S512x512 .bf16) (w : FVec F S2048x1024 .bf16) : FVec F S512x1024 .bf16 :=
  k0_pay2 x0 (quarter w 0) x1 (quarter w 1) x2 (quarter w 2) x3 (quarter w 3)

/-- It is determined by the eight blocks it is computed from. -/
theorem tileOut_of {x0 x1 x2 x3 y0 y1 y2 y3 : FVec Ideal S512x512 .bf16} {w0 w1 w2 w3 : FVec Ideal S512x1024 .bf16} {w : FVec Ideal S2048x1024 .bf16}
    (h0 : y0 = x0) (k0 : w0 = quarter w 0) (h1 : y1 = x1) (k1 : w1 = quarter w 1) (h2 : y2 = x2) (k2 : w2 = quarter w 2) (h3 : y3 = x3) (k3 : w3 = quarter w 3) :
    k0_pay2 (F := Ideal) y0 w0 y1 w1 y2 w2 y3 w3 = tileOut x0 x1 x2 x3 w := by
  subst h0 h1 h2 h3 k0 k1 k2 k3
  rfl

variable (c : Dev nD) (i : grid0.Coords)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S1x2048x1024 .f32) (harg8 : arg8.IsWhole)
  (arg9 : Memref sig .tc .vmem S512x1024 .bf16) (harg9 : arg9.IsWhole)
  (T0 : S17.Idx → BitVec 32) (T1 : S1.Idx → BitVec 32)
  (x0 x1 x2 x3 : FVec Ideal S512x512 .bf16) (x4 : FVec Ideal S1x2048x1024 .f32) (xa0 : FVec Ideal S2048x1024 .bf16)

/-- A point that keeps its weights leaves the product of its rows with the block the scratch holds. -/
theorem out_B (hc0) (h2) (h3) :
    out0_B_5 c i arg4 harg4 arg5 harg5 arg6 harg6 arg7 harg7 arg8 harg8 arg9 harg9 T0 T1 x0 x1 x2 x3 x4 xa0 hc0 h2 h3 = tileOut (F := Ideal) x0 x1 x2 x3 xa0 := by
  unfold out0_B_5
  rw [View.read_writes_eq_canon _ _ _ (cover0_B_5 c i arg4 harg4 arg5 harg5 arg6 harg6 arg7 harg7 arg8 harg8 arg9 harg9 T0 T1 x0 x1 x2 x3 x4 xa0 hc0 h2 h3)]
  unfold kernelRun0_B
  dsimp only
  sl_unfold_words
  refine (View.canon_unit_zero hz _ _).trans ?_
  exact tileOut_of (View.readAt_rep_full _ _ _) (quarter_read xa0 0 _ rfl _) (View.readAt_rep_full _ _ _) (quarter_read xa0 1 _ rfl _) (View.readAt_rep_full _ _ _) (quarter_read xa0 2 _ rfl _) (View.readAt_rep_full _ _ _) (quarter_read xa0 3 _ rfl _)

/-- A point that reloads its weights leaves the product of its rows with the block it has just reloaded. -/
theorem out_A (hc0) (h2) (h3) :
    out0_A_5 c i arg4 harg4 arg5 harg5 arg6 harg6 arg7 harg7 arg8 harg8 arg9 harg9 T0 T1 x0 x1 x2 x3 x4 hc0 h2 h3 = tileOut (F := Ideal) x0 x1 x2 x3 (k0_pay1 (F := Ideal) x4) := by
  unfold out0_A_5
  rw [View.read_writes_eq_canon _ _ _ (cover0_A_5 c i arg4 harg4 arg5 harg5 arg6 harg6 arg7 harg7 arg8 harg8 arg9 harg9 T0 T1 x0 x1 x2 x3 x4 hc0 h2 h3)]
  unfold kernelRun0_A
  dsimp only
  sl_unfold_words
  refine (View.canon_unit_zero hz _ _).trans ?_
  have e : View.readAt (Elt Ideal) arg8.view (Rect.unit (s := S1x2048x1024) ![0, 0, 0] S1x2048x1024.size inb_S1x2048x1024_S1x2048x1024_0_0_0).toLoadRect (arg8.view.rep x4) = x4 := View.readAt_rep_full _ _ _
  rw [e]
  exact tileOut_of (View.readAt_rep_full _ _ _) (quarter_stored _ _ 0 _ rfl _ _ _) (View.readAt_rep_full _ _ _) (quarter_stored _ _ 1 _ rfl _ _ _) (View.readAt_rep_full _ _ _) (quarter_stored _ _ 2 _ rfl _ _ _) (View.readAt_rep_full _ _ _) (quarter_stored _ _ 3 _ rfl _ _ _)

/-- A keeping point leaves the scratch as it was. -/
theorem scratch_B (hc0) (h2) (h3) : (kernelRun0_B c i arg4 harg4 arg5 harg5 arg6 harg6 arg7 harg7 arg8 harg8 arg9 harg9 T0 T1 x0 x1 x2 x3 x4 xa0 hc0 h2 h3).2.1 = xa0 := rfl

/-- A reloading point leaves its weight block, rounded, in the scratch. -/
theorem scratch_A (hc0) (h2) (h3) : (kernelRun0_A c i arg4 harg4 arg5 harg5 arg6 harg6 arg7 harg7 arg8 harg8 arg9 harg9 T0 T1 x0 x1 x2 x3 x4 hc0 h2 h3).2.1 = k0_pay1 (F := Ideal) x4 := by
  unfold kernelRun0_A
  dsimp only
  sl_unfold_words
  refine (whole_store cc0_scratch0 _ _ inb_S2048x1024_S2048x1024_0_0 _).trans (congrArg (k0_pay1 (F := Ideal)) (View.readAt_rep_full _ _ _))

/-! ## The payloads at an entry -/

theorem pay1_apply (a : Fin 2048) (b : Fin 1024) : (k0_pay1 (F := Ideal) x4 (ix2 a b) : EReal) = x4 (ix3 0 a b) := by
  pointwise [k0_pay1]

theorem pay2_apply (w0 w1 w2 w3 : FVec Ideal S512x1024 .bf16) (p : Fin 512) (d : Fin 1024) :
    (k0_pay2 (F := Ideal) x0 w0 x1 w1 x2 w2 x3 w3 (ix2 p d) : EReal)
      = (∑ k : Fin 512, (x0 (ix2 p k) : EReal) * w0 (ix2 k d)) + (∑ k : Fin 512, (x1 (ix2 p k) : EReal) * w1 (ix2 k d))
        + (∑ k : Fin 512, (x2 (ix2 p k) : EReal) * w2 (ix2 k d)) + (∑ k : Fin 512, (x3 (ix2 p k) : EReal) * w3 (ix2 k d)) := by
  pointwise [k0_pay2]

/-- The tile's result at an entry: four partial products, one with each quarter of the weights. -/
theorem tileOut_apply (w : FVec Ideal S2048x1024 .bf16) (p : Fin 512) (d : Fin 1024) :
    (tileOut (F := Ideal) x0 x1 x2 x3 w (ix2 p d) : EReal)
      = ∑ q : Fin 4, ∑ k : Fin 512, ((![x0, x1, x2, x3] : Fin 4 → FVec Ideal S512x512 .bf16) q (ix2 p k) : EReal) * w (ix2 ⟨512 * q.val + k.val, by omega⟩ d) := by
  rw [Fin.sum_univ_four]
  exact pay2_apply x0 x1 x2 x3 _ _ _ _ p d

end Cert.ProjOutIdeal.Layer

end
-- ==== Proof.ProjOutIdeal.Words.lean ====
/-
  What the tables tell a grid point, its blocks, and what it leaves.
-/
module

public import proofs.«01_k».proof.Proof.ProjOutIdeal.Block

@[expose] public section

set_option maxRecDepth 16384

noncomputable section

namespace Cert.ProjOutIdeal.Layer

open Cert.ProjOutIdeal Cert.ProjOutIdeal.Gen
open Idealize.ShloMosaic Idealize.ShloMosaic.TcCoe Idealize.SL.Sem
open Idealize.ShloMosaic.Pipeline (Dat)

/-- A point's coordinates: the column block, then the row tile. -/
theorem crd_val : ∀ t : Fin grid0.N, ((grid0.coords t) 0).val = t.val / 17 ∧ ((grid0.coords t) 1).val = t.val % 17 := by decide +kernel
/-- Where the blocks of the rows and of the result start, in blocks. -/
theorem idx_rows0 : ∀ t : Fin grid0.N, cc0_transform_0 (grid0.coords t) (0 : Fin 2) = t.val % 17 ∧ cc0_transform_0 (grid0.coords t) (1 : Fin 2) = 0 := by decide +kernel
theorem idx_rows1 : ∀ t : Fin grid0.N, cc0_transform_1 (grid0.coords t) (0 : Fin 2) = t.val % 17 ∧ cc0_transform_1 (grid0.coords t) (1 : Fin 2) = 0 := by decide +kernel
theorem idx_rows2 : ∀ t : Fin grid0.N, cc0_transform_2 (grid0.coords t) (0 : Fin 2) = t.val % 17 ∧ cc0_transform_2 (grid0.coords t) (1 : Fin 2) = 0 := by decide +kernel
theorem idx_rows3 : ∀ t : Fin grid0.N, cc0_transform_3 (grid0.coords t) (0 : Fin 2) = t.val % 17 ∧ cc0_transform_3 (grid0.coords t) (1 : Fin 2) = 0 := by decide +kernel
theorem idx_out : ∀ t : Fin grid0.N, cc0_transform_5 (grid0.coords t) (0 : Fin 2) = t.val % 17 ∧ cc0_transform_5 (grid0.coords t) (1 : Fin 2) = t.val / 17 := by decide +kernel
theorem idx_col : ∀ n : Fin 2, (Scalar.addi (BitVec.ofNat 32 n.val) 0#32).toNat = n.val := by decide

variable (ch : Fin 4)

/-- A widened bit is not zero when the bit is one. -/
theorem extui_ne (b : BitVec 1) : Scalar.cmpi .ne (Scalar.extui b : BitVec 32) 0#32 = b := by
  revert b; decide

/-- Every word of the tile table is the layer's number. -/
theorem layer_word (x : S17.Idx) : (pinT_0 ch x).toNat = ch.val := by
  show (BitVec.ofNat 32 ch.val).toNat = ch.val
  have := ch.isLt
  rw [BitVec.toNat_ofNat]
  omega

/-- A point that keeps its weights is past the first tile. -/
theorem keep_ne (t : Fin (cfgA ch).N) (h : ¬P0_0 ch t) : t.val % 17 ≠ 0 := fun h0 => by
  refine h ?_
  unfold P0_0
  rw [extui_ne, show ((crd ch t) 1).val = 0 from (crd_val t).2.trans h0]
  generalize Scalar.cmpi .ne _ _ = b
  revert b; decide

/-- Where the weights' block starts, in blocks. -/
theorem idx_weights (t : Fin (cfgA ch).N) :
    cc0_transform_4 k0_off1_inb numel1_S1 (pfN ch) (crd ch t) (0 : Fin 3) = ch.val
    ∧ cc0_transform_4 k0_off1_inb numel1_S1 (pfN ch) (crd ch t) (1 : Fin 3) = 0
    ∧ cc0_transform_4 k0_off1_inb numel1_S1 (pfN ch) (crd ch t) (2 : Fin 3) = t.val / 17 :=
  ⟨by have h := layer_word ch (ix1 0); exact h, rfl, (idx_col ((crd ch t) 0)).trans (crd_val t).1⟩

variable (m : (ℓ : Loc nD τ sig) → Buf (Elt Ideal) ℓ) (ρ : Dev nD → PrngReg) (c : Dev nD)

/-- The weight block of layer `g` from output column `1024 n` on, as the scratch holds it. -/
def weights (g : Fin 4) (n : Fin 2) : FVec Ideal S2048x1024 .bf16 := fun y =>
  m ((c : Thread nD τ).loc main_arg4) (ix3 g (y 0) ⟨1024 * n.val + (y 1).val, by have := (y 1).isLt; have h : S2048x1024.size 1 = 1024 := rfl; omega⟩)

theorem point_lt (t : Fin (cfgA ch).N) : t.val < 34 := lt_of_lt_of_eq t.isLt (by decide +kernel : grid0.N = 34)

/-- A point's weight block, rounded. -/
theorem block_weights (t : Fin (cfgA ch).N) :
    k0_pay1 (F := Ideal) (iblk ch m ρ c (4 : Fin 6) t) = weights m c ch ⟨t.val / 17, by have : t.val < 34 := point_lt ch t; omega⟩ := by
  obtain ⟨e0, ek, ec⟩ := idx_weights ch t
  funext y
  rw [eq_ix2 y]
  refine (pay1_apply _ _ _).trans ?_
  refine congrArg (m ((c : Thread nD τ).loc main_arg4)) (funext fun a => Fin.ext ?_)
  match a with
  | ⟨0, _⟩ => show cc0_transform_4 k0_off1_inb numel1_S1 (pfN ch) (crd ch t) (0 : Fin 3) * 1 + 1 * 0 = _; rw [e0]; simp
  | ⟨1, _⟩ => show cc0_transform_4 k0_off1_inb numel1_S1 (pfN ch) (crd ch t) (1 : Fin 3) * 2048 + 1 * (y 0).val = (y 0).val; rw [ek]; simp
  | ⟨2, _⟩ => show cc0_transform_4 k0_off1_inb numel1_S1 (pfN ch) (crd ch t) (2 : Fin 3) * 1024 + 1 * (y 1).val = 1024 * (t.val / 17) + (y 1).val; rw [ec]; omega

/-- A point's four blocks of rows. -/
theorem block_rows0 (t : Fin (cfgA ch).N) (p : Fin 512) (k : Fin 512) (r : Fin 8704) (hr : r.val = 512 * (t.val % 17) + p.val) :
    iblk ch m ρ c (0 : Fin 6) t (ix2 p k) = m ((c : Thread nD τ).loc main_arg0) (ix2 r k) := by
  obtain ⟨e0, e1⟩ := idx_rows0 t
  refine congrArg (m ((c : Thread nD τ).loc main_arg0)) (funext fun a => Fin.ext ?_)
  match a with
  | ⟨0, _⟩ => show cc0_transform_0 (crd ch t) (0 : Fin 2) * 512 + 1 * p.val = r.val; rw [show cc0_transform_0 (crd ch t) (0 : Fin 2) = _ from e0]; omega
  | ⟨1, _⟩ => show cc0_transform_0 (crd ch t) (1 : Fin 2) * 512 + 1 * k.val = k.val; rw [show cc0_transform_0 (crd ch t) (1 : Fin 2) = _ from e1]; omega
theorem block_rows1 (t : Fin (cfgA ch).N) (p : Fin 512) (k : Fin 512) (r : Fin 8704) (hr : r.val = 512 * (t.val % 17) + p.val) :
    iblk ch m ρ c (1 : Fin 6) t (ix2 p k) = m ((c : Thread nD τ).loc main_arg1) (ix2 r k) := by
  obtain ⟨e0, e1⟩ := idx_rows1 t
  refine congrArg (m ((c : Thread nD τ).loc main_arg1)) (funext fun a => Fin.ext ?_)
  match a with
  | ⟨0, _⟩ => show cc0_transform_1 (crd ch t) (0 : Fin 2) * 512 + 1 * p.val = r.val; rw [show cc0_transform_1 (crd ch t) (0 : Fin 2) = _ from e0]; omega
  | ⟨1, _⟩ => show cc0_transform_1 (crd ch t) (1 : Fin 2) * 512 + 1 * k.val = k.val; rw [show cc0_transform_1 (crd ch t) (1 : Fin 2) = _ from e1]; omega
theorem block_rows2 (t : Fin (cfgA ch).N) (p : Fin 512) (k : Fin 512) (r : Fin 8704) (hr : r.val = 512 * (t.val % 17) + p.val) :
    iblk ch m ρ c (2 : Fin 6) t (ix2 p k) = m ((c : Thread nD τ).loc main_arg2) (ix2 r k) := by
  obtain ⟨e0, e1⟩ := idx_rows2 t
  refine congrArg (m ((c : Thread nD τ).loc main_arg2)) (funext fun a => Fin.ext ?_)
  match a with
  | ⟨0, _⟩ => show cc0_transform_2 (crd ch t) (0 : Fin 2) * 512 + 1 * p.val = r.val; rw [show cc0_transform_2 (crd ch t) (0 : Fin 2) = _ from e0]; omega
  | ⟨1, _⟩ => show cc0_transform_2 (crd ch t) (1 : Fin 2) * 512 + 1 * k.val = k.val; rw [show cc0_transform_2 (crd ch t) (1 : Fin 2) = _ from e1]; omega
theorem block_rows3 (t : Fin (cfgA ch).N) (p : Fin 512) (k : Fin 512) (r : Fin 8704) (hr : r.val = 512 * (t.val % 17) + p.val) :
    iblk ch m ρ c (3 : Fin 6) t (ix2 p k) = m ((c : Thread nD τ).loc main_arg3) (ix2 r k) := by
  obtain ⟨e0, e1⟩ := idx_rows3 t
  refine congrArg (m ((c : Thread nD τ).loc main_arg3)) (funext fun a => Fin.ext ?_)
  match a with
  | ⟨0, _⟩ => show cc0_transform_3 (crd ch t) (0 : Fin 2) * 512 + 1 * p.val = r.val; rw [show cc0_transform_3 (crd ch t) (0 : Fin 2) = _ from e0]; omega
  | ⟨1, _⟩ => show cc0_transform_3 (crd ch t) (1 : Fin 2) * 512 + 1 * k.val = k.val; rw [show cc0_transform_3 (crd ch t) (1 : Fin 2) = _ from e1]; omega

/-- What a point that reloads its weights leaves. -/
theorem step_A (t : Fin (cfgA ch).N) (prev) (q0 : P0_0 ch t) :
    (step0 ch m ρ c t prev).1 = tileOut (F := Ideal) (iblk ch m ρ c (0 : Fin 6) t) (iblk ch m ρ c (1 : Fin 6) t) (iblk ch m ρ c (2 : Fin 6) t) (iblk ch m ρ c (3 : Fin 6) t) (k0_pay1 (F := Ideal) (iblk ch m ρ c (4 : Fin 6) t)) ∧ (step0 ch m ρ c t prev).2 = k0_pay1 (F := Ideal) (iblk ch m ρ c (4 : Fin 6) t) := by
  have h1 := out_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t)
    (hypsR0_A ch t q0).1 (hypsR0_A ch t q0).2.1 (hypsR0_A ch t q0).2.2.1
  have h2 := scratch_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t)
    (hypsR0_A ch t q0).1 (hypsR0_A ch t q0).2.1 (hypsR0_A ch t q0).2.2.1
  refine ⟨(congrArg Prod.fst (step0_A ch m ρ c t prev q0)).trans ?_, (congrArg Prod.snd (step0_A ch m ρ c t prev q0)).trans ?_⟩
  · dsimp only
    exact h1
  · dsimp only
    exact h2

/-- What a point that keeps its weights leaves. -/
theorem step_B (t : Fin (cfgA ch).N) (prev) (q0 : ¬P0_0 ch t) :
    (step0 ch m ρ c t prev).1 = tileOut (F := Ideal) (iblk ch m ρ c (0 : Fin 6) t) (iblk ch m ρ c (1 : Fin 6) t) (iblk ch m ρ c (2 : Fin 6) t) (iblk ch m ρ c (3 : Fin 6) t) prev.2 ∧ (step0 ch m ρ c t prev).2 = prev.2 := by
  have h1 := out_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2
    (hypsR0_B ch t q0).1 (hypsR0_B ch t q0).2.1 (hypsR0_B ch t q0).2.2.1
  have h2 := scratch_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2
    (hypsR0_B ch t q0).1 (hypsR0_B ch t q0).2.1 (hypsR0_B ch t q0).2.2.1
  refine ⟨(congrArg Prod.fst (step0_B ch m ρ c t prev q0)).trans ?_, (congrArg Prod.snd (step0_B ch m ρ c t prev q0)).trans ?_⟩
  · dsimp only
    exact h1
  · dsimp only
    exact h2

/-- THE SCRATCH after every point: the layer's weights of the point's column block, whether it reloaded them or not. -/
theorem scratch_eq : ∀ (n : ℕ) (h : n < (cfgA ch).N), (traj0 ch m ρ c n h).2 = weights m c ch ⟨n / 17, by have : n < 34 := point_lt ch ⟨n, h⟩; omega⟩
  | n, h => by
    rw [traj0_eq ch m ρ c ⟨n, h⟩]
    by_cases q0 : P0_0 ch ⟨n, h⟩
    · exact ((step_A ch m ρ c ⟨n, h⟩ _ q0).2).trans (block_weights ch m ρ c ⟨n, h⟩)
    · have hm : n % 17 ≠ 0 := keep_ne ch ⟨n, h⟩ q0
      have hn : n ≠ 0 := fun h0 => hm (by subst h0; rfl)
      have hprev : (prev0 ch m ρ c ⟨n, h⟩).2 = (traj0 ch m ρ c (n - 1) (by omega)).2 := by
        unfold prev0; rw [dif_neg hn]
      have ih := scratch_eq (n - 1) (by omega)
      have h2 : (n - 1) / 17 = n / 17 := by omega
      exact ((step_B ch m ρ c ⟨n, h⟩ _ q0).2.trans hprev).trans (ih.trans (congrArg (weights m c ch) (Fin.ext h2)))
  termination_by n => n

/-- THE OUTPUT BLOCK after every point, from the product of the tile's rows with the layer's weights. -/
theorem out_eq (t : Fin (cfgA ch).N) :
    (traj0 ch m ρ c t.val t.isLt).1 = tileOut (F := Ideal) (iblk ch m ρ c (0 : Fin 6) t) (iblk ch m ρ c (1 : Fin 6) t) (iblk ch m ρ c (2 : Fin 6) t) (iblk ch m ρ c (3 : Fin 6) t) (weights m c ch ⟨t.val / 17, by have : t.val < 34 := point_lt ch t; omega⟩) := by
  have hs := scratch_eq ch m ρ c t.val t.isLt
  rw [traj0_eq ch m ρ c t] at hs ⊢
  by_cases q0 : P0_0 ch t
  · have := step_A ch m ρ c t (prev0 ch m ρ c t) q0
    rw [← hs, this.2, this.1]
  · have := step_B ch m ρ c t (prev0 ch m ρ c t) q0
    rw [← hs, this.2, this.1]

end Cert.ProjOutIdeal.Layer

end
-- ==== Proof.ProjOutIdeal.Array.lean ====
/-
  The result array of the kernel, entry by entry, as a function of the argument arrays and the layer.
-/
module

public import Idealize.ShloMosaic.Lib.Pipeline.ValueKit.Geometry
public import proofs.«01_k».proof.Proof.ProjOutIdeal.Words

@[expose] public section

set_option maxRecDepth 16384

noncomputable section

namespace Cert.ProjOutIdeal.Layer

open Cert.ProjOutIdeal Cert.ProjOutIdeal.Gen
open Idealize.ShloMosaic Idealize.ShloMosaic.TcCoe Idealize.SL.Sem
open Idealize.ShloMosaic.Pipeline (Dat)

variable (ch : Fin 4) (m : (ℓ : Loc nD τ sig) → Buf (Elt Ideal) ℓ) (ρ : Dev nD → PrngReg) (c : Dev nD)

/-- Every point writes its output block back. -/
theorem flush_eq (t : Fin (cfgA ch).N) : ((cfgA ch).win (5 : Fin 6)).flush t = true := by
  by_cases q : P0_0 ch t
  · exact (sched0_A ch t q).2.1
  · exact (sched0_B ch t q).2.1

/-- No two points write the same output block. -/
theorem disjoint_out : ∀ t t' : Fin (cfgA ch).N, ((cfgA ch).win (5 : Fin 6)).flush t = true → ((cfgA ch).win (5 : Fin 6)).flush t' = true → t ≠ t' →
    Disjoint (((cfgA ch).win (5 : Fin 6)).blk t).view.set (((cfgA ch).win (5 : Fin 6)).blk t').view.set :=
  Pipeline.Window.hdisj_of_index_inj _ fun t t' _ _ e => by
    have e0 : t.val % 17 = t'.val % 17 := (idx_out t).1.symm.trans ((congrFun e (0 : Fin 2)).trans (idx_out t').1)
    have e1 : t.val / 17 = t'.val / 17 := (idx_out t).2.symm.trans ((congrFun e (1 : Fin 2)).trans (idx_out t').2)
    exact Fin.ext (by omega)

/-- What a point's write-back carries is what the point left in its output block. -/
theorem flushed_out (t : Fin (cfgA ch).N) : (dats ch m ρ 0 c).flushed (5 : Fin 6) t = (traj0 ch m ρ c t.val t.isLt).1 := by
  show ((cfgA ch).win (5 : Fin 6)).cut (grid0.coords t) ((dats ch m ρ 0 c).after (5 : Fin 6) t) = _
  rw [after0_5]
  rfl

/-- A point's four blocks of rows. -/
def rowBlock (t : Fin (cfgA ch).N) : Fin 4 → FVec Ideal S512x512 .bf16 := ![iblk ch m ρ c (0 : Fin 6) t, iblk ch m ρ c (1 : Fin 6) t, iblk ch m ρ c (2 : Fin 6) t, iblk ch m ρ c (3 : Fin 6) t]

/-- The rows of all tiles: the four mixers' arrays. -/
def rowsOf : Fin 4 → FVec Ideal S8704x512 .bf16 :=
  ![m ((c : Thread nD τ).loc main_arg0), m ((c : Thread nD τ).loc main_arg1), m ((c : Thread nD τ).loc main_arg2), m ((c : Thread nD τ).loc main_arg3)]

/-- The matrices of all layers. -/
def matricesOf : FVec Ideal S4x2048x2048 .f32 := m ((c : Thread nD τ).loc main_arg4)

/-- The result array after the last point. -/
def result : FVec Ideal S8704x2048 .bf16 := (dats ch m ρ 0 c).arrAt (5 : Fin 6) (cfgA ch).N

/-- A row's product with a column of the layer's matrix. -/
def product (r : Fin 8704) (j : Fin 2048) : EReal := ∑ q : Fin 4, ∑ k : Fin 512, (rowsOf m c q (ix2 r k) : EReal) * (matricesOf m c (ix3 ch ⟨512 * q.val + k.val, by omega⟩ j) : EReal)

/-- An entry of the result is what the point of its block left in its output block. -/
theorem result_block (t : Fin (cfgA ch).N) (p : Fin 512) (d : Fin 1024) (r : Fin 8704) (j : Fin 2048)
    (hr : r.val = 512 * (t.val % 17) + p.val) (hj : j.val = 1024 * (t.val / 17) + d.val) :
    result ch m ρ c (ix2 r j) = (traj0 ch m ρ c t.val t.isLt).1 (ix2 p d) := by
  have hemb : (((cfgA ch).win (5 : Fin 6)).blk t).view.emb (ix2 p d) = ix2 r j := by
    obtain ⟨e0, e1⟩ := idx_out t
    refine funext fun a => Fin.ext ?_
    match a with
    | ⟨0, _⟩ =>
      show cc0_transform_5 (grid0.coords t) (0 : Fin 2) * 512 + 1 * p.val = r.val
      rw [show cc0_transform_5 (grid0.coords t) (0 : Fin 2) = _ from e0]; omega
    | ⟨1, _⟩ =>
      show cc0_transform_5 (grid0.coords t) (1 : Fin 2) * 1024 + 1 * d.val = j.val
      rw [show cc0_transform_5 (grid0.coords t) (1 : Fin 2) = _ from e1]; omega
  have h := (dats ch m ρ 0 c).arrAt_emb_eq_flushed (5 : Fin 6) (disjoint_out ch) t (flush_eq ch t) (ix2 p d)
  rw [hemb, flushed_out] at h
  exact h

/-- Every entry has the point that writes it. -/
theorem point_of (r : Fin 8704) (j : Fin 2048) : ∃ t : Fin (cfgA ch).N, t.val % 17 = r.val / 512 ∧ t.val / 17 = j.val / 1024 := by
  have h : 17 * (j.val / 1024) + r.val / 512 < 34 := by omega
  refine ⟨⟨17 * (j.val / 1024) + r.val / 512, lt_of_lt_of_eq h (by decide +kernel : 34 = grid0.N)⟩, ?_, ?_⟩
  · show (17 * (j.val / 1024) + r.val / 512) % 17 = _; omega
  · show (17 * (j.val / 1024) + r.val / 512) / 17 = _; omega

/-- An entry of the result, from its row's product with its column of the layer's matrix. -/
theorem result_entry (r : Fin 8704) (j : Fin 2048) :
    (result ch m ρ c (ix2 r j) : EReal) = product ch m c r j := by
  obtain ⟨t, f0, f1⟩ := point_of ch r j
  have hp := point_lt ch t
  refine (result_block ch m ρ c t ⟨r.val % 512, Nat.mod_lt _ (by decide)⟩ ⟨j.val % 1024, Nat.mod_lt _ (by decide)⟩ r j (by rw [f0]; show r.val = 512 * (r.val / 512) + r.val % 512; omega) (by rw [f1]; show j.val = 1024 * (j.val / 1024) + j.val % 1024; omega)).trans ?_
  rw [out_eq ch m ρ c t]
  refine (tileOut_apply _ _ _ _ _ _ _).trans ?_
  have hrow : ∀ (q : Fin 4) (k : Fin 512), rowBlock ch m ρ c t q (ix2 ⟨r.val % 512, Nat.mod_lt _ (by decide)⟩ k) = rowsOf m c q (ix2 r k) := fun q k => by
    match q with
    | ⟨0, _⟩ => exact block_rows0 ch m ρ c t ⟨r.val % 512, Nat.mod_lt _ (by decide)⟩ k r (by rw [f0]; show r.val = 512 * (r.val / 512) + r.val % 512; omega)
    | ⟨1, _⟩ => exact block_rows1 ch m ρ c t ⟨r.val % 512, Nat.mod_lt _ (by decide)⟩ k r (by rw [f0]; show r.val = 512 * (r.val / 512) + r.val % 512; omega)
    | ⟨2, _⟩ => exact block_rows2 ch m ρ c t ⟨r.val % 512, Nat.mod_lt _ (by decide)⟩ k r (by rw [f0]; show r.val = 512 * (r.val / 512) + r.val % 512; omega)
    | ⟨3, _⟩ => exact block_rows3 ch m ρ c t ⟨r.val % 512, Nat.mod_lt _ (by decide)⟩ k r (by rw [f0]; show r.val = 512 * (r.val / 512) + r.val % 512; omega)
  have hsum : ∑ q : Fin 4, ∑ k : Fin 512, (rowBlock ch m ρ c t q (ix2 ⟨r.val % 512, Nat.mod_lt _ (by decide)⟩ k) : EReal)
      * (weights m c ch ⟨t.val / 17, by have : t.val < 34 := point_lt ch t; omega⟩ (ix2 ⟨512 * q.val + k.val, by omega⟩ ⟨j.val % 1024, Nat.mod_lt _ (by decide)⟩) : EReal) = product ch m c r j := by
    refine Finset.sum_congr rfl fun q _ => Finset.sum_congr rfl fun k _ => congrArg₂ (fun a b : EReal => a * b) (hrow q k) ?_
    have e2 : (⟨1024 * (t.val / 17) + j.val % 1024, by omega⟩ : Fin 2048) = j := Fin.ext (by show 1024 * (t.val / 17) + _ = _; omega)
    refine Eq.trans (b := matricesOf m c (ix3 ch ⟨512 * q.val + k.val, by omega⟩ (⟨1024 * (t.val / 17) + j.val % 1024, by omega⟩ : Fin 2048))) rfl ?_
    rw [e2]
  exact hsum

end Cert.ProjOutIdeal.Layer

end
-- ==== Proof.ProjOutReference.Entry.lean ====
/-
  The reference read at an entry.
-/
module

public import Idealize.ShloMosaic.Lib.Pipeline.Value
public import proofs.«01_k».proof.Proof.TileTake
public import proofs.«01_k».proof.Proof.Gen.ProjOutReferenceIdeal.Read
public import proofs.«01_k».proof.Proof.Gen.ProjOutReferenceIdeal.Run

@[expose] public section

set_option maxRecDepth 16384

noncomputable section

namespace Cert.ProjOutReferenceIdeal.Entry

open Cert.ProjOutReferenceIdeal Cert.ProjOutReferenceIdeal.Gen Cert.ProjOutReferenceIdeal.Read
open Idealize.ShloMosaic Idealize.SL.Sem
open Cert.TileTake (gather_apply not_neg)

variable (x0 x1 x2 x3 : FVec Ideal S8704x512 .bf16) (x4 : FVec Ideal S4x2048x2048 .f32) (x5 : IVec S17 32)

/-- The matrices the index table names. -/
theorem gathered (t : Fin 17) (k : Fin 2048) (j : Fin 2048) (n : Fin 4) (hn : (x5 (ix1 t)).toNat = n.val) :
    val_main_v9 (F := Ideal) x4 x5 (ix3 t k j) = x4 (ix3 n k j) := by
  unfold val_main_v9
  have h1 := n.isLt
  refine gather_apply _ x4 _ t k j n (by decide) ?_
  rw [val_main_v8_apply, val_main_v7_apply, val_main_v4_apply]
  have e : idx_main_v8 (ix2 t 0) = ix1 t := funext fun a => match a with | ⟨0, _⟩ => rfl
  rw [e, val_main_v3_apply, val_main_c_apply, not_neg _ (by omega)]
  exact hn

/-- The four mixers' arrays. -/
def rowsOf : Fin 4 → FVec Ideal S8704x512 .bf16 := ![x0, x1, x2, x3]

/-- The four arrays side by side, read at an entry. -/
theorem beside_apply (r : Fin 8704) (q : Fin 4) (k : Fin 512) :
    val_main_v0 (F := Ideal) x0 x1 x2 x3 (ix2 r ⟨512 * q.val + k.val, by omega⟩) = rowsOf x0 x1 x2 x3 q (ix2 r k) := by
  have hk := k.isLt
  unfold val_main_v0
  refine concatenate_ofFn_apply (s₁ := S8704x512) (1 : Fin S8704x2048.rank) (rowsOf x0 x1 x2 x3) concatenates_S8704x512_S8704x512_S8704x512_S8704x512_S8704x2048_d1 rfl 512 rfl _ q ?_ (ix2 r k : S8704x512.Idx) ?_ fun b hb => ?_
  · show (512 * q.val + k.val) / 512 = q.val; omega
  · show k.val = (512 * q.val + k.val) % 512; omega
  · match b with
    | ⟨0, _⟩ => rfl
    | ⟨1, _⟩ => exact absurd rfl hb

/-- A tile's row of the stacked rows. -/
theorem row_apply (t : Fin 17) (p : Fin 512) (q : Fin 4) (k : Fin 512) (r : Fin 8704) (hr : r.val = 512 * t.val + p.val) :
    val_main_v2 (F := Ideal) x0 x1 x2 x3 (ix3 t p ⟨512 * q.val + k.val, by omega⟩) = rowsOf x0 x1 x2 x3 q (ix2 r k) := by
  rw [val_main_v2_apply, val_main_v1_apply]
  refine Eq.trans (congrArg (val_main_v0 (F := Ideal) x0 x1 x2 x3) (funext fun a => Fin.ext ?_)) (beside_apply x0 x1 x2 x3 r q k)
  have hk := k.isLt
  have hq := q.isLt
  have hp := p.isLt
  match a with
  | ⟨0, _⟩ => show ((t.val * 512 + p.val) * 2048 + (512 * q.val + k.val)) / 2048 = r.val; omega
  | ⟨1, _⟩ => show ((t.val * 512 + p.val) * 2048 + (512 * q.val + k.val)) % 2048 = 512 * q.val + k.val; omega

/-- A sum over 2048 places, quarter by quarter. -/
theorem sum_quarters (f : Fin 2048 → EReal) : ∑ k, f k = ∑ q : Fin 4, ∑ k : Fin 512, f ⟨512 * q.val + k.val, by omega⟩ := by
  rw [← Fintype.sum_prod_type' (fun (q : Fin 4) (k : Fin 512) => f ⟨512 * q.val + k.val, by omega⟩)]
  exact (Fintype.sum_equiv (finProdFinEquiv (m := 4) (n := 512)) _ _ fun x =>
    congrArg f (Fin.ext (by show 512 * x.1.val + x.2.val = x.2.val + 512 * x.1.val; omega))).symm

/-- A row's product with a column of a layer's matrix: each mixer's part of the row with its quarter of the column. -/
def product (n : Fin 4) (r : Fin 8704) (j : Fin 2048) : EReal :=
  ∑ q : Fin 4, ∑ k : Fin 512, (rowsOf x0 x1 x2 x3 q (ix2 r k) : EReal) * (x4 (ix3 n ⟨512 * q.val + k.val, by omega⟩ j) : EReal)

/-- The product of a tile with its matrix. -/
theorem product_apply (t : Fin 17) (p : Fin 512) (j : Fin 2048) (r : Fin 8704) (hr : r.val = 512 * t.val + p.val) (n : Fin 4) (hn : (x5 (ix1 t)).toNat = n.val) :
    (val_main_v10 (F := Ideal) x0 x1 x2 x3 x4 x5 (ix3 t p j) : EReal) = product x0 x1 x2 x3 x4 n r j := by
  rw [val_main_v10_apply]
  refine (sum_quarters _).trans (Finset.sum_congr rfl fun q _ => Finset.sum_congr rfl fun k _ => congrArg₂ (fun a b : EReal => a * b) ?_ ?_)
  · have e : lidx_main_v10 (ix3 t p j) ⟨512 * q.val + k.val, by omega⟩ = ix3 t p ⟨512 * q.val + k.val, by omega⟩ := funext fun a => match a with | ⟨0, _⟩ => rfl | ⟨1, _⟩ => rfl | ⟨2, _⟩ => rfl
    rw [e]
    exact row_apply x0 x1 x2 x3 t p q k r hr
  · have e : ridx_main_v10 (ix3 t p j) ⟨512 * q.val + k.val, by omega⟩ = ix3 t ⟨512 * q.val + k.val, by omega⟩ j := funext fun a => match a with | ⟨0, _⟩ => rfl | ⟨1, _⟩ => rfl | ⟨2, _⟩ => rfl
    rw [e]
    exact gathered x4 x5 t _ j n hn

/-- The entry's index in the stacked tiles. -/
theorem idx_entry (r : Fin 8704) (j : Fin 2048) :
    idx_main_v11 (ix2 r j) = ix3 (⟨r.val / 512, by omega⟩ : Fin 17) (⟨r.val % 512, by omega⟩ : Fin 512) j := by
  have hr := r.isLt
  have hj := j.isLt
  funext a; refine Fin.ext ?_
  match a with
  | ⟨0, _⟩ => show (r.val * 2048 + j.val) / 1048576 = r.val / 512; omega
  | ⟨1, _⟩ => show (r.val * 2048 + j.val) / 2048 % 512 = r.val % 512; omega
  | ⟨2, _⟩ => show (r.val * 2048 + j.val) % 2048 = j.val; omega

/-- An entry of the reference, from its row's product with its column of the matrix its tile names. -/
theorem entry (r : Fin 8704) (j : Fin 2048) (n : Fin 4) (hn : (x5 (ix1 ⟨r.val / 512, by omega⟩)).toNat = n.val) :
    (val_main_v12 (F := Ideal) x0 x1 x2 x3 x4 x5 (ix2 r j) : EReal) = product x0 x1 x2 x3 x4 n r j := by
  have hr : r.val = 512 * (r.val / 512) + r.val % 512 := by omega
  rw [val_main_v12_apply, val_main_v11_apply, idx_entry, product_apply x0 x1 x2 x3 x4 x5 _ _ j r hr n hn]
  rfl

end Cert.ProjOutReferenceIdeal.Entry

end
-- ==== Proof.ProjOutEquation.lean ====
/-
  The kernel's result for the layer's output projection is the reference's, entry by entry.
-/
module

public import proofs.«01_k».proof.Proof.ProjOutIdeal.Array
public import proofs.«01_k».proof.Proof.ProjOutReference.Entry

@[expose] public section

set_option maxRecDepth 16384

noncomputable section

namespace Cert.ProjOutEquation

open Cert.ProjOutIdeal Cert.ProjOutIdeal.Gen Cert.ProjOutIdeal.Layer Idealize.ShloMosaic Idealize.ShloMosaic.TcCoe Idealize.SL.Sem

variable (ch : Fin 4) (m : (ℓ : Loc nD τ sig) → Buf (Elt Ideal) ℓ) (ρ : Dev nD → PrngReg) (c : Dev nD)

/-- The result array is the reference's result of the same arguments. -/
theorem result_eq : result ch m ρ c = ProjOutReferenceIdeal.Read.val_main_v12 (F := Ideal) (rowsOf m c 0) (rowsOf m c 1) (rowsOf m c 2) (rowsOf m c 3) (matricesOf m c) (pinT_0 ch) := by
  refine funext fun (i : S8704x2048.Idx) => ?_
  rw [eq_ix2 i]
  refine (result_entry ch m ρ c (i 0) (i 1)).trans (Eq.trans ?_ (ProjOutReferenceIdeal.Entry.entry (rowsOf m c 0) (rowsOf m c 1) (rowsOf m c 2) (rowsOf m c 3) (matricesOf m c) (pinT_0 ch) (i 0) (i 1) ch (layer_word ch _)).symm)
  refine Finset.sum_congr rfl fun q _ => Finset.sum_congr rfl fun k _ => congrArg₂ (fun a b : EReal => a * b) ?_ rfl
  match q with
  | ⟨0, _⟩ => rfl
  | ⟨1, _⟩ => rfl
  | ⟨2, _⟩ => rfl
  | ⟨3, _⟩ => rfl

end Cert.ProjOutEquation

end
-- ==== Proof.ProjOutClaims.lean ====
/-
  The claims about the layer's output projection: the frames of the kernel, of its idealisation and of the reference, and the equation of
  the two results.
-/
module

public import proofs.«01_k».proof.Defs
public import proofs.«01_k».proof.Proof.Gen.ProjOut.Flash
public import proofs.«01_k».proof.Proof.ProjOutLayer
public import proofs.«01_k».proof.Proof.ProjOutEquation

@[expose] public section

set_option maxRecDepth 16384

noncomputable section

namespace Cert.ProjOutClaims

open Idealize.ShloMosaic Idealize.ShloMosaic.TcCoe Idealize.SL.Sem

/-- Under the precondition the kernel's launch memory holds one layer's tables. -/
theorem pinned_kernel (m : (ℓ : Loc ProjOut.nD ProjOut.τ ProjOut.sig) → Buf (Elt Bits) ℓ)
    (h : Cert.Pre_ProjOut (hPre_proj_out_layer := Pre_proj_out_layer.Gen.facts) m) : ∃ ch, ProjOut.Gen.Pinned ch m := by
  obtain ⟨g, hT, hU⟩ := @Pre_proj_out_layer.layer_of_fn Bits _ Pre_proj_out_layer.Gen.facts _ _ _ _ _ _ _ (h 0)
  exact ⟨g, fun c => by rw [Subsingleton.elim c 0]; exact hT, fun c => by rw [Subsingleton.elim c 0]; exact hU⟩

/-- The same for the idealisation. -/
theorem pinned_ideal (m : (ℓ : Loc ProjOutIdeal.nD ProjOutIdeal.τ ProjOutIdeal.sig) → Buf (Elt Ideal) ℓ)
    (h : Cert.Pre_ProjOutIdeal (hPre_proj_out_layer := Pre_proj_out_layer.Gen.facts) m) : ∃ ch, ProjOutIdeal.Gen.Pinned ch m := by
  obtain ⟨g, hT, hU⟩ := @Pre_proj_out_layer.layer_of_fn Ideal _ Pre_proj_out_layer.Gen.facts _ _ _ _ _ _ _ (h 0)
  exact ⟨g, fun c => by rw [Subsingleton.elim c 0]; exact hT, fun c => by rw [Subsingleton.elim c 0]; exact hU⟩

/-- The kernel runs, leaves its arguments alone and ends with every counter at zero. -/
theorem frame_kernel : Cert.quiescent_ProjOut (hProjOut := ProjOut.Gen.facts) (hPre_proj_out_layer := Pre_proj_out_layer.Gen.facts) := fun m ρ h => by
  obtain ⟨ch, hp⟩ := pinned_kernel m h
  exact ProjOut.Gen.frame ch m ρ hp

/-- So does its idealisation. -/
theorem frame_ideal : Cert.quiescent_ProjOutIdeal (hProjOutIdeal := ProjOutIdeal.Gen.facts) (hPre_proj_out_layer := Pre_proj_out_layer.Gen.facts) := fun m ρ h => by
  obtain ⟨ch, hp⟩ := pinned_ideal m h
  exact ProjOutIdeal.Gen.frame ch m ρ hp

/-- The reference runs and leaves its arguments alone; it declares no semaphore. -/
theorem frame_reference : Cert.quiescent_ProjOutReferenceIdeal (hProjOutReferenceIdeal := ProjOutReferenceIdeal.Gen.facts) := fun m ρ _ =>
  (θ_run ProjOutReferenceIdeal.defs _ _).mono (fun r h => ⟨fun c => (h c).2, sem_eq_zero_of_no_sems (by decide) r.2⟩)
    (ProjOutReferenceIdeal.Value.run (F := Ideal) m ρ)

/-- The same from the memories of the precondition. -/
theorem frame_reference_pre : Cert.quiescent_ProjOutReferenceIdeal_pre_proj_out_layer (hProjOutReferenceIdeal := ProjOutReferenceIdeal.Gen.facts)
    (hPre_proj_out_layer := Pre_proj_out_layer.Gen.facts) := fun m ρ _ => frame_reference m ρ trivial

/-- From agreeing arguments under the precondition, the kernel and the reference end with the same result. -/
theorem algebraic : Cert.algebraic_ProjOutIdeal_ProjOutReferenceIdeal (hProjOutIdeal := ProjOutIdeal.Gen.facts) (hProjOutReferenceIdeal := ProjOutReferenceIdeal.Gen.facts) (hPre_proj_out_layer := Pre_proj_out_layer.Gen.facts) := by
  intro m ρ m' ρ' hpre hag
  obtain ⟨ch, hp⟩ := pinned_ideal m hpre
  refine ⟨fun c => ProjOutIdeal.Layer.result ch m ρ c,
    (θ_run ProjOutIdeal.defs _ _).mono (fun r h c => ⟨(h.1 c).1 (5 : Fin 6), h.2 c⟩) (θ_run_and (ProjOutIdeal.Gen.run_main ch m ρ hp) (ProjOutIdeal.Gen.unchanged ch m ρ hp)),
    (θ_run ProjOutReferenceIdeal.defs _ _).mono (fun r h c => ⟨(h c).1.trans ?_, (h c).2⟩) (ProjOutReferenceIdeal.Value.run (F := Ideal) m' ρ')⟩
  obtain ⟨a0, a1, a2, a3, a4, a5, a6⟩ := hag c
  refine (ProjOutReferenceIdeal.Read.val_main_v12_eq _ _ _ _ _ _).trans ?_
  rw [a0, a1, a2, a3, a4, a5, hp.1 c]
  exact (ProjOutEquation.result_eq ch m ρ c).symm

end Cert.ProjOutClaims

end
-- ==== Proof.ProjRestLayer.lean ====
/-
  The precondition `proj_in_f32_layer`: the tile table is one layer's and every tile is used.
-/
module

public import proofs.«01_k».proof.Defs
public import proofs.«01_k».proof.Proof.Gen.Pre_proj_in_f32_layer
public import proofs.«01_k».proof.Proof.LayerTable

@[expose] public section

set_option maxRecDepth 16384

noncomputable section

namespace Cert.Pre_proj_in_f32_layer

open Idealize.ShloMosaic
open Cert.LayerTable (layer_of_words bcast_const)

variable {F : FTy → Type} [FloatOps F]

/-- Where the predicate holds, the tile table is one layer's and every tile is used. -/
theorem layer_of_fn [Facts] (X : FVec F S8704x2048 .bf16) (W : FVec F S4x5376x2048 .f32) (T : IVec S17 32) (U : IVec S1 32)
    (h : fn (F := F) X W T U = fun _ => 1#1) : ∃ g : Fin 4, T = (fun _ => BitVec.ofNat 32 g.val) ∧ U = fun _ => 17#32 := by
  have h0 := congrFun h (Shape.Idx.first Facts.h_S_)
  dsimp only [fn] at h0
  obtain ⟨h1, h2⟩ := IntOp.andi_eq_one.1 h0
  refine layer_of_words T U _ _ _ _ (fun i => Host.reduce_andi_all _ _ _ _ _ h1 i) (fun _ => rfl) (fun _ => rfl) (bcast_const _ _) ?_ h2
  exact shapeCast_apply U Facts.shapeCasts_S1_S_ _ (ix1 0) (by rfl)

end Cert.Pre_proj_in_f32_layer

end
-- ==== Proof.ProjRestIdeal.Block.lean ====
/-
  What one grid point of the kernel of the rest of the layer's input projection leaves: the scratch holds the layer's weight block, the output block is computed from
  the rows' product with it.
-/
module

public import Idealize.ShloMosaic.Lib.Pointwise
public import Idealize.ShloMosaic.Lib.VecWindow
public import Idealize.ShloMosaic.Lib.Pipeline.ValueKit.Tiles
public import proofs.«01_k».proof.Proof.Gen.ProjRestIdeal.Flash

@[expose] public section

set_option maxRecDepth 16384

noncomputable section

namespace Cert.ProjRestIdeal.Layer

open Cert.ProjRestIdeal Cert.ProjRestIdeal.Gen
open Idealize.ShloMosaic Idealize.ShloMosaic.TcCoe Idealize.SL.Sem
open Idealize.ShloMosaic.Pipeline (Dat)

theorem hz : (![0, 0] : Fin 2 → ℕ) = fun _ => 0 := funext fun a => by fin_cases a <;> rfl

/-- What a whole buffer holds after one store of its own sizes is the payload. -/
theorem whole_store {κ : Kind} (b : Ref sig κ) (f : b.ty.Contents (Elt Ideal)) (off : Fin b.ty.shape.rank → ℕ)
    (inb : ∀ a, off a + b.ty.shape.size a ≤ b.ty.shape.size a) (w : b.ty.Contents (Elt Ideal)) :
    (View.whole b).writes (Elt Ideal) f [⟨Rect.unit off b.ty.shape.size inb, w⟩] = w :=
  (View.read_whole b _).symm.trans (View.read_writes_full (View.whole b) f inb w [])

variable (c : Dev nD) (i : grid0.Coords)
  (arg4 : Memref sig .tc .vmem S512x2048 .bf16) (harg4 : arg4.IsWhole)
  (arg5 : Memref sig .tc .vmem S1x768x2048 .f32) (harg5 : arg5.IsWhole)
  (arg6 : Memref sig .tc .vmem S512x768 .f32) (harg6 : arg6.IsWhole)
  (T0 : S17.Idx → BitVec 32) (T1 : S1.Idx → BitVec 32)
  (x0 : FVec Ideal S512x2048 .bf16) (x1 : FVec Ideal S1x768x2048 .f32) (xa0 : FVec Ideal S768x2048 .bf16)

/-- A point that keeps its weights leaves the product of its rows with the block the scratch holds. -/
theorem out_B (hc0) (h2) (h3) :
    out0_B_2 c i arg4 harg4 arg5 harg5 arg6 harg6 T0 T1 x0 x1 xa0 hc0 h2 h3 = k0_pay2 (F := Ideal) x0 xa0 := by
  unfold out0_B_2
  rw [View.read_writes_eq_canon _ _ _ (cover0_B_2 c i arg4 harg4 arg5 harg5 arg6 harg6 T0 T1 x0 x1 xa0 hc0 h2 h3)]
  unfold kernelRun0_B
  dsimp only
  sl_unfold_words
  refine (View.canon_unit_zero hz _ _).trans ?_
  refine congrArg₂ (k0_pay2 (F := Ideal)) (View.readAt_rep_full _ _ _) ?_
  exact View.readAt_full _ _ _

/-- A point that reloads its weights leaves the product of its rows with the block it has just reloaded. -/
theorem out_A (hc0) (h2) (h3) :
    out0_A_2 c i arg4 harg4 arg5 harg5 arg6 harg6 T0 T1 x0 x1 hc0 h2 h3 = k0_pay2 (F := Ideal) x0 (k0_pay1 (F := Ideal) i x1) := by
  unfold out0_A_2
  rw [View.read_writes_eq_canon _ _ _ (cover0_A_2 c i arg4 harg4 arg5 harg5 arg6 harg6 T0 T1 x0 x1 hc0 h2 h3)]
  unfold kernelRun0_A
  dsimp only
  sl_unfold_words
  refine (View.canon_unit_zero hz _ _).trans ?_
  refine congrArg₂ (k0_pay2 (F := Ideal)) (View.readAt_rep_full _ _ _) ?_
  exact (View.readCov_full _ _ _ _ _).trans (congrArg (k0_pay1 (F := Ideal) i) (View.readAt_rep_full _ _ _))

/-- A keeping point leaves the scratch as it was. -/
theorem scratch_B (hc0) (h2) (h3) : (kernelRun0_B c i arg4 harg4 arg5 harg5 arg6 harg6 T0 T1 x0 x1 xa0 hc0 h2 h3).2.1 = xa0 := rfl

/-- A reloading point leaves its weight block, rounded, in the scratch. -/
theorem scratch_A (hc0) (h2) (h3) : (kernelRun0_A c i arg4 harg4 arg5 harg5 arg6 harg6 T0 T1 x0 x1 hc0 h2 h3).2.1 = k0_pay1 (F := Ideal) i x1 := by
  unfold kernelRun0_A
  dsimp only
  sl_unfold_words
  refine (whole_store cc0_scratch0 _ _ inb_S768x2048_S768x2048_0_0 _).trans (congrArg (k0_pay1 (F := Ideal) i) (View.readAt_rep_full _ _ _))

/-! ## The payloads at an entry -/

/-- The test of a column against the number of true columns. -/
theorem mask_eq : ∀ (n : Fin 2) (d : Fin 768),
    IntOp.cmpi .slt (IntOp.addi (Scalar.muli (Scalar.addi (BitVec.ofNat 32 n.val) 5#32) 768#32) (BitVec.ofNat 32 d.val)) 5168#32 = 1#1 ↔ 3840 + (768 * n.val + d.val) < 5168 := by
  decide +kernel

theorem pay1_apply (a : Fin 768) (b : Fin 2048) :
    (k0_pay1 (F := Ideal) i x1 (ix2 a b) : EReal) = if 3840 + (768 * (i 0).val + a.val) < 5168 then x1 (ix3 0 a b) else 0 := by
  pointwise [k0_pay1]
  have h := mask_eq (i 0) a
  by_cases hc : 3840 + (768 * (i 0).val + a.val) < 5168
  · rw [if_pos hc]; exact if_pos (h.2 hc)
  · rw [if_neg hc]; exact if_neg fun e => hc (h.1 e)

theorem pay2_apply (p : Fin 512) (d : Fin 768) :
    (k0_pay2 (F := Ideal) x0 xa0 (ix2 p d) : EReal) = ∑ k : Fin 2048, (x0 (ix2 p k) : EReal) * xa0 (ix2 d k) := by
  pointwise [k0_pay2]

end Cert.ProjRestIdeal.Layer

end
-- ==== Proof.ProjRestIdeal.Words.lean ====
/-
  What the tables tell a grid point, its blocks, and what it leaves.
-/
module

public import proofs.«01_k».proof.Proof.ProjRestIdeal.Block

@[expose] public section

set_option maxRecDepth 16384

noncomputable section

namespace Cert.ProjRestIdeal.Layer

open Cert.ProjRestIdeal Cert.ProjRestIdeal.Gen
open Idealize.ShloMosaic Idealize.ShloMosaic.TcCoe Idealize.SL.Sem
open Idealize.ShloMosaic.Pipeline (Dat)

/-- A point's coordinates: the column block, then the row tile. -/
theorem crd_val : ∀ t : Fin grid0.N, ((grid0.coords t) 0).val = t.val / 17 ∧ ((grid0.coords t) 1).val = t.val % 17 := by decide +kernel
/-- Where the blocks of the rows and of the result start, in blocks. -/
theorem idx_rows : ∀ t : Fin grid0.N, cc0_transform_0 (grid0.coords t) (0 : Fin 2) = t.val % 17 ∧ cc0_transform_0 (grid0.coords t) (1 : Fin 2) = 0 := by decide +kernel
theorem idx_out : ∀ t : Fin grid0.N, cc0_transform_2 (grid0.coords t) (0 : Fin 2) = t.val % 17 ∧ cc0_transform_2 (grid0.coords t) (1 : Fin 2) = t.val / 17 := by decide +kernel
theorem idx_col : ∀ n : Fin 2, (Scalar.addi (BitVec.ofNat 32 n.val) 5#32).toNat = 5 + n.val := by decide

variable (ch : Fin 4)

/-- A widened bit is not zero when the bit is one. -/
theorem extui_ne (b : BitVec 1) : Scalar.cmpi .ne (Scalar.extui b : BitVec 32) 0#32 = b := by
  revert b; decide

/-- Every word of the tile table is the layer's number. -/
theorem layer_word (x : S17.Idx) : (pinT_0 ch x).toNat = ch.val := by
  show (BitVec.ofNat 32 ch.val).toNat = ch.val
  have := ch.isLt
  rw [BitVec.toNat_ofNat]
  omega

/-- A point that keeps its weights is past the first tile. -/
theorem keep_ne (t : Fin (cfgA ch).N) (h : ¬P0_0 ch t) : t.val % 17 ≠ 0 := fun h0 => by
  refine h ?_
  unfold P0_0
  rw [extui_ne, show ((crd ch t) 1).val = 0 from (crd_val t).2.trans h0]
  generalize Scalar.cmpi .ne _ _ = b
  revert b; decide

/-- Where the weights' block starts, in blocks. -/
theorem idx_weights (t : Fin (cfgA ch).N) :
    cc0_transform_1 k0_off1_inb numel1_S1 (pfN ch) (crd ch t) (0 : Fin 3) = ch.val
    ∧ cc0_transform_1 k0_off1_inb numel1_S1 (pfN ch) (crd ch t) (2 : Fin 3) = 0
    ∧ cc0_transform_1 k0_off1_inb numel1_S1 (pfN ch) (crd ch t) (1 : Fin 3) = 5 + t.val / 17 :=
  ⟨by have h := layer_word ch (ix1 0); exact h, rfl, (idx_col ((crd ch t) 0)).trans (congrArg (fun n => 5 + n) (crd_val t).1)⟩

variable (m : (ℓ : Loc nD τ sig) → Buf (Elt Ideal) ℓ) (ρ : Dev nD → PrngReg) (c : Dev nD)

/-- The weight block of layer `g` from output column `768 n` on, as the scratch holds it. -/
def weights (g : Fin 4) (n : Fin 2) : FVec Ideal S768x2048 .bf16 := fun y =>
  (if h : 3840 + (768 * n.val + (y 0).val) < 5168 then m ((c : Thread nD τ).loc main_arg1) (ix3 g ⟨3840 + (768 * n.val + (y 0).val), by omega⟩ (y 1)) else (0 : EReal) : EReal)

theorem point_lt (t : Fin (cfgA ch).N) : t.val < 34 := lt_of_lt_of_eq t.isLt (by decide +kernel : grid0.N = 34)

/-- The weights among the true columns, and past them. -/
theorem weights_true (g : Fin 4) (n : Fin 2) (a : Fin 768) (b : Fin 2048) (h : 3840 + (768 * n.val + a.val) < 5168) :
    (weights m c g n (ix2 a b) : EReal) = m ((c : Thread nD τ).loc main_arg1) (ix3 g ⟨3840 + (768 * n.val + a.val), by omega⟩ b) := by
  unfold weights
  exact dif_pos h
theorem weights_past (g : Fin 4) (n : Fin 2) (a : Fin 768) (b : Fin 2048) (h : ¬3840 + (768 * n.val + a.val) < 5168) :
    (weights m c g n (ix2 a b) : EReal) = 0 := by
  unfold weights
  exact dif_neg h

/-- A point's weight block, rounded. -/
theorem block_weights (t : Fin (cfgA ch).N) :
    k0_pay1 (F := Ideal) (crd ch t) (iblk ch m ρ c (1 : Fin 3) t) = weights m c ch ⟨t.val / 17, by have : t.val < 34 := point_lt ch t; omega⟩ := by
  obtain ⟨e0, ek, ec⟩ := idx_weights ch t
  funext y
  rw [eq_ix2 y]
  refine (pay1_apply _ _ _ _).trans ?_
  have ei : 3840 + (768 * ((crd ch t) 0).val + (y 0).val) = 3840 + (768 * (t.val / 17) + (y 0).val) := by rw [show ((crd ch t) 0).val = _ from (crd_val t).1]
  rw [ei]
  by_cases hc : 3840 + (768 * (t.val / 17) + (y 0).val) < 5168
  swap
  · exact (if_neg hc).trans (weights_past m c ch ⟨t.val / 17, by have : t.val < 34 := point_lt ch t; omega⟩ (y 0) (y 1) hc).symm
  refine (if_pos hc).trans (Eq.trans ?_ (weights_true m c ch ⟨t.val / 17, by have : t.val < 34 := point_lt ch t; omega⟩ (y 0) (y 1) hc).symm)
  refine congrArg (m ((c : Thread nD τ).loc main_arg1)) (funext fun a => Fin.ext ?_)
  match a with
  | ⟨0, _⟩ => show cc0_transform_1 k0_off1_inb numel1_S1 (pfN ch) (crd ch t) (0 : Fin 3) * 1 + 1 * 0 = _; rw [e0]; simp
  | ⟨1, _⟩ => show cc0_transform_1 k0_off1_inb numel1_S1 (pfN ch) (crd ch t) (1 : Fin 3) * 768 + 1 * (y 0).val = 3840 + (768 * (t.val / 17) + (y 0).val); rw [ec]; omega
  | ⟨2, _⟩ => show cc0_transform_1 k0_off1_inb numel1_S1 (pfN ch) (crd ch t) (2 : Fin 3) * 2048 + 1 * (y 1).val = (y 1).val; rw [ek]; simp

/-- A point's rows. -/
theorem block_rows (t : Fin (cfgA ch).N) (p : Fin 512) (k : Fin 2048) (r : Fin 8704) (hr : r.val = 512 * (t.val % 17) + p.val) :
    iblk ch m ρ c (0 : Fin 3) t (ix2 p k) = m ((c : Thread nD τ).loc main_arg0) (ix2 r k) := by
  obtain ⟨e0, e1⟩ := idx_rows t
  refine congrArg (m ((c : Thread nD τ).loc main_arg0)) (funext fun a => Fin.ext ?_)
  match a with
  | ⟨0, _⟩ => show cc0_transform_0 (crd ch t) (0 : Fin 2) * 512 + 1 * p.val = r.val; rw [show cc0_transform_0 (crd ch t) (0 : Fin 2) = _ from e0]; omega
  | ⟨1, _⟩ => show cc0_transform_0 (crd ch t) (1 : Fin 2) * 2048 + 1 * k.val = k.val; rw [show cc0_transform_0 (crd ch t) (1 : Fin 2) = _ from e1]; omega

/-- What a point that reloads its weights leaves. -/
theorem step_A (t : Fin (cfgA ch).N) (prev) (q0 : P0_0 ch t) :
    (step0 ch m ρ c t prev).1 = k0_pay2 (F := Ideal) (iblk ch m ρ c (0 : Fin 3) t) (k0_pay1 (F := Ideal) (crd ch t) (iblk ch m ρ c (1 : Fin 3) t)) ∧ (step0 ch m ρ c t prev).2 = k0_pay1 (F := Ideal) (crd ch t) (iblk ch m ρ c (1 : Fin 3) t) := by
  have h1 := out_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
    (hypsR0_A ch t q0).1 (hypsR0_A ch t q0).2.1 (hypsR0_A ch t q0).2.2.1
  have h2 := scratch_A c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t)
    (hypsR0_A ch t q0).1 (hypsR0_A ch t q0).2.1 (hypsR0_A ch t q0).2.2.1
  refine ⟨(congrArg Prod.fst (step0_A ch m ρ c t prev q0)).trans ?_, (congrArg Prod.snd (step0_A ch m ρ c t prev q0)).trans ?_⟩
  · dsimp only
    exact h1
  · dsimp only
    exact h2

/-- What a point that keeps its weights leaves. -/
theorem step_B (t : Fin (cfgA ch).N) (prev) (q0 : ¬P0_0 ch t) :
    (step0 ch m ρ c t prev).1 = k0_pay2 (F := Ideal) (iblk ch m ρ c (0 : Fin 3) t) prev.2 ∧ (step0 ch m ρ c t prev).2 = prev.2 := by
  have h1 := out_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
    (hypsR0_B ch t q0).1 (hypsR0_B ch t q0).2.1 (hypsR0_B ch t q0).2.2.1
  have h2 := scratch_B c (crd ch t) (ms0_0 ch t) (hs0_0 ch t) (ms0_1 ch t) (hs0_1 ch t) (ms0_2 ch t) (hs0_2 ch t) (pinT_0 ch) (pinT_1 ch) (iblk ch m ρ c (0 : Fin 3) t) (iblk ch m ρ c (1 : Fin 3) t) prev.2
    (hypsR0_B ch t q0).1 (hypsR0_B ch t q0).2.1 (hypsR0_B ch t q0).2.2.1
  refine ⟨(congrArg Prod.fst (step0_B ch m ρ c t prev q0)).trans ?_, (congrArg Prod.snd (step0_B ch m ρ c t prev q0)).trans ?_⟩
  · dsimp only
    exact h1
  · dsimp only
    exact h2

/-- THE SCRATCH after every point: the layer's weights of the point's column block, whether it reloaded them or not. -/
theorem scratch_eq : ∀ (n : ℕ) (h : n < (cfgA ch).N), (traj0 ch m ρ c n h).2 = weights m c ch ⟨n / 17, by have : n < 34 := point_lt ch ⟨n, h⟩; omega⟩
  | n, h => by
    rw [traj0_eq ch m ρ c ⟨n, h⟩]
    by_cases q0 : P0_0 ch ⟨n, h⟩
    · exact ((step_A ch m ρ c ⟨n, h⟩ _ q0).2).trans (block_weights ch m ρ c ⟨n, h⟩)
    · have hm : n % 17 ≠ 0 := keep_ne ch ⟨n, h⟩ q0
      have hn : n ≠ 0 := fun h0 => hm (by subst h0; rfl)
      have hprev : (prev0 ch m ρ c ⟨n, h⟩).2 = (traj0 ch m ρ c (n - 1) (by omega)).2 := by
        unfold prev0; rw [dif_neg hn]
      have ih := scratch_eq (n - 1) (by omega)
      have h2 : (n - 1) / 17 = n / 17 := by omega
      exact ((step_B ch m ρ c ⟨n, h⟩ _ q0).2.trans hprev).trans (ih.trans (congrArg (weights m c ch) (Fin.ext h2)))
  termination_by n => n

/-- THE OUTPUT BLOCK after every point, from the product of the tile's rows with the layer's weights. -/
theorem out_eq (t : Fin (cfgA ch).N) :
    (traj0 ch m ρ c t.val t.isLt).1 = k0_pay2 (F := Ideal) (iblk ch m ρ c (0 : Fin 3) t) (weights m c ch ⟨t.val / 17, by have : t.val < 34 := point_lt ch t; omega⟩) := by
  have hs := scratch_eq ch m ρ c t.val t.isLt
  rw [traj0_eq ch m ρ c t] at hs ⊢
  by_cases q0 : P0_0 ch t
  · have := step_A ch m ρ c t (prev0 ch m ρ c t) q0
    rw [← hs, this.2, this.1]
  · have := step_B ch m ρ c t (prev0 ch m ρ c t) q0
    rw [← hs, this.2, this.1]

end Cert.ProjRestIdeal.Layer

end
-- ==== Proof.ProjRestIdeal.Array.lean ====
/-
  The result array of the kernel, entry by entry, as a function of the argument arrays and the layer.
-/
module

public import Idealize.ShloMosaic.Lib.Pipeline.ValueKit.Geometry
public import proofs.«01_k».proof.Proof.ProjRestIdeal.Words

@[expose] public section

set_option maxRecDepth 16384

noncomputable section

namespace Cert.ProjRestIdeal.Layer

open Cert.ProjRestIdeal Cert.ProjRestIdeal.Gen
open Idealize.ShloMosaic Idealize.ShloMosaic.TcCoe Idealize.SL.Sem
open Idealize.ShloMosaic.Pipeline (Dat)

variable (ch : Fin 4) (m : (ℓ : Loc nD τ sig) → Buf (Elt Ideal) ℓ) (ρ : Dev nD → PrngReg) (c : Dev nD)

/-- Every point writes its output block back. -/
theorem flush_eq (t : Fin (cfgA ch).N) : ((cfgA ch).win (2 : Fin 3)).flush t = true := by
  by_cases q : P0_0 ch t
  · exact (sched0_A ch t q).2.1
  · exact (sched0_B ch t q).2.1

/-- No two points write the same output block. -/
theorem disjoint_out : ∀ t t' : Fin (cfgA ch).N, ((cfgA ch).win (2 : Fin 3)).flush t = true → ((cfgA ch).win (2 : Fin 3)).flush t' = true → t ≠ t' →
    Disjoint (((cfgA ch).win (2 : Fin 3)).blk t).view.set (((cfgA ch).win (2 : Fin 3)).blk t').view.set :=
  Pipeline.Window.hdisj_of_index_inj _ fun t t' _ _ e => by
    have e0 : t.val % 17 = t'.val % 17 := (idx_out t).1.symm.trans ((congrFun e (0 : Fin 2)).trans (idx_out t').1)
    have e1 : t.val / 17 = t'.val / 17 := (idx_out t).2.symm.trans ((congrFun e (1 : Fin 2)).trans (idx_out t').2)
    exact Fin.ext (by omega)

/-- What a point's write-back carries is what the point left in its output block. -/
theorem flushed_out (t : Fin (cfgA ch).N) : (dats ch m ρ 0 c).flushed (2 : Fin 3) t = (traj0 ch m ρ c t.val t.isLt).1 := by
  show ((cfgA ch).win (2 : Fin 3)).cut (grid0.coords t) ((dats ch m ρ 0 c).after (2 : Fin 3) t) = _
  rw [after0_2]
  rfl

/-- A point's block of rows. -/
def rowBlock (t : Fin (cfgA ch).N) : FVec Ideal S512x2048 .bf16 := iblk ch m ρ c (0 : Fin 3) t

/-- The rows of all tiles. -/
def rowsOf : FVec Ideal S8704x2048 .bf16 := m ((c : Thread nD τ).loc main_arg0)

/-- The matrices of all layers. -/
def matricesOf : FVec Ideal S4x5376x2048 .f32 := m ((c : Thread nD τ).loc main_arg1)

/-- The result array after the last point. -/
def result : FVec Ideal S8704x1536 .f32 := (dats ch m ρ 0 c).arrAt (2 : Fin 3) (cfgA ch).N

/-- The layer's matrix from column 3840 on, with zeros past its 5168 columns. -/
def cutOf (j : Fin 1536) (k : Fin 2048) : EReal := if h : 3840 + j.val < 5168 then (matricesOf m c (ix3 ch ⟨3840 + j.val, by omega⟩ k) : EReal) else 0

/-- A row's product with a column of the layer's matrix. -/
def product (r : Fin 8704) (j : Fin 1536) : EReal := ∑ k : Fin 2048, (rowsOf m c (ix2 r k) : EReal) * cutOf ch m c j k

/-- An entry of the result is what the point of its block left in its output block. -/
theorem result_block (t : Fin (cfgA ch).N) (p : Fin 512) (d : Fin 768) (r : Fin 8704) (j : Fin 1536)
    (hr : r.val = 512 * (t.val % 17) + p.val) (hj : j.val = 768 * (t.val / 17) + d.val) :
    result ch m ρ c (ix2 r j) = (traj0 ch m ρ c t.val t.isLt).1 (ix2 p d) := by
  have hemb : (((cfgA ch).win (2 : Fin 3)).blk t).view.emb (ix2 p d) = ix2 r j := by
    obtain ⟨e0, e1⟩ := idx_out t
    refine funext fun a => Fin.ext ?_
    match a with
    | ⟨0, _⟩ =>
      show cc0_transform_2 (grid0.coords t) (0 : Fin 2) * 512 + 1 * p.val = r.val
      rw [show cc0_transform_2 (grid0.coords t) (0 : Fin 2) = _ from e0]; omega
    | ⟨1, _⟩ =>
      show cc0_transform_2 (grid0.coords t) (1 : Fin 2) * 768 + 1 * d.val = j.val
      rw [show cc0_transform_2 (grid0.coords t) (1 : Fin 2) = _ from e1]; omega
  have h := (dats ch m ρ 0 c).arrAt_emb_eq_flushed (2 : Fin 3) (disjoint_out ch) t (flush_eq ch t) (ix2 p d)
  rw [hemb, flushed_out] at h
  exact h

/-- Every entry has the point that writes it. -/
theorem point_of (r : Fin 8704) (j : Fin 1536) : ∃ t : Fin (cfgA ch).N, t.val % 17 = r.val / 512 ∧ t.val / 17 = j.val / 768 := by
  have h : 17 * (j.val / 768) + r.val / 512 < 34 := by omega
  refine ⟨⟨17 * (j.val / 768) + r.val / 512, lt_of_lt_of_eq h (by decide +kernel : 34 = grid0.N)⟩, ?_, ?_⟩
  · show (17 * (j.val / 768) + r.val / 512) % 17 = _; omega
  · show (17 * (j.val / 768) + r.val / 512) / 17 = _; omega

/-- An entry of the result, from its row's product with its column of the layer's matrix. -/
theorem result_entry (r : Fin 8704) (j : Fin 1536) :
    (result ch m ρ c (ix2 r j) : EReal) = product ch m c r j := by
  obtain ⟨t, f0, f1⟩ := point_of ch r j
  have hp := point_lt ch t
  refine (result_block ch m ρ c t ⟨r.val % 512, Nat.mod_lt _ (by decide)⟩ ⟨j.val % 768, Nat.mod_lt _ (by decide)⟩ r j (by rw [f0]; show r.val = 512 * (r.val / 512) + r.val % 512; omega) (by rw [f1]; show j.val = 768 * (j.val / 768) + j.val % 768; omega)).trans ?_
  rw [out_eq ch m ρ c t]
  refine (pay2_apply _ _ _ _).trans ?_
  have hsum : ∑ k : Fin 2048, (rowBlock ch m ρ c t (ix2 ⟨r.val % 512, Nat.mod_lt _ (by decide)⟩ k) : EReal)
      * (weights m c ch ⟨t.val / 17, by have : t.val < 34 := point_lt ch t; omega⟩ (ix2 ⟨j.val % 768, Nat.mod_lt _ (by decide)⟩ k) : EReal) = product ch m c r j := by
    refine Finset.sum_congr rfl fun k _ => congrArg₂ (fun a b : EReal => a * b) ?_ ?_
    · exact block_rows ch m ρ c _ _ k r (by rw [f0]; show r.val = 512 * (r.val / 512) + r.val % 512; omega)
    · have e2 : (⟨768 * (t.val / 17) + j.val % 768, by omega⟩ : Fin 1536) = j := Fin.ext (by show 768 * (t.val / 17) + _ = _; omega)
      refine Eq.trans (b := cutOf ch m c (⟨768 * (t.val / 17) + j.val % 768, by omega⟩ : Fin 1536) k) rfl ?_
      rw [e2]
  exact hsum

end Cert.ProjRestIdeal.Layer

end
-- ==== Proof.ProjRestReference.Entry.lean ====
/-
  The reference read at an entry.
-/
module

public import proofs.«01_k».proof.Proof.TileTake
public import proofs.«01_k».proof.Proof.Gen.ProjRestReferenceIdeal.Read
public import proofs.«01_k».proof.Proof.Gen.ProjRestReferenceIdeal.Run

@[expose] public section

set_option maxRecDepth 16384

noncomputable section

namespace Cert.ProjRestReferenceIdeal.Entry

open Cert.ProjRestReferenceIdeal Cert.ProjRestReferenceIdeal.Gen Cert.ProjRestReferenceIdeal.Read
open Idealize.ShloMosaic Idealize.SL.Sem
open Cert.TileTake (gather_apply not_neg)

/-! ## Padding the last axis, read at an entry -/

section Pad
variable {α : Type} (y : S8704x1328.Idx → α) (v : S_.Idx → α) (hp : S8704x1328.Pads ![0, 0] ![0, 208] ![0, 0] S8704x1536) (hv : 0 < S_.numel)

/-- Before the padding. -/
theorem pad_inside (r : Fin 8704) (j : Fin 1536) (h : j.val < 1328) :
    pad S8704x1536 ![0, 0] ![0, 208] ![0, 0] y v hp hv (ix2 r j) = y (ix2 r ⟨j.val, h⟩) := by
  unfold pad
  have hin : ∀ a : Fin 2, (![0, 0] : Fin 2 → ℕ) a ≤ ((ix2 r j) (a.cast hp.1)).val ∧ (((ix2 r j) (a.cast hp.1)).val - (![0, 0] : Fin 2 → ℕ) a) % ((![0, 0] : Fin 2 → ℕ) a + 1) = 0
      ∧ (((ix2 r j) (a.cast hp.1)).val - (![0, 0] : Fin 2 → ℕ) a) / ((![0, 0] : Fin 2 → ℕ) a + 1) < S8704x1328.size a := fun a => by
    match a with
    | ⟨0, _⟩ => show 0 ≤ r.val ∧ (r.val - 0) % (0 + 1) = 0 ∧ (r.val - 0) / (0 + 1) < 8704; omega
    | ⟨1, _⟩ => show 0 ≤ j.val ∧ (j.val - 0) % (0 + 1) = 0 ∧ (j.val - 0) / (0 + 1) < 1328; omega
  refine (dif_pos hin).trans (congrArg y (funext fun a => Fin.ext ?_))
  match a with
  | ⟨0, _⟩ => show (r.val - 0) / (0 + 1) = r.val; omega
  | ⟨1, _⟩ => show (j.val - 0) / (0 + 1) = j.val; omega

/-- In the padding. -/
theorem pad_outside (r : Fin 8704) (j : Fin 1536) (h : ¬j.val < 1328) :
    pad S8704x1536 ![0, 0] ![0, 208] ![0, 0] y v hp hv (ix2 r j) = v (Shape.Idx.first hv) := by
  unfold pad
  refine dif_neg fun hin => h ?_
  have e : 0 ≤ j.val ∧ (j.val - 0) % (0 + 1) = 0 ∧ (j.val - 0) / (0 + 1) < 1328 := hin (1 : Fin 2)
  omega

end Pad

variable (x0 : FVec Ideal S8704x2048 .bf16) (x1 : FVec Ideal S4x5376x2048 .f32) (x2 : IVec S17 32)

/-- The matrices the index table names. -/
theorem gathered (t : Fin 17) (j : Fin 5376) (k : Fin 2048) (n : Fin 4) (hn : (x2 (ix1 t)).toNat = n.val) :
    val_main_v8 (F := Ideal) x1 x2 (ix3 t j k) = x1 (ix3 n j k) := by
  unfold val_main_v8
  have h1 := n.isLt
  refine gather_apply _ x1 _ t j k n (by decide) ?_
  rw [val_main_v7_apply, val_main_v6_apply, val_main_v3_apply]
  have e : idx_main_v7 (ix2 t 0) = ix1 t := funext fun a => match a with | ⟨0, _⟩ => rfl
  rw [e, val_main_v2_apply, val_main_c_apply, not_neg _ (by omega)]
  exact hn

/-- A tile's row of the stacked rows. -/
theorem row_apply (t : Fin 17) (p : Fin 512) (k : Fin 2048) (r : Fin 8704) (hr : r.val = 512 * t.val + p.val) :
    val_main_v1 (F := Ideal) x0 (ix3 t p k) = x0 (ix2 r k) := by
  rw [val_main_v1_apply, val_main_v0_apply]
  refine congrArg x0 (funext fun a => Fin.ext ?_)
  have hk := k.isLt
  have hp := p.isLt
  match a with
  | ⟨0, _⟩ => show ((t.val * 512 + p.val) * 2048 + k.val) / 2048 = r.val; omega
  | ⟨1, _⟩ => show ((t.val * 512 + p.val) * 2048 + k.val) % 2048 = k.val; omega

/-- A layer's matrix from column 3840 on, with zeros past its 5168 columns. -/
def cut (n : Fin 4) (j : Fin 1536) (k : Fin 2048) : EReal := if h : 3840 + j.val < 5168 then (x1 (ix3 n ⟨3840 + j.val, by omega⟩ k) : EReal) else 0

/-- Among the true columns it is the matrix, past them zero. -/
theorem cut_true (n : Fin 4) (j : Fin 1536) (k : Fin 2048) (h : 3840 + j.val < 5168) : cut x1 n j k = x1 (ix3 n ⟨3840 + j.val, by omega⟩ k) := by
  unfold cut
  exact dif_pos h
theorem cut_past (n : Fin 4) (j : Fin 1536) (k : Fin 2048) (h : ¬3840 + j.val < 5168) : cut x1 n j k = 0 := by
  unfold cut
  exact dif_neg h

/-- A row's product with one of its columns. -/
def product (n : Fin 4) (r : Fin 8704) (j : Fin 1536) : EReal := ∑ k : Fin 2048, (x0 (ix2 r k) : EReal) * cut x1 n j k

/-- The product of a tile with its matrix's columns. -/
theorem product_apply (t : Fin 17) (p : Fin 512) (j : Fin 1536) (hj : j.val < 1328) (r : Fin 8704) (hr : r.val = 512 * t.val + p.val) (n : Fin 4) (hn : (x2 (ix1 t)).toNat = n.val) :
    (val_main_v10 (F := Ideal) x0 x1 x2 (ix3 t p ⟨j.val, hj⟩) : EReal) = product x0 x1 n r j := by
  rw [val_main_v10_apply]
  refine Finset.sum_congr rfl fun k _ => congrArg₂ (fun a b : EReal => a * b) ?_ ?_
  · have e : lidx_main_v10 (ix3 t p ⟨j.val, hj⟩) k = ix3 t p k := funext fun a => match a with | ⟨0, _⟩ => rfl | ⟨1, _⟩ => rfl | ⟨2, _⟩ => rfl
    rw [e]
    exact row_apply x0 t p k r hr
  · have e : idx_main_v9 (ridx_main_v10 (ix3 t p ⟨j.val, hj⟩) k) = ix3 t ⟨3840 + j.val, by omega⟩ k := funext fun a => match a with | ⟨0, _⟩ => rfl | ⟨1, _⟩ => rfl | ⟨2, _⟩ => rfl
    rw [val_main_v9_apply, e]
    exact (gathered x1 x2 t _ k n hn).trans (cut_true x1 n j k (by omega)).symm

/-- The entry's index in the stacked tiles. -/
theorem idx_entry (r : Fin 8704) (j : Fin 1328) :
    idx_main_v11 (ix2 r j) = ix3 (⟨r.val / 512, by omega⟩ : Fin 17) (⟨r.val % 512, by omega⟩ : Fin 512) j := by
  have hr := r.isLt
  have hj := j.isLt
  funext a; refine Fin.ext ?_
  match a with
  | ⟨0, _⟩ => show (r.val * 1328 + j.val) / 679936 = r.val / 512; omega
  | ⟨1, _⟩ => show (r.val * 1328 + j.val) / 1328 % 512 = r.val % 512; omega
  | ⟨2, _⟩ => show (r.val * 1328 + j.val) % 1328 = j.val; omega

/-- The padding past the true columns is zero. -/
theorem padding_zero (i : S_.Idx) : (val_main_call0_v0 (F := Ideal) i : EReal) = 0 := by
  rw [val_main_call0_v0_apply, val_main_c_1_apply]
  show (((0#32).toInt : ℝ) : EReal) = 0
  simp

/-- An entry of the reference, from its row's product with its column of the matrix its tile names. -/
theorem entry (r : Fin 8704) (j : Fin 1536) (n : Fin 4) (hn : (x2 (ix1 ⟨r.val / 512, by omega⟩)).toNat = n.val) :
    (val_main_v12 (F := Ideal) x0 x1 x2 (ix2 r j) : EReal) = product x0 x1 n r j := by
  have hr : r.val = 512 * (r.val / 512) + r.val % 512 := by omega
  unfold val_main_v12
  by_cases h : j.val < 1328
  · refine (pad_inside _ _ _ _ r j h).trans ?_
    rw [val_main_v11_apply, idx_entry]
    exact product_apply x0 x1 x2 _ _ j h r hr n hn
  · refine ((pad_outside _ _ _ _ r j h).trans (padding_zero _)).trans ?_
    refine (Finset.sum_eq_zero fun k _ => ?_).symm
    rw [cut_past x1 n j k (by omega), mul_zero]

end Cert.ProjRestReferenceIdeal.Entry

end
-- ==== Proof.ProjRestEquation.lean ====
/-
  The kernel's result for the rest of the layer's input projection is the reference's, entry by entry.
-/
module

public import proofs.«01_k».proof.Proof.ProjRestIdeal.Array
public import proofs.«01_k».proof.Proof.ProjRestReference.Entry

@[expose] public section

set_option maxRecDepth 16384

noncomputable section

namespace Cert.ProjRestEquation

open Cert.ProjRestIdeal Cert.ProjRestIdeal.Gen Cert.ProjRestIdeal.Layer Idealize.ShloMosaic Idealize.ShloMosaic.TcCoe Idealize.SL.Sem

variable (ch : Fin 4) (m : (ℓ : Loc nD τ sig) → Buf (Elt Ideal) ℓ) (ρ : Dev nD → PrngReg) (c : Dev nD)

/-- The result array is the reference's result of the same arguments. -/
theorem result_eq : result ch m ρ c = ProjRestReferenceIdeal.Read.val_main_v12 (F := Ideal) (rowsOf m c) (matricesOf m c) (pinT_0 ch) := by
  refine funext fun (i : S8704x1536.Idx) => ?_
  rw [eq_ix2 i]
  exact (result_entry ch m ρ c (i 0) (i 1)).trans (ProjRestReferenceIdeal.Entry.entry (rowsOf m c) (matricesOf m c) (pinT_0 ch) (i 0) (i 1) ch (layer_word ch _)).symm

end Cert.ProjRestEquation

end
-- ==== Proof.ProjRestClaims.lean ====
/-
  The claims about the rest of the layer's input projection: the frames of the kernel, of its idealisation and of the reference, and the equation of
  the two results.
-/
module

public import proofs.«01_k».proof.Defs
public import proofs.«01_k».proof.Proof.Gen.ProjRest.Flash
public import proofs.«01_k».proof.Proof.ProjRestLayer
public import proofs.«01_k».proof.Proof.ProjRestEquation

@[expose] public section

set_option maxRecDepth 16384

noncomputable section

namespace Cert.ProjRestClaims

open Idealize.ShloMosaic Idealize.ShloMosaic.TcCoe Idealize.SL.Sem

/-- Under the precondition the kernel's launch memory holds one layer's tables. -/
theorem pinned_kernel (m : (ℓ : Loc ProjRest.nD ProjRest.τ ProjRest.sig) → Buf (Elt Bits) ℓ)
    (h : Cert.Pre_ProjRest (hPre_proj_in_f32_layer := Pre_proj_in_f32_layer.Gen.facts) m) : ∃ ch, ProjRest.Gen.Pinned ch m := by
  obtain ⟨g, hT, hU⟩ := @Pre_proj_in_f32_layer.layer_of_fn Bits _ Pre_proj_in_f32_layer.Gen.facts _ _ _ _ (h 0)
  exact ⟨g, fun c => by rw [Subsingleton.elim c 0]; exact hT, fun c => by rw [Subsingleton.elim c 0]; exact hU⟩

/-- The same for the idealisation. -/
theorem pinned_ideal (m : (ℓ : Loc ProjRestIdeal.nD ProjRestIdeal.τ ProjRestIdeal.sig) → Buf (Elt Ideal) ℓ)
    (h : Cert.Pre_ProjRestIdeal (hPre_proj_in_f32_layer := Pre_proj_in_f32_layer.Gen.facts) m) : ∃ ch, ProjRestIdeal.Gen.Pinned ch m := by
  obtain ⟨g, hT, hU⟩ := @Pre_proj_in_f32_layer.layer_of_fn Ideal _ Pre_proj_in_f32_layer.Gen.facts _ _ _ _ (h 0)
  exact ⟨g, fun c => by rw [Subsingleton.elim c 0]; exact hT, fun c => by rw [Subsingleton.elim c 0]; exact hU⟩

/-- The kernel runs, leaves its arguments alone and ends with every counter at zero. -/
theorem frame_kernel : Cert.quiescent_ProjRest (hProjRest := ProjRest.Gen.facts) (hPre_proj_in_f32_layer := Pre_proj_in_f32_layer.Gen.facts) := fun m ρ h => by
  obtain ⟨ch, hp⟩ := pinned_kernel m h
  exact ProjRest.Gen.frame ch m ρ hp

/-- So does its idealisation. -/
theorem frame_ideal : Cert.quiescent_ProjRestIdeal (hProjRestIdeal := ProjRestIdeal.Gen.facts) (hPre_proj_in_f32_layer := Pre_proj_in_f32_layer.Gen.facts) := fun m ρ h => by
  obtain ⟨ch, hp⟩ := pinned_ideal m h
  exact ProjRestIdeal.Gen.frame ch m ρ hp

/-- The reference runs and leaves its arguments alone; it declares no semaphore. -/
theorem frame_reference : Cert.quiescent_ProjRestReferenceIdeal (hProjRestReferenceIdeal := ProjRestReferenceIdeal.Gen.facts) := fun m ρ _ =>
  (θ_run ProjRestReferenceIdeal.defs _ _).mono (fun r h => ⟨fun c => (h c).2, sem_eq_zero_of_no_sems (by decide) r.2⟩)
    (ProjRestReferenceIdeal.Value.run (F := Ideal) m ρ)

/-- The same from the memories of the precondition. -/
theorem frame_reference_pre : Cert.quiescent_ProjRestReferenceIdeal_pre_proj_in_f32_layer (hProjRestReferenceIdeal := ProjRestReferenceIdeal.Gen.facts)
    (hPre_proj_in_f32_layer := Pre_proj_in_f32_layer.Gen.facts) := fun m ρ _ => frame_reference m ρ trivial

/-- From agreeing arguments under the precondition, the kernel and the reference end with the same result. -/
theorem algebraic : Cert.algebraic_ProjRestIdeal_ProjRestReferenceIdeal (hProjRestIdeal := ProjRestIdeal.Gen.facts) (hProjRestReferenceIdeal := ProjRestReferenceIdeal.Gen.facts) (hPre_proj_in_f32_layer := Pre_proj_in_f32_layer.Gen.facts) := by
  intro m ρ m' ρ' hpre hag
  obtain ⟨ch, hp⟩ := pinned_ideal m hpre
  refine ⟨fun c => ProjRestIdeal.Layer.result ch m ρ c,
    (θ_run ProjRestIdeal.defs _ _).mono (fun r h c => ⟨(h.1 c).1 (2 : Fin 3), h.2 c⟩) (θ_run_and (ProjRestIdeal.Gen.run_main ch m ρ hp) (ProjRestIdeal.Gen.unchanged ch m ρ hp)),
    (θ_run ProjRestReferenceIdeal.defs _ _).mono (fun r h c => ⟨(h c).1.trans ?_, (h c).2⟩) (ProjRestReferenceIdeal.Value.run (F := Ideal) m' ρ')⟩
  obtain ⟨a0, a1, a2, a3⟩ := hag c
  refine (ProjRestReferenceIdeal.Read.val_main_v12_eq _ _ _).trans ?_
  rw [a0, a1, a2, hp.1 c]
  exact (ProjRestEquation.result_eq ch m ρ c).symm

end Cert.ProjRestClaims

end
-- ==== Proof.lean ====
/-
  The certificate's theorem: every claim, from the modules that prove them.
-/
module

public import proofs.«01_k».proof.Defs
public import proofs.«01_k».proof.Proof.Claims
public import proofs.«01_k».proof.Proof.DownClaims
public import proofs.«01_k».proof.Proof.GateUpClaims
public import proofs.«01_k».proof.Proof.ProjInClaims
public import proofs.«01_k».proof.Proof.FfnDownClaims
public import proofs.«01_k».proof.Proof.FfnGateClaims
public import proofs.«01_k».proof.Proof.FfnUpClaims
public import proofs.«01_k».proof.Proof.MlaUvClaims
public import proofs.«01_k».proof.Proof.ProjOutClaims
public import proofs.«01_k».proof.Proof.ProjRestClaims

@[expose] public section

noncomputable section

namespace Cert.Proof

/-- Every claim of the certificate holds. -/
theorem claim : Cert.Claim :=
  ⟨Cert.Kernel.Gen.facts, Cert.KernelIdeal.Gen.facts, Cert.ReferenceIdeal.Gen.facts, Cert.Down.Gen.facts, Cert.DownIdeal.Gen.facts,
    Cert.DownReferenceIdeal.Gen.facts, Cert.GateUp.Gen.facts, Cert.GateUpIdeal.Gen.facts, Cert.GateUpReferenceIdeal.Gen.facts,
    Cert.ProjIn.Gen.facts, Cert.ProjInIdeal.Gen.facts, Cert.ProjInReferenceIdeal.Gen.facts,
    Cert.FfnDown.Gen.facts, Cert.FfnDownIdeal.Gen.facts, Cert.FfnDownReferenceIdeal.Gen.facts,
    Cert.FfnGate.Gen.facts, Cert.FfnGateIdeal.Gen.facts, Cert.FfnGateReferenceIdeal.Gen.facts,
    Cert.FfnUp.Gen.facts, Cert.FfnUpIdeal.Gen.facts, Cert.FfnUpReferenceIdeal.Gen.facts,
    Cert.MlaUv.Gen.facts, Cert.MlaUvIdeal.Gen.facts, Cert.MlaUvReferenceIdeal.Gen.facts,
    Cert.ProjOut.Gen.facts, Cert.ProjOutIdeal.Gen.facts, Cert.ProjOutReferenceIdeal.Gen.facts,
    Cert.ProjRest.Gen.facts, Cert.ProjRestIdeal.Gen.facts, Cert.ProjRestReferenceIdeal.Gen.facts,
    Cert.Pre_finite_scores.Gen.facts, Cert.Pre_down_groups.Gen.facts, Cert.Pre_gate_up_groups.Gen.facts,
    Cert.Pre_proj_in_layer.Gen.facts, Cert.Pre_ffn_down_layer.Gen.facts, Cert.Pre_ffn_gate_layer.Gen.facts, Cert.Pre_ffn_up_layer.Gen.facts,
    Cert.Pre_mla_uv_layer.Gen.facts, Cert.Pre_proj_out_layer.Gen.facts, Cert.Pre_proj_in_f32_layer.Gen.facts,
    Cert.Claims.frame_kernel, Cert.Claims.frame_kernelIdeal, Cert.Claims.frame_kernelIdeal_pre,
    Cert.Claims.frame_referenceIdeal, Cert.Claims.frame_referenceIdeal_pre,
    Cert.DownClaims.frame_kernel, Cert.DownClaims.frame_ideal, Cert.DownClaims.frame_reference, Cert.DownClaims.frame_reference_pre,
    Cert.GateUpClaims.frame_kernel, Cert.GateUpClaims.frame_ideal, Cert.GateUpClaims.frame_reference, Cert.GateUpClaims.frame_reference_pre,
    Cert.ProjInClaims.frame_kernel, Cert.ProjInClaims.frame_ideal, Cert.ProjInClaims.frame_reference, Cert.ProjInClaims.frame_reference_pre,
    Cert.FfnDownClaims.frame_kernel, Cert.FfnDownClaims.frame_ideal, Cert.FfnDownClaims.frame_reference, Cert.FfnDownClaims.frame_reference_pre,
    Cert.FfnGateClaims.frame_kernel, Cert.FfnGateClaims.frame_ideal, Cert.FfnGateClaims.frame_reference, Cert.FfnGateClaims.frame_reference_pre,
    Cert.FfnUpClaims.frame_kernel, Cert.FfnUpClaims.frame_ideal, Cert.FfnUpClaims.frame_reference, Cert.FfnUpClaims.frame_reference_pre,
    Cert.MlaUvClaims.frame_kernel, Cert.MlaUvClaims.frame_ideal, Cert.MlaUvClaims.frame_reference, Cert.MlaUvClaims.frame_reference_pre,
    Cert.ProjOutClaims.frame_kernel, Cert.ProjOutClaims.frame_ideal, Cert.ProjOutClaims.frame_reference, Cert.ProjOutClaims.frame_reference_pre,
    Cert.ProjRestClaims.frame_kernel, Cert.ProjRestClaims.frame_ideal, Cert.ProjRestClaims.frame_reference, Cert.ProjRestClaims.frame_reference_pre,
    trivial, Cert.Claims.algebraic, trivial, Cert.DownClaims.algebraic, trivial, Cert.GateUpClaims.algebraic,
    trivial, Cert.ProjInClaims.algebraic, trivial, Cert.FfnDownClaims.algebraic, trivial, Cert.FfnGateClaims.algebraic, trivial, Cert.FfnUpClaims.algebraic,
    trivial, Cert.MlaUvClaims.algebraic, trivial, Cert.ProjOutClaims.algebraic, trivial, Cert.ProjRestClaims.algebraic⟩

end Cert.Proof

end
